-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_logits [hPre_finite_logits : Cert.Pre_finite_logits.Facts] (m : (ℓ : Loc Cert.KernelIdeal.nD Cert.KernelIdeal.τ Cert.KernelIdeal.sig) → Buf (Elt Ideal) ℓ) : Prop :=
  ∀ c : Dev Cert.KernelIdeal.nD,
    (Cert.Pre_finite_logits.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_logits [hPre_finite_logits : Cert.Pre_finite_logits.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_logits.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Kernel3Ideal_finite_normed [hPre_finite_normed : Cert.Pre_finite_normed.Facts] (m : (ℓ : Loc Cert.Kernel3Ideal.nD Cert.Kernel3Ideal.τ Cert.Kernel3Ideal.sig) → Buf (Elt Ideal) ℓ) : Prop :=
  ∀ c : Dev Cert.Kernel3Ideal.nD,
    (Cert.Pre_finite_normed.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5)) (m ((c.tc : Thread Cert.Kernel3Ideal.nD Cert.Kernel3Ideal.τ).loc Cert.Kernel3Ideal.main_arg6)) (m ((c.tc : Thread Cert.Kernel3Ideal.nD Cert.Kernel3Ideal.τ).loc Cert.Kernel3Ideal.main_arg7)) (m ((c.tc : Thread Cert.Kernel3Ideal.nD Cert.Kernel3Ideal.τ).loc Cert.Kernel3Ideal.main_arg8)) (m ((c.tc : Thread Cert.Kernel3Ideal.nD Cert.Kernel3Ideal.τ).loc Cert.Kernel3Ideal.main_arg9))) = (fun _ => 1#1)

def Pre_Reference3Ideal (m : (ℓ : Loc Cert.Reference3Ideal.nD Cert.Reference3Ideal.τ Cert.Reference3Ideal.sig) → Buf (Elt Ideal) ℓ) : Prop :=
  True

def Pre_Reference3Ideal_finite_normed [hPre_finite_normed : Cert.Pre_finite_normed.Facts] (m : (ℓ : Loc Cert.Reference3Ideal.nD Cert.Reference3Ideal.τ Cert.Reference3Ideal.sig) → Buf (Elt Ideal) ℓ) : Prop :=
  ∀ c : Dev Cert.Reference3Ideal.nD,
    (Cert.Pre_finite_normed.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5)) (m ((c.tc : Thread Cert.Reference3Ideal.nD Cert.Reference3Ideal.τ).loc Cert.Reference3Ideal.main_arg6)) (m ((c.tc : Thread Cert.Reference3Ideal.nD Cert.Reference3Ideal.τ).loc Cert.Reference3Ideal.main_arg7)) (m ((c.tc : Thread Cert.Reference3Ideal.nD Cert.Reference3Ideal.τ).loc Cert.Reference3Ideal.main_arg8)) (m ((c.tc : Thread Cert.Reference3Ideal.nD Cert.Reference3Ideal.τ).loc Cert.Reference3Ideal.main_arg9))) = (fun _ => 1#1)

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Kernel5Ideal_finite_state [hPre_finite_state : Cert.Pre_finite_state.Facts] (m : (ℓ : Loc Cert.Kernel5Ideal.nD Cert.Kernel5Ideal.τ Cert.Kernel5Ideal.sig) → Buf (Elt Ideal) ℓ) : Prop :=
  ∀ c : Dev Cert.Kernel5Ideal.nD,
    (Cert.Pre_finite_state.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)) (m ((c.tc : Thread Cert.Kernel5Ideal.nD Cert.Kernel5Ideal.τ).loc Cert.Kernel5Ideal.main_arg4)) (m ((c.tc : Thread Cert.Kernel5Ideal.nD Cert.Kernel5Ideal.τ).loc Cert.Kernel5Ideal.main_arg5)) (m ((c.tc : Thread Cert.Kernel5Ideal.nD Cert.Kernel5Ideal.τ).loc Cert.Kernel5Ideal.main_arg6))) = (fun _ => 1#1)

def Pre_Reference5Ideal (m : (ℓ : Loc Cert.Reference5Ideal.nD Cert.Reference5Ideal.τ Cert.Reference5Ideal.sig) → Buf (Elt Ideal) ℓ) : Prop :=
  True

def Pre_Reference5Ideal_finite_state [hPre_finite_state : Cert.Pre_finite_state.Facts] (m : (ℓ : Loc Cert.Reference5Ideal.nD Cert.Reference5Ideal.τ Cert.Reference5Ideal.sig) → Buf (Elt Ideal) ℓ) : Prop :=
  ∀ c : Dev Cert.Reference5Ideal.nD,
    (Cert.Pre_finite_state.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2)) (m ((c.tc : Thread Cert.Reference5Ideal.nD Cert.Reference5Ideal.τ).loc Cert.Reference5Ideal.main_arg3)) (m ((c.tc : Thread Cert.Reference5Ideal.nD Cert.Reference5Ideal.τ).loc Cert.Reference5Ideal.main_arg4)) (m ((c.tc : Thread Cert.Reference5Ideal.nD Cert.Reference5Ideal.τ).loc Cert.Reference5Ideal.main_arg5)) (m ((c.tc : Thread Cert.Reference5Ideal.nD Cert.Reference5Ideal.τ).loc Cert.Reference5Ideal.main_arg6))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite_logits [hKernelIdeal : Cert.KernelIdeal.Facts] [hPre_finite_logits : Cert.Pre_finite_logits.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_logits m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite_logits [hReferenceIdeal : Cert.ReferenceIdeal.Facts] [hPre_finite_logits : Cert.Pre_finite_logits.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_logits m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6)
      ∧ r.2.mem ((c.tc : Thread Cert.Kernel2.nD Cert.Kernel2.τ).loc Cert.Kernel2.main_arg7) = m ((c.tc : Thread Cert.Kernel2.nD Cert.Kernel2.τ).loc Cert.Kernel2.main_arg7))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6)
      ∧ r.2.mem ((c.tc : Thread Cert.Kernel3.nD Cert.Kernel3.τ).loc Cert.Kernel3.main_arg7) = m ((c.tc : Thread Cert.Kernel3.nD Cert.Kernel3.τ).loc Cert.Kernel3.main_arg7)
      ∧ r.2.mem ((c.tc : Thread Cert.Kernel3.nD Cert.Kernel3.τ).loc Cert.Kernel3.main_arg8) = m ((c.tc : Thread Cert.Kernel3.nD Cert.Kernel3.τ).loc Cert.Kernel3.main_arg8)
      ∧ r.2.mem ((c.tc : Thread Cert.Kernel3.nD Cert.Kernel3.τ).loc Cert.Kernel3.main_arg9) = m ((c.tc : Thread Cert.Kernel3.nD Cert.Kernel3.τ).loc Cert.Kernel3.main_arg9))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
      ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
      ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9))
      ∧ r.2.sem = fun _ => 0)

def quiescent_Kernel3Ideal_pre_finite_normed [hKernel3Ideal : Cert.Kernel3Ideal.Facts] [hPre_finite_normed : Cert.Pre_finite_normed.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal_finite_normed m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
      ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
      ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7)
      ∧ r.2.mem ((c.tc : Thread Cert.Reference3Ideal.nD Cert.Reference3Ideal.τ).loc Cert.Reference3Ideal.main_arg8) = m ((c.tc : Thread Cert.Reference3Ideal.nD Cert.Reference3Ideal.τ).loc Cert.Reference3Ideal.main_arg8)
      ∧ r.2.mem ((c.tc : Thread Cert.Reference3Ideal.nD Cert.Reference3Ideal.τ).loc Cert.Reference3Ideal.main_arg9) = m ((c.tc : Thread Cert.Reference3Ideal.nD Cert.Reference3Ideal.τ).loc Cert.Reference3Ideal.main_arg9))
      ∧ r.2.sem = fun _ => 0)

def quiescent_Reference3Ideal_pre_finite_normed [hReference3Ideal : Cert.Reference3Ideal.Facts] [hPre_finite_normed : Cert.Pre_finite_normed.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal_finite_normed m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7)
      ∧ r.2.mem ((c.tc : Thread Cert.Reference3Ideal.nD Cert.Reference3Ideal.τ).loc Cert.Reference3Ideal.main_arg8) = m ((c.tc : Thread Cert.Reference3Ideal.nD Cert.Reference3Ideal.τ).loc Cert.Reference3Ideal.main_arg8)
      ∧ r.2.mem ((c.tc : Thread Cert.Reference3Ideal.nD Cert.Reference3Ideal.τ).loc Cert.Reference3Ideal.main_arg9) = m ((c.tc : Thread Cert.Reference3Ideal.nD Cert.Reference3Ideal.τ).loc Cert.Reference3Ideal.main_arg9))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5)
      ∧ r.2.mem ((c.tc : Thread Cert.Kernel4.nD Cert.Kernel4.τ).loc Cert.Kernel4.main_arg6) = m ((c.tc : Thread Cert.Kernel4.nD Cert.Kernel4.τ).loc Cert.Kernel4.main_arg6)
      ∧ r.2.mem ((c.tc : Thread Cert.Kernel4.nD Cert.Kernel4.τ).loc Cert.Kernel4.main_arg7) = m ((c.tc : Thread Cert.Kernel4.nD Cert.Kernel4.τ).loc Cert.Kernel4.main_arg7))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
      ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6)
      ∧ r.2.mem ((c.tc : Thread Cert.Reference4Ideal.nD Cert.Reference4Ideal.τ).loc Cert.Reference4Ideal.main_arg7) = m ((c.tc : Thread Cert.Reference4Ideal.nD Cert.Reference4Ideal.τ).loc Cert.Reference4Ideal.main_arg7))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4)
      ∧ r.2.mem ((c.tc : Thread Cert.Kernel5.nD Cert.Kernel5.τ).loc Cert.Kernel5.main_arg5) = m ((c.tc : Thread Cert.Kernel5.nD Cert.Kernel5.τ).loc Cert.Kernel5.main_arg5)
      ∧ r.2.mem ((c.tc : Thread Cert.Kernel5.nD Cert.Kernel5.τ).loc Cert.Kernel5.main_arg6) = m ((c.tc : Thread Cert.Kernel5.nD Cert.Kernel5.τ).loc Cert.Kernel5.main_arg6))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
      ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6))
      ∧ r.2.sem = fun _ => 0)

def quiescent_Kernel5Ideal_pre_finite_state [hKernel5Ideal : Cert.Kernel5Ideal.Facts] [hPre_finite_state : Cert.Pre_finite_state.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal_finite_state m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
      ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5)
      ∧ r.2.mem ((c.tc : Thread Cert.Reference5Ideal.nD Cert.Reference5Ideal.τ).loc Cert.Reference5Ideal.main_arg6) = m ((c.tc : Thread Cert.Reference5Ideal.nD Cert.Reference5Ideal.τ).loc Cert.Reference5Ideal.main_arg6))
      ∧ r.2.sem = fun _ => 0)

def quiescent_Reference5Ideal_pre_finite_state [hReference5Ideal : Cert.Reference5Ideal.Facts] [hPre_finite_state : Cert.Pre_finite_state.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal_finite_state m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5)
      ∧ r.2.mem ((c.tc : Thread Cert.Reference5Ideal.nD Cert.Reference5Ideal.τ).loc Cert.Reference5Ideal.main_arg6) = m ((c.tc : Thread Cert.Reference5Ideal.nD Cert.Reference5Ideal.τ).loc Cert.Reference5Ideal.main_arg6))
      ∧ r.2.sem = fun _ => 0)

def preserves_Kernel_KernelIdeal : Prop :=
  IdealRules.named_const.Statement Cert.KernelIdeal.κ "neg_log2_e" .f32 0xBFB8AA3B#32 ((-((Real.log 2)⁻¹) : ℝ) : EReal)

def algebraic_KernelIdeal_ReferenceIdeal_pre_finite_logits [hKernelIdeal : Cert.KernelIdeal.Facts] [hReferenceIdeal : Cert.ReferenceIdeal.Facts] [hPre_finite_logits : Cert.Pre_finite_logits.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_logits m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v28) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)
      ∧ m' ((c.tc : Thread Cert.Reference2Ideal.nD Cert.Reference2Ideal.τ).loc Cert.Reference2Ideal.main_arg7) = m ((c.tc : Thread Cert.Kernel2Ideal.nD Cert.Kernel2Ideal.τ).loc Cert.Kernel2Ideal.main_arg7)) →
    ∃ (v0 : (c : Dev Cert.Kernel2Ideal.nD) → Buf (Elt Ideal) ((c.tc : Thread Cert.Kernel2Ideal.nD Cert.Kernel2Ideal.τ).loc Cert.Kernel2Ideal.main_v7)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v7) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
          ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v23) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6)
          ∧ r.2.mem ((c.tc : Thread Cert.Reference2Ideal.nD Cert.Reference2Ideal.τ).loc Cert.Reference2Ideal.main_arg7) = m' ((c.tc : Thread Cert.Reference2Ideal.nD Cert.Reference2Ideal.τ).loc Cert.Reference2Ideal.main_arg7))

def preserves_Kernel3_Kernel3Ideal : Prop :=
  True

def algebraic_Kernel3Ideal_Reference3Ideal_pre_finite_normed [hKernel3Ideal : Cert.Kernel3Ideal.Facts] [hReference3Ideal : Cert.Reference3Ideal.Facts] [hPre_finite_normed : Cert.Pre_finite_normed.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal_finite_normed m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)
      ∧ m' ((c.tc : Thread Cert.Reference3Ideal.nD Cert.Reference3Ideal.τ).loc Cert.Reference3Ideal.main_arg7) = m ((c.tc : Thread Cert.Kernel3Ideal.nD Cert.Kernel3Ideal.τ).loc Cert.Kernel3Ideal.main_arg7)
      ∧ m' ((c.tc : Thread Cert.Reference3Ideal.nD Cert.Reference3Ideal.τ).loc Cert.Reference3Ideal.main_arg8) = m ((c.tc : Thread Cert.Kernel3Ideal.nD Cert.Kernel3Ideal.τ).loc Cert.Kernel3Ideal.main_arg8)
      ∧ m' ((c.tc : Thread Cert.Reference3Ideal.nD Cert.Reference3Ideal.τ).loc Cert.Reference3Ideal.main_arg9) = m ((c.tc : Thread Cert.Kernel3Ideal.nD Cert.Kernel3Ideal.τ).loc Cert.Kernel3Ideal.main_arg9)) →
    ∃ (v0 : (c : Dev Cert.Kernel3Ideal.nD) → Buf (Elt Ideal) ((c.tc : Thread Cert.Kernel3Ideal.nD Cert.Kernel3Ideal.τ).loc Cert.Kernel3Ideal.main_v54_0)) (v1 : (c : Dev Cert.Kernel3Ideal.nD) → Buf (Elt Ideal) ((c.tc : Thread Cert.Kernel3Ideal.nD Cert.Kernel3Ideal.τ).loc Cert.Kernel3Ideal.main_v54_1)) (v2 : (c : Dev Cert.Kernel3Ideal.nD) → Buf (Elt Ideal) ((c.tc : Thread Cert.Kernel3Ideal.nD Cert.Kernel3Ideal.τ).loc Cert.Kernel3Ideal.main_v54_2)) (v3 : (c : Dev Cert.Kernel3Ideal.nD) → Buf (Elt Ideal) ((c.tc : Thread Cert.Kernel3Ideal.nD Cert.Kernel3Ideal.τ).loc Cert.Kernel3Ideal.main_v54_3)) (v4 : (c : Dev Cert.Kernel3Ideal.nD) → Buf (Elt Ideal) ((c.tc : Thread Cert.Kernel3Ideal.nD Cert.Kernel3Ideal.τ).loc Cert.Kernel3Ideal.main_v54_4)) (v5 : (c : Dev Cert.Kernel3Ideal.nD) → Buf (Elt Ideal) ((c.tc : Thread Cert.Kernel3Ideal.nD Cert.Kernel3Ideal.τ).loc Cert.Kernel3Ideal.main_v54_5)) (v6 : (c : Dev Cert.Kernel3Ideal.nD) → Buf (Elt Ideal) ((c.tc : Thread Cert.Kernel3Ideal.nD Cert.Kernel3Ideal.τ).loc Cert.Kernel3Ideal.main_v54_6)) (v7 : (c : Dev Cert.Kernel3Ideal.nD) → Buf (Elt Ideal) ((c.tc : Thread Cert.Kernel3Ideal.nD Cert.Kernel3Ideal.τ).loc Cert.Kernel3Ideal.main_v54_7)) (v8 : (c : Dev Cert.Kernel3Ideal.nD) → Buf (Elt Ideal) ((c.tc : Thread Cert.Kernel3Ideal.nD Cert.Kernel3Ideal.τ).loc Cert.Kernel3Ideal.main_v54_8)) (v9 : (c : Dev Cert.Kernel3Ideal.nD) → Buf (Elt Ideal) ((c.tc : Thread Cert.Kernel3Ideal.nD Cert.Kernel3Ideal.τ).loc Cert.Kernel3Ideal.main_v54_9)) (v10 : (c : Dev Cert.Kernel3Ideal.nD) → Buf (Elt Ideal) ((c.tc : Thread Cert.Kernel3Ideal.nD Cert.Kernel3Ideal.τ).loc Cert.Kernel3Ideal.main_v54_10)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v54_0) = v0 c
          ∧ r.2.mem ((c.tc : Thread Cert.Kernel3Ideal.nD Cert.Kernel3Ideal.τ).loc Cert.Kernel3Ideal.main_v54_1) = v1 c
          ∧ r.2.mem ((c.tc : Thread Cert.Kernel3Ideal.nD Cert.Kernel3Ideal.τ).loc Cert.Kernel3Ideal.main_v54_2) = v2 c
          ∧ r.2.mem ((c.tc : Thread Cert.Kernel3Ideal.nD Cert.Kernel3Ideal.τ).loc Cert.Kernel3Ideal.main_v54_3) = v3 c
          ∧ r.2.mem ((c.tc : Thread Cert.Kernel3Ideal.nD Cert.Kernel3Ideal.τ).loc Cert.Kernel3Ideal.main_v54_4) = v4 c
          ∧ r.2.mem ((c.tc : Thread Cert.Kernel3Ideal.nD Cert.Kernel3Ideal.τ).loc Cert.Kernel3Ideal.main_v54_5) = v5 c
          ∧ r.2.mem ((c.tc : Thread Cert.Kernel3Ideal.nD Cert.Kernel3Ideal.τ).loc Cert.Kernel3Ideal.main_v54_6) = v6 c
          ∧ r.2.mem ((c.tc : Thread Cert.Kernel3Ideal.nD Cert.Kernel3Ideal.τ).loc Cert.Kernel3Ideal.main_v54_7) = v7 c
          ∧ r.2.mem ((c.tc : Thread Cert.Kernel3Ideal.nD Cert.Kernel3Ideal.τ).loc Cert.Kernel3Ideal.main_v54_8) = v8 c
          ∧ r.2.mem ((c.tc : Thread Cert.Kernel3Ideal.nD Cert.Kernel3Ideal.τ).loc Cert.Kernel3Ideal.main_v54_9) = v9 c
          ∧ r.2.mem ((c.tc : Thread Cert.Kernel3Ideal.nD Cert.Kernel3Ideal.τ).loc Cert.Kernel3Ideal.main_v54_10) = v10 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
          ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
          ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
          ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v115) = v0 c
          ∧ r.2.mem ((c.tc : Thread Cert.Reference3Ideal.nD Cert.Reference3Ideal.τ).loc Cert.Reference3Ideal.main_v116) = v1 c
          ∧ r.2.mem ((c.tc : Thread Cert.Reference3Ideal.nD Cert.Reference3Ideal.τ).loc Cert.Reference3Ideal.main_v118) = v2 c
          ∧ r.2.mem ((c.tc : Thread Cert.Reference3Ideal.nD Cert.Reference3Ideal.τ).loc Cert.Reference3Ideal.main_v120) = v3 c
          ∧ r.2.mem ((c.tc : Thread Cert.Reference3Ideal.nD Cert.Reference3Ideal.τ).loc Cert.Reference3Ideal.main_v123) = v4 c
          ∧ r.2.mem ((c.tc : Thread Cert.Reference3Ideal.nD Cert.Reference3Ideal.τ).loc Cert.Reference3Ideal.main_v124) = v5 c
          ∧ r.2.mem ((c.tc : Thread Cert.Reference3Ideal.nD Cert.Reference3Ideal.τ).loc Cert.Reference3Ideal.main_v126) = v6 c
          ∧ r.2.mem ((c.tc : Thread Cert.Reference3Ideal.nD Cert.Reference3Ideal.τ).loc Cert.Reference3Ideal.main_v20) = v7 c
          ∧ r.2.mem ((c.tc : Thread Cert.Reference3Ideal.nD Cert.Reference3Ideal.τ).loc Cert.Reference3Ideal.main_v21) = v8 c
          ∧ r.2.mem ((c.tc : Thread Cert.Reference3Ideal.nD Cert.Reference3Ideal.τ).loc Cert.Reference3Ideal.main_v114) = v9 c
          ∧ r.2.mem ((c.tc : Thread Cert.Reference3Ideal.nD Cert.Reference3Ideal.τ).loc Cert.Reference3Ideal.main_v127) = v10 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6)
          ∧ r.2.mem ((c.tc : Thread Cert.Reference3Ideal.nD Cert.Reference3Ideal.τ).loc Cert.Reference3Ideal.main_arg7) = m' ((c.tc : Thread Cert.Reference3Ideal.nD Cert.Reference3Ideal.τ).loc Cert.Reference3Ideal.main_arg7)
          ∧ r.2.mem ((c.tc : Thread Cert.Reference3Ideal.nD Cert.Reference3Ideal.τ).loc Cert.Reference3Ideal.main_arg8) = m' ((c.tc : Thread Cert.Reference3Ideal.nD Cert.Reference3Ideal.τ).loc Cert.Reference3Ideal.main_arg8)
          ∧ r.2.mem ((c.tc : Thread Cert.Reference3Ideal.nD Cert.Reference3Ideal.τ).loc Cert.Reference3Ideal.main_arg9) = m' ((c.tc : Thread Cert.Reference3Ideal.nD Cert.Reference3Ideal.τ).loc Cert.Reference3Ideal.main_arg9))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)
      ∧ m' ((c.tc : Thread Cert.Reference4Ideal.nD Cert.Reference4Ideal.τ).loc Cert.Reference4Ideal.main_arg6) = m ((c.tc : Thread Cert.Kernel4Ideal.nD Cert.Kernel4Ideal.τ).loc Cert.Kernel4Ideal.main_arg6)
      ∧ m' ((c.tc : Thread Cert.Reference4Ideal.nD Cert.Reference4Ideal.τ).loc Cert.Reference4Ideal.main_arg7) = m ((c.tc : Thread Cert.Kernel4Ideal.nD Cert.Kernel4Ideal.τ).loc Cert.Kernel4Ideal.main_arg7)) →
    ∃ (v0 : (c : Dev Cert.Kernel4Ideal.nD) → Buf (Elt Ideal) ((c.tc : Thread Cert.Kernel4Ideal.nD Cert.Kernel4Ideal.τ).loc Cert.Kernel4Ideal.main_v7)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v7) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
          ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
          ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v23) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5)
          ∧ r.2.mem ((c.tc : Thread Cert.Reference4Ideal.nD Cert.Reference4Ideal.τ).loc Cert.Reference4Ideal.main_arg6) = m' ((c.tc : Thread Cert.Reference4Ideal.nD Cert.Reference4Ideal.τ).loc Cert.Reference4Ideal.main_arg6)
          ∧ r.2.mem ((c.tc : Thread Cert.Reference4Ideal.nD Cert.Reference4Ideal.τ).loc Cert.Reference4Ideal.main_arg7) = m' ((c.tc : Thread Cert.Reference4Ideal.nD Cert.Reference4Ideal.τ).loc Cert.Reference4Ideal.main_arg7))

def preserves_Kernel5_Kernel5Ideal : Prop :=
  True

def algebraic_Kernel5Ideal_Reference5Ideal_pre_finite_state [hKernel5Ideal : Cert.Kernel5Ideal.Facts] [hReference5Ideal : Cert.Reference5Ideal.Facts] [hPre_finite_state : Cert.Pre_finite_state.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal_finite_state m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)
      ∧ m' ((c.tc : Thread Cert.Reference5Ideal.nD Cert.Reference5Ideal.τ).loc Cert.Reference5Ideal.main_arg5) = m ((c.tc : Thread Cert.Kernel5Ideal.nD Cert.Kernel5Ideal.τ).loc Cert.Kernel5Ideal.main_arg5)
      ∧ m' ((c.tc : Thread Cert.Reference5Ideal.nD Cert.Reference5Ideal.τ).loc Cert.Reference5Ideal.main_arg6) = m ((c.tc : Thread Cert.Kernel5Ideal.nD Cert.Kernel5Ideal.τ).loc Cert.Kernel5Ideal.main_arg6)) →
    ∃ (v0 : (c : Dev Cert.Kernel5Ideal.nD) → Buf (Elt Ideal) ((c.tc : Thread Cert.Kernel5Ideal.nD Cert.Kernel5Ideal.τ).loc Cert.Kernel5Ideal.main_v20_0)) (v1 : (c : Dev Cert.Kernel5Ideal.nD) → Buf (Elt Ideal) ((c.tc : Thread Cert.Kernel5Ideal.nD Cert.Kernel5Ideal.τ).loc Cert.Kernel5Ideal.main_v20_1)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v20_0) = v0 c
          ∧ r.2.mem ((c.tc : Thread Cert.Kernel5Ideal.nD Cert.Kernel5Ideal.τ).loc Cert.Kernel5Ideal.main_v20_1) = v1 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
          ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
          ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v66) = v0 c
          ∧ r.2.mem ((c.tc : Thread Cert.Reference5Ideal.nD Cert.Reference5Ideal.τ).loc Cert.Reference5Ideal.main_v67) = v1 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4)
          ∧ r.2.mem ((c.tc : Thread Cert.Reference5Ideal.nD Cert.Reference5Ideal.τ).loc Cert.Reference5Ideal.main_arg5) = m' ((c.tc : Thread Cert.Reference5Ideal.nD Cert.Reference5Ideal.τ).loc Cert.Reference5Ideal.main_arg5)
          ∧ r.2.mem ((c.tc : Thread Cert.Reference5Ideal.nD Cert.Reference5Ideal.τ).loc Cert.Reference5Ideal.main_arg6) = m' ((c.tc : Thread Cert.Reference5Ideal.nD Cert.Reference5Ideal.τ).loc Cert.Reference5Ideal.main_arg6))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hPre_finite_logits : Cert.Pre_finite_logits.Facts) (hPre_finite_normed : Cert.Pre_finite_normed.Facts) (hPre_finite_state : Cert.Pre_finite_state.Facts),
    quiescent_Kernel (hKernel := hKernel)
    ∧ quiescent_KernelIdeal (hKernelIdeal := hKernelIdeal)
    ∧ quiescent_KernelIdeal_pre_finite_logits (hKernelIdeal := hKernelIdeal) (hPre_finite_logits := hPre_finite_logits)
    ∧ quiescent_ReferenceIdeal (hReferenceIdeal := hReferenceIdeal)
    ∧ quiescent_ReferenceIdeal_pre_finite_logits (hReferenceIdeal := hReferenceIdeal) (hPre_finite_logits := hPre_finite_logits)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Kernel3Ideal_pre_finite_normed (hKernel3Ideal := hKernel3Ideal) (hPre_finite_normed := hPre_finite_normed)
    ∧ quiescent_Reference3Ideal (hReference3Ideal := hReference3Ideal)
    ∧ quiescent_Reference3Ideal_pre_finite_normed (hReference3Ideal := hReference3Ideal) (hPre_finite_normed := hPre_finite_normed)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Kernel5Ideal_pre_finite_state (hKernel5Ideal := hKernel5Ideal) (hPre_finite_state := hPre_finite_state)
    ∧ quiescent_Reference5Ideal (hReference5Ideal := hReference5Ideal)
    ∧ quiescent_Reference5Ideal_pre_finite_state (hReference5Ideal := hReference5Ideal) (hPre_finite_state := hPre_finite_state)
    ∧ preserves_Kernel_KernelIdeal
    ∧ algebraic_KernelIdeal_ReferenceIdeal_pre_finite_logits (hKernelIdeal := hKernelIdeal) (hReferenceIdeal := hReferenceIdeal) (hPre_finite_logits := hPre_finite_logits)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal_pre_finite_normed (hKernel3Ideal := hKernel3Ideal) (hReference3Ideal := hReference3Ideal) (hPre_finite_normed := hPre_finite_normed)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal_pre_finite_state (hKernel5Ideal := hKernel5Ideal) (hReference5Ideal := hReference5Ideal) (hPre_finite_state := hPre_finite_state)
-- ==== Pre_finite_logits.lean ====
abbrev S8 : Shape := ⟨1, ![8]⟩
abbrev S32768x512 : Shape := ⟨2, ![32768, 512]⟩
abbrev S128x512x256 : Shape := ⟨3, ![128, 512, 256]⟩
abbrev S32768x8x64 : Shape := ⟨3, ![32768, 8, 64]⟩
abbrev S_ : Shape := ⟨0, ![]⟩
abbrev S1x8x1 : Shape := ⟨3, ![1, 8, 1]⟩

class Facts : Prop where
  bitsLt_bf16_f32 : FTy.bits .bf16 < FTy.bits .f32
  shapeCasts_S32768x512_S32768x8x64 : S32768x512.ShapeCasts S32768x8x64
  bcast_S_S32768x8x64 : S_.BroadcastsInDim S32768x8x64 (![] : Fin 0 → Fin S32768x8x64.rank)
  shapeCasts_S128x512x256_S32768x8x64 : S128x512x256.ShapeCasts S32768x8x64
  bcast_S8_S1x8x1_1 : S8.BroadcastsInDim S1x8x1 (![1] : Fin 1 → Fin S1x8x1.rank)
  bcast_S_S1x8x1 : S_.BroadcastsInDim S1x8x1 (![] : Fin 0 → Fin S1x8x1.rank)
  bcast_S1x8x1_S32768x8x64_0_1_2 : S1x8x1.BroadcastsInDim S32768x8x64 (![0, 1, 2] : Fin 3 → Fin S32768x8x64.rank)

variable [Facts]

def fn {F : FTy → Type} [FloatOps F] (main_arg0 : FVec F S8 .f32) (main_arg1 : FVec F S32768x512 .bf16) (main_arg2 : FVec F S128x512x256 .bf16) (main_arg3 : FVec F S32768x512 .bf16) : IVec S32768x8x64 1 :=
  let main_v0 : FVec F S32768x512 .f32 := (extf .f32 · bitsLt_bf16_f32) main_arg1
  let main_v1 : FVec F S32768x512 .f32 := Host.absf main_v0
  let main_v2 : FVec F S32768x8x64 .f32 := shapeCast S32768x8x64 main_v1 shapeCasts_S32768x512_S32768x8x64
  let main_cst : FVec F S_ .f32 := constant S_ .f32 0x7F800000#32
  let main_v3 : FVec F S32768x8x64 .f32 := broadcastInDim S32768x8x64 ![] bcast_S_S32768x8x64 main_cst
  let main_v4 : IVec S32768x8x64 1 := cmpf .olt main_v2 main_v3
  let main_v5 : FVec F S128x512x256 .f32 := (extf .f32 · bitsLt_bf16_f32) main_arg2
  let main_v6 : FVec F S128x512x256 .f32 := Host.absf main_v5
  let main_v7 : FVec F S32768x8x64 .f32 := shapeCast S32768x8x64 main_v6 shapeCasts_S128x512x256_S32768x8x64
  let main_cst_0 : FVec F S_ .f32 := constant S_ .f32 0x7F800000#32
  let main_v8 : FVec F S32768x8x64 .f32 := broadcastInDim S32768x8x64 ![] bcast_S_S32768x8x64 main_cst_0
  let main_v9 : IVec S32768x8x64 1 := cmpf .olt main_v7 main_v8
  let main_v10 : FVec F S8 .f32 := Host.absf main_arg0
  let main_v11 : FVec F S1x8x1 .f32 := broadcastInDim S1x8x1 ![1] bcast_S8_S1x8x1_1 main_v10
  let main_cst_1 : FVec F S_ .f32 := constant S_ .f32 0x7F800000#32
  let main_v12 : FVec F S1x8x1 .f32 := broadcastInDim S1x8x1 ![] bcast_S_S1x8x1 main_cst_1
  let main_v13 : IVec S1x8x1 1 := cmpf .olt main_v11 main_v12
  let main_v14 : IVec S32768x8x64 1 := andi main_v4 main_v9
  let main_v15 : IVec S32768x8x64 1 := broadcastInDim S32768x8x64 ![0, 1, 2] bcast_S1x8x1_S32768x8x64_0_1_2 main_v13
  let main_v16 : IVec S32768x8x64 1 := andi main_v14 main_v15
  main_v16
-- ==== Pre_finite_normed.lean ====
abbrev S32768x1024 : Shape := ⟨2, ![32768, 1024]⟩
abbrev S1024 : Shape := ⟨1, ![1024]⟩
abbrev S1024x3088 : Shape := ⟨2, ![1024, 3088]⟩
abbrev S4x64 : Shape := ⟨2, ![4, 64]⟩
abbrev S4x128x128 : Shape := ⟨3, ![4, 128, 128]⟩
abbrev S4x128 : Shape := ⟨2, ![4, 128]⟩
abbrev S64 : Shape := ⟨1, ![64]⟩
abbrev S16x256 : Shape := ⟨2, ![16, 256]⟩
abbrev S256 : Shape := ⟨1, ![256]⟩
abbrev S1024x1 : Shape := ⟨2, ![1024, 1]⟩
abbrev S_ : Shape := ⟨0, ![]⟩
abbrev S1024x1280 : Shape := ⟨2, ![1024, 1280]⟩

class Facts : Prop where
  bcast_S1024_S1024x1_0 : S1024.BroadcastsInDim S1024x1 (![0] : Fin 1 → Fin S1024x1.rank)
  bcast_S_S1024x1 : S_.BroadcastsInDim S1024x1 (![] : Fin 0 → Fin S1024x1.rank)
  slices_S1024x3088_S1024x1280_0_256 : S1024x3088.Slices ![0, 256] S1024x1280
  bcast_S_S1024x1280 : S_.BroadcastsInDim S1024x1280 (![] : Fin 0 → Fin S1024x1280.rank)
  bcast_S1024x1_S1024x1280_0_1 : S1024x1.BroadcastsInDim S1024x1280 (![0, 1] : Fin 2 → Fin S1024x1280.rank)

variable [Facts]

def fn {F : FTy → Type} [FloatOps F] (main_arg0 : FVec F S32768x1024 .f32) (main_arg1 : FVec F S1024 .f32) (main_arg2 : FVec F S1024x3088 .f32) (main_arg3 : FVec F S4x64 .f32) (main_arg4 : FVec F S4x128x128 .f32) (main_arg5 : FVec F S4x128 .f32) (main_arg6 : FVec F S64 .f32) (main_arg7 : FVec F S64 .f32) (main_arg8 : FVec F S16x256 .f32) (main_arg9 : FVec F S256 .f32) : IVec S1024x1280 1 :=
  let main_v0 : FVec F S1024 .f32 := Host.absf main_arg1
  let main_v1 : FVec F S1024x1 .f32 := broadcastInDim S1024x1 ![0] bcast_S1024_S1024x1_0 main_v0
  let main_cst : FVec F S_ .f32 := constant S_ .f32 0x7F800000#32
  let main_v2 : FVec F S1024x1 .f32 := broadcastInDim S1024x1 ![] bcast_S_S1024x1 main_cst
  let main_v3 : IVec S1024x1 1 := cmpf .olt main_v1 main_v2
  let main_v4 : FVec F S1024x1280 .f32 := (extractStridedSlice S1024x1280 ![0, 256] · slices_S1024x3088_S1024x1280_0_256) main_arg2
  let main_v5 : FVec F S1024x1280 .f32 := Host.absf main_v4
  let main_cst_0 : FVec F S_ .f32 := constant S_ .f32 0x7F800000#32
  let main_v6 : FVec F S1024x1280 .f32 := broadcastInDim S1024x1280 ![] bcast_S_S1024x1280 main_cst_0
  let main_v7 : IVec S1024x1280 1 := cmpf .olt main_v5 main_v6
  let main_v8 : IVec S1024x1280 1 := broadcastInDim S1024x1280 ![0, 1] bcast_S1024x1_S1024x1280_0_1 main_v3
  let main_v9 : IVec S1024x1280 1 := andi main_v8 main_v7
  main_v9
-- ==== Pre_finite_state.lean ====
abbrev S32x16x256 : Shape := ⟨3, ![32, 16, 256]⟩
abbrev S32x4x64x64 : Shape := ⟨4, ![32, 4, 64, 64]⟩
abbrev S64 : Shape := ⟨1, ![64]⟩
abbrev S_ : Shape := ⟨0, ![]⟩
abbrev S32x16x4x64 : Shape := ⟨4, ![32, 16, 4, 64]⟩
abbrev S32x16x4x64x1 : Shape := ⟨5, ![32, 16, 4, 64, 1]⟩
abbrev S32x1x4x64x64 : Shape := ⟨5, ![32, 1, 4, 64, 64]⟩
abbrev S32x16x4x64x64 : Shape := ⟨5, ![32, 16, 4, 64, 64]⟩

class Facts : Prop where
  bcast_S_S32x16x256 : S_.BroadcastsInDim S32x16x256 (![] : Fin 0 → Fin S32x16x256.rank)
  shapeCasts_S32x16x256_S32x16x4x64 : S32x16x256.ShapeCasts S32x16x4x64
  bcast_S32x16x4x64_S32x16x4x64x1_0_1_2_3 : S32x16x4x64.BroadcastsInDim S32x16x4x64x1 (![0, 1, 2, 3] : Fin 4 → Fin S32x16x4x64x1.rank)
  bcast_S_S32x4x64x64 : S_.BroadcastsInDim S32x4x64x64 (![] : Fin 0 → Fin S32x4x64x64.rank)
  bcast_S32x4x64x64_S32x1x4x64x64_0_2_3_4 : S32x4x64x64.BroadcastsInDim S32x1x4x64x64 (![0, 2, 3, 4] : Fin 4 → Fin S32x1x4x64x64.rank)
  bcast_S32x16x4x64x1_S32x16x4x64x64_0_1_2_3_4 : S32x16x4x64x1.BroadcastsInDim S32x16x4x64x64 (![0, 1, 2, 3, 4] : Fin 5 → Fin S32x16x4x64x64.rank)
  bcast_S32x1x4x64x64_S32x16x4x64x64_0_1_2_3_4 : S32x1x4x64x64.BroadcastsInDim S32x16x4x64x64 (![0, 1, 2, 3, 4] : Fin 5 → Fin S32x16x4x64x64.rank)

variable [Facts]

def fn_part1 {F : FTy → Type} [FloatOps F] (main_v16 : IVec S32x16x4x64x1 1) (main_v17 : FVec F S32x4x64x64 .f32) (main_v18 : FVec F S32x4x64x64 .f32) : IVec S32x16x4x64x64 1 :=
  let main_v19 : IVec S32x4x64x64 1 := cmpf .olt main_v17 main_v18
  let main_v20 : IVec S32x1x4x64x64 1 := broadcastInDim S32x1x4x64x64 ![0, 2, 3, 4] bcast_S32x4x64x64_S32x1x4x64x64_0_2_3_4 main_v19
  let main_v21 : IVec S32x16x4x64x64 1 := broadcastInDim S32x16x4x64x64 ![0, 1, 2, 3, 4] bcast_S32x16x4x64x1_S32x16x4x64x64_0_1_2_3_4 main_v16
  let main_v22 : IVec S32x16x4x64x64 1 := broadcastInDim S32x16x4x64x64 ![0, 1, 2, 3, 4] bcast_S32x1x4x64x64_S32x16x4x64x64_0_1_2_3_4 main_v20
  let main_v23 : IVec S32x16x4x64x64 1 := andi main_v21 main_v22
  main_v23

def fn {F : FTy → Type} [FloatOps F] (main_arg0 : FVec F S32x16x256 .f32) (main_arg1 : FVec F S32x16x256 .f32) (main_arg2 : FVec F S32x16x256 .f32) (main_arg3 : FVec F S32x16x256 .f32) (main_arg4 : FVec F S32x16x256 .f32) (main_arg5 : FVec F S32x4x64x64 .f32) (main_arg6 : FVec F S64 .f32) : IVec S32x16x4x64x64 1 :=
  let main_v0 : FVec F S32x16x256 .f32 := Host.absf main_arg0
  let main_cst : FVec F S_ .f32 := constant S_ .f32 0x7F800000#32
  let main_v1 : FVec F S32x16x256 .f32 := broadcastInDim S32x16x256 ![] bcast_S_S32x16x256 main_cst
  let main_v2 : IVec S32x16x256 1 := cmpf .olt main_v0 main_v1
  let main_v3 : FVec F S32x16x256 .f32 := Host.absf main_arg1
  let main_cst_0 : FVec F S_ .f32 := constant S_ .f32 0x7F800000#32
  let main_v4 : FVec F S32x16x256 .f32 := broadcastInDim S32x16x256 ![] bcast_S_S32x16x256 main_cst_0
  let main_v5 : IVec S32x16x256 1 := cmpf .olt main_v3 main_v4
  let main_v6 : IVec S32x16x256 1 := andi main_v2 main_v5
  let main_v7 : FVec F S32x16x256 .f32 := Host.absf main_arg2
  let main_cst_1 : FVec F S_ .f32 := constant S_ .f32 0x7F800000#32
  let main_v8 : FVec F S32x16x256 .f32 := broadcastInDim S32x16x256 ![] bcast_S_S32x16x256 main_cst_1
  let main_v9 : IVec S32x16x256 1 := cmpf .olt main_v7 main_v8
  let main_v10 : IVec S32x16x256 1 := andi main_v6 main_v9
  let main_v11 : FVec F S32x16x256 .f32 := Host.absf main_arg3
  let main_cst_2 : FVec F S_ .f32 := constant S_ .f32 0x7F800000#32
  let main_v12 : FVec F S32x16x256 .f32 := broadcastInDim S32x16x256 ![] bcast_S_S32x16x256 main_cst_2
  let main_v13 : IVec S32x16x256 1 := cmpf .olt main_v11 main_v12
  let main_v14 : IVec S32x16x256 1 := andi main_v10 main_v13
  let main_v15 : IVec S32x16x4x64 1 := shapeCast S32x16x4x64 main_v14 shapeCasts_S32x16x256_S32x16x4x64
  let main_v16 : IVec S32x16x4x64x1 1 := broadcastInDim S32x16x4x64x1 ![0, 1, 2, 3] bcast_S32x16x4x64_S32x16x4x64x1_0_1_2_3 main_v15
  let main_v17 : FVec F S32x4x64x64 .f32 := Host.absf main_arg5
  let main_cst_3 : FVec F S_ .f32 := constant S_ .f32 0x7F800000#32
  let main_v18 : FVec F S32x4x64x64 .f32 := broadcastInDim S32x4x64x64 ![] bcast_S_S32x4x64x64 main_cst_3
  fn_part1 (F := F) main_v16 main_v17 main_v18
-- ==== Kernel.lean ====
abbrev S8 : Shape := ⟨1, ![8]⟩
abbrev S32768x512 : Shape := ⟨2, ![32768, 512]⟩
abbrev S128x512x256 : Shape := ⟨3, ![128, 512, 256]⟩
abbrev S256x256 : Shape := ⟨2, ![256, 256]⟩
abbrev S_ : Shape := ⟨0, ![]⟩
abbrev S16x256x256 : Shape := ⟨3, ![16, 256, 256]⟩
abbrev S4096x256 : Shape := ⟨2, ![4096, 256]⟩
abbrev S1024x256 : Shape := ⟨2, ![1024, 256]⟩
abbrev S1024x1 : Shape := ⟨2, ![1024, 1]⟩
abbrev S1 : Shape := ⟨1, ![1]⟩
abbrev S256x1 : Shape := ⟨2, ![256, 1]⟩
abbrev S1x256x256 : Shape := ⟨3, ![1, 256, 256]⟩
abbrev S256x1024 : Shape := ⟨2, ![256, 1024]⟩

abbrev nBuf : Space → Nat
  | .hbm => 14
  | .vmem => 16
  | .smem => 1
  | _ => 0

abbrev bufTy : (tb : Table) → Fin (tcTables nBuf tb) → BufTy
  | .hbm, ⟨0, _⟩ => ⟨S8, .f32⟩
  | .hbm, ⟨1, _⟩ => ⟨S32768x512, .bf16⟩
  | .hbm, ⟨2, _⟩ => ⟨S128x512x256, .bf16⟩
  | .hbm, ⟨3, _⟩ => ⟨S32768x512, .bf16⟩
  | .hbm, ⟨4, _⟩ => ⟨S256x256, .i32⟩
  | .hbm, ⟨5, _⟩ => ⟨S256x256, .i32⟩
  | .hbm, ⟨6, _⟩ => ⟨S256x256, .i1⟩
  | .hbm, ⟨7, _⟩ => ⟨S_, .f32⟩
  | .hbm, ⟨8, _⟩ => ⟨S_, .f32⟩
  | .hbm, ⟨9, _⟩ => ⟨S256x256, .f32⟩
  | .hbm, ⟨10, _⟩ => ⟨S256x256, .f32⟩
  | .hbm, ⟨11, _⟩ => ⟨S256x256, .f32⟩
  | .hbm, ⟨12, _⟩ => ⟨S256x256, .bf16⟩
  | .hbm, ⟨13, _⟩ => ⟨S32768x512, .bf16⟩
  | .local _ .vmem, ⟨0, _⟩ => ⟨S256x256, .bf16⟩
  | .local _ .vmem, ⟨1, _⟩ => ⟨S256x256, .bf16⟩
  | .local _ .vmem, ⟨2, _⟩ => ⟨S16x256x256, .bf16⟩
  | .local _ .vmem, ⟨3, _⟩ => ⟨S16x256x256, .bf16⟩
  | .local _ .vmem, ⟨4, _⟩ => ⟨S4096x256, .bf16⟩
  | .local _ .vmem, ⟨5, _⟩ => ⟨S4096x256, .bf16⟩
  | .local _ .vmem, ⟨6, _⟩ => ⟨S256x256, .bf16⟩
  | .local _ .vmem, ⟨7, _⟩ => ⟨S256x256, .bf16⟩
  | .local _ .vmem, ⟨8, _⟩ => ⟨S256x256, .bf16⟩
  | .local _ .vmem, ⟨9, _⟩ => ⟨S1024x256, .bf16⟩
  | .local _ .vmem, ⟨10, _⟩ => ⟨S1024x256, .f32⟩
  | .local _ .vmem, ⟨11, _⟩ => ⟨S1024x256, .f32⟩
  | .local _ .vmem, ⟨12, _⟩ => ⟨S1024x256, .f32⟩
  | .local _ .vmem, ⟨13, _⟩ => ⟨S1024x256, .f32⟩
  | .local _ .vmem, ⟨14, _⟩ => ⟨S1024x1, .f32⟩
  | .local _ .vmem, ⟨15, _⟩ => ⟨S256x256, .f32⟩
  | .local _ .smem, ⟨0, _⟩ => ⟨S8, .f32⟩
  | _, _ => ⟨S8, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .smem, ⟨0, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_cst_0 : Ref sig .tc := ⟨.hbm, 8, rfl⟩
abbrev main_call0_v0 : Ref sig .tc := ⟨.hbm, 9, rfl⟩
abbrev main_call0_v1 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_scratch0 : Ref sig .tc := ⟨.vmem, 9, rfl⟩
abbrev cc0_scratch1 : Ref sig .tc := ⟨.vmem, 10, rfl⟩
abbrev cc0_scratch2 : Ref sig .tc := ⟨.vmem, 11, rfl⟩
abbrev cc0_scratch3 : Ref sig .tc := ⟨.vmem, 12, rfl⟩
abbrev cc0_scratch4 : Ref sig .tc := ⟨.vmem, 13, rfl⟩
abbrev cc0_scratch5 : Ref sig .tc := ⟨.vmem, 14, rfl⟩
abbrev cc0_scratch6 : Ref sig .tc := ⟨.vmem, 15, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨3, ![8, 2, 16], ![false, false, false]⟩

def k0_off1 (i : grid0.Coords) (c0_i32_22 : BitVec 32) : Fin 1 → Nat :=
  let arg1 : BitVec 32 := BitVec.ofNat 32 (i 1).val
  let c4_i32 : BitVec 32 := 4#32
  let v79 : BitVec 32 := Scalar.muli arg1 c4_i32
  let v80 : BitVec 32 := Scalar.addi v79 c0_i32_22
  let v81 : Index := Scalar.indexCast v80
  ![v81.toNat]
def k0_off2 (i : grid0.Coords) : Fin 3 → Nat :=
  let arg2 : BitVec 32 := BitVec.ofNat 32 (i 2).val
  let v125 : Index := Scalar.indexCast arg2
  let c0_40 : Index := 0#32
  let c0_41 : Index := 0#32
  ![v125.toNat, 0, 0]
def k0_mult1 (i : grid0.Coords) : BitVec 32 :=
  let arg2 : BitVec 32 := BitVec.ofNat 32 (i 2).val
  let c256_i32_52 : BitVec 32 := 256#32
  let v158 : BitVec 32 := Scalar.muli arg2 c256_i32_52
  v158
def k0_off3 (i : grid0.Coords) : Fin 2 → Nat :=
  let arg2 : BitVec 32 := BitVec.ofNat 32 (i 2).val
  let c256_i32_52 : BitVec 32 := 256#32
  let v158 : BitVec 32 := Scalar.muli arg2 c256_i32_52
  let v159 : BitVec 32 := v158
  let v160 : Index := Scalar.indexCast v159
  let c0_53 : Index := 0#32
  ![v160.toNat, 0]
@[reducible] def k0_t1_loop (i : grid0.Coords) : Scf.Loop 32 :=
  let c0_i32_77 : BitVec 32 := 0#32
  let arg2 : BitVec 32 := BitVec.ofNat 32 (i 2).val
  let c0_i32_67 : BitVec 32 := 0#32
  let v190 : BitVec 1 := Scalar.cmpi .sgt arg2 c0_i32_67
  let c3_i32_68 : BitVec 32 := 3#32
  let v191 : BitVec 32 := Scalar.addi arg2 c3_i32_68
  let c0_i32_70 : BitVec 32 := 0#32
  let v193 : BitVec 1 := Scalar.cmpi .sgt v191 c0_i32_70
  let v194 : BitVec 32 := Scalar.extui v193
  let c0_i32_71 : BitVec 32 := 0#32
  let v195 : BitVec 1 := Scalar.cmpi .slt v191 c0_i32_71
  let v196 : BitVec 32 := Scalar.extui v195
  let v197 : BitVec 32 := Scalar.subi v194 v196
  let c2_i32_69 : BitVec 32 := 2#32
  let c0_i32_72 : BitVec 32 := 0#32
  let v198 : BitVec 1 := Scalar.cmpi .sgt c2_i32_69 c0_i32_72
  let v199 : BitVec 32 := Scalar.extui v198
  let c0_i32_73 : BitVec 32 := 0#32
  let v200 : BitVec 1 := Scalar.cmpi .slt c2_i32_69 c0_i32_73
  let v201 : BitVec 32 := Scalar.extui v200
  let v202 : BitVec 32 := Scalar.subi v199 v201
  let v203 : BitVec 1 := Scalar.cmpi .ne v197 v202
  let v204 : BitVec 32 := Scalar.remsi v191 c2_i32_69
  let c0_i32_74 : BitVec 32 := 0#32
  let v205 : BitVec 1 := Scalar.cmpi .ne v204 c0_i32_74
  let v206 : BitVec 1 := Scalar.andi v203 v205
  let v192 : BitVec 32 := Scalar.divsi v191 c2_i32_69
  let c1_i32_75 : BitVec 32 := 1#32
  let v207 : BitVec 32 := Scalar.subi v192 c1_i32_75
  let v208 : BitVec 32 := Scalar.select v206 v207 v192
  let c0_i32_76 : BitVec 32 := 0#32
  let v209 : BitVec 32 := Scalar.select v190 v208 c0_i32_76
  let v210 : BitVec 32 := Scalar.subi v209 c0_i32_77
  let c1_i32_79 : BitVec 32 := 1#32
  let v212 : BitVec 32 := Scalar.divsi v210 c1_i32_79
  let v213 : BitVec 32 := Scalar.muli v212 c1_i32_79
  let v214 : BitVec 32 := Scalar.addi c0_i32_77 v213
  let c1_i32_80 : BitVec 32 := 1#32
  ⟨c0_i32_77, v214, c1_i32_80⟩
def k0_off4 (i : grid0.Coords) (k0_t1 : Fin (k0_t1_loop i).trips) : Fin 3 → Nat :=
  let arg2 : BitVec 32 := BitVec.ofNat 32 (i 2).val
  let c1_i32_65 : BitVec 32 := 1#32
  let v188 : BitVec 32 := Scalar.subi arg2 c1_i32_65
  let c0_i32_66 : BitVec 32 := 0#32
  let v189 : BitVec 32 := Scalar.maxsi v188 c0_i32_66
  let c0_i32_88 : BitVec 32 := 0#32
  let c1_i32_87 : BitVec 32 := 1#32
  let v221 : BitVec 32 := Scalar.subi arg2 c1_i32_87
  let c2_i32_86 : BitVec 32 := 2#32
  let c0_i32_77 : BitVec 32 := 0#32
  let c1_i32_80 : BitVec 32 := 1#32
  let arg16 : BitVec 32 := Scf.iv c0_i32_77 c1_i32_80 k0_t1
  let v220 : BitVec 32 := Scalar.muli c2_i32_86 arg16
  let v222 : BitVec 32 := Scalar.subi v221 v220
  let v223 : BitVec 32 := Scalar.maxsi c0_i32_88 v222
  let v224 : BitVec 32 := Scalar.minsi v189 v223
  let v226 : Index := Scalar.indexCast v224
  let c0_91 : Index := 0#32
  let c0_92 : Index := 0#32
  ![v226.toNat, 0, 0]
def k0_mult2 (i : grid0.Coords) (k0_t1 : Fin (k0_t1_loop i).trips) : BitVec 32 :=
  let arg2 : BitVec 32 := BitVec.ofNat 32 (i 2).val
  let c1_i32_65 : BitVec 32 := 1#32
  let v188 : BitVec 32 := Scalar.subi arg2 c1_i32_65
  let c0_i32_66 : BitVec 32 := 0#32
  let v189 : BitVec 32 := Scalar.maxsi v188 c0_i32_66
  let c0_i32_116 : BitVec 32 := 0#32
  let c1_i32_115 : BitVec 32 := 1#32
  let v267 : BitVec 32 := Scalar.addi arg2 c1_i32_115
  let c2_i32_86 : BitVec 32 := 2#32
  let c0_i32_77 : BitVec 32 := 0#32
  let c1_i32_80 : BitVec 32 := 1#32
  let arg16 : BitVec 32 := Scf.iv c0_i32_77 c1_i32_80 k0_t1
  let v220 : BitVec 32 := Scalar.muli c2_i32_86 arg16
  let v268 : BitVec 32 := Scalar.subi v267 v220
  let v269 : BitVec 32 := Scalar.maxsi c0_i32_116 v268
  let v270 : BitVec 32 := Scalar.minsi v189 v269
  let c256_i32_119 : BitVec 32 := 256#32
  let v277 : BitVec 32 := Scalar.muli v270 c256_i32_119
  v277
def k0_off5 (i : grid0.Coords) (k0_t1 : Fin (k0_t1_loop i).trips) : Fin 2 → Nat :=
  let arg2 : BitVec 32 := BitVec.ofNat 32 (i 2).val
  let c1_i32_65 : BitVec 32 := 1#32
  let v188 : BitVec 32 := Scalar.subi arg2 c1_i32_65
  let c0_i32_66 : BitVec 32 := 0#32
  let v189 : BitVec 32 := Scalar.maxsi v188 c0_i32_66
  let c0_i32_116 : BitVec 32 := 0#32
  let c1_i32_115 : BitVec 32 := 1#32
  let v267 : BitVec 32 := Scalar.addi arg2 c1_i32_115
  let c2_i32_86 : BitVec 32 := 2#32
  let c0_i32_77 : BitVec 32 := 0#32
  let c1_i32_80 : BitVec 32 := 1#32
  let arg16 : BitVec 32 := Scf.iv c0_i32_77 c1_i32_80 k0_t1
  let v220 : BitVec 32 := Scalar.muli c2_i32_86 arg16
  let v268 : BitVec 32 := Scalar.subi v267 v220
  let v269 : BitVec 32 := Scalar.maxsi c0_i32_116 v268
  let v270 : BitVec 32 := Scalar.minsi v189 v269
  let c256_i32_119 : BitVec 32 := 256#32
  let v277 : BitVec 32 := Scalar.muli v270 c256_i32_119
  let v278 : BitVec 32 := v277
  let v279 : Index := Scalar.indexCast v278
  let c0_120 : Index := 0#32
  ![v279.toNat, 0]
def k0_off6 (i : grid0.Coords) (k0_t1 : Fin (k0_t1_loop i).trips) : Fin 3 → Nat :=
  let arg2 : BitVec 32 := BitVec.ofNat 32 (i 2).val
  let c1_i32_65 : BitVec 32 := 1#32
  let v188 : BitVec 32 := Scalar.subi arg2 c1_i32_65
  let c0_i32_66 : BitVec 32 := 0#32
  let v189 : BitVec 32 := Scalar.maxsi v188 c0_i32_66
  let c0_i32_135 : BitVec 32 := 0#32
  let c1_i32_134 : BitVec 32 := 1#32
  let v318 : BitVec 32 := Scalar.subi arg2 c1_i32_134
  let c2_i32_132 : BitVec 32 := 2#32
  let c0_i32_77 : BitVec 32 := 0#32
  let c1_i32_80 : BitVec 32 := 1#32
  let arg16 : BitVec 32 := Scf.iv c0_i32_77 c1_i32_80 k0_t1
  let v316 : BitVec 32 := Scalar.muli c2_i32_132 arg16
  let c1_i32_133 : BitVec 32 := 1#32
  let v317 : BitVec 32 := Scalar.addi v316 c1_i32_133
  let v319 : BitVec 32 := Scalar.subi v318 v317
  let v320 : BitVec 32 := Scalar.maxsi c0_i32_135 v319
  let v321 : BitVec 32 := Scalar.minsi v189 v320
  let v323 : Index := Scalar.indexCast v321
  let c0_138 : Index := 0#32
  let c0_139 : Index := 0#32
  ![v323.toNat, 0, 0]
def k0_mult3 (i : grid0.Coords) (k0_t1 : Fin (k0_t1_loop i).trips) : BitVec 32 :=
  let arg2 : BitVec 32 := BitVec.ofNat 32 (i 2).val
  let c1_i32_65 : BitVec 32 := 1#32
  let v188 : BitVec 32 := Scalar.subi arg2 c1_i32_65
  let c0_i32_66 : BitVec 32 := 0#32
  let v189 : BitVec 32 := Scalar.maxsi v188 c0_i32_66
  let c0_i32_163 : BitVec 32 := 0#32
  let c1_i32_162 : BitVec 32 := 1#32
  let v364 : BitVec 32 := Scalar.addi arg2 c1_i32_162
  let c2_i32_132 : BitVec 32 := 2#32
  let c0_i32_77 : BitVec 32 := 0#32
  let c1_i32_80 : BitVec 32 := 1#32
  let arg16 : BitVec 32 := Scf.iv c0_i32_77 c1_i32_80 k0_t1
  let v316 : BitVec 32 := Scalar.muli c2_i32_132 arg16
  let c1_i32_133 : BitVec 32 := 1#32
  let v317 : BitVec 32 := Scalar.addi v316 c1_i32_133
  let v365 : BitVec 32 := Scalar.subi v364 v317
  let v366 : BitVec 32 := Scalar.maxsi c0_i32_163 v365
  let v367 : BitVec 32 := Scalar.minsi v189 v366
  let c256_i32_166 : BitVec 32 := 256#32
  let v374 : BitVec 32 := Scalar.muli v367 c256_i32_166
  v374
def k0_off7 (i : grid0.Coords) (k0_t1 : Fin (k0_t1_loop i).trips) : Fin 2 → Nat :=
  let arg2 : BitVec 32 := BitVec.ofNat 32 (i 2).val
  let c1_i32_65 : BitVec 32 := 1#32
  let v188 : BitVec 32 := Scalar.subi arg2 c1_i32_65
  let c0_i32_66 : BitVec 32 := 0#32
  let v189 : BitVec 32 := Scalar.maxsi v188 c0_i32_66
  let c0_i32_163 : BitVec 32 := 0#32
  let c1_i32_162 : BitVec 32 := 1#32
  let v364 : BitVec 32 := Scalar.addi arg2 c1_i32_162
  let c2_i32_132 : BitVec 32 := 2#32
  let c0_i32_77 : BitVec 32 := 0#32
  let c1_i32_80 : BitVec 32 := 1#32
  let arg16 : BitVec 32 := Scf.iv c0_i32_77 c1_i32_80 k0_t1
  let v316 : BitVec 32 := Scalar.muli c2_i32_132 arg16
  let c1_i32_133 : BitVec 32 := 1#32
  let v317 : BitVec 32 := Scalar.addi v316 c1_i32_133
  let v365 : BitVec 32 := Scalar.subi v364 v317
  let v366 : BitVec 32 := Scalar.maxsi c0_i32_163 v365
  let v367 : BitVec 32 := Scalar.minsi v189 v366
  let c256_i32_166 : BitVec 32 := 256#32
  let v374 : BitVec 32 := Scalar.muli v367 c256_i32_166
  let v375 : BitVec 32 := v374
  let v376 : Index := Scalar.indexCast v375
  let c0_167 : Index := 0#32
  ![v376.toNat, 0]
@[reducible] def k0_t2_loop (i : grid0.Coords) : Scf.Loop 32 :=
  let c0_i32_77 : BitVec 32 := 0#32
  let arg2 : BitVec 32 := BitVec.ofNat 32 (i 2).val
  let c0_i32_67 : BitVec 32 := 0#32
  let v190 : BitVec 1 := Scalar.cmpi .sgt arg2 c0_i32_67
  let c3_i32_68 : BitVec 32 := 3#32
  let v191 : BitVec 32 := Scalar.addi arg2 c3_i32_68
  let c0_i32_70 : BitVec 32 := 0#32
  let v193 : BitVec 1 := Scalar.cmpi .sgt v191 c0_i32_70
  let v194 : BitVec 32 := Scalar.extui v193
  let c0_i32_71 : BitVec 32 := 0#32
  let v195 : BitVec 1 := Scalar.cmpi .slt v191 c0_i32_71
  let v196 : BitVec 32 := Scalar.extui v195
  let v197 : BitVec 32 := Scalar.subi v194 v196
  let c2_i32_69 : BitVec 32 := 2#32
  let c0_i32_72 : BitVec 32 := 0#32
  let v198 : BitVec 1 := Scalar.cmpi .sgt c2_i32_69 c0_i32_72
  let v199 : BitVec 32 := Scalar.extui v198
  let c0_i32_73 : BitVec 32 := 0#32
  let v200 : BitVec 1 := Scalar.cmpi .slt c2_i32_69 c0_i32_73
  let v201 : BitVec 32 := Scalar.extui v200
  let v202 : BitVec 32 := Scalar.subi v199 v201
  let v203 : BitVec 1 := Scalar.cmpi .ne v197 v202
  let v204 : BitVec 32 := Scalar.remsi v191 c2_i32_69
  let c0_i32_74 : BitVec 32 := 0#32
  let v205 : BitVec 1 := Scalar.cmpi .ne v204 c0_i32_74
  let v206 : BitVec 1 := Scalar.andi v203 v205
  let v192 : BitVec 32 := Scalar.divsi v191 c2_i32_69
  let c1_i32_75 : BitVec 32 := 1#32
  let v207 : BitVec 32 := Scalar.subi v192 c1_i32_75
  let v208 : BitVec 32 := Scalar.select v206 v207 v192
  let c0_i32_76 : BitVec 32 := 0#32
  let v209 : BitVec 32 := Scalar.select v190 v208 c0_i32_76
  let v210 : BitVec 32 := Scalar.subi v209 c0_i32_77
  let c1_i32_79 : BitVec 32 := 1#32
  let v212 : BitVec 32 := Scalar.divsi v210 c1_i32_79
  let v213 : BitVec 32 := Scalar.muli v212 c1_i32_79
  let v214 : BitVec 32 := Scalar.addi c0_i32_77 v213
  let v211 : BitVec 32 := Scalar.addi c0_i32_77 v210
  let c1_i32_81 : BitVec 32 := 1#32
  ⟨v214, v211, c1_i32_81⟩
def k0_off8 (i : grid0.Coords) (k0_t2 : Fin (k0_t2_loop i).trips) : Fin 3 → Nat :=
  let arg2 : BitVec 32 := BitVec.ofNat 32 (i 2).val
  let c1_i32_65 : BitVec 32 := 1#32
  let v188 : BitVec 32 := Scalar.subi arg2 c1_i32_65
  let c0_i32_66 : BitVec 32 := 0#32
  let v189 : BitVec 32 := Scalar.maxsi v188 c0_i32_66
  let c0_i32_88 : BitVec 32 := 0#32
  let c1_i32_87 : BitVec 32 := 1#32
  let v221 : BitVec 32 := Scalar.subi arg2 c1_i32_87
  let c2_i32_86 : BitVec 32 := 2#32
  let c0_i32_77 : BitVec 32 := 0#32
  let c0_i32_67 : BitVec 32 := 0#32
  let v190 : BitVec 1 := Scalar.cmpi .sgt arg2 c0_i32_67
  let c3_i32_68 : BitVec 32 := 3#32
  let v191 : BitVec 32 := Scalar.addi arg2 c3_i32_68
  let c0_i32_70 : BitVec 32 := 0#32
  let v193 : BitVec 1 := Scalar.cmpi .sgt v191 c0_i32_70
  let v194 : BitVec 32 := Scalar.extui v193
  let c0_i32_71 : BitVec 32 := 0#32
  let v195 : BitVec 1 := Scalar.cmpi .slt v191 c0_i32_71
  let v196 : BitVec 32 := Scalar.extui v195
  let v197 : BitVec 32 := Scalar.subi v194 v196
  let c2_i32_69 : BitVec 32 := 2#32
  let c0_i32_72 : BitVec 32 := 0#32
  let v198 : BitVec 1 := Scalar.cmpi .sgt c2_i32_69 c0_i32_72
  let v199 : BitVec 32 := Scalar.extui v198
  let c0_i32_73 : BitVec 32 := 0#32
  let v200 : BitVec 1 := Scalar.cmpi .slt c2_i32_69 c0_i32_73
  let v201 : BitVec 32 := Scalar.extui v200
  let v202 : BitVec 32 := Scalar.subi v199 v201
  let v203 : BitVec 1 := Scalar.cmpi .ne v197 v202
  let v204 : BitVec 32 := Scalar.remsi v191 c2_i32_69
  let c0_i32_74 : BitVec 32 := 0#32
  let v205 : BitVec 1 := Scalar.cmpi .ne v204 c0_i32_74
  let v206 : BitVec 1 := Scalar.andi v203 v205
  let v192 : BitVec 32 := Scalar.divsi v191 c2_i32_69
  let c1_i32_75 : BitVec 32 := 1#32
  let v207 : BitVec 32 := Scalar.subi v192 c1_i32_75
  let v208 : BitVec 32 := Scalar.select v206 v207 v192
  let c0_i32_76 : BitVec 32 := 0#32
  let v209 : BitVec 32 := Scalar.select v190 v208 c0_i32_76
  let v210 : BitVec 32 := Scalar.subi v209 c0_i32_77
  let c1_i32_79 : BitVec 32 := 1#32
  let v212 : BitVec 32 := Scalar.divsi v210 c1_i32_79
  let v213 : BitVec 32 := Scalar.muli v212 c1_i32_79
  let v214 : BitVec 32 := Scalar.addi c0_i32_77 v213
  let c1_i32_81 : BitVec 32 := 1#32
  let arg16 : BitVec 32 := Scf.iv v214 c1_i32_81 k0_t2
  let v220 : BitVec 32 := Scalar.muli c2_i32_86 arg16
  let v222 : BitVec 32 := Scalar.subi v221 v220
  let v223 : BitVec 32 := Scalar.maxsi c0_i32_88 v222
  let v224 : BitVec 32 := Scalar.minsi v189 v223
  let v226 : Index := Scalar.indexCast v224
  let c0_91 : Index := 0#32
  let c0_92 : Index := 0#32
  ![v226.toNat, 0, 0]
def k0_mult4 (i : grid0.Coords) (k0_t2 : Fin (k0_t2_loop i).trips) : BitVec 32 :=
  let arg2 : BitVec 32 := BitVec.ofNat 32 (i 2).val
  let c1_i32_65 : BitVec 32 := 1#32
  let v188 : BitVec 32 := Scalar.subi arg2 c1_i32_65
  let c0_i32_66 : BitVec 32 := 0#32
  let v189 : BitVec 32 := Scalar.maxsi v188 c0_i32_66
  let c0_i32_116 : BitVec 32 := 0#32
  let c1_i32_115 : BitVec 32 := 1#32
  let v267 : BitVec 32 := Scalar.addi arg2 c1_i32_115
  let c2_i32_86 : BitVec 32 := 2#32
  let c0_i32_77 : BitVec 32 := 0#32
  let c0_i32_67 : BitVec 32 := 0#32
  let v190 : BitVec 1 := Scalar.cmpi .sgt arg2 c0_i32_67
  let c3_i32_68 : BitVec 32 := 3#32
  let v191 : BitVec 32 := Scalar.addi arg2 c3_i32_68
  let c0_i32_70 : BitVec 32 := 0#32
  let v193 : BitVec 1 := Scalar.cmpi .sgt v191 c0_i32_70
  let v194 : BitVec 32 := Scalar.extui v193
  let c0_i32_71 : BitVec 32 := 0#32
  let v195 : BitVec 1 := Scalar.cmpi .slt v191 c0_i32_71
  let v196 : BitVec 32 := Scalar.extui v195
  let v197 : BitVec 32 := Scalar.subi v194 v196
  let c2_i32_69 : BitVec 32 := 2#32
  let c0_i32_72 : BitVec 32 := 0#32
  let v198 : BitVec 1 := Scalar.cmpi .sgt c2_i32_69 c0_i32_72
  let v199 : BitVec 32 := Scalar.extui v198
  let c0_i32_73 : BitVec 32 := 0#32
  let v200 : BitVec 1 := Scalar.cmpi .slt c2_i32_69 c0_i32_73
  let v201 : BitVec 32 := Scalar.extui v200
  let v202 : BitVec 32 := Scalar.subi v199 v201
  let v203 : BitVec 1 := Scalar.cmpi .ne v197 v202
  let v204 : BitVec 32 := Scalar.remsi v191 c2_i32_69
  let c0_i32_74 : BitVec 32 := 0#32
  let v205 : BitVec 1 := Scalar.cmpi .ne v204 c0_i32_74
  let v206 : BitVec 1 := Scalar.andi v203 v205
  let v192 : BitVec 32 := Scalar.divsi v191 c2_i32_69
  let c1_i32_75 : BitVec 32 := 1#32
  let v207 : BitVec 32 := Scalar.subi v192 c1_i32_75
  let v208 : BitVec 32 := Scalar.select v206 v207 v192
  let c0_i32_76 : BitVec 32 := 0#32
  let v209 : BitVec 32 := Scalar.select v190 v208 c0_i32_76
  let v210 : BitVec 32 := Scalar.subi v209 c0_i32_77
  let c1_i32_79 : BitVec 32 := 1#32
  let v212 : BitVec 32 := Scalar.divsi v210 c1_i32_79
  let v213 : BitVec 32 := Scalar.muli v212 c1_i32_79
  let v214 : BitVec 32 := Scalar.addi c0_i32_77 v213
  let c1_i32_81 : BitVec 32 := 1#32
  let arg16 : BitVec 32 := Scf.iv v214 c1_i32_81 k0_t2
  let v220 : BitVec 32 := Scalar.muli c2_i32_86 arg16
  let v268 : BitVec 32 := Scalar.subi v267 v220
  let v269 : BitVec 32 := Scalar.maxsi c0_i32_116 v268
  let v270 : BitVec 32 := Scalar.minsi v189 v269
  let c256_i32_119 : BitVec 32 := 256#32
  let v277 : BitVec 32 := Scalar.muli v270 c256_i32_119
  v277
def k0_off9 (i : grid0.Coords) (k0_t2 : Fin (k0_t2_loop i).trips) : Fin 2 → Nat :=
  let arg2 : BitVec 32 := BitVec.ofNat 32 (i 2).val
  let c1_i32_65 : BitVec 32 := 1#32
  let v188 : BitVec 32 := Scalar.subi arg2 c1_i32_65
  let c0_i32_66 : BitVec 32 := 0#32
  let v189 : BitVec 32 := Scalar.maxsi v188 c0_i32_66
  let c0_i32_116 : BitVec 32 := 0#32
  let c1_i32_115 : BitVec 32 := 1#32
  let v267 : BitVec 32 := Scalar.addi arg2 c1_i32_115
  let c2_i32_86 : BitVec 32 := 2#32
  let c0_i32_77 : BitVec 32 := 0#32
  let c0_i32_67 : BitVec 32 := 0#32
  let v190 : BitVec 1 := Scalar.cmpi .sgt arg2 c0_i32_67
  let c3_i32_68 : BitVec 32 := 3#32
  let v191 : BitVec 32 := Scalar.addi arg2 c3_i32_68
  let c0_i32_70 : BitVec 32 := 0#32
  let v193 : BitVec 1 := Scalar.cmpi .sgt v191 c0_i32_70
  let v194 : BitVec 32 := Scalar.extui v193
  let c0_i32_71 : BitVec 32 := 0#32
  let v195 : BitVec 1 := Scalar.cmpi .slt v191 c0_i32_71
  let v196 : BitVec 32 := Scalar.extui v195
  let v197 : BitVec 32 := Scalar.subi v194 v196
  let c2_i32_69 : BitVec 32 := 2#32
  let c0_i32_72 : BitVec 32 := 0#32
  let v198 : BitVec 1 := Scalar.cmpi .sgt c2_i32_69 c0_i32_72
  let v199 : BitVec 32 := Scalar.extui v198
  let c0_i32_73 : BitVec 32 := 0#32
  let v200 : BitVec 1 := Scalar.cmpi .slt c2_i32_69 c0_i32_73
  let v201 : BitVec 32 := Scalar.extui v200
  let v202 : BitVec 32 := Scalar.subi v199 v201
  let v203 : BitVec 1 := Scalar.cmpi .ne v197 v202
  let v204 : BitVec 32 := Scalar.remsi v191 c2_i32_69
  let c0_i32_74 : BitVec 32 := 0#32
  let v205 : BitVec 1 := Scalar.cmpi .ne v204 c0_i32_74
  let v206 : BitVec 1 := Scalar.andi v203 v205
  let v192 : BitVec 32 := Scalar.divsi v191 c2_i32_69
  let c1_i32_75 : BitVec 32 := 1#32
  let v207 : BitVec 32 := Scalar.subi v192 c1_i32_75
  let v208 : BitVec 32 := Scalar.select v206 v207 v192
  let c0_i32_76 : BitVec 32 := 0#32
  let v209 : BitVec 32 := Scalar.select v190 v208 c0_i32_76
  let v210 : BitVec 32 := Scalar.subi v209 c0_i32_77
  let c1_i32_79 : BitVec 32 := 1#32
  let v212 : BitVec 32 := Scalar.divsi v210 c1_i32_79
  let v213 : BitVec 32 := Scalar.muli v212 c1_i32_79
  let v214 : BitVec 32 := Scalar.addi c0_i32_77 v213
  let c1_i32_81 : BitVec 32 := 1#32
  let arg16 : BitVec 32 := Scf.iv v214 c1_i32_81 k0_t2
  let v220 : BitVec 32 := Scalar.muli c2_i32_86 arg16
  let v268 : BitVec 32 := Scalar.subi v267 v220
  let v269 : BitVec 32 := Scalar.maxsi c0_i32_116 v268
  let v270 : BitVec 32 := Scalar.minsi v189 v269
  let c256_i32_119 : BitVec 32 := 256#32
  let v277 : BitVec 32 := Scalar.muli v270 c256_i32_119
  let v278 : BitVec 32 := v277
  let v279 : Index := Scalar.indexCast v278
  let c0_120 : Index := 0#32
  ![v279.toNat, 0]
def k0_off10 (i : grid0.Coords) (k0_t2 : Fin (k0_t2_loop i).trips) : Fin 3 → Nat :=
  let arg2 : BitVec 32 := BitVec.ofNat 32 (i 2).val
  let c1_i32_65 : BitVec 32 := 1#32
  let v188 : BitVec 32 := Scalar.subi arg2 c1_i32_65
  let c0_i32_66 : BitVec 32 := 0#32
  let v189 : BitVec 32 := Scalar.maxsi v188 c0_i32_66
  let c0_i32_135 : BitVec 32 := 0#32
  let c1_i32_134 : BitVec 32 := 1#32
  let v318 : BitVec 32 := Scalar.subi arg2 c1_i32_134
  let c2_i32_132 : BitVec 32 := 2#32
  let c0_i32_77 : BitVec 32 := 0#32
  let c0_i32_67 : BitVec 32 := 0#32
  let v190 : BitVec 1 := Scalar.cmpi .sgt arg2 c0_i32_67
  let c3_i32_68 : BitVec 32 := 3#32
  let v191 : BitVec 32 := Scalar.addi arg2 c3_i32_68
  let c0_i32_70 : BitVec 32 := 0#32
  let v193 : BitVec 1 := Scalar.cmpi .sgt v191 c0_i32_70
  let v194 : BitVec 32 := Scalar.extui v193
  let c0_i32_71 : BitVec 32 := 0#32
  let v195 : BitVec 1 := Scalar.cmpi .slt v191 c0_i32_71
  let v196 : BitVec 32 := Scalar.extui v195
  let v197 : BitVec 32 := Scalar.subi v194 v196
  let c2_i32_69 : BitVec 32 := 2#32
  let c0_i32_72 : BitVec 32 := 0#32
  let v198 : BitVec 1 := Scalar.cmpi .sgt c2_i32_69 c0_i32_72
  let v199 : BitVec 32 := Scalar.extui v198
  let c0_i32_73 : BitVec 32 := 0#32
  let v200 : BitVec 1 := Scalar.cmpi .slt c2_i32_69 c0_i32_73
  let v201 : BitVec 32 := Scalar.extui v200
  let v202 : BitVec 32 := Scalar.subi v199 v201
  let v203 : BitVec 1 := Scalar.cmpi .ne v197 v202
  let v204 : BitVec 32 := Scalar.remsi v191 c2_i32_69
  let c0_i32_74 : BitVec 32 := 0#32
  let v205 : BitVec 1 := Scalar.cmpi .ne v204 c0_i32_74
  let v206 : BitVec 1 := Scalar.andi v203 v205
  let v192 : BitVec 32 := Scalar.divsi v191 c2_i32_69
  let c1_i32_75 : BitVec 32 := 1#32
  let v207 : BitVec 32 := Scalar.subi v192 c1_i32_75
  let v208 : BitVec 32 := Scalar.select v206 v207 v192
  let c0_i32_76 : BitVec 32 := 0#32
  let v209 : BitVec 32 := Scalar.select v190 v208 c0_i32_76
  let v210 : BitVec 32 := Scalar.subi v209 c0_i32_77
  let c1_i32_79 : BitVec 32 := 1#32
  let v212 : BitVec 32 := Scalar.divsi v210 c1_i32_79
  let v213 : BitVec 32 := Scalar.muli v212 c1_i32_79
  let v214 : BitVec 32 := Scalar.addi c0_i32_77 v213
  let c1_i32_81 : BitVec 32 := 1#32
  let arg16 : BitVec 32 := Scf.iv v214 c1_i32_81 k0_t2
  let v316 : BitVec 32 := Scalar.muli c2_i32_132 arg16
  let c1_i32_133 : BitVec 32 := 1#32
  let v317 : BitVec 32 := Scalar.addi v316 c1_i32_133
  let v319 : BitVec 32 := Scalar.subi v318 v317
  let v320 : BitVec 32 := Scalar.maxsi c0_i32_135 v319
  let v321 : BitVec 32 := Scalar.minsi v189 v320
  let v323 : Index := Scalar.indexCast v321
  let c0_138 : Index := 0#32
  let c0_139 : Index := 0#32
  ![v323.toNat, 0, 0]
def k0_mult5 (i : grid0.Coords) (k0_t2 : Fin (k0_t2_loop i).trips) : BitVec 32 :=
  let arg2 : BitVec 32 := BitVec.ofNat 32 (i 2).val
  let c1_i32_65 : BitVec 32 := 1#32
  let v188 : BitVec 32 := Scalar.subi arg2 c1_i32_65
  let c0_i32_66 : BitVec 32 := 0#32
  let v189 : BitVec 32 := Scalar.maxsi v188 c0_i32_66
  let c0_i32_163 : BitVec 32 := 0#32
  let c1_i32_162 : BitVec 32 := 1#32
  let v364 : BitVec 32 := Scalar.addi arg2 c1_i32_162
  let c2_i32_132 : BitVec 32 := 2#32
  let c0_i32_77 : BitVec 32 := 0#32
  let c0_i32_67 : BitVec 32 := 0#32
  let v190 : BitVec 1 := Scalar.cmpi .sgt arg2 c0_i32_67
  let c3_i32_68 : BitVec 32 := 3#32
  let v191 : BitVec 32 := Scalar.addi arg2 c3_i32_68
  let c0_i32_70 : BitVec 32 := 0#32
  let v193 : BitVec 1 := Scalar.cmpi .sgt v191 c0_i32_70
  let v194 : BitVec 32 := Scalar.extui v193
  let c0_i32_71 : BitVec 32 := 0#32
  let v195 : BitVec 1 := Scalar.cmpi .slt v191 c0_i32_71
  let v196 : BitVec 32 := Scalar.extui v195
  let v197 : BitVec 32 := Scalar.subi v194 v196
  let c2_i32_69 : BitVec 32 := 2#32
  let c0_i32_72 : BitVec 32 := 0#32
  let v198 : BitVec 1 := Scalar.cmpi .sgt c2_i32_69 c0_i32_72
  let v199 : BitVec 32 := Scalar.extui v198
  let c0_i32_73 : BitVec 32 := 0#32
  let v200 : BitVec 1 := Scalar.cmpi .slt c2_i32_69 c0_i32_73
  let v201 : BitVec 32 := Scalar.extui v200
  let v202 : BitVec 32 := Scalar.subi v199 v201
  let v203 : BitVec 1 := Scalar.cmpi .ne v197 v202
  let v204 : BitVec 32 := Scalar.remsi v191 c2_i32_69
  let c0_i32_74 : BitVec 32 := 0#32
  let v205 : BitVec 1 := Scalar.cmpi .ne v204 c0_i32_74
  let v206 : BitVec 1 := Scalar.andi v203 v205
  let v192 : BitVec 32 := Scalar.divsi v191 c2_i32_69
  let c1_i32_75 : BitVec 32 := 1#32
  let v207 : BitVec 32 := Scalar.subi v192 c1_i32_75
  let v208 : BitVec 32 := Scalar.select v206 v207 v192
  let c0_i32_76 : BitVec 32 := 0#32
  let v209 : BitVec 32 := Scalar.select v190 v208 c0_i32_76
  let v210 : BitVec 32 := Scalar.subi v209 c0_i32_77
  let c1_i32_79 : BitVec 32 := 1#32
  let v212 : BitVec 32 := Scalar.divsi v210 c1_i32_79
  let v213 : BitVec 32 := Scalar.muli v212 c1_i32_79
  let v214 : BitVec 32 := Scalar.addi c0_i32_77 v213
  let c1_i32_81 : BitVec 32 := 1#32
  let arg16 : BitVec 32 := Scf.iv v214 c1_i32_81 k0_t2
  let v316 : BitVec 32 := Scalar.muli c2_i32_132 arg16
  let c1_i32_133 : BitVec 32 := 1#32
  let v317 : BitVec 32 := Scalar.addi v316 c1_i32_133
  let v365 : BitVec 32 := Scalar.subi v364 v317
  let v366 : BitVec 32 := Scalar.maxsi c0_i32_163 v365
  let v367 : BitVec 32 := Scalar.minsi v189 v366
  let c256_i32_166 : BitVec 32 := 256#32
  let v374 : BitVec 32 := Scalar.muli v367 c256_i32_166
  v374
def k0_off11 (i : grid0.Coords) (k0_t2 : Fin (k0_t2_loop i).trips) : Fin 2 → Nat :=
  let arg2 : BitVec 32 := BitVec.ofNat 32 (i 2).val
  let c1_i32_65 : BitVec 32 := 1#32
  let v188 : BitVec 32 := Scalar.subi arg2 c1_i32_65
  let c0_i32_66 : BitVec 32 := 0#32
  let v189 : BitVec 32 := Scalar.maxsi v188 c0_i32_66
  let c0_i32_163 : BitVec 32 := 0#32
  let c1_i32_162 : BitVec 32 := 1#32
  let v364 : BitVec 32 := Scalar.addi arg2 c1_i32_162
  let c2_i32_132 : BitVec 32 := 2#32
  let c0_i32_77 : BitVec 32 := 0#32
  let c0_i32_67 : BitVec 32 := 0#32
  let v190 : BitVec 1 := Scalar.cmpi .sgt arg2 c0_i32_67
  let c3_i32_68 : BitVec 32 := 3#32
  let v191 : BitVec 32 := Scalar.addi arg2 c3_i32_68
  let c0_i32_70 : BitVec 32 := 0#32
  let v193 : BitVec 1 := Scalar.cmpi .sgt v191 c0_i32_70
  let v194 : BitVec 32 := Scalar.extui v193
  let c0_i32_71 : BitVec 32 := 0#32
  let v195 : BitVec 1 := Scalar.cmpi .slt v191 c0_i32_71
  let v196 : BitVec 32 := Scalar.extui v195
  let v197 : BitVec 32 := Scalar.subi v194 v196
  let c2_i32_69 : BitVec 32 := 2#32
  let c0_i32_72 : BitVec 32 := 0#32
  let v198 : BitVec 1 := Scalar.cmpi .sgt c2_i32_69 c0_i32_72
  let v199 : BitVec 32 := Scalar.extui v198
  let c0_i32_73 : BitVec 32 := 0#32
  let v200 : BitVec 1 := Scalar.cmpi .slt c2_i32_69 c0_i32_73
  let v201 : BitVec 32 := Scalar.extui v200
  let v202 : BitVec 32 := Scalar.subi v199 v201
  let v203 : BitVec 1 := Scalar.cmpi .ne v197 v202
  let v204 : BitVec 32 := Scalar.remsi v191 c2_i32_69
  let c0_i32_74 : BitVec 32 := 0#32
  let v205 : BitVec 1 := Scalar.cmpi .ne v204 c0_i32_74
  let v206 : BitVec 1 := Scalar.andi v203 v205
  let v192 : BitVec 32 := Scalar.divsi v191 c2_i32_69
  let c1_i32_75 : BitVec 32 := 1#32
  let v207 : BitVec 32 := Scalar.subi v192 c1_i32_75
  let v208 : BitVec 32 := Scalar.select v206 v207 v192
  let c0_i32_76 : BitVec 32 := 0#32
  let v209 : BitVec 32 := Scalar.select v190 v208 c0_i32_76
  let v210 : BitVec 32 := Scalar.subi v209 c0_i32_77
  let c1_i32_79 : BitVec 32 := 1#32
  let v212 : BitVec 32 := Scalar.divsi v210 c1_i32_79
  let v213 : BitVec 32 := Scalar.muli v212 c1_i32_79
  let v214 : BitVec 32 := Scalar.addi c0_i32_77 v213
  let c1_i32_81 : BitVec 32 := 1#32
  let arg16 : BitVec 32 := Scf.iv v214 c1_i32_81 k0_t2
  let v316 : BitVec 32 := Scalar.muli c2_i32_132 arg16
  let c1_i32_133 : BitVec 32 := 1#32
  let v317 : BitVec 32 := Scalar.addi v316 c1_i32_133
  let v365 : BitVec 32 := Scalar.subi v364 v317
  let v366 : BitVec 32 := Scalar.maxsi c0_i32_163 v365
  let v367 : BitVec 32 := Scalar.minsi v189 v366
  let c256_i32_166 : BitVec 32 := 256#32
  let v374 : BitVec 32 := Scalar.muli v367 c256_i32_166
  let v375 : BitVec 32 := v374
  let v376 : Index := Scalar.indexCast v375
  let c0_167 : Index := 0#32
  ![v376.toNat, 0]
def cc0_transform_0 (i : grid0.Coords) : Fin 1 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.muli arg0 c16_i32
  let v1 : BitVec 32 := Scalar.addi v0 arg2
  let c0_i32 : BitVec 32 := 0#32
  ![v1.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.muli arg0 c16_i32
  let v1 : BitVec 32 := Scalar.addi v0 arg2
  let c0_i32 : BitVec 32 := 0#32
  ![v1.toNat, arg1.toNat]

abbrev stage0_0 : Fin 1 → Memref sig .tc .smem S8 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false, false]

abbrev stage0_1 : Fin 2 → Memref sig .tc .vmem S256x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S16x256x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S4096x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 1 → Memref sig .tc .vmem S256x256 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false, false]

abbrev stage0_5 : Fin 2 → Memref sig .tc .vmem S256x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]
-- ==== KernelIdeal.lean ====
variable {F : FTy → Type} [FloatOps F] [Named F]
def κ : String → Option EReal := fun
  | "neg_log2_e" => some ((-((Real.log 2)⁻¹) : ℝ) : EReal)
  | _ => none
-- ==== ReferenceIdeal.lean ====
abbrev S8 : Shape := ⟨1, ![8]⟩
abbrev S32768x512 : Shape := ⟨2, ![32768, 512]⟩
abbrev S128x512x256 : Shape := ⟨3, ![128, 512, 256]⟩
abbrev S8x4096x8x64 : Shape := ⟨4, ![8, 4096, 8, 64]⟩
abbrev S128x256x512 : Shape := ⟨3, ![128, 256, 512]⟩
abbrev S8x8x4096x4096 : Shape := ⟨4, ![8, 8, 4096, 4096]⟩
abbrev S1x8x1x1 : Shape := ⟨4, ![1, 8, 1, 1]⟩
abbrev S4096 : Shape := ⟨1, ![4096]⟩
abbrev S1x4096 : Shape := ⟨2, ![1, 4096]⟩
abbrev S4096x1 : Shape := ⟨2, ![4096, 1]⟩
abbrev S4096x4096 : Shape := ⟨2, ![4096, 4096]⟩
abbrev S_ : Shape := ⟨0, ![]⟩
abbrev S8x8x64x4096 : Shape := ⟨4, ![8, 8, 64, 4096]⟩

abbrev nBuf : Space → Nat
  | .hbm => 58
  | .vmem => 0
  | .smem => 0
  | _ => 0

abbrev bufTy : (tb : Table) → Fin (tcTables nBuf tb) → BufTy
  | .hbm, ⟨0, _⟩ => ⟨S8, .f32⟩
  | .hbm, ⟨1, _⟩ => ⟨S32768x512, .bf16⟩
  | .hbm, ⟨2, _⟩ => ⟨S128x512x256, .bf16⟩
  | .hbm, ⟨3, _⟩ => ⟨S32768x512, .bf16⟩
  | .hbm, ⟨4, _⟩ => ⟨S32768x512, .f32⟩
  | .hbm, ⟨5, _⟩ => ⟨S8x4096x8x64, .f32⟩
  | .hbm, ⟨6, _⟩ => ⟨S128x512x256, .f32⟩
  | .hbm, ⟨7, _⟩ => ⟨S128x256x512, .f32⟩
  | .hbm, ⟨8, _⟩ => ⟨S8x4096x8x64, .f32⟩
  | .hbm, ⟨9, _⟩ => ⟨S32768x512, .f32⟩
  | .hbm, ⟨10, _⟩ => ⟨S8x4096x8x64, .f32⟩
  | .hbm, ⟨11, _⟩ => ⟨S8x8x4096x4096, .f32⟩
  | .hbm, ⟨12, _⟩ => ⟨S1x8x1x1, .f32⟩
  | .hbm, ⟨13, _⟩ => ⟨S8x8x4096x4096, .f32⟩
  | .hbm, ⟨14, _⟩ => ⟨S8x8x4096x4096, .f32⟩
  | .hbm, ⟨15, _⟩ => ⟨S4096, .i32⟩
  | .hbm, ⟨16, _⟩ => ⟨S1x4096, .i32⟩
  | .hbm, ⟨17, _⟩ => ⟨S4096x1, .i32⟩
  | .hbm, ⟨18, _⟩ => ⟨S4096x4096, .i32⟩
  | .hbm, ⟨19, _⟩ => ⟨S4096x4096, .i32⟩
  | .hbm, ⟨20, _⟩ => ⟨S4096x4096, .i1⟩
  | .hbm, ⟨21, _⟩ => ⟨S8x8x4096x4096, .f32⟩
  | .hbm, ⟨22, _⟩ => ⟨S_, .f32⟩
  | .hbm, ⟨23, _⟩ => ⟨S8x8x4096x4096, .f32⟩
  | .hbm, ⟨24, _⟩ => ⟨S8x8x4096x4096, .f32⟩
  | .hbm, ⟨25, _⟩ => ⟨S8x8x4096x4096, .f32⟩
  | .hbm, ⟨26, _⟩ => ⟨S8x8x4096x4096, .f32⟩
  | .hbm, ⟨27, _⟩ => ⟨S8x8x4096x4096, .i1⟩
  | .hbm, ⟨28, _⟩ => ⟨S8x8x4096x4096, .f32⟩
  | .hbm, ⟨29, _⟩ => ⟨S8x8x4096x4096, .f32⟩
  | .hbm, ⟨30, _⟩ => ⟨S8x8x4096x4096, .f32⟩
  | .hbm, ⟨31, _⟩ => ⟨S8x8x4096x4096, .f32⟩
  | .hbm, ⟨32, _⟩ => ⟨S8x8x4096x4096, .f32⟩
  | .hbm, ⟨33, _⟩ => ⟨S8x8x4096x4096, .f32⟩
  | .hbm, ⟨34, _⟩ => ⟨S8x8x4096x4096, .f32⟩
  | .hbm, ⟨35, _⟩ => ⟨S8x8x4096x4096, .f32⟩
  | .hbm, ⟨36, _⟩ => ⟨S8x8x4096x4096, .f32⟩
  | .hbm, ⟨37, _⟩ => ⟨S8x8x4096x4096, .f32⟩
  | .hbm, ⟨38, _⟩ => ⟨S_, .f32⟩
  | .hbm, ⟨39, _⟩ => ⟨S_, .f32⟩
  | .hbm, ⟨40, _⟩ => ⟨S8x8x4096x4096, .i1⟩
  | .hbm, ⟨41, _⟩ => ⟨S8x8x4096x4096, .f32⟩
  | .hbm, ⟨42, _⟩ => ⟨S8x8x4096x4096, .f32⟩
  | .hbm, ⟨43, _⟩ => ⟨S_, .f32⟩
  | .hbm, ⟨44, _⟩ => ⟨S_, .f32⟩
  | .hbm, ⟨45, _⟩ => ⟨S8x8x4096x4096, .f32⟩
  | .hbm, ⟨46, _⟩ => ⟨S8x8x4096x4096, .f32⟩
  | .hbm, ⟨47, _⟩ => ⟨S8x8x4096x4096, .f32⟩
  | .hbm, ⟨48, _⟩ => ⟨S8x8x4096x4096, .f32⟩
  | .hbm, ⟨49, _⟩ => ⟨S_, .f32⟩
  | .hbm, ⟨50, _⟩ => ⟨S_, .f32⟩
  | .hbm, ⟨51, _⟩ => ⟨S8x8x4096x4096, .i1⟩
  | .hbm, ⟨52, _⟩ => ⟨S8x8x4096x4096, .f32⟩
  | .hbm, ⟨53, _⟩ => ⟨S8x8x4096x4096, .f32⟩
  | .hbm, ⟨54, _⟩ => ⟨S8x8x64x4096, .f32⟩
  | .hbm, ⟨55, _⟩ => ⟨S8x4096x8x64, .f32⟩
  | .hbm, ⟨56, _⟩ => ⟨S32768x512, .f32⟩
  | .hbm, ⟨57, _⟩ => ⟨S32768x512, .bf16⟩
  | _, _ => ⟨S8, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_call0_v0 : Ref sig .tc := ⟨.hbm, 21, rfl⟩
abbrev main_call0_call0_cst : Ref sig .tc := ⟨.hbm, 22, rfl⟩
abbrev main_call0_call0_v0 : Ref sig .tc := ⟨.hbm, 23, rfl⟩
abbrev main_call0_call0_v1 : Ref sig .tc := ⟨.hbm, 24, rfl⟩
abbrev main_call0_call0_v2 : Ref sig .tc := ⟨.hbm, 25, rfl⟩
abbrev main_call0_call0_v3 : Ref sig .tc := ⟨.hbm, 26, rfl⟩
abbrev main_call0_call0_v4 : Ref sig .tc := ⟨.hbm, 27, rfl⟩
abbrev main_call0_call0_v5 : Ref sig .tc := ⟨.hbm, 28, rfl⟩
abbrev main_call0_call0_v6 : Ref sig .tc := ⟨.hbm, 29, rfl⟩
abbrev main_call0_call0_v7 : Ref sig .tc := ⟨.hbm, 30, rfl⟩
abbrev main_call0_call0_v8 : Ref sig .tc := ⟨.hbm, 31, rfl⟩
abbrev main_call0_call0_v9 : Ref sig .tc := ⟨.hbm, 32, rfl⟩
abbrev main_call0_call0_v10 : Ref sig .tc := ⟨.hbm, 33, rfl⟩
abbrev main_call0_call0_v11 : Ref sig .tc := ⟨.hbm, 34, rfl⟩
abbrev main_call0_v1 : Ref sig .tc := ⟨.hbm, 35, rfl⟩
abbrev main_v17 : Ref sig .tc := ⟨.hbm, 36, rfl⟩
abbrev main_v18 : Ref sig .tc := ⟨.hbm, 37, rfl⟩
abbrev main_cst : Ref sig .tc := ⟨.hbm, 38, rfl⟩
abbrev main_call1_v0 : Ref sig .tc := ⟨.hbm, 39, rfl⟩
abbrev main_call1_v1 : Ref sig .tc := ⟨.hbm, 40, rfl⟩
abbrev main_call1_v2 : Ref sig .tc := ⟨.hbm, 41, rfl⟩
abbrev main_v19 : Ref sig .tc := ⟨.hbm, 42, rfl⟩
abbrev main_call2_cst : Ref sig .tc := ⟨.hbm, 43, rfl⟩
abbrev main_call2_v0 : Ref sig .tc := ⟨.hbm, 44, rfl⟩
abbrev main_v20 : Ref sig .tc := ⟨.hbm, 45, rfl⟩
abbrev main_v21 : Ref sig .tc := ⟨.hbm, 46, rfl⟩
abbrev main_v22 : Ref sig .tc := ⟨.hbm, 47, rfl⟩
abbrev main_v23 : Ref sig .tc := ⟨.hbm, 48, rfl⟩
abbrev main_cst_0 : Ref sig .tc := ⟨.hbm, 49, rfl⟩
abbrev main_call3_v0 : Ref sig .tc := ⟨.hbm, 50, rfl⟩
abbrev main_call3_v1 : Ref sig .tc := ⟨.hbm, 51, rfl⟩
abbrev main_call3_v2 : Ref sig .tc := ⟨.hbm, 52, rfl⟩
abbrev main_v24 : Ref sig .tc := ⟨.hbm, 53, rfl⟩
abbrev main_v25 : Ref sig .tc := ⟨.hbm, 54, rfl⟩
abbrev main_v26 : Ref sig .tc := ⟨.hbm, 55, rfl⟩
abbrev main_v27 : Ref sig .tc := ⟨.hbm, 56, rfl⟩
abbrev main_v28 : Ref sig .tc := ⟨.hbm, 57, rfl⟩

abbrev nD : Nat := 1
abbrev τ : Topo := Topo.v7x

variable {F : FTy → Type} [FloatOps F]
-- ==== Kernel2.lean ====
abbrev S32768x1024 : Shape := ⟨2, ![32768, 1024]⟩
abbrev S32768x256 : Shape := ⟨2, ![32768, 256]⟩
abbrev S32768x512 : Shape := ⟨2, ![32768, 512]⟩
abbrev S1024x1024 : Shape := ⟨2, ![1024, 1024]⟩
abbrev S1024 : Shape := ⟨1, ![1024]⟩
abbrev S1024x4096 : Shape := ⟨2, ![1024, 4096]⟩
abbrev S4096x1024 : Shape := ⟨2, ![4096, 1024]⟩
abbrev S256x1024 : Shape := ⟨2, ![256, 1024]⟩
abbrev S512x1024 : Shape := ⟨2, ![512, 1024]⟩
abbrev S1x1024 : Shape := ⟨2, ![1, 1024]⟩
abbrev S256x256 : Shape := ⟨2, ![256, 256]⟩
abbrev S256x512 : Shape := ⟨2, ![256, 512]⟩
abbrev S256 : Shape := ⟨1, ![256]⟩
abbrev S256x1 : Shape := ⟨2, ![256, 1]⟩

abbrev nBuf : Space → Nat
  | .hbm => 16
  | .vmem => 16
  | .smem => 0
  | _ => 0

abbrev bufTy : (tb : Table) → Fin (tcTables nBuf tb) → BufTy
  | .hbm, ⟨0, _⟩ => ⟨S32768x1024, .f32⟩
  | .hbm, ⟨1, _⟩ => ⟨S32768x256, .bf16⟩
  | .hbm, ⟨2, _⟩ => ⟨S32768x512, .bf16⟩
  | .hbm, ⟨3, _⟩ => ⟨S32768x256, .bf16⟩
  | .hbm, ⟨4, _⟩ => ⟨S1024x1024, .f32⟩
  | .hbm, ⟨5, _⟩ => ⟨S1024, .f32⟩
  | .hbm, ⟨6, _⟩ => ⟨S1024x4096, .f32⟩
  | .hbm, ⟨7, _⟩ => ⟨S4096x1024, .f32⟩
  | .hbm, ⟨8, _⟩ => ⟨S1024x1024, .bf16⟩
  | .hbm, ⟨9, _⟩ => ⟨S256x1024, .bf16⟩
  | .hbm, ⟨10, _⟩ => ⟨S512x1024, .bf16⟩
  | .hbm, ⟨11, _⟩ => ⟨S256x1024, .bf16⟩
  | .hbm, ⟨12, _⟩ => ⟨S1x1024, .f32⟩
  | .hbm, ⟨13, _⟩ => ⟨S1024x4096, .bf16⟩
  | .hbm, ⟨14, _⟩ => ⟨S4096x1024, .bf16⟩
  | .hbm, ⟨15, _⟩ => ⟨S32768x1024, .f32⟩
  | .local _ .vmem, ⟨0, _⟩ => ⟨S256x1024, .f32⟩
  | .local _ .vmem, ⟨1, _⟩ => ⟨S256x1024, .f32⟩
  | .local _ .vmem, ⟨2, _⟩ => ⟨S256x256, .bf16⟩
  | .local _ .vmem, ⟨3, _⟩ => ⟨S256x256, .bf16⟩
  | .local _ .vmem, ⟨4, _⟩ => ⟨S256x512, .bf16⟩
  | .local _ .vmem, ⟨5, _⟩ => ⟨S256x512, .bf16⟩
  | .local _ .vmem, ⟨6, _⟩ => ⟨S256x256, .bf16⟩
  | .local _ .vmem, ⟨7, _⟩ => ⟨S256x256, .bf16⟩
  | .local _ .vmem, ⟨8, _⟩ => ⟨S256x1024, .bf16⟩
  | .local _ .vmem, ⟨9, _⟩ => ⟨S512x1024, .bf16⟩
  | .local _ .vmem, ⟨10, _⟩ => ⟨S256x1024, .bf16⟩
  | .local _ .vmem, ⟨11, _⟩ => ⟨S1x1024, .f32⟩
  | .local _ .vmem, ⟨12, _⟩ => ⟨S1024x4096, .bf16⟩
  | .local _ .vmem, ⟨13, _⟩ => ⟨S4096x1024, .bf16⟩
  | .local _ .vmem, ⟨14, _⟩ => ⟨S256x1024, .f32⟩
  | .local _ .vmem, ⟨15, _⟩ => ⟨S256x1024, .f32⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg10_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem10_0 : DmaSem sig := 14
abbrev cc0_sem10_1 : DmaSem sig := 15

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S256x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S512x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S256x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1024x4096 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S4096x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S256x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== Reference2Ideal.lean ====
abbrev S32768x1024 : Shape := ⟨2, ![32768, 1024]⟩
abbrev S32768x256 : Shape := ⟨2, ![32768, 256]⟩
abbrev S32768x512 : Shape := ⟨2, ![32768, 512]⟩
abbrev S1024x1024 : Shape := ⟨2, ![1024, 1024]⟩
abbrev S1024 : Shape := ⟨1, ![1024]⟩
abbrev S1024x4096 : Shape := ⟨2, ![1024, 4096]⟩
abbrev S4096x1024 : Shape := ⟨2, ![4096, 1024]⟩
abbrev S_ : Shape := ⟨0, ![]⟩
abbrev S32768 : Shape := ⟨1, ![32768]⟩
abbrev S32768x1 : Shape := ⟨2, ![32768, 1]⟩
abbrev S1x1024 : Shape := ⟨2, ![1, 1024]⟩
abbrev S32768x4096 : Shape := ⟨2, ![32768, 4096]⟩

abbrev nBuf : Space → Nat
  | .hbm => 37
  | .vmem => 0
  | .smem => 0
  | _ => 0

abbrev bufTy : (tb : Table) → Fin (tcTables nBuf tb) → BufTy
  | .hbm, ⟨0, _⟩ => ⟨S32768x1024, .f32⟩
  | .hbm, ⟨1, _⟩ => ⟨S32768x256, .bf16⟩
  | .hbm, ⟨2, _⟩ => ⟨S32768x512, .bf16⟩
  | .hbm, ⟨3, _⟩ => ⟨S32768x256, .bf16⟩
  | .hbm, ⟨4, _⟩ => ⟨S1024x1024, .f32⟩
  | .hbm, ⟨5, _⟩ => ⟨S1024, .f32⟩
  | .hbm, ⟨6, _⟩ => ⟨S1024x4096, .f32⟩
  | .hbm, ⟨7, _⟩ => ⟨S4096x1024, .f32⟩
  | .hbm, ⟨8, _⟩ => ⟨S32768x256, .f32⟩
  | .hbm, ⟨9, _⟩ => ⟨S32768x512, .f32⟩
  | .hbm, ⟨10, _⟩ => ⟨S32768x256, .f32⟩
  | .hbm, ⟨11, _⟩ => ⟨S32768x1024, .f32⟩
  | .hbm, ⟨12, _⟩ => ⟨S32768x1024, .f32⟩
  | .hbm, ⟨13, _⟩ => ⟨S32768x1024, .f32⟩
  | .hbm, ⟨14, _⟩ => ⟨S32768x1024, .f32⟩
  | .hbm, ⟨15, _⟩ => ⟨S_, .f32⟩
  | .hbm, ⟨16, _⟩ => ⟨S32768, .f32⟩
  | .hbm, ⟨17, _⟩ => ⟨S32768x1, .f32⟩
  | .hbm, ⟨18, _⟩ => ⟨S_, .f32⟩
  | .hbm, ⟨19, _⟩ => ⟨S32768x1, .f32⟩
  | .hbm, ⟨20, _⟩ => ⟨S32768x1, .f32⟩
  | .hbm, ⟨21, _⟩ => ⟨S_, .f32⟩
  | .hbm, ⟨22, _⟩ => ⟨S32768x1, .f32⟩
  | .hbm, ⟨23, _⟩ => ⟨S32768x1, .f32⟩
  | .hbm, ⟨24, _⟩ => ⟨S32768x1, .f32⟩
  | .hbm, ⟨25, _⟩ => ⟨S32768x1024, .f32⟩
  | .hbm, ⟨26, _⟩ => ⟨S32768x1024, .f32⟩
  | .hbm, ⟨27, _⟩ => ⟨S1x1024, .f32⟩
  | .hbm, ⟨28, _⟩ => ⟨S32768x1024, .f32⟩
  | .hbm, ⟨29, _⟩ => ⟨S32768x1024, .f32⟩
  | .hbm, ⟨30, _⟩ => ⟨S32768x4096, .f32⟩
  | .hbm, ⟨31, _⟩ => ⟨S_, .f32⟩
  | .hbm, ⟨32, _⟩ => ⟨S32768x4096, .f32⟩
  | .hbm, ⟨33, _⟩ => ⟨S32768x4096, .f32⟩
  | .hbm, ⟨34, _⟩ => ⟨S32768x4096, .f32⟩
  | .hbm, ⟨35, _⟩ => ⟨S32768x1024, .f32⟩
  | .hbm, ⟨36, _⟩ => ⟨S32768x1024, .f32⟩
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_v8 : Ref sig .tc := ⟨.hbm, 17, rfl⟩
abbrev main_cst_0 : Ref sig .tc := ⟨.hbm, 18, rfl⟩
abbrev main_v9 : Ref sig .tc := ⟨.hbm, 19, rfl⟩
abbrev main_v10 : Ref sig .tc := ⟨.hbm, 20, rfl⟩
abbrev main_cst_1 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_call0_cst : Ref sig .tc := ⟨.hbm, 31, rfl⟩
abbrev main_call0_v0 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel3.lean ====
abbrev S32768x1024 : Shape := ⟨2, ![32768, 1024]⟩
abbrev S1024 : Shape := ⟨1, ![1024]⟩
abbrev S1024x3088 : Shape := ⟨2, ![1024, 3088]⟩
abbrev S4x64 : Shape := ⟨2, ![4, 64]⟩
abbrev S4x128x128 : Shape := ⟨3, ![4, 128, 128]⟩
abbrev S4x128 : Shape := ⟨2, ![4, 128]⟩
abbrev S64 : Shape := ⟨1, ![64]⟩
abbrev S16x256 : Shape := ⟨2, ![16, 256]⟩
abbrev S256 : Shape := ⟨1, ![256]⟩
abbrev S1024x256 : Shape := ⟨2, ![1024, 256]⟩
abbrev S1024x512 : Shape := ⟨2, ![1024, 512]⟩
abbrev S1024x16 : Shape := ⟨2, ![1024, 16]⟩
abbrev S_ : Shape := ⟨0, ![]⟩
abbrev S1024x128 : Shape := ⟨2, ![1024, 128]⟩
abbrev S1x1024 : Shape := ⟨2, ![1, 1024]⟩
abbrev S128x256 : Shape := ⟨2, ![128, 256]⟩
abbrev S1x256 : Shape := ⟨2, ![1, 256]⟩
abbrev S1x64 : Shape := ⟨2, ![1, 64]⟩
abbrev S8x64 : Shape := ⟨2, ![8, 64]⟩
abbrev S512 : Shape := ⟨1, ![512]⟩
abbrev S1x512 : Shape := ⟨2, ![1, 512]⟩
abbrev S256x1 : Shape := ⟨2, ![256, 1]⟩
abbrev S256x256 : Shape := ⟨2, ![256, 256]⟩
abbrev S512x1 : Shape := ⟨2, ![512, 1]⟩
abbrev S512x512 : Shape := ⟨2, ![512, 512]⟩
abbrev S128x128 : Shape := ⟨2, ![128, 128]⟩
abbrev S128x4 : Shape := ⟨2, ![128, 4]⟩
abbrev S1x128x1x4 : Shape := ⟨4, ![1, 128, 1, 4]⟩
abbrev S128x4x64 : Shape := ⟨3, ![128, 4, 64]⟩
abbrev S32768x256 : Shape := ⟨2, ![32768, 256]⟩
abbrev S32768x512 : Shape := ⟨2, ![32768, 512]⟩
abbrev S8x512x4096 : Shape := ⟨3, ![8, 512, 4096]⟩
abbrev S128x512x256 : Shape := ⟨3, ![128, 512, 256]⟩
abbrev S256x1024 : Shape := ⟨2, ![256, 1024]⟩
abbrev S256x512 : Shape := ⟨2, ![256, 512]⟩
abbrev S1x512x256 : Shape := ⟨3, ![1, 512, 256]⟩
abbrev S1x128x128 : Shape := ⟨3, ![1, 128, 128]⟩
abbrev S512x256 : Shape := ⟨2, ![512, 256]⟩
abbrev S256x128 : Shape := ⟨2, ![256, 128]⟩

abbrev nBuf : Space → Nat
  | .hbm => 91
  | .vmem => 44
  | .smem => 0
  | _ => 0

abbrev bufTy : (tb : Table) → Fin (tcTables nBuf tb) → BufTy
  | .hbm, ⟨0, _⟩ => ⟨S32768x1024, .f32⟩
  | .hbm, ⟨1, _⟩ => ⟨S1024, .f32⟩
  | .hbm, ⟨2, _⟩ => ⟨S1024x3088, .f32⟩
  | .hbm, ⟨3, _⟩ => ⟨S4x64, .f32⟩
  | .hbm, ⟨4, _⟩ => ⟨S4x128x128, .f32⟩
  | .hbm, ⟨5, _⟩ => ⟨S4x128, .f32⟩
  | .hbm, ⟨6, _⟩ => ⟨S64, .f32⟩
  | .hbm, ⟨7, _⟩ => ⟨S64, .f32⟩
  | .hbm, ⟨8, _⟩ => ⟨S16x256, .f32⟩
  | .hbm, ⟨9, _⟩ => ⟨S256, .f32⟩
  | .hbm, ⟨10, _⟩ => ⟨S1024x3088, .bf16⟩
  | .hbm, ⟨11, _⟩ => ⟨S1024x256, .bf16⟩
  | .hbm, ⟨12, _⟩ => ⟨S1024x256, .bf16⟩
  | .hbm, ⟨13, _⟩ => ⟨S1024x512, .bf16⟩
  | .hbm, ⟨14, _⟩ => ⟨S1024x512, .bf16⟩
  | .hbm, ⟨15, _⟩ => ⟨S1024x512, .bf16⟩
  | .hbm, ⟨16, _⟩ => ⟨S1024x256, .bf16⟩
  | .hbm, ⟨17, _⟩ => ⟨S1024x256, .bf16⟩
  | .hbm, ⟨18, _⟩ => ⟨S1024x256, .bf16⟩
  | .hbm, ⟨19, _⟩ => ⟨S1024x256, .bf16⟩
  | .hbm, ⟨20, _⟩ => ⟨S1024x16, .bf16⟩
  | .hbm, ⟨21, _⟩ => ⟨S_, .i32⟩
  | .hbm, ⟨22, _⟩ => ⟨S_, .bf16⟩
  | .hbm, ⟨23, _⟩ => ⟨S1024x128, .bf16⟩
  | .hbm, ⟨24, _⟩ => ⟨S1x1024, .f32⟩
  | .hbm, ⟨25, _⟩ => ⟨S16x256, .bf16⟩
  | .hbm, ⟨26, _⟩ => ⟨S_, .i32⟩
  | .hbm, ⟨27, _⟩ => ⟨S_, .bf16⟩
  | .hbm, ⟨28, _⟩ => ⟨S128x256, .bf16⟩
  | .hbm, ⟨29, _⟩ => ⟨S1x256, .f32⟩
  | .hbm, ⟨30, _⟩ => ⟨S1x256, .f32⟩
  | .hbm, ⟨31, _⟩ => ⟨S1x64, .f32⟩
  | .hbm, ⟨32, _⟩ => ⟨S8x64, .f32⟩
  | .hbm, ⟨33, _⟩ => ⟨S512, .f32⟩
  | .hbm, ⟨34, _⟩ => ⟨S1x512, .f32⟩
  | .hbm, ⟨35, _⟩ => ⟨S1x64, .f32⟩
  | .hbm, ⟨36, _⟩ => ⟨S8x64, .f32⟩
  | .hbm, ⟨37, _⟩ => ⟨S512, .f32⟩
  | .hbm, ⟨38, _⟩ => ⟨S1x512, .f32⟩
  | .hbm, ⟨39, _⟩ => ⟨S4x64, .i32⟩
  | .hbm, ⟨40, _⟩ => ⟨S256, .i32⟩
  | .hbm, ⟨41, _⟩ => ⟨S256x1, .i32⟩
  | .hbm, ⟨42, _⟩ => ⟨S1x256, .i32⟩
  | .hbm, ⟨43, _⟩ => ⟨S256x256, .i32⟩
  | .hbm, ⟨44, _⟩ => ⟨S256x256, .i32⟩
  | .hbm, ⟨45, _⟩ => ⟨S256x256, .i1⟩
  | .hbm, ⟨46, _⟩ => ⟨S_, .f32⟩
  | .hbm, ⟨47, _⟩ => ⟨S_, .f32⟩
  | .hbm, ⟨48, _⟩ => ⟨S256x256, .f32⟩
  | .hbm, ⟨49, _⟩ => ⟨S256x256, .f32⟩
  | .hbm, ⟨50, _⟩ => ⟨S256x256, .f32⟩
  | .hbm, ⟨51, _⟩ => ⟨S256x256, .bf16⟩
  | .hbm, ⟨52, _⟩ => ⟨S8x64, .i32⟩
  | .hbm, ⟨53, _⟩ => ⟨S512, .i32⟩
  | .hbm, ⟨54, _⟩ => ⟨S512x1, .i32⟩
  | .hbm, ⟨55, _⟩ => ⟨S1x512, .i32⟩
  | .hbm, ⟨56, _⟩ => ⟨S512x512, .i32⟩
  | .hbm, ⟨57, _⟩ => ⟨S512x512, .i32⟩
  | .hbm, ⟨58, _⟩ => ⟨S512x512, .i1⟩
  | .hbm, ⟨59, _⟩ => ⟨S_, .f32⟩
  | .hbm, ⟨60, _⟩ => ⟨S_, .f32⟩
  | .hbm, ⟨61, _⟩ => ⟨S512x512, .f32⟩
  | .hbm, ⟨62, _⟩ => ⟨S512x512, .f32⟩
  | .hbm, ⟨63, _⟩ => ⟨S512x512, .f32⟩
  | .hbm, ⟨64, _⟩ => ⟨S512x512, .bf16⟩
  | .hbm, ⟨65, _⟩ => ⟨S128x128, .i32⟩
  | .hbm, ⟨66, _⟩ => ⟨S128x128, .i32⟩
  | .hbm, ⟨67, _⟩ => ⟨S128x128, .i1⟩
  | .hbm, ⟨68, _⟩ => ⟨S_, .f32⟩
  | .hbm, ⟨69, _⟩ => ⟨S_, .f32⟩
  | .hbm, ⟨70, _⟩ => ⟨S4x128x128, .i1⟩
  | .hbm, ⟨71, _⟩ => ⟨S4x128x128, .f32⟩
  | .hbm, ⟨72, _⟩ => ⟨S4x128x128, .f32⟩
  | .hbm, ⟨73, _⟩ => ⟨S4x128x128, .bf16⟩
  | .hbm, ⟨74, _⟩ => ⟨S128x4, .f32⟩
  | .hbm, ⟨75, _⟩ => ⟨S1x128x1x4, .f32⟩
  | .hbm, ⟨76, _⟩ => ⟨S1x128x1x4, .f32⟩
  | .hbm, ⟨77, _⟩ => ⟨S128x4, .f32⟩
  | .hbm, ⟨78, _⟩ => ⟨S128x4x64, .f32⟩
  | .hbm, ⟨79, _⟩ => ⟨S128x256, .f32⟩
  | .hbm, ⟨80, _⟩ => ⟨S32768x256, .bf16⟩
  | .hbm, ⟨81, _⟩ => ⟨S32768x512, .bf16⟩
  | .hbm, ⟨82, _⟩ => ⟨S8x512x4096, .f32⟩
  | .hbm, ⟨83, _⟩ => ⟨S8x512x4096, .f32⟩
  | .hbm, ⟨84, _⟩ => ⟨S128x512x256, .bf16⟩
  | .hbm, ⟨85, _⟩ => ⟨S32768x512, .bf16⟩
  | .hbm, ⟨86, _⟩ => ⟨S32768x256, .f32⟩
  | .hbm, ⟨87, _⟩ => ⟨S32768x256, .f32⟩
  | .hbm, ⟨88, _⟩ => ⟨S32768x256, .f32⟩
  | .hbm, ⟨89, _⟩ => ⟨S32768x256, .f32⟩
  | .hbm, ⟨90, _⟩ => ⟨S32768x256, .f32⟩
  | .local _ .vmem, ⟨0, _⟩ => ⟨S256x1024, .f32⟩
  | .local _ .vmem, ⟨1, _⟩ => ⟨S256x1024, .f32⟩
  | .local _ .vmem, ⟨2, _⟩ => ⟨S1x1024, .f32⟩
  | .local _ .vmem, ⟨3, _⟩ => ⟨S1024x256, .bf16⟩
  | .local _ .vmem, ⟨4, _⟩ => ⟨S1024x256, .bf16⟩
  | .local _ .vmem, ⟨5, _⟩ => ⟨S1024x512, .bf16⟩
  | .local _ .vmem, ⟨6, _⟩ => ⟨S1024x512, .bf16⟩
  | .local _ .vmem, ⟨7, _⟩ => ⟨S1024x512, .bf16⟩
  | .local _ .vmem, ⟨8, _⟩ => ⟨S1024x256, .bf16⟩
  | .local _ .vmem, ⟨9, _⟩ => ⟨S1024x256, .bf16⟩
  | .local _ .vmem, ⟨10, _⟩ => ⟨S1024x256, .bf16⟩
  | .local _ .vmem, ⟨11, _⟩ => ⟨S1024x256, .bf16⟩
  | .local _ .vmem, ⟨12, _⟩ => ⟨S1024x128, .bf16⟩
  | .local _ .vmem, ⟨13, _⟩ => ⟨S128x256, .bf16⟩
  | .local _ .vmem, ⟨14, _⟩ => ⟨S1x256, .f32⟩
  | .local _ .vmem, ⟨15, _⟩ => ⟨S1x256, .f32⟩
  | .local _ .vmem, ⟨16, _⟩ => ⟨S1x512, .f32⟩
  | .local _ .vmem, ⟨17, _⟩ => ⟨S1x512, .f32⟩
  | .local _ .vmem, ⟨18, _⟩ => ⟨S4x128x128, .bf16⟩
  | .local _ .vmem, ⟨19, _⟩ => ⟨S128x256, .f32⟩
  | .local _ .vmem, ⟨20, _⟩ => ⟨S256x256, .bf16⟩
  | .local _ .vmem, ⟨21, _⟩ => ⟨S512x512, .bf16⟩
  | .local _ .vmem, ⟨22, _⟩ => ⟨S256x256, .bf16⟩
  | .local _ .vmem, ⟨23, _⟩ => ⟨S256x256, .bf16⟩
  | .local _ .vmem, ⟨24, _⟩ => ⟨S256x512, .bf16⟩
  | .local _ .vmem, ⟨25, _⟩ => ⟨S256x512, .bf16⟩
  | .local _ .vmem, ⟨26, _⟩ => ⟨S1x512x256, .f32⟩
  | .local _ .vmem, ⟨27, _⟩ => ⟨S1x512x256, .f32⟩
  | .local _ .vmem, ⟨28, _⟩ => ⟨S1x512x256, .f32⟩
  | .local _ .vmem, ⟨29, _⟩ => ⟨S1x512x256, .f32⟩
  | .local _ .vmem, ⟨30, _⟩ => ⟨S1x512x256, .bf16⟩
  | .local _ .vmem, ⟨31, _⟩ => ⟨S1x512x256, .bf16⟩
  | .local _ .vmem, ⟨32, _⟩ => ⟨S256x512, .bf16⟩
  | .local _ .vmem, ⟨33, _⟩ => ⟨S256x512, .bf16⟩
  | .local _ .vmem, ⟨34, _⟩ => ⟨S256x256, .f32⟩
  | .local _ .vmem, ⟨35, _⟩ => ⟨S256x256, .f32⟩
  | .local _ .vmem, ⟨36, _⟩ => ⟨S256x256, .f32⟩
  | .local _ .vmem, ⟨37, _⟩ => ⟨S256x256, .f32⟩
  | .local _ .vmem, ⟨38, _⟩ => ⟨S256x256, .f32⟩
  | .local _ .vmem, ⟨39, _⟩ => ⟨S256x256, .f32⟩
  | .local _ .vmem, ⟨40, _⟩ => ⟨S256x256, .f32⟩
  | .local _ .vmem, ⟨41, _⟩ => ⟨S256x256, .f32⟩
  | .local _ .vmem, ⟨42, _⟩ => ⟨S256x256, .f32⟩
  | .local _ .vmem, ⟨43, _⟩ => ⟨S256x256, .f32⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | _, _ => false

abbrev semScoped : Fin 0 → Bool
  | ⟨_, h⟩ => absurd h (Nat.not_lt_zero _)

abbrev dmaSemScoped : Fin 44 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | _ => false

abbrev sig : RefSig :=
  ofTc nBuf bufTy 0 44 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_c : Ref sig .tc := ⟨.hbm, 21, rfl⟩
abbrev main_call0_v0 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_c_0 : Ref sig .tc := ⟨.hbm, 26, rfl⟩
abbrev main_call1_v0 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_cst : Ref sig .tc := ⟨.hbm, 46, rfl⟩
abbrev main_cst_1 : Ref sig .tc := ⟨.hbm, 47, rfl⟩
abbrev main_call2_v0 : Ref sig .tc := ⟨.hbm, 48, rfl⟩
abbrev main_call2_v1 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_2 : Ref sig .tc := ⟨.hbm, 59, rfl⟩
abbrev main_cst_3 : Ref sig .tc := ⟨.hbm, 60, rfl⟩
abbrev main_call3_v0 : Ref sig .tc := ⟨.hbm, 61, rfl⟩
abbrev main_call3_v1 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_cst_4 : Ref sig .tc := ⟨.hbm, 68, rfl⟩
abbrev main_call4_v0 : Ref sig .tc := ⟨.hbm, 69, rfl⟩
abbrev main_call4_v1 : Ref sig .tc := ⟨.hbm, 70, rfl⟩
abbrev main_call4_v2 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_v54_0 : Ref sig .tc := ⟨.hbm, 80, rfl⟩
abbrev main_v54_1 : Ref sig .tc := ⟨.hbm, 81, rfl⟩
abbrev main_v54_2 : Ref sig .tc := ⟨.hbm, 82, rfl⟩
abbrev main_v54_3 : Ref sig .tc := ⟨.hbm, 83, rfl⟩
abbrev main_v54_4 : Ref sig .tc := ⟨.hbm, 84, rfl⟩
abbrev main_v54_5 : Ref sig .tc := ⟨.hbm, 85, rfl⟩
abbrev main_v54_6 : Ref sig .tc := ⟨.hbm, 86, rfl⟩
abbrev main_v54_7 : Ref sig .tc := ⟨.hbm, 87, rfl⟩
abbrev main_v54_8 : Ref sig .tc := ⟨.hbm, 88, rfl⟩
abbrev main_v54_9 : Ref sig .tc := ⟨.hbm, 89, rfl⟩
abbrev main_v54_10 : Ref sig .tc := ⟨.hbm, 90, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg11_0 : Ref sig .tc := ⟨.vmem, 12, rfl⟩
abbrev cc0_stg12_0 : Ref sig .tc := ⟨.vmem, 13, rfl⟩
abbrev cc0_stg13_0 : Ref sig .tc := ⟨.vmem, 14, rfl⟩
abbrev cc0_stg14_0 : Ref sig .tc := ⟨.vmem, 15, rfl⟩
abbrev cc0_stg15_0 : Ref sig .tc := ⟨.vmem, 16, rfl⟩
abbrev cc0_stg16_0 : Ref sig .tc := ⟨.vmem, 17, rfl⟩
abbrev cc0_stg17_0 : Ref sig .tc := ⟨.vmem, 18, rfl⟩
abbrev cc0_stg18_0 : Ref sig .tc := ⟨.vmem, 19, rfl⟩
abbrev cc0_stg19_0 : Ref sig .tc := ⟨.vmem, 20, rfl⟩
abbrev cc0_stg20_0 : Ref sig .tc := ⟨.vmem, 21, rfl⟩
abbrev cc0_stg21_0 : Ref sig .tc := ⟨.vmem, 22, rfl⟩
abbrev cc0_stg21_1 : Ref sig .tc := ⟨.vmem, 23, rfl⟩
abbrev cc0_stg22_0 : Ref sig .tc := ⟨.vmem, 24, rfl⟩
abbrev cc0_stg22_1 : Ref sig .tc := ⟨.vmem, 25, rfl⟩
abbrev cc0_stg23_0 : Ref sig .tc := ⟨.vmem, 26, rfl⟩
abbrev cc0_stg23_1 : Ref sig .tc := ⟨.vmem, 27, rfl⟩
abbrev cc0_stg24_0 : Ref sig .tc := ⟨.vmem, 28, rfl⟩
abbrev cc0_stg24_1 : Ref sig .tc := ⟨.vmem, 29, rfl⟩
abbrev cc0_stg25_0 : Ref sig .tc := ⟨.vmem, 30, rfl⟩
abbrev cc0_stg25_1 : Ref sig .tc := ⟨.vmem, 31, rfl⟩
abbrev cc0_stg26_0 : Ref sig .tc := ⟨.vmem, 32, rfl⟩
abbrev cc0_stg26_1 : Ref sig .tc := ⟨.vmem, 33, rfl⟩
abbrev cc0_stg27_0 : Ref sig .tc := ⟨.vmem, 34, rfl⟩
abbrev cc0_stg27_1 : Ref sig .tc := ⟨.vmem, 35, rfl⟩
abbrev cc0_stg28_0 : Ref sig .tc := ⟨.vmem, 36, rfl⟩
abbrev cc0_stg28_1 : Ref sig .tc := ⟨.vmem, 37, rfl⟩
abbrev cc0_stg29_0 : Ref sig .tc := ⟨.vmem, 38, rfl⟩
abbrev cc0_stg29_1 : Ref sig .tc := ⟨.vmem, 39, rfl⟩
abbrev cc0_stg30_0 : Ref sig .tc := ⟨.vmem, 40, rfl⟩
abbrev cc0_stg30_1 : Ref sig .tc := ⟨.vmem, 41, rfl⟩
abbrev cc0_stg31_0 : Ref sig .tc := ⟨.vmem, 42, rfl⟩
abbrev cc0_stg31_1 : Ref sig .tc := ⟨.vmem, 43, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem11_0 : DmaSem sig := 12
abbrev cc0_sem12_0 : DmaSem sig := 13
abbrev cc0_sem13_0 : DmaSem sig := 14
abbrev cc0_sem14_0 : DmaSem sig := 15
abbrev cc0_sem15_0 : DmaSem sig := 16
abbrev cc0_sem16_0 : DmaSem sig := 17
abbrev cc0_sem17_0 : DmaSem sig := 18
abbrev cc0_sem18_0 : DmaSem sig := 19
abbrev cc0_sem19_0 : DmaSem sig := 20
abbrev cc0_sem20_0 : DmaSem sig := 21
abbrev cc0_sem21_0 : DmaSem sig := 22
abbrev cc0_sem21_1 : DmaSem sig := 23
abbrev cc0_sem22_0 : DmaSem sig := 24
abbrev cc0_sem22_1 : DmaSem sig := 25
abbrev cc0_sem23_0 : DmaSem sig := 26
abbrev cc0_sem23_1 : DmaSem sig := 27
abbrev cc0_sem24_0 : DmaSem sig := 28
abbrev cc0_sem24_1 : DmaSem sig := 29
abbrev cc0_sem25_0 : DmaSem sig := 30
abbrev cc0_sem25_1 : DmaSem sig := 31
abbrev cc0_sem26_0 : DmaSem sig := 32
abbrev cc0_sem26_1 : DmaSem sig := 33
abbrev cc0_sem27_0 : DmaSem sig := 34
abbrev cc0_sem27_1 : DmaSem sig := 35
abbrev cc0_sem28_0 : DmaSem sig := 36
abbrev cc0_sem28_1 : DmaSem sig := 37
abbrev cc0_sem29_0 : DmaSem sig := 38
abbrev cc0_sem29_1 : DmaSem sig := 39
abbrev cc0_sem30_0 : DmaSem sig := 40
abbrev cc0_sem30_1 : DmaSem sig := 41
abbrev cc0_sem31_0 : DmaSem sig := 42
abbrev cc0_sem31_1 : DmaSem sig := 43

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_18 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_19 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_20 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_21 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_22 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_23 (i : grid0.Coords) : Fin 3 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c16_i32_4 : BitVec 32 := 16#32
  let c0_i32_5 : BitVec 32 := 0#32
  let v17 : BitVec 1 := Scalar.cmpi .eq c16_i32_4 c0_i32_5
  let c1_i32_6 : BitVec 32 := 1#32
  let v18 : BitVec 32 := Scalar.select v17 c1_i32_6 c16_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, v26.toNat]

def cc0_transform_24 (i : grid0.Coords) : Fin 3 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c16_i32_4 : BitVec 32 := 16#32
  let c0_i32_5 : BitVec 32 := 0#32
  let v17 : BitVec 1 := Scalar.cmpi .eq c16_i32_4 c0_i32_5
  let c1_i32_6 : BitVec 32 := 1#32
  let v18 : BitVec 32 := Scalar.select v17 c1_i32_6 c16_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, v26.toNat]

def cc0_transform_25 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_26 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_27 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_28 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_29 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_30 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_31 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x256 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x256 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x512 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x512 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x512 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x256 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1024x256 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1024x256 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1024x256 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1024x128 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S128x256 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x256 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1x256 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S1x512 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S1x512 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 1 → Memref sig .tc .vmem S4x128x128 .bf16 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]

abbrev stage0_18 : Fin 1 → Memref sig .tc .vmem S128x256 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false]

abbrev stage0_19 : Fin 1 → Memref sig .tc .vmem S256x256 .bf16 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))
abbrev reads0_19 : Fin grid0.rank → Bool := ![false]

abbrev stage0_20 : Fin 1 → Memref sig .tc .vmem S512x512 .bf16 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))
abbrev reads0_20 : Fin grid0.rank → Bool := ![false]

abbrev stage0_21 : Fin 2 → Memref sig .tc .vmem S256x256 .bf16 := fun | 0 => Memref.whole cc0_stg21_0 | 1 => Memref.whole cc0_stg21_1 | ⟨_ + 2, h⟩ => absurd h (Nat.not_lt.2 (Nat.le_add_left _ _))
abbrev sem0_21 : Fin 2 → DmaSem sig := fun | 0 => cc0_sem21_0 | 1 => cc0_sem21_1 | ⟨_ + 2, h⟩ => absurd h (Nat.not_lt.2 (Nat.le_add_left _ _))
abbrev reads0_21 : Fin grid0.rank → Bool := ![true]

abbrev stage0_22 : Fin 2 → Memref sig .tc .vmem S256x512 .bf16 := fun | 0 => Memref.whole cc0_stg22_0 | 1 => Memref.whole cc0_stg22_1 | ⟨_ + 2, h⟩ => absurd h (Nat.not_lt.2 (Nat.le_add_left _ _))
abbrev sem0_22 : Fin 2 → DmaSem sig := fun | 0 => cc0_sem22_0 | 1 => cc0_sem22_1 | ⟨_ + 2, h⟩ => absurd h (Nat.not_lt.2 (Nat.le_add_left _ _))
abbrev reads0_22 : Fin grid0.rank → Bool := ![true]

abbrev stage0_23 : Fin 2 → Memref sig .tc .vmem S1x512x256 .f32 := fun | 0 => Memref.whole cc0_stg23_0 | 1 => Memref.whole cc0_stg23_1 | ⟨_ + 2, h⟩ => absurd h (Nat.not_lt.2 (Nat.le_add_left _ _))
abbrev sem0_23 : Fin 2 → DmaSem sig := fun | 0 => cc0_sem23_0 | 1 => cc0_sem23_1 | ⟨_ + 2, h⟩ => absurd h (Nat.not_lt.2 (Nat.le_add_left _ _))
abbrev reads0_23 : Fin grid0.rank → Bool := ![true]

abbrev stage0_24 : Fin 2 → Memref sig .tc .vmem S1x512x256 .f32 := fun | 0 => Memref.whole cc0_stg24_0 | 1 => Memref.whole cc0_stg24_1 | ⟨_ + 2, h⟩ => absurd h (Nat.not_lt.2 (Nat.le_add_left _ _))
abbrev sem0_24 : Fin 2 → DmaSem sig := fun | 0 => cc0_sem24_0 | 1 => cc0_sem24_1 | ⟨_ + 2, h⟩ => absurd h (Nat.not_lt.2 (Nat.le_add_left _ _))
abbrev reads0_24 : Fin grid0.rank → Bool := ![true]

abbrev stage0_25 : Fin 2 → Memref sig .tc .vmem S1x512x256 .bf16 := fun | 0 => Memref.whole cc0_stg25_0 | 1 => Memref.whole cc0_stg25_1 | ⟨_ + 2, h⟩ => absurd h (Nat.not_lt.2 (Nat.le_add_left _ _))
abbrev sem0_25 : Fin 2 → DmaSem sig := fun | 0 => cc0_sem25_0 | 1 => cc0_sem25_1 | ⟨_ + 2, h⟩ => absurd h (Nat.not_lt.2 (Nat.le_add_left _ _))
abbrev reads0_25 : Fin grid0.rank → Bool := ![true]

abbrev stage0_26 : Fin 2 → Memref sig .tc .vmem S256x512 .bf16 := fun | 0 => Memref.whole cc0_stg26_0 | 1 => Memref.whole cc0_stg26_1 | ⟨_ + 2, h⟩ => absurd h (Nat.not_lt.2 (Nat.le_add_left _ _))
abbrev sem0_26 : Fin 2 → DmaSem sig := fun | 0 => cc0_sem26_0 | 1 => cc0_sem26_1 | ⟨_ + 2, h⟩ => absurd h (Nat.not_lt.2 (Nat.le_add_left _ _))
abbrev reads0_26 : Fin grid0.rank → Bool := ![true]

abbrev stage0_27 : Fin 2 → Memref sig .tc .vmem S256x256 .f32 := fun | 0 => Memref.whole cc0_stg27_0 | 1 => Memref.whole cc0_stg27_1 | ⟨_ + 2, h⟩ => absurd h (Nat.not_lt.2 (Nat.le_add_left _ _))
abbrev sem0_27 : Fin 2 → DmaSem sig := fun | 0 => cc0_sem27_0 | 1 => cc0_sem27_1 | ⟨_ + 2, h⟩ => absurd h (Nat.not_lt.2 (Nat.le_add_left _ _))
abbrev reads0_27 : Fin grid0.rank → Bool := ![true]

abbrev stage0_28 : Fin 2 → Memref sig .tc .vmem S256x256 .f32 := fun | 0 => Memref.whole cc0_stg28_0 | 1 => Memref.whole cc0_stg28_1 | ⟨_ + 2, h⟩ => absurd h (Nat.not_lt.2 (Nat.le_add_left _ _))
abbrev sem0_28 : Fin 2 → DmaSem sig := fun | 0 => cc0_sem28_0 | 1 => cc0_sem28_1 | ⟨_ + 2, h⟩ => absurd h (Nat.not_lt.2 (Nat.le_add_left _ _))
abbrev reads0_28 : Fin grid0.rank → Bool := ![true]

abbrev stage0_29 : Fin 2 → Memref sig .tc .vmem S256x256 .f32 := fun | 0 => Memref.whole cc0_stg29_0 | 1 => Memref.whole cc0_stg29_1 | ⟨_ + 2, h⟩ => absurd h (Nat.not_lt.2 (Nat.le_add_left _ _))
abbrev sem0_29 : Fin 2 → DmaSem sig := fun | 0 => cc0_sem29_0 | 1 => cc0_sem29_1 | ⟨_ + 2, h⟩ => absurd h (Nat.not_lt.2 (Nat.le_add_left _ _))
abbrev reads0_29 : Fin grid0.rank → Bool := ![true]

abbrev stage0_30 : Fin 2 → Memref sig .tc .vmem S256x256 .f32 := fun | 0 => Memref.whole cc0_stg30_0 | 1 => Memref.whole cc0_stg30_1 | ⟨_ + 2, h⟩ => absurd h (Nat.not_lt.2 (Nat.le_add_left _ _))
abbrev sem0_30 : Fin 2 → DmaSem sig := fun | 0 => cc0_sem30_0 | 1 => cc0_sem30_1 | ⟨_ + 2, h⟩ => absurd h (Nat.not_lt.2 (Nat.le_add_left _ _))
abbrev reads0_30 : Fin grid0.rank → Bool := ![true]

abbrev stage0_31 : Fin 2 → Memref sig .tc .vmem S256x256 .f32 := fun | 0 => Memref.whole cc0_stg31_0 | 1 => Memref.whole cc0_stg31_1 | ⟨_ + 2, h⟩ => absurd h (Nat.not_lt.2 (Nat.le_add_left _ _))
abbrev sem0_31 : Fin 2 → DmaSem sig := fun | 0 => cc0_sem31_0 | 1 => cc0_sem31_1 | ⟨_ + 2, h⟩ => absurd h (Nat.not_lt.2 (Nat.le_add_left _ _))
abbrev reads0_31 : Fin grid0.rank → Bool := ![true]
-- ==== Reference3Ideal.lean ====
abbrev S32768x1024 : Shape := ⟨2, ![32768, 1024]⟩
abbrev S1024 : Shape := ⟨1, ![1024]⟩
abbrev S1024x3088 : Shape := ⟨2, ![1024, 3088]⟩
abbrev S4x64 : Shape := ⟨2, ![4, 64]⟩
abbrev S4x128x128 : Shape := ⟨3, ![4, 128, 128]⟩
abbrev S4x128 : Shape := ⟨2, ![4, 128]⟩
abbrev S64 : Shape := ⟨1, ![64]⟩
abbrev S16x256 : Shape := ⟨2, ![16, 256]⟩
abbrev S256 : Shape := ⟨1, ![256]⟩
abbrev S_ : Shape := ⟨0, ![]⟩
abbrev S32768 : Shape := ⟨1, ![32768]⟩
abbrev S32768x1 : Shape := ⟨2, ![32768, 1]⟩
abbrev S1x1024 : Shape := ⟨2, ![1, 1024]⟩
abbrev S32768x3088 : Shape := ⟨2, ![32768, 3088]⟩
abbrev S32768x256 : Shape := ⟨2, ![32768, 256]⟩
abbrev S32768x512 : Shape := ⟨2, ![32768, 512]⟩
abbrev S32768x16 : Shape := ⟨2, ![32768, 16]⟩
abbrev S32768x4x64 : Shape := ⟨3, ![32768, 4, 64]⟩
abbrev S32768x4 : Shape := ⟨2, ![32768, 4]⟩
abbrev S32768x4x1 : Shape := ⟨3, ![32768, 4, 1]⟩
abbrev S1x4x64 : Shape := ⟨3, ![1, 4, 64]⟩
abbrev S128x128 : Shape := ⟨2, ![128, 128]⟩
abbrev S256x128x4x64 : Shape := ⟨4, ![256, 128, 4, 64]⟩
abbrev S4x256x64x128 : Shape := ⟨4, ![4, 256, 64, 128]⟩
abbrev S128x4 : Shape := ⟨2, ![128, 4]⟩
abbrev S1x128x4x1 : Shape := ⟨4, ![1, 128, 4, 1]⟩
abbrev S32768x8x64 : Shape := ⟨3, ![32768, 8, 64]⟩
abbrev S32768x8 : Shape := ⟨2, ![32768, 8]⟩
abbrev S32768x8x1 : Shape := ⟨3, ![32768, 8, 1]⟩
abbrev S1x1x64 : Shape := ⟨3, ![1, 1, 64]⟩
abbrev S1x256 : Shape := ⟨2, ![1, 256]⟩
abbrev S8x4096x512 : Shape := ⟨3, ![8, 4096, 512]⟩
abbrev S8x512x4096 : Shape := ⟨3, ![8, 512, 4096]⟩
abbrev S128x256x512 : Shape := ⟨3, ![128, 256, 512]⟩
abbrev S128x512x256 : Shape := ⟨3, ![128, 512, 256]⟩

abbrev nBuf : Space → Nat
  | .hbm => 197
  | .vmem => 0
  | .smem => 0
  | _ => 0

abbrev hbmTy0_0 (i : Nat) : BufTy := match i % 128 with
  | 0 => ⟨S32768x1024, .f32⟩
  | 1 => ⟨S1024, .f32⟩
  | 2 => ⟨S1024x3088, .f32⟩
  | 3 => ⟨S4x64, .f32⟩
  | 4 => ⟨S4x128x128, .f32⟩
  | 5 => ⟨S4x128, .f32⟩
  | 6 => ⟨S64, .f32⟩
  | 7 => ⟨S64, .f32⟩
  | 8 => ⟨S16x256, .f32⟩
  | 9 => ⟨S256, .f32⟩
  | 10 => ⟨S32768x1024, .f32⟩
  | 11 => ⟨S_, .f32⟩
  | 12 => ⟨S32768, .f32⟩
  | 13 => ⟨S32768x1, .f32⟩
  | 14 => ⟨S_, .f32⟩
  | 15 => ⟨S32768x1, .f32⟩
  | 16 => ⟨S32768x1, .f32⟩
  | 17 => ⟨S_, .f32⟩
  | 18 => ⟨S32768x1, .f32⟩
  | 19 => ⟨S32768x1, .f32⟩
  | 20 => ⟨S32768x1, .f32⟩
  | 21 => ⟨S32768x1024, .f32⟩
  | 22 => ⟨S32768x1024, .f32⟩
  | 23 => ⟨S1x1024, .f32⟩
  | 24 => ⟨S32768x1024, .f32⟩
  | 25 => ⟨S32768x1024, .f32⟩
  | 26 => ⟨S32768x3088, .f32⟩
  | 27 => ⟨S32768x256, .f32⟩
  | 28 => ⟨S32768x256, .f32⟩
  | 29 => ⟨S32768x512, .f32⟩
  | 30 => ⟨S32768x512, .f32⟩
  | 31 => ⟨S32768x512, .f32⟩
  | 32 => ⟨S32768x256, .f32⟩
  | 33 => ⟨S32768x256, .f32⟩
  | 34 => ⟨S32768x256, .f32⟩
  | 35 => ⟨S32768x256, .f32⟩
  | 36 => ⟨S32768x16, .f32⟩
  | 37 => ⟨S32768x256, .f32⟩
  | 38 => ⟨S32768x256, .f32⟩
  | 39 => ⟨S_, .f32⟩
  | 40 => ⟨S32768x256, .f32⟩
  | 41 => ⟨S32768x256, .f32⟩
  | 42 => ⟨S32768x256, .f32⟩
  | 43 => ⟨S_, .f32⟩
  | 44 => ⟨S32768x256, .f32⟩
  | 45 => ⟨S32768x256, .f32⟩
  | 46 => ⟨S32768x256, .f32⟩
  | 47 => ⟨S_, .f32⟩
  | 48 => ⟨S32768x256, .f32⟩
  | 49 => ⟨S32768x256, .f32⟩
  | 50 => ⟨S_, .f32⟩
  | 51 => ⟨S32768x256, .f32⟩
  | 52 => ⟨S32768x256, .f32⟩
  | 53 => ⟨S32768x256, .f32⟩
  | 54 => ⟨S32768x4x64, .f32⟩
  | 55 => ⟨S32768x4x64, .f32⟩
  | 56 => ⟨S_, .f32⟩
  | 57 => ⟨S32768x4, .f32⟩
  | 58 => ⟨S32768x4x1, .f32⟩
  | 59 => ⟨S_, .f32⟩
  | 60 => ⟨S32768x4x1, .f32⟩
  | 61 => ⟨S32768x4x1, .f32⟩
  | 62 => ⟨S_, .f32⟩
  | 63 => ⟨S32768x4x1, .f32⟩
  | 64 => ⟨S32768x4x1, .f32⟩
  | 65 => ⟨S32768x4x1, .f32⟩
  | 66 => ⟨S32768x4x64, .f32⟩
  | 67 => ⟨S32768x4x64, .f32⟩
  | 68 => ⟨S1x4x64, .f32⟩
  | 69 => ⟨S32768x4x64, .f32⟩
  | 70 => ⟨S32768x4x64, .f32⟩
  | 71 => ⟨S_, .i1⟩
  | 72 => ⟨S128x128, .i1⟩
  | 73 => ⟨S128x128, .i32⟩
  | 74 => ⟨S_, .i32⟩
  | 75 => ⟨S128x128, .i32⟩
  | 76 => ⟨S128x128, .i32⟩
  | 77 => ⟨S128x128, .i32⟩
  | 78 => ⟨S128x128, .i1⟩
  | 79 => ⟨S_, .i1⟩
  | 80 => ⟨S128x128, .i1⟩
  | 81 => ⟨S128x128, .i1⟩
  | 82 => ⟨S_, .i32⟩
  | 83 => ⟨S_, .f32⟩
  | 84 => ⟨S4x128x128, .i1⟩
  | 85 => ⟨S4x128x128, .f32⟩
  | 86 => ⟨S4x128x128, .f32⟩
  | 87 => ⟨S256x128x4x64, .f32⟩
  | 88 => ⟨S4x256x64x128, .f32⟩
  | 89 => ⟨S256x128x4x64, .f32⟩
  | 90 => ⟨S128x4, .f32⟩
  | 91 => ⟨S1x128x4x1, .f32⟩
  | 92 => ⟨S256x128x4x64, .f32⟩
  | 93 => ⟨S256x128x4x64, .f32⟩
  | 94 => ⟨S32768x256, .f32⟩
  | 95 => ⟨S32768x256, .f32⟩
  | 96 => ⟨S_, .f32⟩
  | 97 => ⟨S32768x256, .f32⟩
  | 98 => ⟨S32768x256, .f32⟩
  | 99 => ⟨S32768x256, .f32⟩
  | 100 => ⟨S_, .f32⟩
  | 101 => ⟨S32768x256, .f32⟩
  | 102 => ⟨S32768x256, .f32⟩
  | 103 => ⟨S32768x256, .f32⟩
  | 104 => ⟨S_, .f32⟩
  | 105 => ⟨S32768x256, .f32⟩
  | 106 => ⟨S32768x256, .f32⟩
  | 107 => ⟨S_, .f32⟩
  | 108 => ⟨S32768x256, .f32⟩
  | 109 => ⟨S32768x256, .f32⟩
  | 110 => ⟨S32768x256, .f32⟩
  | 111 => ⟨S32768x256, .f32⟩
  | 112 => ⟨S32768x256, .f32⟩
  | 113 => ⟨S32768x8x64, .f32⟩
  | 114 => ⟨S32768x8x64, .f32⟩
  | 115 => ⟨S_, .f32⟩
  | 116 => ⟨S32768x8, .f32⟩
  | 117 => ⟨S32768x8x1, .f32⟩
  | 118 => ⟨S_, .f32⟩
  | 119 => ⟨S32768x8x1, .f32⟩
  | 120 => ⟨S32768x8x1, .f32⟩
  | 121 => ⟨S_, .f32⟩
  | 122 => ⟨S32768x8x1, .f32⟩
  | 123 => ⟨S32768x8x1, .f32⟩
  | 124 => ⟨S32768x8x1, .f32⟩
  | 125 => ⟨S32768x8x64, .f32⟩
  | 126 => ⟨S32768x8x64, .f32⟩
  | 127 => ⟨S1x1x64, .f32⟩
  | _ => ⟨S32768x1024, .f32⟩

abbrev hbmTy0_1 (i : Nat) : BufTy := match i % 128 with
  | 0 => ⟨S32768x8x64, .f32⟩
  | 1 => ⟨S32768x8x64, .f32⟩
  | 2 => ⟨S32768x512, .f32⟩
  | 3 => ⟨S_, .f32⟩
  | 4 => ⟨S32768x512, .f32⟩
  | 5 => ⟨S32768x512, .f32⟩
  | 6 => ⟨S32768x8x64, .f32⟩
  | 7 => ⟨S32768x8x64, .f32⟩
  | 8 => ⟨S_, .f32⟩
  | 9 => ⟨S32768x8, .f32⟩
  | 10 => ⟨S32768x8x1, .f32⟩
  | 11 => ⟨S_, .f32⟩
  | 12 => ⟨S32768x8x1, .f32⟩
  | 13 => ⟨S32768x8x1, .f32⟩
  | 14 => ⟨S_, .f32⟩
  | 15 => ⟨S32768x8x1, .f32⟩
  | 16 => ⟨S32768x8x1, .f32⟩
  | 17 => ⟨S32768x8x1, .f32⟩
  | 18 => ⟨S32768x8x64, .f32⟩
  | 19 => ⟨S32768x8x64, .f32⟩
  | 20 => ⟨S1x1x64, .f32⟩
  | 21 => ⟨S32768x8x64, .f32⟩
  | 22 => ⟨S32768x8x64, .f32⟩
  | 23 => ⟨S32768x512, .f32⟩
  | 24 => ⟨S32768x256, .f32⟩
  | 25 => ⟨S1x256, .f32⟩
  | 26 => ⟨S32768x256, .f32⟩
  | 27 => ⟨S32768x256, .f32⟩
  | 28 => ⟨S32768x256, .f32⟩
  | 29 => ⟨S_, .f32⟩
  | 30 => ⟨S32768x256, .f32⟩
  | 31 => ⟨S32768x256, .f32⟩
  | 32 => ⟨S32768x256, .f32⟩
  | 33 => ⟨S32768x256, .f32⟩
  | 34 => ⟨S32768x256, .i1⟩
  | 35 => ⟨S32768x256, .f32⟩
  | 36 => ⟨S32768x256, .f32⟩
  | 37 => ⟨S32768x256, .f32⟩
  | 38 => ⟨S32768x256, .f32⟩
  | 39 => ⟨S32768x256, .f32⟩
  | 40 => ⟨S32768x256, .f32⟩
  | 41 => ⟨S32768x256, .f32⟩
  | 42 => ⟨S32768x256, .f32⟩
  | 43 => ⟨S32768x256, .f32⟩
  | 44 => ⟨S_, .f32⟩
  | 45 => ⟨S32768x256, .f32⟩
  | 46 => ⟨S32768x256, .f32⟩
  | 47 => ⟨S32768x256, .bf16⟩
  | 48 => ⟨S32768x512, .bf16⟩
  | 49 => ⟨S8x4096x512, .f32⟩
  | 50 => ⟨S8x512x4096, .f32⟩
  | 51 => ⟨S8x4096x512, .f32⟩
  | 52 => ⟨S8x512x4096, .f32⟩
  | 53 => ⟨S128x256x512, .f32⟩
  | 54 => ⟨S128x512x256, .f32⟩
  | 55 => ⟨S128x512x256, .bf16⟩
  | 56 => ⟨S32768x512, .bf16⟩
  | 57 => ⟨S_, .f32⟩
  | 58 => ⟨S32768x256, .f32⟩
  | 59 => ⟨S32768x256, .f32⟩
  | 60 => ⟨S32768x256, .f32⟩
  | 61 => ⟨S32768x256, .f32⟩
  | 62 => ⟨S_, .f32⟩
  | 63 => ⟨S32768x256, .f32⟩
  | 64 => ⟨S32768x256, .f32⟩
  | 65 => ⟨S_, .f32⟩
  | 66 => ⟨S32768x256, .f32⟩
  | 67 => ⟨S32768x256, .f32⟩
  | 68 => ⟨S32768x256, .f32⟩
  | _ => ⟨S32768x1024, .f32⟩

abbrev hbmTy (i : Nat) : BufTy := match i / 128 with
  | 0 => hbmTy0_0 i
  | 1 => hbmTy0_1 i
  | _ => ⟨S32768x1024, .f32⟩

abbrev bufTy : (tb : Table) → Fin (tcTables nBuf tb) → BufTy
  | .hbm, ⟨i, _⟩ => hbmTy i
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_cst : Ref sig .tc := ⟨.hbm, 11, rfl⟩
abbrev main_v1 : Ref sig .tc := ⟨.hbm, 12, rfl⟩
abbrev main_v2 : Ref sig .tc := ⟨.hbm, 13, rfl⟩
abbrev main_cst_0 : Ref sig .tc := ⟨.hbm, 14, rfl⟩
abbrev main_v3 : Ref sig .tc := ⟨.hbm, 15, rfl⟩
abbrev main_v4 : Ref sig .tc := ⟨.hbm, 16, rfl⟩
abbrev main_cst_1 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_cst_2 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_cst_3 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_cst_4 : Ref sig .tc := ⟨.hbm, 47, rfl⟩
abbrev main_v32 : Ref sig .tc := ⟨.hbm, 48, rfl⟩
abbrev main_v33 : Ref sig .tc := ⟨.hbm, 49, rfl⟩
abbrev main_cst_5 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_cst_6 : Ref sig .tc := ⟨.hbm, 56, rfl⟩
abbrev main_v39 : Ref sig .tc := ⟨.hbm, 57, rfl⟩
abbrev main_v40 : Ref sig .tc := ⟨.hbm, 58, rfl⟩
abbrev main_cst_7 : Ref sig .tc := ⟨.hbm, 59, rfl⟩
abbrev main_v41 : Ref sig .tc := ⟨.hbm, 60, rfl⟩
abbrev main_v42 : Ref sig .tc := ⟨.hbm, 61, rfl⟩
abbrev main_cst_8 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_c : Ref sig .tc := ⟨.hbm, 71, rfl⟩
abbrev main_v51 : Ref sig .tc := ⟨.hbm, 72, rfl⟩
abbrev main_call0_v0 : Ref sig .tc := ⟨.hbm, 73, rfl⟩
abbrev main_call0_c : Ref sig .tc := ⟨.hbm, 74, rfl⟩
abbrev main_call0_v1 : Ref sig .tc := ⟨.hbm, 75, rfl⟩
abbrev main_call0_v2 : Ref sig .tc := ⟨.hbm, 76, rfl⟩
abbrev main_call0_v3 : Ref sig .tc := ⟨.hbm, 77, rfl⟩
abbrev main_call0_v4 : Ref sig .tc := ⟨.hbm, 78, rfl⟩
abbrev main_call0_c_0 : Ref sig .tc := ⟨.hbm, 79, rfl⟩
abbrev main_call0_v5 : Ref sig .tc := ⟨.hbm, 80, rfl⟩
abbrev main_v52 : Ref sig .tc := ⟨.hbm, 81, rfl⟩
abbrev main_c_9 : Ref sig .tc := ⟨.hbm, 82, rfl⟩
abbrev main_call1_v0 : Ref sig .tc := ⟨.hbm, 83, rfl⟩
abbrev main_call1_v1 : Ref sig .tc := ⟨.hbm, 84, rfl⟩
abbrev main_call1_v2 : Ref sig .tc := ⟨.hbm, 85, rfl⟩
abbrev main_v53 : Ref sig .tc := ⟨.hbm, 86, rfl⟩
abbrev main_v54 : Ref sig .tc := ⟨.hbm, 87, rfl⟩
abbrev main_v55 : Ref sig .tc := ⟨.hbm, 88, rfl⟩
abbrev main_v56 : Ref sig .tc := ⟨.hbm, 89, rfl⟩
abbrev main_v57 : Ref sig .tc := ⟨.hbm, 90, rfl⟩
abbrev main_v58 : Ref sig .tc := ⟨.hbm, 91, rfl⟩
abbrev main_v59 : Ref sig .tc := ⟨.hbm, 92, rfl⟩
abbrev main_v60 : Ref sig .tc := ⟨.hbm, 93, rfl⟩
abbrev main_v61 : Ref sig .tc := ⟨.hbm, 94, rfl⟩
abbrev main_v62 : Ref sig .tc := ⟨.hbm, 95, rfl⟩
abbrev main_cst_10 : Ref sig .tc := ⟨.hbm, 96, rfl⟩
abbrev main_v63 : Ref sig .tc := ⟨.hbm, 97, rfl⟩
abbrev main_v64 : Ref sig .tc := ⟨.hbm, 98, rfl⟩
abbrev main_v65 : Ref sig .tc := ⟨.hbm, 99, rfl⟩
abbrev main_cst_11 : Ref sig .tc := ⟨.hbm, 100, rfl⟩
abbrev main_v66 : Ref sig .tc := ⟨.hbm, 101, rfl⟩
abbrev main_v67 : Ref sig .tc := ⟨.hbm, 102, rfl⟩
abbrev main_v68 : Ref sig .tc := ⟨.hbm, 103, rfl⟩
abbrev main_cst_12 : Ref sig .tc := ⟨.hbm, 104, rfl⟩
abbrev main_v69 : Ref sig .tc := ⟨.hbm, 105, rfl⟩
abbrev main_v70 : Ref sig .tc := ⟨.hbm, 106, rfl⟩
abbrev main_cst_13 : Ref sig .tc := ⟨.hbm, 107, rfl⟩
abbrev main_v71 : Ref sig .tc := ⟨.hbm, 108, rfl⟩
abbrev main_v72 : Ref sig .tc := ⟨.hbm, 109, rfl⟩
abbrev main_v73 : Ref sig .tc := ⟨.hbm, 110, rfl⟩
abbrev main_v74 : Ref sig .tc := ⟨.hbm, 111, rfl⟩
abbrev main_v75 : Ref sig .tc := ⟨.hbm, 112, rfl⟩
abbrev main_v76 : Ref sig .tc := ⟨.hbm, 113, rfl⟩
abbrev main_v77 : Ref sig .tc := ⟨.hbm, 114, rfl⟩
abbrev main_cst_14 : Ref sig .tc := ⟨.hbm, 115, rfl⟩
abbrev main_v78 : Ref sig .tc := ⟨.hbm, 116, rfl⟩
abbrev main_v79 : Ref sig .tc := ⟨.hbm, 117, rfl⟩
abbrev main_cst_15 : Ref sig .tc := ⟨.hbm, 118, rfl⟩
abbrev main_v80 : Ref sig .tc := ⟨.hbm, 119, rfl⟩
abbrev main_v81 : Ref sig .tc := ⟨.hbm, 120, rfl⟩
abbrev main_cst_16 : Ref sig .tc := ⟨.hbm, 121, rfl⟩
abbrev main_v82 : Ref sig .tc := ⟨.hbm, 122, rfl⟩
abbrev main_v83 : Ref sig .tc := ⟨.hbm, 123, rfl⟩
abbrev main_v84 : Ref sig .tc := ⟨.hbm, 124, rfl⟩
abbrev main_v85 : Ref sig .tc := ⟨.hbm, 125, rfl⟩
abbrev main_v86 : Ref sig .tc := ⟨.hbm, 126, rfl⟩
abbrev main_v87 : Ref sig .tc := ⟨.hbm, 127, rfl⟩
abbrev main_v88 : Ref sig .tc := ⟨.hbm, 128, rfl⟩
abbrev main_v89 : Ref sig .tc := ⟨.hbm, 129, rfl⟩
abbrev main_v90 : Ref sig .tc := ⟨.hbm, 130, rfl⟩
abbrev main_cst_17 : Ref sig .tc := ⟨.hbm, 131, rfl⟩
abbrev main_v91 : Ref sig .tc := ⟨.hbm, 132, rfl⟩
abbrev main_v92 : Ref sig .tc := ⟨.hbm, 133, rfl⟩
abbrev main_v93 : Ref sig .tc := ⟨.hbm, 134, rfl⟩
abbrev main_v94 : Ref sig .tc := ⟨.hbm, 135, rfl⟩
abbrev main_cst_18 : Ref sig .tc := ⟨.hbm, 136, rfl⟩
abbrev main_v95 : Ref sig .tc := ⟨.hbm, 137, rfl⟩
abbrev main_v96 : Ref sig .tc := ⟨.hbm, 138, rfl⟩
abbrev main_cst_19 : Ref sig .tc := ⟨.hbm, 139, rfl⟩
abbrev main_v97 : Ref sig .tc := ⟨.hbm, 140, rfl⟩
abbrev main_v98 : Ref sig .tc := ⟨.hbm, 141, rfl⟩
abbrev main_cst_20 : Ref sig .tc := ⟨.hbm, 142, rfl⟩
abbrev main_v99 : Ref sig .tc := ⟨.hbm, 143, rfl⟩
abbrev main_v100 : Ref sig .tc := ⟨.hbm, 144, rfl⟩
abbrev main_v101 : Ref sig .tc := ⟨.hbm, 145, rfl⟩
abbrev main_v102 : Ref sig .tc := ⟨.hbm, 146, rfl⟩
abbrev main_v103 : Ref sig .tc := ⟨.hbm, 147, rfl⟩
abbrev main_v104 : Ref sig .tc := ⟨.hbm, 148, rfl⟩
abbrev main_v105 : Ref sig .tc := ⟨.hbm, 149, rfl⟩
abbrev main_v106 : Ref sig .tc := ⟨.hbm, 150, rfl⟩
abbrev main_v107 : Ref sig .tc := ⟨.hbm, 151, rfl⟩
abbrev main_v108 : Ref sig .tc := ⟨.hbm, 152, rfl⟩
abbrev main_v109 : Ref sig .tc := ⟨.hbm, 153, rfl⟩
abbrev main_v110 : Ref sig .tc := ⟨.hbm, 154, rfl⟩
abbrev main_v111 : Ref sig .tc := ⟨.hbm, 155, rfl⟩
abbrev main_call2_v0 : Ref sig .tc := ⟨.hbm, 156, rfl⟩
abbrev main_call2_call0_cst : Ref sig .tc := ⟨.hbm, 157, rfl⟩
abbrev main_call2_call0_v0 : Ref sig .tc := ⟨.hbm, 158, rfl⟩
abbrev main_call2_call0_v1 : Ref sig .tc := ⟨.hbm, 159, rfl⟩
abbrev main_call2_call0_v2 : Ref sig .tc := ⟨.hbm, 160, rfl⟩
abbrev main_call2_call0_v3 : Ref sig .tc := ⟨.hbm, 161, rfl⟩
abbrev main_call2_call0_v4 : Ref sig .tc := ⟨.hbm, 162, rfl⟩
abbrev main_call2_call0_v5 : Ref sig .tc := ⟨.hbm, 163, rfl⟩
abbrev main_call2_call0_v6 : Ref sig .tc := ⟨.hbm, 164, rfl⟩
abbrev main_call2_call0_v7 : Ref sig .tc := ⟨.hbm, 165, rfl⟩
abbrev main_call2_call0_v8 : Ref sig .tc := ⟨.hbm, 166, rfl⟩
abbrev main_call2_call0_v9 : Ref sig .tc := ⟨.hbm, 167, rfl⟩
abbrev main_call2_call0_v10 : Ref sig .tc := ⟨.hbm, 168, rfl⟩
abbrev main_call2_call0_v11 : Ref sig .tc := ⟨.hbm, 169, rfl⟩
abbrev main_call2_v1 : Ref sig .tc := ⟨.hbm, 170, rfl⟩
abbrev main_v112 : Ref sig .tc := ⟨.hbm, 171, rfl⟩
abbrev main_cst_21 : Ref sig .tc := ⟨.hbm, 172, rfl⟩
abbrev main_v113 : Ref sig .tc := ⟨.hbm, 173, rfl⟩
abbrev main_v114 : Ref sig .tc := ⟨.hbm, 174, rfl⟩
abbrev main_v115 : Ref sig .tc := ⟨.hbm, 175, rfl⟩
abbrev main_v116 : Ref sig .tc := ⟨.hbm, 176, rfl⟩
abbrev main_v117 : Ref sig .tc := ⟨.hbm, 177, rfl⟩
abbrev main_v118 : Ref sig .tc := ⟨.hbm, 178, rfl⟩
abbrev main_v119 : Ref sig .tc := ⟨.hbm, 179, rfl⟩
abbrev main_v120 : Ref sig .tc := ⟨.hbm, 180, rfl⟩
abbrev main_v121 : Ref sig .tc := ⟨.hbm, 181, rfl⟩
abbrev main_v122 : Ref sig .tc := ⟨.hbm, 182, rfl⟩
abbrev main_v123 : Ref sig .tc := ⟨.hbm, 183, rfl⟩
abbrev main_v124 : Ref sig .tc := ⟨.hbm, 184, rfl⟩
abbrev main_cst_22 : Ref sig .tc := ⟨.hbm, 185, rfl⟩
abbrev main_v125 : Ref sig .tc := ⟨.hbm, 186, rfl⟩
abbrev main_v126 : Ref sig .tc := ⟨.hbm, 187, rfl⟩
abbrev main_call3_v0 : Ref sig .tc := ⟨.hbm, 188, rfl⟩
abbrev main_call3_v1 : Ref sig .tc := ⟨.hbm, 189, rfl⟩
abbrev main_call3_cst : Ref sig .tc := ⟨.hbm, 190, rfl⟩
abbrev main_call3_v2 : Ref sig .tc := ⟨.hbm, 191, rfl⟩
abbrev main_call3_v3 : Ref sig .tc := ⟨.hbm, 192, rfl⟩
abbrev main_call3_cst_0 : Ref sig .tc := ⟨.hbm, 193, rfl⟩
abbrev main_call3_v4 : Ref sig .tc := ⟨.hbm, 194, rfl⟩
abbrev main_call3_v5 : Ref sig .tc := ⟨.hbm, 195, rfl⟩
abbrev main_v127 : Ref sig .tc := ⟨.hbm, 196, rfl⟩

abbrev nD : Nat := 1
abbrev τ : Topo := Topo.v7x

variable {F : FTy → Type} [FloatOps F]
-- ==== Kernel4.lean ====
abbrev S128x1024 : Shape := ⟨2, ![128, 1024]⟩
abbrev S128x256 : Shape := ⟨2, ![128, 256]⟩
abbrev S128x512 : Shape := ⟨2, ![128, 512]⟩
abbrev S1024x1024 : Shape := ⟨2, ![1024, 1024]⟩
abbrev S1024 : Shape := ⟨1, ![1024]⟩
abbrev S1024x4096 : Shape := ⟨2, ![1024, 4096]⟩
abbrev S4096x1024 : Shape := ⟨2, ![4096, 1024]⟩
abbrev S256x1024 : Shape := ⟨2, ![256, 1024]⟩
abbrev S512x1024 : Shape := ⟨2, ![512, 1024]⟩
abbrev S1x1024 : Shape := ⟨2, ![1, 1024]⟩
abbrev S128 : Shape := ⟨1, ![128]⟩
abbrev S128x1 : Shape := ⟨2, ![128, 1]⟩

abbrev nBuf : Space → Nat
  | .hbm => 16
  | .vmem => 11
  | .smem => 0
  | _ => 0

abbrev bufTy : (tb : Table) → Fin (tcTables nBuf tb) → BufTy
  | .hbm, ⟨0, _⟩ => ⟨S128x1024, .f32⟩
  | .hbm, ⟨1, _⟩ => ⟨S128x256, .bf16⟩
  | .hbm, ⟨2, _⟩ => ⟨S128x512, .bf16⟩
  | .hbm, ⟨3, _⟩ => ⟨S128x256, .bf16⟩
  | .hbm, ⟨4, _⟩ => ⟨S1024x1024, .f32⟩
  | .hbm, ⟨5, _⟩ => ⟨S1024, .f32⟩
  | .hbm, ⟨6, _⟩ => ⟨S1024x4096, .f32⟩
  | .hbm, ⟨7, _⟩ => ⟨S4096x1024, .f32⟩
  | .hbm, ⟨8, _⟩ => ⟨S1024x1024, .bf16⟩
  | .hbm, ⟨9, _⟩ => ⟨S256x1024, .bf16⟩
  | .hbm, ⟨10, _⟩ => ⟨S512x1024, .bf16⟩
  | .hbm, ⟨11, _⟩ => ⟨S256x1024, .bf16⟩
  | .hbm, ⟨12, _⟩ => ⟨S1x1024, .f32⟩
  | .hbm, ⟨13, _⟩ => ⟨S1024x4096, .bf16⟩
  | .hbm, ⟨14, _⟩ => ⟨S4096x1024, .bf16⟩
  | .hbm, ⟨15, _⟩ => ⟨S128x1024, .f32⟩
  | .local _ .vmem, ⟨0, _⟩ => ⟨S128x1024, .f32⟩
  | .local _ .vmem, ⟨1, _⟩ => ⟨S128x256, .bf16⟩
  | .local _ .vmem, ⟨2, _⟩ => ⟨S128x512, .bf16⟩
  | .local _ .vmem, ⟨3, _⟩ => ⟨S128x256, .bf16⟩
  | .local _ .vmem, ⟨4, _⟩ => ⟨S256x1024, .bf16⟩
  | .local _ .vmem, ⟨5, _⟩ => ⟨S512x1024, .bf16⟩
  | .local _ .vmem, ⟨6, _⟩ => ⟨S256x1024, .bf16⟩
  | .local _ .vmem, ⟨7, _⟩ => ⟨S1x1024, .f32⟩
  | .local _ .vmem, ⟨8, _⟩ => ⟨S1024x4096, .bf16⟩
  | .local _ .vmem, ⟨9, _⟩ => ⟨S4096x1024, .bf16⟩
  | .local _ .vmem, ⟨10, _⟩ => ⟨S128x1024, .f32⟩
  | _, _ => ⟨S128x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S128x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S128x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S128x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S128x256 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S256x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S512x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S256x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1024x4096 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S4096x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S128x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![true]
-- ==== Reference4Ideal.lean ====
abbrev S128x1024 : Shape := ⟨2, ![128, 1024]⟩
abbrev S128x256 : Shape := ⟨2, ![128, 256]⟩
abbrev S128x512 : Shape := ⟨2, ![128, 512]⟩
abbrev S1024x1024 : Shape := ⟨2, ![1024, 1024]⟩
abbrev S1024 : Shape := ⟨1, ![1024]⟩
abbrev S1024x4096 : Shape := ⟨2, ![1024, 4096]⟩
abbrev S4096x1024 : Shape := ⟨2, ![4096, 1024]⟩
abbrev S_ : Shape := ⟨0, ![]⟩
abbrev S128 : Shape := ⟨1, ![128]⟩
abbrev S128x1 : Shape := ⟨2, ![128, 1]⟩
abbrev S1x1024 : Shape := ⟨2, ![1, 1024]⟩
abbrev S128x4096 : Shape := ⟨2, ![128, 4096]⟩

abbrev nBuf : Space → Nat
  | .hbm => 37
  | .vmem => 0
  | .smem => 0
  | _ => 0

abbrev bufTy : (tb : Table) → Fin (tcTables nBuf tb) → BufTy
  | .hbm, ⟨0, _⟩ => ⟨S128x1024, .f32⟩
  | .hbm, ⟨1, _⟩ => ⟨S128x256, .bf16⟩
  | .hbm, ⟨2, _⟩ => ⟨S128x512, .bf16⟩
  | .hbm, ⟨3, _⟩ => ⟨S128x256, .bf16⟩
  | .hbm, ⟨4, _⟩ => ⟨S1024x1024, .f32⟩
  | .hbm, ⟨5, _⟩ => ⟨S1024, .f32⟩
  | .hbm, ⟨6, _⟩ => ⟨S1024x4096, .f32⟩
  | .hbm, ⟨7, _⟩ => ⟨S4096x1024, .f32⟩
  | .hbm, ⟨8, _⟩ => ⟨S128x256, .f32⟩
  | .hbm, ⟨9, _⟩ => ⟨S128x512, .f32⟩
  | .hbm, ⟨10, _⟩ => ⟨S128x256, .f32⟩
  | .hbm, ⟨11, _⟩ => ⟨S128x1024, .f32⟩
  | .hbm, ⟨12, _⟩ => ⟨S128x1024, .f32⟩
  | .hbm, ⟨13, _⟩ => ⟨S128x1024, .f32⟩
  | .hbm, ⟨14, _⟩ => ⟨S128x1024, .f32⟩
  | .hbm, ⟨15, _⟩ => ⟨S_, .f32⟩
  | .hbm, ⟨16, _⟩ => ⟨S128, .f32⟩
  | .hbm, ⟨17, _⟩ => ⟨S128x1, .f32⟩
  | .hbm, ⟨18, _⟩ => ⟨S_, .f32⟩
  | .hbm, ⟨19, _⟩ => ⟨S128x1, .f32⟩
  | .hbm, ⟨20, _⟩ => ⟨S128x1, .f32⟩
  | .hbm, ⟨21, _⟩ => ⟨S_, .f32⟩
  | .hbm, ⟨22, _⟩ => ⟨S128x1, .f32⟩
  | .hbm, ⟨23, _⟩ => ⟨S128x1, .f32⟩
  | .hbm, ⟨24, _⟩ => ⟨S128x1, .f32⟩
  | .hbm, ⟨25, _⟩ => ⟨S128x1024, .f32⟩
  | .hbm, ⟨26, _⟩ => ⟨S128x1024, .f32⟩
  | .hbm, ⟨27, _⟩ => ⟨S1x1024, .f32⟩
  | .hbm, ⟨28, _⟩ => ⟨S128x1024, .f32⟩
  | .hbm, ⟨29, _⟩ => ⟨S128x1024, .f32⟩
  | .hbm, ⟨30, _⟩ => ⟨S128x4096, .f32⟩
  | .hbm, ⟨31, _⟩ => ⟨S_, .f32⟩
  | .hbm, ⟨32, _⟩ => ⟨S128x4096, .f32⟩
  | .hbm, ⟨33, _⟩ => ⟨S128x4096, .f32⟩
  | .hbm, ⟨34, _⟩ => ⟨S128x4096, .f32⟩
  | .hbm, ⟨35, _⟩ => ⟨S128x1024, .f32⟩
  | .hbm, ⟨36, _⟩ => ⟨S128x1024, .f32⟩
  | _, _ => ⟨S128x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_v8 : Ref sig .tc := ⟨.hbm, 17, rfl⟩
abbrev main_cst_0 : Ref sig .tc := ⟨.hbm, 18, rfl⟩
abbrev main_v9 : Ref sig .tc := ⟨.hbm, 19, rfl⟩
abbrev main_v10 : Ref sig .tc := ⟨.hbm, 20, rfl⟩
abbrev main_cst_1 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_call0_cst : Ref sig .tc := ⟨.hbm, 31, rfl⟩
abbrev main_call0_v0 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel5.lean ====
abbrev S32x16x256 : Shape := ⟨3, ![32, 16, 256]⟩
abbrev S32x4x64x64 : Shape := ⟨4, ![32, 4, 64, 64]⟩
abbrev S64 : Shape := ⟨1, ![64]⟩
abbrev S64x16 : Shape := ⟨2, ![64, 16]⟩
abbrev S16x16 : Shape := ⟨2, ![16, 16]⟩
abbrev S32x4x64x4x64 : Shape := ⟨5, ![32, 4, 64, 4, 64]⟩
abbrev S32x4x64x1x64 : Shape := ⟨5, ![32, 4, 64, 1, 64]⟩
abbrev S_ : Shape := ⟨0, ![]⟩
abbrev S32x256x256 : Shape := ⟨3, ![32, 256, 256]⟩
abbrev S1x64 : Shape := ⟨2, ![1, 64]⟩
abbrev S4x64 : Shape := ⟨2, ![4, 64]⟩
abbrev S256 : Shape := ⟨1, ![256]⟩
abbrev S1x256 : Shape := ⟨2, ![1, 256]⟩
abbrev S256x1 : Shape := ⟨2, ![256, 1]⟩
abbrev S256x256 : Shape := ⟨2, ![256, 256]⟩
abbrev S1x16x256 : Shape := ⟨3, ![1, 16, 256]⟩
abbrev S1x256x256 : Shape := ⟨3, ![1, 256, 256]⟩
abbrev S16x256 : Shape := ⟨2, ![16, 256]⟩
abbrev S64x256 : Shape := ⟨2, ![64, 256]⟩

abbrev nBuf : Space → Nat
  | .hbm => 41
  | .vmem => 23
  | .smem => 0
  | _ => 0

abbrev bufTy : (tb : Table) → Fin (tcTables nBuf tb) → BufTy
  | .hbm, ⟨0, _⟩ => ⟨S32x16x256, .f32⟩
  | .hbm, ⟨1, _⟩ => ⟨S32x16x256, .f32⟩
  | .hbm, ⟨2, _⟩ => ⟨S32x16x256, .f32⟩
  | .hbm, ⟨3, _⟩ => ⟨S32x16x256, .f32⟩
  | .hbm, ⟨4, _⟩ => ⟨S32x16x256, .f32⟩
  | .hbm, ⟨5, _⟩ => ⟨S32x4x64x64, .f32⟩
  | .hbm, ⟨6, _⟩ => ⟨S64, .f32⟩
  | .hbm, ⟨7, _⟩ => ⟨S64x16, .i32⟩
  | .hbm, ⟨8, _⟩ => ⟨S16x16, .bf16⟩
  | .hbm, ⟨9, _⟩ => ⟨S64x16, .bf16⟩
  | .hbm, ⟨10, _⟩ => ⟨S64x16, .bf16⟩
  | .hbm, ⟨11, _⟩ => ⟨S32x4x64x64, .f32⟩
  | .hbm, ⟨12, _⟩ => ⟨S32x4x64x4x64, .i32⟩
  | .hbm, ⟨13, _⟩ => ⟨S32x4x64x4x64, .i32⟩
  | .hbm, ⟨14, _⟩ => ⟨S32x4x64x4x64, .i1⟩
  | .hbm, ⟨15, _⟩ => ⟨S32x4x64x1x64, .f32⟩
  | .hbm, ⟨16, _⟩ => ⟨S_, .f32⟩
  | .hbm, ⟨17, _⟩ => ⟨S_, .f32⟩
  | .hbm, ⟨18, _⟩ => ⟨S32x4x64x4x64, .f32⟩
  | .hbm, ⟨19, _⟩ => ⟨S32x4x64x4x64, .f32⟩
  | .hbm, ⟨20, _⟩ => ⟨S32x4x64x4x64, .f32⟩
  | .hbm, ⟨21, _⟩ => ⟨S32x256x256, .f32⟩
  | .hbm, ⟨22, _⟩ => ⟨S1x64, .f32⟩
  | .hbm, ⟨23, _⟩ => ⟨S4x64, .f32⟩
  | .hbm, ⟨24, _⟩ => ⟨S256, .f32⟩
  | .hbm, ⟨25, _⟩ => ⟨S1x256, .f32⟩
  | .hbm, ⟨26, _⟩ => ⟨S4x64, .i32⟩
  | .hbm, ⟨27, _⟩ => ⟨S256, .i32⟩
  | .hbm, ⟨28, _⟩ => ⟨S256x1, .i32⟩
  | .hbm, ⟨29, _⟩ => ⟨S1x256, .i32⟩
  | .hbm, ⟨30, _⟩ => ⟨S256x256, .i32⟩
  | .hbm, ⟨31, _⟩ => ⟨S256x256, .i32⟩
  | .hbm, ⟨32, _⟩ => ⟨S256x256, .i1⟩
  | .hbm, ⟨33, _⟩ => ⟨S_, .f32⟩
  | .hbm, ⟨34, _⟩ => ⟨S_, .f32⟩
  | .hbm, ⟨35, _⟩ => ⟨S256x256, .f32⟩
  | .hbm, ⟨36, _⟩ => ⟨S256x256, .f32⟩
  | .hbm, ⟨37, _⟩ => ⟨S256x256, .f32⟩
  | .hbm, ⟨38, _⟩ => ⟨S256x256, .bf16⟩
  | .hbm, ⟨39, _⟩ => ⟨S32x16x256, .bf16⟩
  | .hbm, ⟨40, _⟩ => ⟨S32x256x256, .f32⟩
  | .local _ .vmem, ⟨0, _⟩ => ⟨S1x16x256, .f32⟩
  | .local _ .vmem, ⟨1, _⟩ => ⟨S1x16x256, .f32⟩
  | .local _ .vmem, ⟨2, _⟩ => ⟨S1x16x256, .f32⟩
  | .local _ .vmem, ⟨3, _⟩ => ⟨S1x16x256, .f32⟩
  | .local _ .vmem, ⟨4, _⟩ => ⟨S1x16x256, .f32⟩
  | .local _ .vmem, ⟨5, _⟩ => ⟨S1x16x256, .f32⟩
  | .local _ .vmem, ⟨6, _⟩ => ⟨S1x16x256, .f32⟩
  | .local _ .vmem, ⟨7, _⟩ => ⟨S1x16x256, .f32⟩
  | .local _ .vmem, ⟨8, _⟩ => ⟨S1x16x256, .f32⟩
  | .local _ .vmem, ⟨9, _⟩ => ⟨S1x16x256, .f32⟩
  | .local _ .vmem, ⟨10, _⟩ => ⟨S1x256x256, .f32⟩
  | .local _ .vmem, ⟨11, _⟩ => ⟨S1x256x256, .f32⟩
  | .local _ .vmem, ⟨12, _⟩ => ⟨S16x16, .bf16⟩
  | .local _ .vmem, ⟨13, _⟩ => ⟨S64x16, .bf16⟩
  | .local _ .vmem, ⟨14, _⟩ => ⟨S64x16, .bf16⟩
  | .local _ .vmem, ⟨15, _⟩ => ⟨S64x16, .i32⟩
  | .local _ .vmem, ⟨16, _⟩ => ⟨S256x256, .bf16⟩
  | .local _ .vmem, ⟨17, _⟩ => ⟨S1x256, .f32⟩
  | .local _ .vmem, ⟨18, _⟩ => ⟨S1x16x256, .bf16⟩
  | .local _ .vmem, ⟨19, _⟩ => ⟨S1x16x256, .bf16⟩
  | .local _ .vmem, ⟨20, _⟩ => ⟨S1x256x256, .f32⟩
  | .local _ .vmem, ⟨21, _⟩ => ⟨S1x256x256, .f32⟩
  | .local _ .vmem, ⟨22, _⟩ => ⟨S256x256, .f32⟩
  | _, _ => ⟨S32x16x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_c : Ref sig .tc := ⟨.hbm, 7, rfl⟩
abbrev main_cst : Ref sig .tc := ⟨.hbm, 8, rfl⟩
abbrev main_cst_0 : Ref sig .tc := ⟨.hbm, 9, rfl⟩
abbrev main_cst_1 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_cst_2 : Ref sig .tc := ⟨.hbm, 16, rfl⟩
abbrev main_call0_v0 : Ref sig .tc := ⟨.hbm, 17, rfl⟩
abbrev main_call0_v1 : Ref sig .tc := ⟨.hbm, 18, rfl⟩
abbrev main_call0_v2 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_cst_3 : Ref sig .tc := ⟨.hbm, 33, rfl⟩
abbrev main_cst_4 : Ref sig .tc := ⟨.hbm, 34, rfl⟩
abbrev main_call1_v0 : Ref sig .tc := ⟨.hbm, 35, rfl⟩
abbrev main_call1_v1 : Ref sig .tc := ⟨.hbm, 36, rfl⟩
abbrev main_v18 : Ref sig .tc := ⟨.hbm, 37, rfl⟩
abbrev main_v19 : Ref sig .tc := ⟨.hbm, 38, rfl⟩
abbrev main_v20_0 : Ref sig .tc := ⟨.hbm, 39, rfl⟩
abbrev main_v20_1 : Ref sig .tc := ⟨.hbm, 40, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg10_0 : Ref sig .tc := ⟨.vmem, 16, rfl⟩
abbrev cc0_stg11_0 : Ref sig .tc := ⟨.vmem, 17, rfl⟩
abbrev cc0_stg12_0 : Ref sig .tc := ⟨.vmem, 18, rfl⟩
abbrev cc0_stg12_1 : Ref sig .tc := ⟨.vmem, 19, rfl⟩
abbrev cc0_stg13_0 : Ref sig .tc := ⟨.vmem, 20, rfl⟩
abbrev cc0_stg13_1 : Ref sig .tc := ⟨.vmem, 21, rfl⟩
abbrev cc0_scratch0 : Ref sig .tc := ⟨.vmem, 22, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem9_0 : DmaSem sig := 15
abbrev cc0_sem10_0 : DmaSem sig := 16
abbrev cc0_sem11_0 : DmaSem sig := 17
abbrev cc0_sem12_0 : DmaSem sig := 18
abbrev cc0_sem12_1 : DmaSem sig := 19
abbrev cc0_sem13_0 : DmaSem sig := 20
abbrev cc0_sem13_1 : DmaSem sig := 21

abbrev nD : Nat := 1
abbrev τ : Topo := Topo.v7x

variable {F : FTy → Type} [FloatOps F]

abbrev grid0 : Pipeline.Grid := ⟨2, ![32, 1], ![false, false]⟩

def k0_mult1 : BitVec 32 :=
  let c0_i32_29 : BitVec 32 := 0#32
  let c16_i32 : BitVec 32 := 16#32
  let v85 : BitVec 32 := Scalar.muli c0_i32_29 c16_i32
  v85
def k0_off1 : Fin 3 → Nat :=
  let c0_30 : Index := 0#32
  let c0_i32_29 : BitVec 32 := 0#32
  let c16_i32 : BitVec 32 := 16#32
  let v85 : BitVec 32 := Scalar.muli c0_i32_29 c16_i32
  let v86 : BitVec 32 := v85
  let v87 : Index := Scalar.indexCast v86
  let c0_31 : Index := 0#32
  ![0, v87.toNat, 0]
def k0_cond2 (i : grid0.Coords) : BitVec 1 :=
  let arg1 : BitVec 32 := BitVec.ofNat 32 (i 1).val
  let c0_i32_119 : BitVec 32 := 0#32
  let v331 : BitVec 1 := Scalar.cmpi .eq arg1 c0_i32_119
  let v332 : BitVec 32 := Scalar.extui v331
  let c0_i32_120 : BitVec 32 := 0#32
  let v333 : BitVec 1 := Scalar.cmpi .ne v332 c0_i32_120
  v333

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_13 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x16x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x16x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x16x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x16x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x16x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x256x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 1 → Memref sig .tc .vmem S16x16 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S64x16 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S64x16 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S64x16 .i32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S256x256 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S1x256 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 2 → Memref sig .tc .vmem S1x16x256 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S1x256x256 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, false]
-- ==== Reference5Ideal.lean ====
abbrev S32x16x256 : Shape := ⟨3, ![32, 16, 256]⟩
abbrev S32x4x64x64 : Shape := ⟨4, ![32, 4, 64, 64]⟩
abbrev S64 : Shape := ⟨1, ![64]⟩
abbrev S32x16x4x64 : Shape := ⟨4, ![32, 16, 4, 64]⟩
abbrev S_ : Shape := ⟨0, ![]⟩
abbrev S16x16 : Shape := ⟨2, ![16, 16]⟩
abbrev S1x16x16x1x1 : Shape := ⟨5, ![1, 16, 16, 1, 1]⟩
abbrev S32x1x4x64 : Shape := ⟨4, ![32, 1, 4, 64]⟩
abbrev S32x4x64 : Shape := ⟨3, ![32, 4, 64]⟩
abbrev S32x4x64x16 : Shape := ⟨4, ![32, 4, 64, 16]⟩
abbrev S32x16x1x4x64 : Shape := ⟨5, ![32, 16, 1, 4, 64]⟩
abbrev S32x1x16x4x64 : Shape := ⟨5, ![32, 1, 16, 4, 64]⟩
abbrev S32x16x16x4x64 : Shape := ⟨5, ![32, 16, 16, 4, 64]⟩
abbrev S32x16x16x4 : Shape := ⟨4, ![32, 16, 16, 4]⟩
abbrev S32x4x64x1 : Shape := ⟨4, ![32, 4, 64, 1]⟩
abbrev S32x16x4 : Shape := ⟨3, ![32, 16, 4]⟩
abbrev S32x16x4x1 : Shape := ⟨4, ![32, 16, 4, 1]⟩
abbrev S1x1x1x64 : Shape := ⟨4, ![1, 1, 1, 64]⟩
abbrev S4x4 : Shape := ⟨2, ![4, 4]⟩
abbrev S1x4x1x4x1 : Shape := ⟨5, ![1, 4, 1, 4, 1]⟩
abbrev S32x4x64x1x64 : Shape := ⟨5, ![32, 4, 64, 1, 64]⟩
abbrev S32x4x64x4x64 : Shape := ⟨5, ![32, 4, 64, 4, 64]⟩
abbrev S32x256x256 : Shape := ⟨3, ![32, 256, 256]⟩

abbrev nBuf : Space → Nat
  | .hbm => 100
  | .vmem => 0
  | .smem => 0
  | _ => 0

abbrev bufTy : (tb : Table) → Fin (tcTables nBuf tb) → BufTy
  | .hbm, ⟨0, _⟩ => ⟨S32x16x256, .f32⟩
  | .hbm, ⟨1, _⟩ => ⟨S32x16x256, .f32⟩
  | .hbm, ⟨2, _⟩ => ⟨S32x16x256, .f32⟩
  | .hbm, ⟨3, _⟩ => ⟨S32x16x256, .f32⟩
  | .hbm, ⟨4, _⟩ => ⟨S32x16x256, .f32⟩
  | .hbm, ⟨5, _⟩ => ⟨S32x4x64x64, .f32⟩
  | .hbm, ⟨6, _⟩ => ⟨S64, .f32⟩
  | .hbm, ⟨7, _⟩ => ⟨S32x16x4x64, .f32⟩
  | .hbm, ⟨8, _⟩ => ⟨S32x16x4x64, .f32⟩
  | .hbm, ⟨9, _⟩ => ⟨S32x16x4x64, .f32⟩
  | .hbm, ⟨10, _⟩ => ⟨S32x16x4x64, .f32⟩
  | .hbm, ⟨11, _⟩ => ⟨S_, .i1⟩
  | .hbm, ⟨12, _⟩ => ⟨S16x16, .i1⟩
  | .hbm, ⟨13, _⟩ => ⟨S16x16, .i32⟩
  | .hbm, ⟨14, _⟩ => ⟨S_, .i32⟩
  | .hbm, ⟨15, _⟩ => ⟨S16x16, .i32⟩
  | .hbm, ⟨16, _⟩ => ⟨S16x16, .i32⟩
  | .hbm, ⟨17, _⟩ => ⟨S16x16, .i32⟩
  | .hbm, ⟨18, _⟩ => ⟨S16x16, .i1⟩
  | .hbm, ⟨19, _⟩ => ⟨S_, .i1⟩
  | .hbm, ⟨20, _⟩ => ⟨S16x16, .i1⟩
  | .hbm, ⟨21, _⟩ => ⟨S16x16, .i1⟩
  | .hbm, ⟨22, _⟩ => ⟨S1x16x16x1x1, .i1⟩
  | .hbm, ⟨23, _⟩ => ⟨S_, .f32⟩
  | .hbm, ⟨24, _⟩ => ⟨S_, .f32⟩
  | .hbm, ⟨25, _⟩ => ⟨S32x16x4x64, .f32⟩
  | .hbm, ⟨26, _⟩ => ⟨S32x1x4x64, .f32⟩
  | .hbm, ⟨27, _⟩ => ⟨S32x4x64, .f32⟩
  | .hbm, ⟨28, _⟩ => ⟨S32x16x4x64, .f32⟩
  | .hbm, ⟨29, _⟩ => ⟨S32x16x4x64, .f32⟩
  | .hbm, ⟨30, _⟩ => ⟨S32x4x64x16, .f32⟩
  | .hbm, ⟨31, _⟩ => ⟨S32x16x4x64, .f32⟩
  | .hbm, ⟨32, _⟩ => ⟨S32x16x1x4x64, .f32⟩
  | .hbm, ⟨33, _⟩ => ⟨S32x1x16x4x64, .f32⟩
  | .hbm, ⟨34, _⟩ => ⟨S32x16x16x4x64, .f32⟩
  | .hbm, ⟨35, _⟩ => ⟨S32x16x16x4x64, .f32⟩
  | .hbm, ⟨36, _⟩ => ⟨S32x16x16x4x64, .f32⟩
  | .hbm, ⟨37, _⟩ => ⟨S_, .f32⟩
  | .hbm, ⟨38, _⟩ => ⟨S_, .f32⟩
  | .hbm, ⟨39, _⟩ => ⟨S32x16x16x4x64, .i1⟩
  | .hbm, ⟨40, _⟩ => ⟨S32x16x16x4x64, .f32⟩
  | .hbm, ⟨41, _⟩ => ⟨S32x16x16x4x64, .f32⟩
  | .hbm, ⟨42, _⟩ => ⟨S32x16x16x4x64, .f32⟩
  | .hbm, ⟨43, _⟩ => ⟨S32x16x1x4x64, .f32⟩
  | .hbm, ⟨44, _⟩ => ⟨S32x16x16x4x64, .f32⟩
  | .hbm, ⟨45, _⟩ => ⟨S32x16x16x4x64, .f32⟩
  | .hbm, ⟨46, _⟩ => ⟨S32x1x16x4x64, .f32⟩
  | .hbm, ⟨47, _⟩ => ⟨S32x16x16x4x64, .f32⟩
  | .hbm, ⟨48, _⟩ => ⟨S32x16x16x4x64, .f32⟩
  | .hbm, ⟨49, _⟩ => ⟨S_, .f32⟩
  | .hbm, ⟨50, _⟩ => ⟨S32x16x16x4, .f32⟩
  | .hbm, ⟨51, _⟩ => ⟨S32x4x64x16, .f32⟩
  | .hbm, ⟨52, _⟩ => ⟨S32x16x4x64, .f32⟩
  | .hbm, ⟨53, _⟩ => ⟨S32x4x64, .f32⟩
  | .hbm, ⟨54, _⟩ => ⟨S32x4x64x1, .f32⟩
  | .hbm, ⟨55, _⟩ => ⟨S32x4x64x64, .f32⟩
  | .hbm, ⟨56, _⟩ => ⟨S32x4x64x64, .f32⟩
  | .hbm, ⟨57, _⟩ => ⟨S32x1x4x64, .f32⟩
  | .hbm, ⟨58, _⟩ => ⟨S32x16x4x64, .f32⟩
  | .hbm, ⟨59, _⟩ => ⟨S32x16x4x64, .f32⟩
  | .hbm, ⟨60, _⟩ => ⟨S32x16x4x64, .f32⟩
  | .hbm, ⟨61, _⟩ => ⟨S32x16x4x64, .f32⟩
  | .hbm, ⟨62, _⟩ => ⟨S32x4x64x64, .f32⟩
  | .hbm, ⟨63, _⟩ => ⟨S32x4x64x64, .f32⟩
  | .hbm, ⟨64, _⟩ => ⟨S32x16x4x64, .f32⟩
  | .hbm, ⟨65, _⟩ => ⟨S32x16x4x64, .f32⟩
  | .hbm, ⟨66, _⟩ => ⟨S_, .f32⟩
  | .hbm, ⟨67, _⟩ => ⟨S32x16x4, .f32⟩
  | .hbm, ⟨68, _⟩ => ⟨S32x16x4x1, .f32⟩
  | .hbm, ⟨69, _⟩ => ⟨S_, .f32⟩
  | .hbm, ⟨70, _⟩ => ⟨S32x16x4x1, .f32⟩
  | .hbm, ⟨71, _⟩ => ⟨S32x16x4x1, .f32⟩
  | .hbm, ⟨72, _⟩ => ⟨S_, .f32⟩
  | .hbm, ⟨73, _⟩ => ⟨S32x16x4x1, .f32⟩
  | .hbm, ⟨74, _⟩ => ⟨S32x16x4x1, .f32⟩
  | .hbm, ⟨75, _⟩ => ⟨S32x16x4x1, .f32⟩
  | .hbm, ⟨76, _⟩ => ⟨S32x16x4x64, .f32⟩
  | .hbm, ⟨77, _⟩ => ⟨S32x16x4x64, .f32⟩
  | .hbm, ⟨78, _⟩ => ⟨S1x1x1x64, .f32⟩
  | .hbm, ⟨79, _⟩ => ⟨S32x16x4x64, .f32⟩
  | .hbm, ⟨80, _⟩ => ⟨S32x16x4x64, .f32⟩
  | .hbm, ⟨81, _⟩ => ⟨S32x16x256, .f32⟩
  | .hbm, ⟨82, _⟩ => ⟨S32x16x256, .f32⟩
  | .hbm, ⟨83, _⟩ => ⟨S4x4, .i32⟩
  | .hbm, ⟨84, _⟩ => ⟨S4x4, .i32⟩
  | .hbm, ⟨85, _⟩ => ⟨S_, .i32⟩
  | .hbm, ⟨86, _⟩ => ⟨S4x4, .i32⟩
  | .hbm, ⟨87, _⟩ => ⟨S4x4, .i32⟩
  | .hbm, ⟨88, _⟩ => ⟨S4x4, .i1⟩
  | .hbm, ⟨89, _⟩ => ⟨S1x4x1x4x1, .i1⟩
  | .hbm, ⟨90, _⟩ => ⟨S32x4x64x64, .f32⟩
  | .hbm, ⟨91, _⟩ => ⟨S32x4x64x1x64, .f32⟩
  | .hbm, ⟨92, _⟩ => ⟨S_, .f32⟩
  | .hbm, ⟨93, _⟩ => ⟨S_, .f32⟩
  | .hbm, ⟨94, _⟩ => ⟨S32x4x64x4x64, .i1⟩
  | .hbm, ⟨95, _⟩ => ⟨S32x4x64x4x64, .f32⟩
  | .hbm, ⟨96, _⟩ => ⟨S32x4x64x4x64, .f32⟩
  | .hbm, ⟨97, _⟩ => ⟨S32x4x64x4x64, .f32⟩
  | .hbm, ⟨98, _⟩ => ⟨S32x16x256, .bf16⟩
  | .hbm, ⟨99, _⟩ => ⟨S32x256x256, .f32⟩
  | _, _ => ⟨S32x16x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_c : Ref sig .tc := ⟨.hbm, 11, rfl⟩
abbrev main_v4 : Ref sig .tc := ⟨.hbm, 12, rfl⟩
abbrev main_call0_v0 : Ref sig .tc := ⟨.hbm, 13, rfl⟩
abbrev main_call0_c : Ref sig .tc := ⟨.hbm, 14, rfl⟩
abbrev main_call0_v1 : Ref sig .tc := ⟨.hbm, 15, rfl⟩
abbrev main_call0_v2 : Ref sig .tc := ⟨.hbm, 16, rfl⟩
abbrev main_call0_v3 : Ref sig .tc := ⟨.hbm, 17, rfl⟩
abbrev main_call0_v4 : Ref sig .tc := ⟨.hbm, 18, rfl⟩
abbrev main_call0_c_0 : Ref sig .tc := ⟨.hbm, 19, rfl⟩
abbrev main_call0_v5 : Ref sig .tc := ⟨.hbm, 20, rfl⟩
abbrev main_v5 : Ref sig .tc := ⟨.hbm, 21, rfl⟩
abbrev main_v6 : Ref sig .tc := ⟨.hbm, 22, rfl⟩
abbrev main_call1_call0_cst : Ref sig .tc := ⟨.hbm, 23, rfl⟩
abbrev main_call1_call0_v0 : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_cst : Ref sig .tc := ⟨.hbm, 37, rfl⟩
abbrev main_call2_v0 : Ref sig .tc := ⟨.hbm, 38, rfl⟩
abbrev main_call2_v1 : Ref sig .tc := ⟨.hbm, 39, rfl⟩
abbrev main_call2_v2 : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_cst_0 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_cst_1 : Ref sig .tc := ⟨.hbm, 66, rfl⟩
abbrev main_v43 : Ref sig .tc := ⟨.hbm, 67, rfl⟩
abbrev main_v44 : Ref sig .tc := ⟨.hbm, 68, rfl⟩
abbrev main_cst_2 : Ref sig .tc := ⟨.hbm, 69, rfl⟩
abbrev main_v45 : Ref sig .tc := ⟨.hbm, 70, rfl⟩
abbrev main_v46 : Ref sig .tc := ⟨.hbm, 71, rfl⟩
abbrev main_cst_3 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_c_4 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩
abbrev main_cst_5 : Ref sig .tc := ⟨.hbm, 92, rfl⟩
abbrev main_call3_v0 : Ref sig .tc := ⟨.hbm, 93, rfl⟩
abbrev main_call3_v1 : Ref sig .tc := ⟨.hbm, 94, rfl⟩
abbrev main_call3_v2 : Ref sig .tc := ⟨.hbm, 95, rfl⟩
abbrev main_call3_v3 : Ref sig .tc := ⟨.hbm, 96, rfl⟩
abbrev main_v65 : Ref sig .tc := ⟨.hbm, 97, rfl⟩
abbrev main_v66 : Ref sig .tc := ⟨.hbm, 98, rfl⟩
abbrev main_v67 : Ref sig .tc := ⟨.hbm, 99, rfl⟩

abbrev nD : Nat := 1
abbrev τ : Topo := Topo.v7x

variable {F : FTy → Type} [FloatOps F]
-- ==== Proof.Kernel3Ideal.Frame.lean ====
/- The frame of the input projections' call: what every window's buffer holds after the body at a grid point, the body's
   triple, and the run of the launch. After the generated frame of the program, whose limits its 32 windows pass. -/
module

public import proofs.«01_k».proof.Proof.Gen.Kernel3Ideal.Launch
public import proofs.«01_k».proof.Proof.Gen.Kernel3Ideal.Skeleton
public import proofs.«01_k».proof.Proof.Gen.Kernel3Ideal.Points
public import Idealize.ShloMosaic.Lib.Pipeline.FrameBody
public import Idealize.ShloMosaic.Lib.Claim
public import Idealize.ShloMosaic.Lib.Ring
public import Idealize.ShloMosaic.Lib.Tactic
public import Idealize.ShloMosaic.Lib.UnfoldOut
public import Idealize.ShloMosaic.Lib.WordCmp

@[expose] public section

set_option maxRecDepth 16384

noncomputable section

namespace Cert.Kernel3Ideal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## @main up to the region -/

/-- Core `c`'s TensorCore buffers when the region is entered: after the host operations `hostOps0`, `hostOps0_1`, `hostOps0_2`, `hostOps0_3`, `hostOps0_4`, `hostOps0_5`, `hostOps0_6`, `hostOps0_7`, `hostOps0_8`, `hostOps0_9`, `hostOps0_10`. -/
abbrev V (c : Dev nD) (b : Ref sig .tc) : Buf (Elt F) ((c : Thread nD τ).loc b) :=
  StableHlo.after (List.flatten [hostOps0, hostOps0_1, hostOps0_2, hostOps0_3, hostOps0_4, hostOps0_5, hostOps0_6, hostOps0_7, hostOps0_8, hostOps0_9, hostOps0_10]) (fun b => m (c, b)) b

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor
theorem hostOps0_3_fresh : (hostOps0_3 : List (HloOp τ sig (Elt F))).Forall fun op => op.fresh = ∅ := by
  simp only [List.Forall]; repeat' constructor
theorem hostOps0_4_fresh : (hostOps0_4 : List (HloOp τ sig (Elt F))).Forall fun op => op.fresh = ∅ := by
  simp only [List.Forall]; repeat' constructor
theorem hostOps0_5_fresh : (hostOps0_5 : List (HloOp τ sig (Elt F))).Forall fun op => op.fresh = ∅ := by
  simp only [List.Forall]; repeat' constructor
theorem hostOps0_6_fresh : (hostOps0_6 : List (HloOp τ sig (Elt F))).Forall fun op => op.fresh = ∅ := by
  simp only [List.Forall]; repeat' constructor
theorem hostOps0_7_fresh : (hostOps0_7 : List (HloOp τ sig (Elt F))).Forall fun op => op.fresh = ∅ := by
  simp only [List.Forall]; repeat' constructor
theorem hostOps0_8_fresh : (hostOps0_8 : List (HloOp τ sig (Elt F))).Forall fun op => op.fresh = ∅ := by
  simp only [List.Forall]; repeat' constructor
theorem hostOps0_9_fresh : (hostOps0_9 : List (HloOp τ sig (Elt F))).Forall fun op => op.fresh = ∅ := by
  simp only [List.Forall]; repeat' constructor
theorem hostOps0_10_fresh : (hostOps0_10 : List (HloOp τ sig (Elt F))).Forall fun op => op.fresh = ∅ := by
  simp only [List.Forall]; repeat' constructor

set_option maxHeartbeats 800000 in
/-- @main up to the region, at the certificate's variants `𝒱₀`: the lines of host operations then the region
    (`Pipeline.hmain_prefixes`, off `main_chain`). -/
theorem hmain (𝒱₀ : Variants) : Pipeline.HMain (Ix := Unit) (Name := ℕ) (U := UR sig nD τ) (Lvl := ℕ) cfgs 0 defs₀ 𝒱₀ m (main (F := F)) (V m) :=
  Pipeline.hmain_prefixes cfgs 0 defs₀ 𝒱₀ m main [hostOps0, hostOps0_1, hostOps0_2, hostOps0_3, hostOps0_4, hostOps0_5, hostOps0_6, hostOps0_7, hostOps0_8, hostOps0_9, hostOps0_10] (by simp only [List.Forall]; exact ⟨hostOps0_sub, hostOps0_1_sub, hostOps0_2_sub, hostOps0_3_sub, hostOps0_4_sub, hostOps0_5_sub, hostOps0_6_sub, hostOps0_7_sub, hostOps0_8_sub, hostOps0_9_sub, hostOps0_10_sub⟩)
    (by simp only [List.Forall]; exact ⟨hostOps0_fresh, hostOps0_1_fresh, hostOps0_2_fresh, hostOps0_3_fresh, hostOps0_4_fresh, hostOps0_5_fresh, hostOps0_6_fresh, hostOps0_7_fresh, hostOps0_8_fresh, hostOps0_9_fresh, hostOps0_10_fresh⟩) main_chain

/-- No host operation before the region writes `main_arg0`: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, hostOps0_1, hostOps0_2, hostOps0_3, hostOps0_4, hostOps0_5, hostOps0_6, hostOps0_7, hostOps0_8, hostOps0_9, hostOps0_10, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg1`: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, hostOps0_1, hostOps0_2, hostOps0_3, hostOps0_4, hostOps0_5, hostOps0_6, hostOps0_7, hostOps0_8, hostOps0_9, hostOps0_10, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg2`: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, hostOps0_1, hostOps0_2, hostOps0_3, hostOps0_4, hostOps0_5, hostOps0_6, hostOps0_7, hostOps0_8, hostOps0_9, hostOps0_10, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg3`: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, hostOps0_1, hostOps0_2, hostOps0_3, hostOps0_4, hostOps0_5, hostOps0_6, hostOps0_7, hostOps0_8, hostOps0_9, hostOps0_10, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg4`: the region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, hostOps0_1, hostOps0_2, hostOps0_3, hostOps0_4, hostOps0_5, hostOps0_6, hostOps0_7, hostOps0_8, hostOps0_9, hostOps0_10, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg5`: the region finds it as launched. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, hostOps0_1, hostOps0_2, hostOps0_3, hostOps0_4, hostOps0_5, hostOps0_6, hostOps0_7, hostOps0_8, hostOps0_9, hostOps0_10, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg6`: the region finds it as launched. -/
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, hostOps0_1, hostOps0_2, hostOps0_3, hostOps0_4, hostOps0_5, hostOps0_6, hostOps0_7, hostOps0_8, hostOps0_9, hostOps0_10, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg7`: the region finds it as launched. -/
theorem V_main_arg7 (c : Dev nD) : V m c main_arg7 = m ((c : Thread nD τ).loc main_arg7) :=
  StableHlo.after_of_forall_not_mem (b := Proc.devRef .tc main_arg7) _ _ (List.forall_iff_forall_mem.mp (by
    simp only [hostOps0, hostOps0_1, hostOps0_2, hostOps0_3, hostOps0_4, hostOps0_5, hostOps0_6, hostOps0_7, hostOps0_8, hostOps0_9, hostOps0_10, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg8`: the region finds it as launched. -/
theorem V_main_arg8 (c : Dev nD) : V m c main_arg8 = m ((c : Thread nD τ).loc main_arg8) :=
  StableHlo.after_of_forall_not_mem (b := Proc.devRef .tc main_arg8) _ _ (List.forall_iff_forall_mem.mp (by
    simp only [hostOps0, hostOps0_1, hostOps0_2, hostOps0_3, hostOps0_4, hostOps0_5, hostOps0_6, hostOps0_7, hostOps0_8, hostOps0_9, hostOps0_10, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg9`: the region finds it as launched. -/
theorem V_main_arg9 (c : Dev nD) : V m c main_arg9 = m ((c : Thread nD τ).loc main_arg9) :=
  StableHlo.after_of_forall_not_mem (b := Proc.devRef .tc main_arg9) _ _ (List.forall_iff_forall_mem.mp (by
    simp only [hostOps0, hostOps0_1, hostOps0_2, hostOps0_3, hostOps0_4, hostOps0_5, hostOps0_6, hostOps0_7, hostOps0_8, hostOps0_9, hostOps0_10, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-! ## The windows' blocks -/

/-- Window `w`'s block at point `t`, read off its array as the region finds it (`V`). -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
/-- Input window 5's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
/-- Input window 6's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_6_of {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)
/-- Input window 7's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_7_of {c : Dev nD} (dat : Dat τ (Elt F) Unit ℕ (UR sig nD τ) ℕ cfg0 c) (hA : dat.A 7 = V m c (Pipeline.arrRef spec0 7))
    (hafter : ∀ t, dat.after 7 t = iblk m c 7 t) (t : Fin cfg0.N) (d) : dat.before 7 t d = iblk m c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)
/-- Input window 8's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_8_of {c : Dev nD} (dat : Dat τ (Elt F) Unit ℕ (UR sig nD τ) ℕ cfg0 c) (hA : dat.A 8 = V m c (Pipeline.arrRef spec0 8))
    (hafter : ∀ t, dat.after 8 t = iblk m c 8 t) (t : Fin cfg0.N) (d) : dat.before 8 t d = iblk m c 8 t :=
  (dat.before_in_eq_fetched 8 rfl (fun _ => rfl) (fun _ _ _ => rfl) (fun t => by rw [hafter]; unfold Dat.blockOf iblk; rw [hA]; try rfl) t d).trans
    (by unfold Dat.fetched Dat.blockOf iblk; rw [hA]; try rfl)
/-- Input window 9's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_9_of {c : Dev nD} (dat : Dat τ (Elt F) Unit ℕ (UR sig nD τ) ℕ cfg0 c) (hA : dat.A 9 = V m c (Pipeline.arrRef spec0 9))
    (hafter : ∀ t, dat.after 9 t = iblk m c 9 t) (t : Fin cfg0.N) (d) : dat.before 9 t d = iblk m c 9 t :=
  (dat.before_in_eq_fetched 9 rfl (fun _ => rfl) (fun _ _ _ => rfl) (fun t => by rw [hafter]; unfold Dat.blockOf iblk; rw [hA]; try rfl) t d).trans
    (by unfold Dat.fetched Dat.blockOf iblk; rw [hA]; try rfl)
/-- Input window 10's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_10_of {c : Dev nD} (dat : Dat τ (Elt F) Unit ℕ (UR sig nD τ) ℕ cfg0 c) (hA : dat.A 10 = V m c (Pipeline.arrRef spec0 10))
    (hafter : ∀ t, dat.after 10 t = iblk m c 10 t) (t : Fin cfg0.N) (d) : dat.before 10 t d = iblk m c 10 t :=
  (dat.before_in_eq_fetched 10 rfl (fun _ => rfl) (fun _ _ _ => rfl) (fun t => by rw [hafter]; unfold Dat.blockOf iblk; rw [hA]; try rfl) t d).trans
    (by unfold Dat.fetched Dat.blockOf iblk; rw [hA]; try rfl)
/-- Input window 11's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_11_of {c : Dev nD} (dat : Dat τ (Elt F) Unit ℕ (UR sig nD τ) ℕ cfg0 c) (hA : dat.A 11 = V m c (Pipeline.arrRef spec0 11))
    (hafter : ∀ t, dat.after 11 t = iblk m c 11 t) (t : Fin cfg0.N) (d) : dat.before 11 t d = iblk m c 11 t :=
  (dat.before_in_eq_fetched 11 rfl (fun _ => rfl) (fun _ _ _ => rfl) (fun t => by rw [hafter]; unfold Dat.blockOf iblk; rw [hA]; try rfl) t d).trans
    (by unfold Dat.fetched Dat.blockOf iblk; rw [hA]; try rfl)
/-- Input window 12's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_12_of {c : Dev nD} (dat : Dat τ (Elt F) Unit ℕ (UR sig nD τ) ℕ cfg0 c) (hA : dat.A 12 = V m c (Pipeline.arrRef spec0 12))
    (hafter : ∀ t, dat.after 12 t = iblk m c 12 t) (t : Fin cfg0.N) (d) : dat.before 12 t d = iblk m c 12 t :=
  (dat.before_in_eq_fetched 12 rfl (fun _ => rfl) (fun _ _ _ => rfl) (fun t => by rw [hafter]; unfold Dat.blockOf iblk; rw [hA]; try rfl) t d).trans
    (by unfold Dat.fetched Dat.blockOf iblk; rw [hA]; try rfl)
/-- Input window 13's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_13_of {c : Dev nD} (dat : Dat τ (Elt F) Unit ℕ (UR sig nD τ) ℕ cfg0 c) (hA : dat.A 13 = V m c (Pipeline.arrRef spec0 13))
    (hafter : ∀ t, dat.after 13 t = iblk m c 13 t) (t : Fin cfg0.N) (d) : dat.before 13 t d = iblk m c 13 t :=
  (dat.before_in_eq_fetched 13 rfl (fun _ => rfl) (fun _ _ _ => rfl) (fun t => by rw [hafter]; unfold Dat.blockOf iblk; rw [hA]; try rfl) t d).trans
    (by unfold Dat.fetched Dat.blockOf iblk; rw [hA]; try rfl)
/-- Input window 14's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_14_of {c : Dev nD} (dat : Dat τ (Elt F) Unit ℕ (UR sig nD τ) ℕ cfg0 c) (hA : dat.A 14 = V m c (Pipeline.arrRef spec0 14))
    (hafter : ∀ t, dat.after 14 t = iblk m c 14 t) (t : Fin cfg0.N) (d) : dat.before 14 t d = iblk m c 14 t :=
  (dat.before_in_eq_fetched 14 rfl (fun _ => rfl) (fun _ _ _ => rfl) (fun t => by rw [hafter]; unfold Dat.blockOf iblk; rw [hA]; try rfl) t d).trans
    (by unfold Dat.fetched Dat.blockOf iblk; rw [hA]; try rfl)
/-- Input window 15's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_15_of {c : Dev nD} (dat : Dat τ (Elt F) Unit ℕ (UR sig nD τ) ℕ cfg0 c) (hA : dat.A 15 = V m c (Pipeline.arrRef spec0 15))
    (hafter : ∀ t, dat.after 15 t = iblk m c 15 t) (t : Fin cfg0.N) (d) : dat.before 15 t d = iblk m c 15 t :=
  (dat.before_in_eq_fetched 15 rfl (fun _ => rfl) (fun _ _ _ => rfl) (fun t => by rw [hafter]; unfold Dat.blockOf iblk; rw [hA]; try rfl) t d).trans
    (by unfold Dat.fetched Dat.blockOf iblk; rw [hA]; try rfl)
/-- Input window 16's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_16_of {c : Dev nD} (dat : Dat τ (Elt F) Unit ℕ (UR sig nD τ) ℕ cfg0 c) (hA : dat.A 16 = V m c (Pipeline.arrRef spec0 16))
    (hafter : ∀ t, dat.after 16 t = iblk m c 16 t) (t : Fin cfg0.N) (d) : dat.before 16 t d = iblk m c 16 t :=
  (dat.before_in_eq_fetched 16 rfl (fun _ => rfl) (fun _ _ _ => rfl) (fun t => by rw [hafter]; unfold Dat.blockOf iblk; rw [hA]; try rfl) t d).trans
    (by unfold Dat.fetched Dat.blockOf iblk; rw [hA]; try rfl)
/-- Input window 17's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_17_of {c : Dev nD} (dat : Dat τ (Elt F) Unit ℕ (UR sig nD τ) ℕ cfg0 c) (hA : dat.A 17 = V m c (Pipeline.arrRef spec0 17))
    (hafter : ∀ t, dat.after 17 t = iblk m c 17 t) (t : Fin cfg0.N) (d) : dat.before 17 t d = iblk m c 17 t :=
  (dat.before_in_eq_fetched 17 rfl (fun _ => rfl) (fun _ _ _ => rfl) (fun t => by rw [hafter]; unfold Dat.blockOf iblk; rw [hA]; try rfl) t d).trans
    (by unfold Dat.fetched Dat.blockOf iblk; rw [hA]; try rfl)
/-- Input window 18's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_18_of {c : Dev nD} (dat : Dat τ (Elt F) Unit ℕ (UR sig nD τ) ℕ cfg0 c) (hA : dat.A 18 = V m c (Pipeline.arrRef spec0 18))
    (hafter : ∀ t, dat.after 18 t = iblk m c 18 t) (t : Fin cfg0.N) (d) : dat.before 18 t d = iblk m c 18 t :=
  (dat.before_in_eq_fetched 18 rfl (fun _ => rfl) (fun _ _ _ => rfl) (fun t => by rw [hafter]; unfold Dat.blockOf iblk; rw [hA]; try rfl) t d).trans
    (by unfold Dat.fetched Dat.blockOf iblk; rw [hA]; try rfl)
/-- Input window 19's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_19_of {c : Dev nD} (dat : Dat τ (Elt F) Unit ℕ (UR sig nD τ) ℕ cfg0 c) (hA : dat.A 19 = V m c (Pipeline.arrRef spec0 19))
    (hafter : ∀ t, dat.after 19 t = iblk m c 19 t) (t : Fin cfg0.N) (d) : dat.before 19 t d = iblk m c 19 t :=
  (dat.before_in_eq_fetched 19 rfl (fun _ => rfl) (fun _ _ _ => rfl) (fun t => by rw [hafter]; unfold Dat.blockOf iblk; rw [hA]; try rfl) t d).trans
    (by unfold Dat.fetched Dat.blockOf iblk; rw [hA]; try rfl)
/-- Input window 20's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_20_of {c : Dev nD} (dat : Dat τ (Elt F) Unit ℕ (UR sig nD τ) ℕ cfg0 c) (hA : dat.A 20 = V m c (Pipeline.arrRef spec0 20))
    (hafter : ∀ t, dat.after 20 t = iblk m c 20 t) (t : Fin cfg0.N) (d) : dat.before 20 t d = iblk m c 20 t :=
  (dat.before_in_eq_fetched 20 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

set_option maxHeartbeats 1920000 in
/-- THE FRAME from a frame run: for any proof data whose arrays are the region-entry contents (`hA`), a run to
    Lib/Pipeline/Frame.lean's `FramePost` read at the argument arrays — a staged input by the library's
    `Dat.arrAt_in`, an array no window stages by the post's second clause, each then by `V_…` — is the frame
    claim's post (`Cert.frame_Kernel3Ideal`, Defs.lean, at any `F`). -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun _ h c => ⟨((h c).1 0).trans (((dats 0 c).arrAt_in 0 rfl _).trans ((hA c 0).trans (V_main_arg0 m c))),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c),
      ((h c).2 main_arg7 (Pipeline.mem_restRefs_of main_arg7 (by decide) (by decide))).trans (V_main_arg7 m c),
      ((h c).2 main_arg8 (Pipeline.mem_restRefs_of main_arg8 (by decide) (by decide))).trans (V_main_arg8 m c),
      ((h c).2 main_arg9 (Pipeline.mem_restRefs_of main_arg9 (by decide) (by decide))).trans (V_main_arg9 m c)⟩) h

/-! ## The body's accesses -/

abbrev r0_0 : Rect S256x1024 := Rect.unit (s := S256x1024) ![0, 0] S256x1024.size inb_S256x1024_S256x1024_0_0
abbrev r0_1 : Rect S1x1024 := Rect.unit (s := S1x1024) ![0, 0] S1x1024.size inb_S1x1024_S1x1024_0_0
abbrev r0_2 : Rect S1024x256 := Rect.unit (s := S1024x256) ![0, 0] S1024x256.size inb_S1024x256_S1024x256_0_0
abbrev r0_3 : Rect S256x256 := Rect.unit (s := S256x256) ![0, 0] S256x256.size inb_S256x256_S256x256_0_0
abbrev r0_4 : Rect S1x256 := Rect.unit (s := S1x256) ![0, 0] S1x256.size inb_S1x256_S1x256_0_0
abbrev r0_5 : Rect S4x128x128 := Rect.unit (s := S4x128x128) ![0, 0, 0] S1x128x128.size inb_S4x128x128_S1x128x128_0_0_0
abbrev r0_6 : Rect S4x128x128 := Rect.unit (s := S4x128x128) ![1, 0, 0] S1x128x128.size inb_S4x128x128_S1x128x128_1_0_0
abbrev r0_7 : Rect S4x128x128 := Rect.unit (s := S4x128x128) ![2, 0, 0] S1x128x128.size inb_S4x128x128_S1x128x128_2_0_0
abbrev r0_8 : Rect S4x128x128 := Rect.unit (s := S4x128x128) ![3, 0, 0] S1x128x128.size inb_S4x128x128_S1x128x128_3_0_0
abbrev r0_9 : Rect S128x256 := Rect.unit (s := S128x256) ![0, 0] S128x256.size inb_S128x256_S128x256_0_0
abbrev r0_10 : Rect S256x256 := Rect.unit (s := S256x256) ![0, 0] S128x256.size inb_S256x256_S128x256_0_0
abbrev r0_11 : Rect S256x256 := Rect.unit (s := S256x256) ![128, 0] S128x256.size inb_S256x256_S128x256_128_0
abbrev r0_12 : Rect S1024x512 := Rect.unit (s := S1024x512) ![0, 0] S1024x512.size inb_S1024x512_S1024x512_0_0
abbrev r0_13 : Rect S512x512 := Rect.unit (s := S512x512) ![0, 0] S512x512.size inb_S512x512_S512x512_0_0
abbrev r0_14 : Rect S1x512 := Rect.unit (s := S1x512) ![0, 0] S1x512.size inb_S1x512_S1x512_0_0
abbrev r0_15 : Rect S256x512 := Rect.unit (s := S256x512) ![0, 0] S256x512.size inb_S256x512_S256x512_0_0
abbrev r0_16 : Rect S1x512x256 := Rect.unit (s := S1x512x256) ![0, 0, 0] S1x512x256.size inb_S1x512x256_S1x512x256_0_0_0
abbrev r0_17 : Rect S1024x128 := Rect.unit (s := S1024x128) ![0, 0] S1024x128.size inb_S1024x128_S1024x128_0_0

/-! ## What the body leaves in each output window's buffer -/

/-! ### Values of the body that the stores' payloads, spelt out, would write more than once

    Each is a vector the body binds (often a part call's result), stated over the input windows' blocks and
    numbered on from the skeleton's payload functions (`k0_pay30` …, after `k0_pay29`), so that
    `out0_W` and the values after it name it instead of spelling it out (`unfold_out out0_W` opens a canon
    with them, `unfold_payloads` opens them with the payloads); the comment after each is the printed function's
    name for the value (a count appended where that name is bound again). -/

def k0_pay30 (x0 : Vec F S256x1024 .f32) (x1 : Vec F S1x1024 .f32) (x2 : Vec F S1024x256 .bf16) (x3 : Vec F S1024x256 .bf16) (x4 : Vec F S1024x512 .bf16) (x5 : Vec F S1024x512 .bf16) (x6 : Vec F S1024x512 .bf16) (x7 : Vec F S1024x256 .bf16) (x8 : Vec F S1024x256 .bf16) (x9 : Vec F S1024x256 .bf16) (x10 : Vec F S1024x256 .bf16) (x11 : Vec F S1024x128 .bf16) (x12 : Vec F S128x256 .bf16) (x13 : Vec F S1x256 .f32) (x14 : Vec F S1x256 .f32) (x15 : Vec F S1x512 .f32) (x16 : Vec F S1x512 .f32) (x17 : Vec F S4x128x128 .bf16) (x18 : Vec F S128x256 .f32) (x19 : Vec F S256x256 .bf16) (x20 : Vec F S512x512 .bf16) : FVec F S256x1024 .bf16 :=
  k0_pay2 (View.ld x0 r0_0) (View.ld x1 r0_1) -- `v15`
def k0_pay31 (x0 : Vec F S256x1024 .f32) (x1 : Vec F S1x1024 .f32) (x2 : Vec F S1024x256 .bf16) (x3 : Vec F S1024x256 .bf16) (x4 : Vec F S1024x512 .bf16) (x5 : Vec F S1024x512 .bf16) (x6 : Vec F S1024x512 .bf16) (x7 : Vec F S1024x256 .bf16) (x8 : Vec F S1024x256 .bf16) (x9 : Vec F S1024x256 .bf16) (x10 : Vec F S1024x256 .bf16) (x11 : Vec F S1024x128 .bf16) (x12 : Vec F S128x256 .bf16) (x13 : Vec F S1x256 .f32) (x14 : Vec F S1x256 .f32) (x15 : Vec F S1x512 .f32) (x16 : Vec F S1x512 .f32) (x17 : Vec F S4x128x128 .bf16) (x18 : Vec F S128x256 .f32) (x19 : Vec F S256x256 .bf16) (x20 : Vec F S512x512 .bf16) : FVec F S256x256 .f32 :=
  k0_pay3 (View.ld x0 r0_0) (View.ld x1 r0_1) (View.ld x2 r0_2) -- `v31`
def k0_pay32 (x0 : Vec F S256x1024 .f32) (x1 : Vec F S1x1024 .f32) (x2 : Vec F S1024x256 .bf16) (x3 : Vec F S1024x256 .bf16) (x4 : Vec F S1024x512 .bf16) (x5 : Vec F S1024x512 .bf16) (x6 : Vec F S1024x512 .bf16) (x7 : Vec F S1024x256 .bf16) (x8 : Vec F S1024x256 .bf16) (x9 : Vec F S1024x256 .bf16) (x10 : Vec F S1024x256 .bf16) (x11 : Vec F S1024x128 .bf16) (x12 : Vec F S128x256 .bf16) (x13 : Vec F S1x256 .f32) (x14 : Vec F S1x256 .f32) (x15 : Vec F S1x512 .f32) (x16 : Vec F S1x512 .f32) (x17 : Vec F S4x128x128 .bf16) (x18 : Vec F S128x256 .f32) (x19 : Vec F S256x256 .bf16) (x20 : Vec F S512x512 .bf16) : IVec S128x256 32 :=
  iota .tc S128x256 32 [1] iota_S128x256_d1_w32 -- `v68`
def k0_pay33 (x0 : Vec F S256x1024 .f32) (x1 : Vec F S1x1024 .f32) (x2 : Vec F S1024x256 .bf16) (x3 : Vec F S1024x256 .bf16) (x4 : Vec F S1024x512 .bf16) (x5 : Vec F S1024x512 .bf16) (x6 : Vec F S1024x512 .bf16) (x7 : Vec F S1024x256 .bf16) (x8 : Vec F S1024x256 .bf16) (x9 : Vec F S1024x256 .bf16) (x10 : Vec F S1024x256 .bf16) (x11 : Vec F S1024x128 .bf16) (x12 : Vec F S128x256 .bf16) (x13 : Vec F S1x256 .f32) (x14 : Vec F S1x256 .f32) (x15 : Vec F S1x512 .f32) (x16 : Vec F S1x512 .f32) (x17 : Vec F S4x128x128 .bf16) (x18 : Vec F S128x256 .f32) (x19 : Vec F S256x256 .bf16) (x20 : Vec F S512x512 .bf16) : FVec F S256x256 .f32 :=
  k0_pay6 (k0_pay4 (View.ld x0 r0_0) (View.ld x1 r0_1) (View.ld x3 r0_2)) (k0_pay5 (View.ld x0 r0_0) (View.ld x1 r0_1) (View.ld x3 r0_2)) (Scalar.ofBits .f32 0x3F4C422A#32) (View.ld x19 r0_3) (View.ld x14 r0_4) -- `v67`
def k0_pay34 (x0 : Vec F S256x1024 .f32) (x1 : Vec F S1x1024 .f32) (x2 : Vec F S1024x256 .bf16) (x3 : Vec F S1024x256 .bf16) (x4 : Vec F S1024x512 .bf16) (x5 : Vec F S1024x512 .bf16) (x6 : Vec F S1024x512 .bf16) (x7 : Vec F S1024x256 .bf16) (x8 : Vec F S1024x256 .bf16) (x9 : Vec F S1024x256 .bf16) (x10 : Vec F S1024x256 .bf16) (x11 : Vec F S1024x128 .bf16) (x12 : Vec F S128x256 .bf16) (x13 : Vec F S1x256 .f32) (x14 : Vec F S1x256 .f32) (x15 : Vec F S1x512 .f32) (x16 : Vec F S1x512 .f32) (x17 : Vec F S4x128x128 .bf16) (x18 : Vec F S128x256 .f32) (x19 : Vec F S256x256 .bf16) (x20 : Vec F S512x512 .bf16) : IVec S128x256 32 :=
  k0_pay7 -- `v70`
def k0_pay35 (x0 : Vec F S256x1024 .f32) (x1 : Vec F S1x1024 .f32) (x2 : Vec F S1024x256 .bf16) (x3 : Vec F S1024x256 .bf16) (x4 : Vec F S1024x512 .bf16) (x5 : Vec F S1024x512 .bf16) (x6 : Vec F S1024x512 .bf16) (x7 : Vec F S1024x256 .bf16) (x8 : Vec F S1024x256 .bf16) (x9 : Vec F S1024x256 .bf16) (x10 : Vec F S1024x256 .bf16) (x11 : Vec F S1024x128 .bf16) (x12 : Vec F S128x256 .bf16) (x13 : Vec F S1x256 .f32) (x14 : Vec F S1x256 .f32) (x15 : Vec F S1x512 .f32) (x16 : Vec F S1x512 .f32) (x17 : Vec F S4x128x128 .bf16) (x18 : Vec F S128x256 .f32) (x19 : Vec F S256x256 .bf16) (x20 : Vec F S512x512 .bf16) : IVec S128x256 1 :=
  k0_pay8 -- `v84`
def k0_pay36 (x0 : Vec F S256x1024 .f32) (x1 : Vec F S1x1024 .f32) (x2 : Vec F S1024x256 .bf16) (x3 : Vec F S1024x256 .bf16) (x4 : Vec F S1024x512 .bf16) (x5 : Vec F S1024x512 .bf16) (x6 : Vec F S1024x512 .bf16) (x7 : Vec F S1024x256 .bf16) (x8 : Vec F S1024x256 .bf16) (x9 : Vec F S1024x256 .bf16) (x10 : Vec F S1024x256 .bf16) (x11 : Vec F S1024x128 .bf16) (x12 : Vec F S128x256 .bf16) (x13 : Vec F S1x256 .f32) (x14 : Vec F S1x256 .f32) (x15 : Vec F S1x512 .f32) (x16 : Vec F S1x512 .f32) (x17 : Vec F S4x128x128 .bf16) (x18 : Vec F S128x256 .f32) (x19 : Vec F S256x256 .bf16) (x20 : Vec F S512x512 .bf16) : FVec F S256x512 .f32 :=
  k0_pay17 (k0_pay30 x0 x1 x2 x3 x4 x5 x6 x7 x8 x9 x10 x11 x12 x13 x14 x15 x16 x17 x18 x19 x20) (View.ld x5 r0_12) -- `v190`
def k0_pay37 (x0 : Vec F S256x1024 .f32) (x1 : Vec F S1x1024 .f32) (x2 : Vec F S1024x256 .bf16) (x3 : Vec F S1024x256 .bf16) (x4 : Vec F S1024x512 .bf16) (x5 : Vec F S1024x512 .bf16) (x6 : Vec F S1024x512 .bf16) (x7 : Vec F S1024x256 .bf16) (x8 : Vec F S1024x256 .bf16) (x9 : Vec F S1024x256 .bf16) (x10 : Vec F S1024x256 .bf16) (x11 : Vec F S1024x128 .bf16) (x12 : Vec F S128x256 .bf16) (x13 : Vec F S1x256 .f32) (x14 : Vec F S1x256 .f32) (x15 : Vec F S1x512 .f32) (x16 : Vec F S1x512 .f32) (x17 : Vec F S4x128x128 .bf16) (x18 : Vec F S128x256 .f32) (x19 : Vec F S256x256 .bf16) (x20 : Vec F S512x512 .bf16) : FVec F S256x512 .f32 :=
  k0_pay18 (k0_pay30 x0 x1 x2 x3 x4 x5 x6 x7 x8 x9 x10 x11 x12 x13 x14 x15 x16 x17 x18 x19 x20) (View.ld x5 r0_12) -- `v191`

/-- Window 21's staging buffer after the body, from the input windows' blocks: its 2 stores as pieces, LAST
    FIRST (Lib/Pipeline/FrameBody.lean `View.canon`; the payloads are the skeleton's and the values stated above). -/
def out0_21 (x0 : Vec F S256x1024 .f32) (x1 : Vec F S1x1024 .f32) (x2 : Vec F S1024x256 .bf16) (x3 : Vec F S1024x256 .bf16) (x4 : Vec F S1024x512 .bf16) (x5 : Vec F S1024x512 .bf16) (x6 : Vec F S1024x512 .bf16) (x7 : Vec F S1024x256 .bf16) (x8 : Vec F S1024x256 .bf16) (x9 : Vec F S1024x256 .bf16) (x10 : Vec F S1024x256 .bf16) (x11 : Vec F S1024x128 .bf16) (x12 : Vec F S128x256 .bf16) (x13 : Vec F S1x256 .f32) (x14 : Vec F S1x256 .f32) (x15 : Vec F S1x512 .f32) (x16 : Vec F S1x512 .f32) (x17 : Vec F S4x128x128 .bf16) (x18 : Vec F S128x256 .f32) (x19 : Vec F S256x256 .bf16) (x20 : Vec F S512x512 .bf16) : Vec F S256x256 .bf16 :=
  View.canon [⟨r0_11, k0_pay15 (k0_pay13 (k0_pay33 x0 x1 x2 x3 x4 x5 x6 x7 x8 x9 x10 x11 x12 x13 x14 x15 x16 x17 x18 x19 x20) (k0_pay9 (k0_pay32 x0 x1 x2 x3 x4 x5 x6 x7 x8 x9 x10 x11 x12 x13 x14 x15 x16 x17 x18 x19 x20) 64#32 (k0_pay34 x0 x1 x2 x3 x4 x5 x6 x7 x8 x9 x10 x11 x12 x13 x14 x15 x16 x17 x18 x19 x20) (k0_pay35 x0 x1 x2 x3 x4 x5 x6 x7 x8 x9 x10 x11 x12 x13 x14 x15 x16 x17 x18 x19 x20)) (View.ld x17 r0_5) (View.ld x17 r0_6) (View.ld x17 r0_7) (View.ld x17 r0_8)) (k0_pay14 (k0_pay31 x0 x1 x2 x3 x4 x5 x6 x7 x8 x9 x10 x11 x12 x13 x14 x15 x16 x17 x18 x19 x20)) (View.ld x18 r0_9)⟩,
    ⟨r0_10, k0_pay12 (k0_pay10 (k0_pay33 x0 x1 x2 x3 x4 x5 x6 x7 x8 x9 x10 x11 x12 x13 x14 x15 x16 x17 x18 x19 x20) (k0_pay32 x0 x1 x2 x3 x4 x5 x6 x7 x8 x9 x10 x11 x12 x13 x14 x15 x16 x17 x18 x19 x20) 64#32 (k0_pay34 x0 x1 x2 x3 x4 x5 x6 x7 x8 x9 x10 x11 x12 x13 x14 x15 x16 x17 x18 x19 x20) (k0_pay35 x0 x1 x2 x3 x4 x5 x6 x7 x8 x9 x10 x11 x12 x13 x14 x15 x16 x17 x18 x19 x20) (View.ld x17 r0_5) (View.ld x17 r0_6) (View.ld x17 r0_7) (View.ld x17 r0_8)) (k0_pay11 (k0_pay31 x0 x1 x2 x3 x4 x5 x6 x7 x8 x9 x10 x11 x12 x13 x14 x15 x16 x17 x18 x19 x20)) (View.ld x18 r0_9)⟩]

/-- Its stores tile the buffer (checked by evaluation), so they cover it. -/
theorem cover0_21 (p0 : Vec F S128x256 .bf16) (p1 : Vec F S128x256 .bf16) (y : S256x256.Idx) :
    ∃ pc ∈ ([⟨r0_11, p0⟩, ⟨r0_10, p1⟩] : List (View.Piece (Elt F) S256x256 .bf16)), y ∈ pc.1.set :=
  View.cover_of_tiled [⟨r0_11, p0⟩, ⟨r0_10, p1⟩] S128x256.size (by rfl) y

/-- Window 22's staging buffer after the body, from the input windows' blocks: its 1 store as pieces, LAST
    FIRST (Lib/Pipeline/FrameBody.lean `View.canon`; the payloads are the skeleton's and the values stated above). -/
def out0_22 (x0 : Vec F S256x1024 .f32) (x1 : Vec F S1x1024 .f32) (x2 : Vec F S1024x256 .bf16) (x3 : Vec F S1024x256 .bf16) (x4 : Vec F S1024x512 .bf16) (x5 : Vec F S1024x512 .bf16) (x6 : Vec F S1024x512 .bf16) (x7 : Vec F S1024x256 .bf16) (x8 : Vec F S1024x256 .bf16) (x9 : Vec F S1024x256 .bf16) (x10 : Vec F S1024x256 .bf16) (x11 : Vec F S1024x128 .bf16) (x12 : Vec F S128x256 .bf16) (x13 : Vec F S1x256 .f32) (x14 : Vec F S1x256 .f32) (x15 : Vec F S1x512 .f32) (x16 : Vec F S1x512 .f32) (x17 : Vec F S4x128x128 .bf16) (x18 : Vec F S128x256 .f32) (x19 : Vec F S256x256 .bf16) (x20 : Vec F S512x512 .bf16) : Vec F S256x512 .bf16 :=
  View.canon [⟨r0_15, k0_pay16 (k0_pay30 x0 x1 x2 x3 x4 x5 x6 x7 x8 x9 x10 x11 x12 x13 x14 x15 x16 x17 x18 x19 x20) (View.ld x4 r0_12) (View.ld x20 r0_13) (View.ld x15 r0_14)⟩]

/-- Its stores tile the buffer (checked by evaluation), so they cover it. -/
theorem cover0_22 (p0 : Vec F S256x512 .bf16) (y : S256x512.Idx) :
    ∃ pc ∈ ([⟨r0_15, p0⟩] : List (View.Piece (Elt F) S256x512 .bf16)), y ∈ pc.1.set :=
  View.cover_of_tiled [⟨r0_15, p0⟩] S256x512.size (by rfl) y

/-- Window 23's staging buffer after the body, from the input windows' blocks: its 1 store as pieces, LAST
    FIRST (Lib/Pipeline/FrameBody.lean `View.canon`; the payloads are the skeleton's and the values stated above). -/
def out0_23 (x0 : Vec F S256x1024 .f32) (x1 : Vec F S1x1024 .f32) (x2 : Vec F S1024x256 .bf16) (x3 : Vec F S1024x256 .bf16) (x4 : Vec F S1024x512 .bf16) (x5 : Vec F S1024x512 .bf16) (x6 : Vec F S1024x512 .bf16) (x7 : Vec F S1024x256 .bf16) (x8 : Vec F S1024x256 .bf16) (x9 : Vec F S1024x256 .bf16) (x10 : Vec F S1024x256 .bf16) (x11 : Vec F S1024x128 .bf16) (x12 : Vec F S128x256 .bf16) (x13 : Vec F S1x256 .f32) (x14 : Vec F S1x256 .f32) (x15 : Vec F S1x512 .f32) (x16 : Vec F S1x512 .f32) (x17 : Vec F S4x128x128 .bf16) (x18 : Vec F S128x256 .f32) (x19 : Vec F S256x256 .bf16) (x20 : Vec F S512x512 .bf16) : Vec F S1x512x256 .f32 :=
  View.canon [⟨r0_16, k0_pay22 (k0_pay36 x0 x1 x2 x3 x4 x5 x6 x7 x8 x9 x10 x11 x12 x13 x14 x15 x16 x17 x18 x19 x20) (k0_pay37 x0 x1 x2 x3 x4 x5 x6 x7 x8 x9 x10 x11 x12 x13 x14 x15 x16 x17 x18 x19 x20) (View.ld x20 r0_13) (View.ld x16 r0_14)⟩]

/-- Its stores tile the buffer (checked by evaluation), so they cover it. -/
theorem cover0_23 (p0 : Vec F S1x512x256 .f32) (y : S1x512x256.Idx) :
    ∃ pc ∈ ([⟨r0_16, p0⟩] : List (View.Piece (Elt F) S1x512x256 .f32)), y ∈ pc.1.set :=
  View.cover_of_tiled [⟨r0_16, p0⟩] S1x512x256.size (by rfl) y

/-- Window 24's staging buffer after the body, from the input windows' blocks: its 1 store as pieces, LAST
    FIRST (Lib/Pipeline/FrameBody.lean `View.canon`; the payloads are the skeleton's and the values stated above). -/
def out0_24 (x0 : Vec F S256x1024 .f32) (x1 : Vec F S1x1024 .f32) (x2 : Vec F S1024x256 .bf16) (x3 : Vec F S1024x256 .bf16) (x4 : Vec F S1024x512 .bf16) (x5 : Vec F S1024x512 .bf16) (x6 : Vec F S1024x512 .bf16) (x7 : Vec F S1024x256 .bf16) (x8 : Vec F S1024x256 .bf16) (x9 : Vec F S1024x256 .bf16) (x10 : Vec F S1024x256 .bf16) (x11 : Vec F S1024x128 .bf16) (x12 : Vec F S128x256 .bf16) (x13 : Vec F S1x256 .f32) (x14 : Vec F S1x256 .f32) (x15 : Vec F S1x512 .f32) (x16 : Vec F S1x512 .f32) (x17 : Vec F S4x128x128 .bf16) (x18 : Vec F S128x256 .f32) (x19 : Vec F S256x256 .bf16) (x20 : Vec F S512x512 .bf16) : Vec F S1x512x256 .f32 :=
  View.canon [⟨r0_16, k0_pay23 (k0_pay30 x0 x1 x2 x3 x4 x5 x6 x7 x8 x9 x10 x11 x12 x13 x14 x15 x16 x17 x18 x19 x20) (View.ld x6 r0_12)⟩]

/-- Its stores tile the buffer (checked by evaluation), so they cover it. -/
theorem cover0_24 (p0 : Vec F S1x512x256 .f32) (y : S1x512x256.Idx) :
    ∃ pc ∈ ([⟨r0_16, p0⟩] : List (View.Piece (Elt F) S1x512x256 .f32)), y ∈ pc.1.set :=
  View.cover_of_tiled [⟨r0_16, p0⟩] S1x512x256.size (by rfl) y

/-- Window 25's staging buffer after the body, from the input windows' blocks: its 1 store as pieces, LAST
    FIRST (Lib/Pipeline/FrameBody.lean `View.canon`; the payloads are the skeleton's and the values stated above). -/
def out0_25 (x0 : Vec F S256x1024 .f32) (x1 : Vec F S1x1024 .f32) (x2 : Vec F S1024x256 .bf16) (x3 : Vec F S1024x256 .bf16) (x4 : Vec F S1024x512 .bf16) (x5 : Vec F S1024x512 .bf16) (x6 : Vec F S1024x512 .bf16) (x7 : Vec F S1024x256 .bf16) (x8 : Vec F S1024x256 .bf16) (x9 : Vec F S1024x256 .bf16) (x10 : Vec F S1024x256 .bf16) (x11 : Vec F S1024x128 .bf16) (x12 : Vec F S128x256 .bf16) (x13 : Vec F S1x256 .f32) (x14 : Vec F S1x256 .f32) (x15 : Vec F S1x512 .f32) (x16 : Vec F S1x512 .f32) (x17 : Vec F S4x128x128 .bf16) (x18 : Vec F S128x256 .f32) (x19 : Vec F S256x256 .bf16) (x20 : Vec F S512x512 .bf16) : Vec F S1x512x256 .bf16 :=
  View.canon [⟨r0_16, k0_pay24 (k0_pay36 x0 x1 x2 x3 x4 x5 x6 x7 x8 x9 x10 x11 x12 x13 x14 x15 x16 x17 x18 x19 x20) (k0_pay37 x0 x1 x2 x3 x4 x5 x6 x7 x8 x9 x10 x11 x12 x13 x14 x15 x16 x17 x18 x19 x20) (View.ld x20 r0_13) (View.ld x16 r0_14)⟩]

/-- Its stores tile the buffer (checked by evaluation), so they cover it. -/
theorem cover0_25 (p0 : Vec F S1x512x256 .bf16) (y : S1x512x256.Idx) :
    ∃ pc ∈ ([⟨r0_16, p0⟩] : List (View.Piece (Elt F) S1x512x256 .bf16)), y ∈ pc.1.set :=
  View.cover_of_tiled [⟨r0_16, p0⟩] S1x512x256.size (by rfl) y

/-- Window 26's staging buffer after the body, from the input windows' blocks: its 1 store as pieces, LAST
    FIRST (Lib/Pipeline/FrameBody.lean `View.canon`; the payloads are the skeleton's and the values stated above). -/
def out0_26 (x0 : Vec F S256x1024 .f32) (x1 : Vec F S1x1024 .f32) (x2 : Vec F S1024x256 .bf16) (x3 : Vec F S1024x256 .bf16) (x4 : Vec F S1024x512 .bf16) (x5 : Vec F S1024x512 .bf16) (x6 : Vec F S1024x512 .bf16) (x7 : Vec F S1024x256 .bf16) (x8 : Vec F S1024x256 .bf16) (x9 : Vec F S1024x256 .bf16) (x10 : Vec F S1024x256 .bf16) (x11 : Vec F S1024x128 .bf16) (x12 : Vec F S128x256 .bf16) (x13 : Vec F S1x256 .f32) (x14 : Vec F S1x256 .f32) (x15 : Vec F S1x512 .f32) (x16 : Vec F S1x512 .f32) (x17 : Vec F S4x128x128 .bf16) (x18 : Vec F S128x256 .f32) (x19 : Vec F S256x256 .bf16) (x20 : Vec F S512x512 .bf16) : Vec F S256x512 .bf16 :=
  View.canon [⟨r0_15, k0_pay20 (k0_pay30 x0 x1 x2 x3 x4 x5 x6 x7 x8 x9 x10 x11 x12 x13 x14 x15 x16 x17 x18 x19 x20) (View.ld x6 r0_12)⟩]

/-- Its stores tile the buffer (checked by evaluation), so they cover it. -/
theorem cover0_26 (p0 : Vec F S256x512 .bf16) (y : S256x512.Idx) :
    ∃ pc ∈ ([⟨r0_15, p0⟩] : List (View.Piece (Elt F) S256x512 .bf16)), y ∈ pc.1.set :=
  View.cover_of_tiled [⟨r0_15, p0⟩] S256x512.size (by rfl) y

/-- Window 27's staging buffer after the body, from the input windows' blocks: its 1 store as pieces, LAST
    FIRST (Lib/Pipeline/FrameBody.lean `View.canon`; the payloads are the skeleton's and the values stated above). -/
def out0_27 (x0 : Vec F S256x1024 .f32) (x1 : Vec F S1x1024 .f32) (x2 : Vec F S1024x256 .bf16) (x3 : Vec F S1024x256 .bf16) (x4 : Vec F S1024x512 .bf16) (x5 : Vec F S1024x512 .bf16) (x6 : Vec F S1024x512 .bf16) (x7 : Vec F S1024x256 .bf16) (x8 : Vec F S1024x256 .bf16) (x9 : Vec F S1024x256 .bf16) (x10 : Vec F S1024x256 .bf16) (x11 : Vec F S1024x128 .bf16) (x12 : Vec F S128x256 .bf16) (x13 : Vec F S1x256 .f32) (x14 : Vec F S1x256 .f32) (x15 : Vec F S1x512 .f32) (x16 : Vec F S1x512 .f32) (x17 : Vec F S4x128x128 .bf16) (x18 : Vec F S128x256 .f32) (x19 : Vec F S256x256 .bf16) (x20 : Vec F S512x512 .bf16) : Vec F S256x256 .f32 :=
  View.canon [⟨r0_3, k0_pay25 (k0_pay30 x0 x1 x2 x3 x4 x5 x6 x7 x8 x9 x10 x11 x12 x13 x14 x15 x16 x17 x18 x19 x20) (View.ld x7 r0_2)⟩]

/-- Its stores tile the buffer (checked by evaluation), so they cover it. -/
theorem cover0_27 (p0 : Vec F S256x256 .f32) (y : S256x256.Idx) :
    ∃ pc ∈ ([⟨r0_3, p0⟩] : List (View.Piece (Elt F) S256x256 .f32)), y ∈ pc.1.set :=
  View.cover_of_tiled [⟨r0_3, p0⟩] S256x256.size (by rfl) y

/-- Window 28's staging buffer after the body, from the input windows' blocks: its 1 store as pieces, LAST
    FIRST (Lib/Pipeline/FrameBody.lean `View.canon`; the payloads are the skeleton's and the values stated above). -/
def out0_28 (x0 : Vec F S256x1024 .f32) (x1 : Vec F S1x1024 .f32) (x2 : Vec F S1024x256 .bf16) (x3 : Vec F S1024x256 .bf16) (x4 : Vec F S1024x512 .bf16) (x5 : Vec F S1024x512 .bf16) (x6 : Vec F S1024x512 .bf16) (x7 : Vec F S1024x256 .bf16) (x8 : Vec F S1024x256 .bf16) (x9 : Vec F S1024x256 .bf16) (x10 : Vec F S1024x256 .bf16) (x11 : Vec F S1024x128 .bf16) (x12 : Vec F S128x256 .bf16) (x13 : Vec F S1x256 .f32) (x14 : Vec F S1x256 .f32) (x15 : Vec F S1x512 .f32) (x16 : Vec F S1x512 .f32) (x17 : Vec F S4x128x128 .bf16) (x18 : Vec F S128x256 .f32) (x19 : Vec F S256x256 .bf16) (x20 : Vec F S512x512 .bf16) : Vec F S256x256 .f32 :=
  View.canon [⟨r0_3, k0_pay26 (k0_pay30 x0 x1 x2 x3 x4 x5 x6 x7 x8 x9 x10 x11 x12 x13 x14 x15 x16 x17 x18 x19 x20) (View.ld x8 r0_2)⟩]

/-- Its stores tile the buffer (checked by evaluation), so they cover it. -/
theorem cover0_28 (p0 : Vec F S256x256 .f32) (y : S256x256.Idx) :
    ∃ pc ∈ ([⟨r0_3, p0⟩] : List (View.Piece (Elt F) S256x256 .f32)), y ∈ pc.1.set :=
  View.cover_of_tiled [⟨r0_3, p0⟩] S256x256.size (by rfl) y

/-- Window 29's staging buffer after the body, from the input windows' blocks: its 1 store as pieces, LAST
    FIRST (Lib/Pipeline/FrameBody.lean `View.canon`; the payloads are the skeleton's and the values stated above). -/
def out0_29 (x0 : Vec F S256x1024 .f32) (x1 : Vec F S1x1024 .f32) (x2 : Vec F S1024x256 .bf16) (x3 : Vec F S1024x256 .bf16) (x4 : Vec F S1024x512 .bf16) (x5 : Vec F S1024x512 .bf16) (x6 : Vec F S1024x512 .bf16) (x7 : Vec F S1024x256 .bf16) (x8 : Vec F S1024x256 .bf16) (x9 : Vec F S1024x256 .bf16) (x10 : Vec F S1024x256 .bf16) (x11 : Vec F S1024x128 .bf16) (x12 : Vec F S128x256 .bf16) (x13 : Vec F S1x256 .f32) (x14 : Vec F S1x256 .f32) (x15 : Vec F S1x512 .f32) (x16 : Vec F S1x512 .f32) (x17 : Vec F S4x128x128 .bf16) (x18 : Vec F S128x256 .f32) (x19 : Vec F S256x256 .bf16) (x20 : Vec F S512x512 .bf16) : Vec F S256x256 .f32 :=
  View.canon [⟨r0_3, k0_pay27 (k0_pay30 x0 x1 x2 x3 x4 x5 x6 x7 x8 x9 x10 x11 x12 x13 x14 x15 x16 x17 x18 x19 x20) (View.ld x9 r0_2)⟩]

/-- Its stores tile the buffer (checked by evaluation), so they cover it. -/
theorem cover0_29 (p0 : Vec F S256x256 .f32) (y : S256x256.Idx) :
    ∃ pc ∈ ([⟨r0_3, p0⟩] : List (View.Piece (Elt F) S256x256 .f32)), y ∈ pc.1.set :=
  View.cover_of_tiled [⟨r0_3, p0⟩] S256x256.size (by rfl) y

/-- Window 30's staging buffer after the body, from the input windows' blocks: its 1 store as pieces, LAST
    FIRST (Lib/Pipeline/FrameBody.lean `View.canon`; the payloads are the skeleton's and the values stated above). -/
def out0_30 (x0 : Vec F S256x1024 .f32) (x1 : Vec F S1x1024 .f32) (x2 : Vec F S1024x256 .bf16) (x3 : Vec F S1024x256 .bf16) (x4 : Vec F S1024x512 .bf16) (x5 : Vec F S1024x512 .bf16) (x6 : Vec F S1024x512 .bf16) (x7 : Vec F S1024x256 .bf16) (x8 : Vec F S1024x256 .bf16) (x9 : Vec F S1024x256 .bf16) (x10 : Vec F S1024x256 .bf16) (x11 : Vec F S1024x128 .bf16) (x12 : Vec F S128x256 .bf16) (x13 : Vec F S1x256 .f32) (x14 : Vec F S1x256 .f32) (x15 : Vec F S1x512 .f32) (x16 : Vec F S1x512 .f32) (x17 : Vec F S4x128x128 .bf16) (x18 : Vec F S128x256 .f32) (x19 : Vec F S256x256 .bf16) (x20 : Vec F S512x512 .bf16) : Vec F S256x256 .f32 :=
  View.canon [⟨r0_3, k0_pay1 (k0_pay30 x0 x1 x2 x3 x4 x5 x6 x7 x8 x9 x10 x11 x12 x13 x14 x15 x16 x17 x18 x19 x20) (k0_pay29 (View.ld x11 r0_17)) (constant S256x128 .f32 0x00000000#32) (View.ld x12 r0_9) (View.ld x13 r0_4)⟩]

/-- Its stores tile the buffer (checked by evaluation), so they cover it. -/
theorem cover0_30 (p0 : Vec F S256x256 .f32) (y : S256x256.Idx) :
    ∃ pc ∈ ([⟨r0_3, p0⟩] : List (View.Piece (Elt F) S256x256 .f32)), y ∈ pc.1.set :=
  View.cover_of_tiled [⟨r0_3, p0⟩] S256x256.size (by rfl) y

/-- Window 31's staging buffer after the body, from the input windows' blocks: its 1 store as pieces, LAST
    FIRST (Lib/Pipeline/FrameBody.lean `View.canon`; the payloads are the skeleton's and the values stated above). -/
def out0_31 (x0 : Vec F S256x1024 .f32) (x1 : Vec F S1x1024 .f32) (x2 : Vec F S1024x256 .bf16) (x3 : Vec F S1024x256 .bf16) (x4 : Vec F S1024x512 .bf16) (x5 : Vec F S1024x512 .bf16) (x6 : Vec F S1024x512 .bf16) (x7 : Vec F S1024x256 .bf16) (x8 : Vec F S1024x256 .bf16) (x9 : Vec F S1024x256 .bf16) (x10 : Vec F S1024x256 .bf16) (x11 : Vec F S1024x128 .bf16) (x12 : Vec F S128x256 .bf16) (x13 : Vec F S1x256 .f32) (x14 : Vec F S1x256 .f32) (x15 : Vec F S1x512 .f32) (x16 : Vec F S1x512 .f32) (x17 : Vec F S4x128x128 .bf16) (x18 : Vec F S128x256 .f32) (x19 : Vec F S256x256 .bf16) (x20 : Vec F S512x512 .bf16) : Vec F S256x256 .f32 :=
  View.canon [⟨r0_3, k0_pay28 (k0_pay30 x0 x1 x2 x3 x4 x5 x6 x7 x8 x9 x10 x11 x12 x13 x14 x15 x16 x17 x18 x19 x20) (View.ld x10 r0_2)⟩]

/-- Its stores tile the buffer (checked by evaluation), so they cover it. -/
theorem cover0_31 (p0 : Vec F S256x256 .f32) (y : S256x256.Idx) :
    ∃ pc ∈ ([⟨r0_3, p0⟩] : List (View.Piece (Elt F) S256x256 .f32)), y ∈ pc.1.set :=
  View.cover_of_tiled [⟨r0_3, p0⟩] S256x256.size (by rfl) y

/-! ## The body's triple -/

set_option maxHeartbeats 1000000 in
/-- The kernel body on whole staging memrefs, the inputs' at read contents `xW` and the outputs' at anything, runs to
    the continuation holding the inputs' as they were and each output's at `out0_W` of the inputs': the printed functions
    are their skeletons (`Gen.*_eq_skeleton`), which `sl_exec` runs (Lib/Exec.lean), through every part call. -/
theorem sound_kernel (c : Dev nD) (E : Set ℕ) (i : grid0.Coords) (arg1 : Memref sig .tc .vmem S256x1024 .f32) (harg1 : arg1.IsWhole) (arg2 : Memref sig .tc .vmem S1x1024 .f32) (harg2 : arg2.IsWhole) (arg3 : Memref sig .tc .vmem S1024x256 .bf16) (harg3 : arg3.IsWhole) (arg4 : Memref sig .tc .vmem S1024x256 .bf16) (harg4 : arg4.IsWhole) (arg5 : Memref sig .tc .vmem S1024x512 .bf16) (harg5 : arg5.IsWhole) (arg6 : Memref sig .tc .vmem S1024x512 .bf16) (harg6 : arg6.IsWhole) (arg7 : Memref sig .tc .vmem S1024x512 .bf16) (harg7 : arg7.IsWhole) (arg8 : Memref sig .tc .vmem S1024x256 .bf16) (harg8 : arg8.IsWhole) (arg9 : Memref sig .tc .vmem S1024x256 .bf16) (harg9 : arg9.IsWhole) (arg10 : Memref sig .tc .vmem S1024x256 .bf16) (harg10 : arg10.IsWhole) (arg11 : Memref sig .tc .vmem S1024x256 .bf16) (harg11 : arg11.IsWhole) (arg12 : Memref sig .tc .vmem S1024x128 .bf16) (harg12 : arg12.IsWhole) (arg13 : Memref sig .tc .vmem S128x256 .bf16) (harg13 : arg13.IsWhole) (arg14 : Memref sig .tc .vmem S1x256 .f32) (harg14 : arg14.IsWhole) (arg15 : Memref sig .tc .vmem S1x256 .f32) (harg15 : arg15.IsWhole) (arg16 : Memref sig .tc .vmem S1x512 .f32) (harg16 : arg16.IsWhole) (arg17 : Memref sig .tc .vmem S1x512 .f32) (harg17 : arg17.IsWhole) (arg18 : Memref sig .tc .vmem S4x128x128 .bf16) (harg18 : arg18.IsWhole) (arg19 : Memref sig .tc .vmem S128x256 .f32) (harg19 : arg19.IsWhole) (arg20 : Memref sig .tc .vmem S256x256 .bf16) (harg20 : arg20.IsWhole) (arg21 : Memref sig .tc .vmem S512x512 .bf16) (harg21 : arg21.IsWhole) (arg22 : Memref sig .tc .vmem S256x256 .bf16) (harg22 : arg22.IsWhole) (arg23 : Memref sig .tc .vmem S256x512 .bf16) (harg23 : arg23.IsWhole) (arg24 : Memref sig .tc .vmem S1x512x256 .f32) (harg24 : arg24.IsWhole) (arg25 : Memref sig .tc .vmem S1x512x256 .f32) (harg25 : arg25.IsWhole) (arg26 : Memref sig .tc .vmem S1x512x256 .bf16) (harg26 : arg26.IsWhole) (arg27 : Memref sig .tc .vmem S256x512 .bf16) (harg27 : arg27.IsWhole) (arg28 : Memref sig .tc .vmem S256x256 .f32) (harg28 : arg28.IsWhole) (arg29 : Memref sig .tc .vmem S256x256 .f32) (harg29 : arg29.IsWhole) (arg30 : Memref sig .tc .vmem S256x256 .f32) (harg30 : arg30.IsWhole) (arg31 : Memref sig .tc .vmem S256x256 .f32) (harg31 : arg31.IsWhole) (arg32 : Memref sig .tc .vmem S256x256 .f32) (harg32 : arg32.IsWhole)
    (x0 : Vec F S256x1024 .f32) (x1 : Vec F S1x1024 .f32) (x2 : Vec F S1024x256 .bf16) (x3 : Vec F S1024x256 .bf16) (x4 : Vec F S1024x512 .bf16) (x5 : Vec F S1024x512 .bf16) (x6 : Vec F S1024x512 .bf16) (x7 : Vec F S1024x256 .bf16) (x8 : Vec F S1024x256 .bf16) (x9 : Vec F S1024x256 .bf16) (x10 : Vec F S1024x256 .bf16) (x11 : Vec F S1024x128 .bf16) (x12 : Vec F S128x256 .bf16) (x13 : Vec F S1x256 .f32) (x14 : Vec F S1x256 .f32) (x15 : Vec F S1x512 .f32) (x16 : Vec F S1x512 .f32) (x17 : Vec F S4x128x128 .bf16) (x18 : Vec F S128x256 .f32) (x19 : Vec F S256x256 .bf16) (x20 : Vec F S512x512 .bf16) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ owns (c : Thread nD τ) arg17 fullShare x16 ∗ owns (c : Thread nD τ) arg18 fullShare x17 ∗ owns (c : Thread nD τ) arg19 fullShare x18 ∗ owns (c : Thread nD τ) arg20 fullShare x19 ∗ owns (c : Thread nD τ) arg21 fullShare x20 ∗ (∃ d, owns (c : Thread nD τ) arg22 fullShare d) ∗ (∃ d, owns (c : Thread nD τ) arg23 fullShare d) ∗ (∃ d, owns (c : Thread nD τ) arg24 fullShare d) ∗ (∃ d, owns (c : Thread nD τ) arg25 fullShare d) ∗ (∃ d, owns (c : Thread nD τ) arg26 fullShare d) ∗ (∃ d, owns (c : Thread nD τ) arg27 fullShare d) ∗ (∃ d, owns (c : Thread nD τ) arg28 fullShare d) ∗ (∃ d, owns (c : Thread nD τ) arg29 fullShare d) ∗ (∃ d, owns (c : Thread nD τ) arg30 fullShare d) ∗ (∃ d, owns (c : Thread nD τ) arg31 fullShare d) ∗ (∃ d, owns (c : Thread nD τ) arg32 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ owns (c : Thread nD τ) arg17 fullShare x16 ∗ owns (c : Thread nD τ) arg18 fullShare x17 ∗ owns (c : Thread nD τ) arg19 fullShare x18 ∗ owns (c : Thread nD τ) arg20 fullShare x19 ∗ owns (c : Thread nD τ) arg21 fullShare x20 ∗ owns (c : Thread nD τ) arg22 fullShare (out0_21 x0 x1 x2 x3 x4 x5 x6 x7 x8 x9 x10 x11 x12 x13 x14 x15 x16 x17 x18 x19 x20) ∗ owns (c : Thread nD τ) arg23 fullShare (out0_22 x0 x1 x2 x3 x4 x5 x6 x7 x8 x9 x10 x11 x12 x13 x14 x15 x16 x17 x18 x19 x20) ∗ owns (c : Thread nD τ) arg24 fullShare (out0_23 x0 x1 x2 x3 x4 x5 x6 x7 x8 x9 x10 x11 x12 x13 x14 x15 x16 x17 x18 x19 x20) ∗ owns (c : Thread nD τ) arg25 fullShare (out0_24 x0 x1 x2 x3 x4 x5 x6 x7 x8 x9 x10 x11 x12 x13 x14 x15 x16 x17 x18 x19 x20) ∗ owns (c : Thread nD τ) arg26 fullShare (out0_25 x0 x1 x2 x3 x4 x5 x6 x7 x8 x9 x10 x11 x12 x13 x14 x15 x16 x17 x18 x19 x20) ∗ owns (c : Thread nD τ) arg27 fullShare (out0_26 x0 x1 x2 x3 x4 x5 x6 x7 x8 x9 x10 x11 x12 x13 x14 x15 x16 x17 x18 x19 x20) ∗ owns (c : Thread nD τ) arg28 fullShare (out0_27 x0 x1 x2 x3 x4 x5 x6 x7 x8 x9 x10 x11 x12 x13 x14 x15 x16 x17 x18 x19 x20) ∗ owns (c : Thread nD τ) arg29 fullShare (out0_28 x0 x1 x2 x3 x4 x5 x6 x7 x8 x9 x10 x11 x12 x13 x14 x15 x16 x17 x18 x19 x20) ∗ owns (c : Thread nD τ) arg30 fullShare (out0_29 x0 x1 x2 x3 x4 x5 x6 x7 x8 x9 x10 x11 x12 x13 x14 x15 x16 x17 x18 x19 x20) ∗ owns (c : Thread nD τ) arg31 fullShare (out0_30 x0 x1 x2 x3 x4 x5 x6 x7 x8 x9 x10 x11 x12 x13 x14 x15 x16 x17 x18 x19 x20) ∗ owns (c : Thread nD τ) arg32 fullShare (out0_31 x0 x1 x2 x3 x4 x5 x6 x7 x8 x9 x10 x11 x12 x13 x14 x15 x16 x17 x18 x19 x20)) -∗ K ⟨⟩))
      ⊢ wp frame (wpE (defs₀ (F := F)) Variants.none c none) E (cc0_inproj_kt i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32) K := by
  simp only [cc0_inproj_kt_eq_skeleton]; unfold cc0_inproj_kt_skel
  simp only [k0_part1_eq_skeleton, k0_part2_eq_skeleton, k0_part3_eq_skeleton, k0_part4_eq_skeleton, k0_part5_eq_skeleton, k0_part6_eq_skeleton, k0_part7_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%f18, %hf18, H18⟩, ⟨%f19, %hf19, H19⟩, ⟨%f20, %hf20, H20⟩, ⟨%d21, %f21, -, H21⟩, ⟨%d22, %f22, -, H22⟩, ⟨%d23, %f23, -, H23⟩, ⟨%d24, %f24, -, H24⟩, ⟨%d25, %f25, -, H25⟩, ⟨%d26, %f26, -, H26⟩, ⟨%d27, %f27, -, H27⟩, ⟨%d28, %f28, -, H28⟩, ⟨%d29, %f29, -, H29⟩, ⟨%d30, %f30, -, H30⟩, ⟨%d31, %f31, -, H31⟩, Hk⟩
  subst hf0 hf1 hf2 hf3 hf4 hf5 hf6 hf7 hf8 hf9 hf10 hf11 hf12 hf13 hf14 hf15 hf16 hf17 hf18 hf19 hf20
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists f11; isplitr; · ipureintro; rfl
    iexact H11
  isplitl [H12]
  · iexists f12; isplitr; · ipureintro; rfl
    iexact H12
  isplitl [H13]
  · iexists f13; isplitr; · ipureintro; rfl
    iexact H13
  isplitl [H14]
  · iexists f14; isplitr; · ipureintro; rfl
    iexact H14
  isplitl [H15]
  · iexists f15; isplitr; · ipureintro; rfl
    iexact H15
  isplitl [H16]
  · iexists f16; isplitr; · ipureintro; rfl
    iexact H16
  isplitl [H17]
  · iexists f17; isplitr; · ipureintro; rfl
    iexact H17
  isplitl [H18]
  · iexists f18; isplitr; · ipureintro; rfl
    iexact H18
  isplitl [H19]
  · iexists f19; isplitr; · ipureintro; rfl
    iexact H19
  isplitl [H20]
  · iexists f20; isplitr; · ipureintro; rfl
    iexact H20
  isplitl [H21]
  · iexists _; isplitr
    swap; · iexact H21
    ipureintro
    refine (View.read_writes_eq_canon _ _ _ (cover0_21 _ _)).trans ?_
    rfl
  isplitl [H22]
  · iexists _; isplitr
    swap; · iexact H22
    ipureintro
    refine (View.read_writes_eq_canon _ _ _ (cover0_22 _)).trans ?_
    rfl
  isplitl [H23]
  · iexists _; isplitr
    swap; · iexact H23
    ipureintro
    refine (View.read_writes_eq_canon _ _ _ (cover0_23 _)).trans ?_
    rfl
  isplitl [H24]
  · iexists _; isplitr
    swap; · iexact H24
    ipureintro
    refine (View.read_writes_eq_canon _ _ _ (cover0_24 _)).trans ?_
    rfl
  isplitl [H25]
  · iexists _; isplitr
    swap; · iexact H25
    ipureintro
    refine (View.read_writes_eq_canon _ _ _ (cover0_25 _)).trans ?_
    rfl
  isplitl [H26]
  · iexists _; isplitr
    swap; · iexact H26
    ipureintro
    refine (View.read_writes_eq_canon _ _ _ (cover0_26 _)).trans ?_
    rfl
  isplitl [H27]
  · iexists _; isplitr
    swap; · iexact H27
    ipureintro
    refine (View.read_writes_eq_canon _ _ _ (cover0_27 _)).trans ?_
    rfl
  isplitl [H28]
  · iexists _; isplitr
    swap; · iexact H28
    ipureintro
    refine (View.read_writes_eq_canon _ _ _ (cover0_28 _)).trans ?_
    rfl
  isplitl [H29]
  · iexists _; isplitr
    swap; · iexact H29
    ipureintro
    refine (View.read_writes_eq_canon _ _ _ (cover0_29 _)).trans ?_
    rfl
  isplitl [H30]
  · iexists _; isplitr
    swap; · iexact H30
    ipureintro
    refine (View.read_writes_eq_canon _ _ _ (cover0_30 _)).trans ?_
    rfl
  iexists _; isplitr
  swap; · iexact H31
  ipureintro
  refine (View.read_writes_eq_canon _ _ _ (cover0_31 _)).trans ?_
  rfl

/-! ## The pipeline's proof data -/

/-- The proof data of the one pipeline on core `c`: the arrays as the region finds them (`V`); after the body at
    point `t` each input's buffer at its block and each output's at `out0_W` of the input blocks; the invariant the
    class's (Lib/Pipeline/Frame.lean `ΦA`: the scoped rest and the generator register, untouched); nothing owed;
    full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => iblk m c 14 t
    | ⟨15, _⟩ => iblk m c 15 t
    | ⟨16, _⟩ => iblk m c 16 t
    | ⟨17, _⟩ => iblk m c 17 t
    | ⟨18, _⟩ => iblk m c 18 t
    | ⟨19, _⟩ => iblk m c 19 t
    | ⟨20, _⟩ => iblk m c 20 t
    | ⟨21, _⟩ => out0_21 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t)
    | ⟨22, _⟩ => out0_22 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t)
    | ⟨23, _⟩ => out0_23 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t)
    | ⟨24, _⟩ => out0_24 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t)
    | ⟨25, _⟩ => out0_25 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t)
    | ⟨26, _⟩ => out0_26 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t)
    | ⟨27, _⟩ => out0_27 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t)
    | ⟨28, _⟩ => out0_28 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t)
    | ⟨29, _⟩ => out0_29 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t)
    | ⟨30, _⟩ => out0_30 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t)
    | ⟨31, _⟩ => out0_31 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t)
    | ⟨_ + 32, h⟩ => absurd h (Nat.not_lt.2 (Nat.le_add_left _ _))
  Φ _ := Pipeline.ΦA spec0 c
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- What the body leaves, window by window (the proof data's `match` reduced by `dsimp`, never `rfl`: Lib/Pipeline.lean `Dat`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = iblk m c 10 t := by dsimp only [dats]
theorem after0_11 (c : Dev nD) (t : Fin cfg0.N) : (dats m 0 c).after 11 t = iblk m c 11 t := by dsimp only [dats]
theorem after0_12 (c : Dev nD) (t : Fin cfg0.N) : (dats m 0 c).after 12 t = iblk m c 12 t := by dsimp only [dats]
theorem after0_13 (c : Dev nD) (t : Fin cfg0.N) : (dats m 0 c).after 13 t = iblk m c 13 t := by dsimp only [dats]
theorem after0_14 (c : Dev nD) (t : Fin cfg0.N) : (dats m 0 c).after 14 t = iblk m c 14 t := by dsimp only [dats]
theorem after0_15 (c : Dev nD) (t : Fin cfg0.N) : (dats m 0 c).after 15 t = iblk m c 15 t := by dsimp only [dats]
theorem after0_16 (c : Dev nD) (t : Fin cfg0.N) : (dats m 0 c).after 16 t = iblk m c 16 t := by dsimp only [dats]
theorem after0_17 (c : Dev nD) (t : Fin cfg0.N) : (dats m 0 c).after 17 t = iblk m c 17 t := by dsimp only [dats]
theorem after0_18 (c : Dev nD) (t : Fin cfg0.N) : (dats m 0 c).after 18 t = iblk m c 18 t := by dsimp only [dats]
theorem after0_19 (c : Dev nD) (t : Fin cfg0.N) : (dats m 0 c).after 19 t = iblk m c 19 t := by dsimp only [dats]
theorem after0_20 (c : Dev nD) (t : Fin cfg0.N) : (dats m 0 c).after 20 t = iblk m c 20 t := by dsimp only [dats]
theorem after0_21 (c : Dev nD) (t : Fin cfg0.N) : (dats m 0 c).after 21 t = out0_21 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) := by dsimp only [dats]
theorem after0_22 (c : Dev nD) (t : Fin cfg0.N) : (dats m 0 c).after 22 t = out0_22 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) := by dsimp only [dats]
theorem after0_23 (c : Dev nD) (t : Fin cfg0.N) : (dats m 0 c).after 23 t = out0_23 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) := by dsimp only [dats]
theorem after0_24 (c : Dev nD) (t : Fin cfg0.N) : (dats m 0 c).after 24 t = out0_24 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) := by dsimp only [dats]
theorem after0_25 (c : Dev nD) (t : Fin cfg0.N) : (dats m 0 c).after 25 t = out0_25 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) := by dsimp only [dats]
theorem after0_26 (c : Dev nD) (t : Fin cfg0.N) : (dats m 0 c).after 26 t = out0_26 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) := by dsimp only [dats]
theorem after0_27 (c : Dev nD) (t : Fin cfg0.N) : (dats m 0 c).after 27 t = out0_27 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) := by dsimp only [dats]
theorem after0_28 (c : Dev nD) (t : Fin cfg0.N) : (dats m 0 c).after 28 t = out0_28 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) := by dsimp only [dats]
theorem after0_29 (c : Dev nD) (t : Fin cfg0.N) : (dats m 0 c).after 29 t = out0_29 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) := by dsimp only [dats]
theorem after0_30 (c : Dev nD) (t : Fin cfg0.N) : (dats m 0 c).after 30 t = out0_30 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) := by dsimp only [dats]
theorem after0_31 (c : Dev nD) (t : Fin cfg0.N) : (dats m 0 c).after 31 t = out0_31 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d
theorem before0_10 (c : Dev nD) (t : Fin cfg0.N) (d) : (dats m 0 c).before 10 t d = iblk m c 10 t :=
  before0_10_of m (dats m 0 c) (A_eq m c 10) (after0_10 m c) t d
theorem before0_11 (c : Dev nD) (t : Fin cfg0.N) (d) : (dats m 0 c).before 11 t d = iblk m c 11 t :=
  before0_11_of m (dats m 0 c) (A_eq m c 11) (after0_11 m c) t d
theorem before0_12 (c : Dev nD) (t : Fin cfg0.N) (d) : (dats m 0 c).before 12 t d = iblk m c 12 t :=
  before0_12_of m (dats m 0 c) (A_eq m c 12) (after0_12 m c) t d
theorem before0_13 (c : Dev nD) (t : Fin cfg0.N) (d) : (dats m 0 c).before 13 t d = iblk m c 13 t :=
  before0_13_of m (dats m 0 c) (A_eq m c 13) (after0_13 m c) t d
theorem before0_14 (c : Dev nD) (t : Fin cfg0.N) (d) : (dats m 0 c).before 14 t d = iblk m c 14 t :=
  before0_14_of m (dats m 0 c) (A_eq m c 14) (after0_14 m c) t d
theorem before0_15 (c : Dev nD) (t : Fin cfg0.N) (d) : (dats m 0 c).before 15 t d = iblk m c 15 t :=
  before0_15_of m (dats m 0 c) (A_eq m c 15) (after0_15 m c) t d
theorem before0_16 (c : Dev nD) (t : Fin cfg0.N) (d) : (dats m 0 c).before 16 t d = iblk m c 16 t :=
  before0_16_of m (dats m 0 c) (A_eq m c 16) (after0_16 m c) t d
theorem before0_17 (c : Dev nD) (t : Fin cfg0.N) (d) : (dats m 0 c).before 17 t d = iblk m c 17 t :=
  before0_17_of m (dats m 0 c) (A_eq m c 17) (after0_17 m c) t d
theorem before0_18 (c : Dev nD) (t : Fin cfg0.N) (d) : (dats m 0 c).before 18 t d = iblk m c 18 t :=
  before0_18_of m (dats m 0 c) (A_eq m c 18) (after0_18 m c) t d
theorem before0_19 (c : Dev nD) (t : Fin cfg0.N) (d) : (dats m 0 c).before 19 t d = iblk m c 19 t :=
  before0_19_of m (dats m 0 c) (A_eq m c 19) (after0_19 m c) t d
theorem before0_20 (c : Dev nD) (t : Fin cfg0.N) (d) : (dats m 0 c).before 20 t d = iblk m c 20 t :=
  before0_20_of m (dats m 0 c) (A_eq m c 20) (after0_20 m c) t d

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d))
    ∗ (∃ d, owns (c : Thread nD τ) (st0_11 t) fullShare ((dats m 0 c).before 11 t d))
    ∗ (∃ d, owns (c : Thread nD τ) (st0_12 t) fullShare ((dats m 0 c).before 12 t d))
    ∗ (∃ d, owns (c : Thread nD τ) (st0_13 t) fullShare ((dats m 0 c).before 13 t d))
    ∗ (∃ d, owns (c : Thread nD τ) (st0_14 t) fullShare ((dats m 0 c).before 14 t d))
    ∗ (∃ d, owns (c : Thread nD τ) (st0_15 t) fullShare ((dats m 0 c).before 15 t d))
    ∗ (∃ d, owns (c : Thread nD τ) (st0_16 t) fullShare ((dats m 0 c).before 16 t d))
    ∗ (∃ d, owns (c : Thread nD τ) (st0_17 t) fullShare ((dats m 0 c).before 17 t d))
    ∗ (∃ d, owns (c : Thread nD τ) (st0_18 t) fullShare ((dats m 0 c).before 18 t d))
    ∗ (∃ d, owns (c : Thread nD τ) (st0_19 t) fullShare ((dats m 0 c).before 19 t d))
    ∗ (∃ d, owns (c : Thread nD τ) (st0_20 t) fullShare ((dats m 0 c).before 20 t d))
    ∗ (∃ d, owns (c : Thread nD τ) (st0_21 t) fullShare ((dats m 0 c).before 21 t d))
    ∗ (∃ d, owns (c : Thread nD τ) (st0_22 t) fullShare ((dats m 0 c).before 22 t d))
    ∗ (∃ d, owns (c : Thread nD τ) (st0_23 t) fullShare ((dats m 0 c).before 23 t d))
    ∗ (∃ d, owns (c : Thread nD τ) (st0_24 t) fullShare ((dats m 0 c).before 24 t d))
    ∗ (∃ d, owns (c : Thread nD τ) (st0_25 t) fullShare ((dats m 0 c).before 25 t d))
    ∗ (∃ d, owns (c : Thread nD τ) (st0_26 t) fullShare ((dats m 0 c).before 26 t d))
    ∗ (∃ d, owns (c : Thread nD τ) (st0_27 t) fullShare ((dats m 0 c).before 27 t d))
    ∗ (∃ d, owns (c : Thread nD τ) (st0_28 t) fullShare ((dats m 0 c).before 28 t d))
    ∗ (∃ d, owns (c : Thread nD τ) (st0_29 t) fullShare ((dats m 0 c).before 29 t d))
    ∗ (∃ d, owns (c : Thread nD τ) (st0_30 t) fullShare ((dats m 0 c).before 30 t d))
    ∗ (∃ d, owns (c : Thread nD τ) (st0_31 t) fullShare ((dats m 0 c).before 31 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t)
    ∗ owns (c : Thread nD τ) (st0_10 t) fullShare ((dats m 0 c).after 10 t)
    ∗ owns (c : Thread nD τ) (st0_11 t) fullShare ((dats m 0 c).after 11 t)
    ∗ owns (c : Thread nD τ) (st0_12 t) fullShare ((dats m 0 c).after 12 t)
    ∗ owns (c : Thread nD τ) (st0_13 t) fullShare ((dats m 0 c).after 13 t)
    ∗ owns (c : Thread nD τ) (st0_14 t) fullShare ((dats m 0 c).after 14 t)
    ∗ owns (c : Thread nD τ) (st0_15 t) fullShare ((dats m 0 c).after 15 t)
    ∗ owns (c : Thread nD τ) (st0_16 t) fullShare ((dats m 0 c).after 16 t)
    ∗ owns (c : Thread nD τ) (st0_17 t) fullShare ((dats m 0 c).after 17 t)
    ∗ owns (c : Thread nD τ) (st0_18 t) fullShare ((dats m 0 c).after 18 t)
    ∗ owns (c : Thread nD τ) (st0_19 t) fullShare ((dats m 0 c).after 19 t)
    ∗ owns (c : Thread nD τ) (st0_20 t) fullShare ((dats m 0 c).after 20 t)
    ∗ owns (c : Thread nD τ) (st0_21 t) fullShare ((dats m 0 c).after 21 t)
    ∗ owns (c : Thread nD τ) (st0_22 t) fullShare ((dats m 0 c).after 22 t)
    ∗ owns (c : Thread nD τ) (st0_23 t) fullShare ((dats m 0 c).after 23 t)
    ∗ owns (c : Thread nD τ) (st0_24 t) fullShare ((dats m 0 c).after 24 t)
    ∗ owns (c : Thread nD τ) (st0_25 t) fullShare ((dats m 0 c).after 25 t)
    ∗ owns (c : Thread nD τ) (st0_26 t) fullShare ((dats m 0 c).after 26 t)
    ∗ owns (c : Thread nD τ) (st0_27 t) fullShare ((dats m 0 c).after 27 t)
    ∗ owns (c : Thread nD τ) (st0_28 t) fullShare ((dats m 0 c).after 28 t)
    ∗ owns (c : Thread nD τ) (st0_29 t) fullShare ((dats m 0 c).after 29 t)
    ∗ owns (c : Thread nD τ) (st0_30 t) fullShare ((dats m 0 c).after 30 t)
    ∗ owns (c : Thread nD τ) (st0_31 t) fullShare ((dats m 0 c).after 31 t))

set_option maxHeartbeats 4000000 in
/-- The body at any point: the inputs' memrefs hold their blocks (`before0_W`), so `sound_kernel` applies; the invariant and
    the core's `owes` pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10, before0_11, before0_12, before0_13, before0_14, before0_15, before0_16, before0_17, before0_18, before0_19, before0_20]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8, after0_9, after0_10, after0_11, after0_12, after0_13, after0_14, after0_15, after0_16, after0_17, after0_18, after0_19, after0_20, after0_21, after0_22, after0_23, after0_24, after0_25, after0_26, after0_27, after0_28, after0_29, after0_30, after0_31]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩, ⟨%d22, H22⟩, ⟨%d23, H23⟩, ⟨%d24, H24⟩, ⟨%d25, H25⟩, ⟨%d26, H26⟩, ⟨%d27, H27⟩, ⟨%d28, H28⟩, ⟨%d29, H29⟩, ⟨%d30, H30⟩, ⟨%d31, H31⟩⟩
  iapply (sound_kernel c Set.univ (grid0.coords t) _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexists _; iexact H21
  isplitl [H22]; · iexists _; iexact H22
  isplitl [H23]; · iexists _; iexact H23
  isplitl [H24]; · iexists _; iexact H24
  isplitl [H25]; · iexists _; iexact H25
  isplitl [H26]; · iexists _; iexact H26
  isplitl [H27]; · iexists _; iexact H27
  isplitl [H28]; · iexists _; iexact H28
  isplitl [H29]; · iexists _; iexact H29
  isplitl [H30]; · iexists _; iexact H30
  isplitl [H31]; · iexists _; iexact H31
  iintro ⟨H0, H1, H2, H3, H4, H5, H6, H7, H8, H9, H10, H11, H12, H13, H14, H15, H16, H17, H18, H19, H20, H21, H22, H23, H24, H25, H26, H27, H28, H29, H30, H31⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]; · iexact H22
  isplitl [H23]; · iexact H23
  isplitl [H24]; · iexact H24
  isplitl [H25]; · iexact H25
  isplitl [H26]; · iexact H26
  isplitl [H27]; · iexact H27
  isplitl [H28]; · iexact H28
  isplitl [H29]; · iexact H29
  isplitl [H30]; · iexact H30
  iexact H31

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

set_option maxHeartbeats 4000000 in
/-- The library's body obligation, at every point: the body's triple restated (Lib/Pipeline/FrameBody.lean `triple_restated`). -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

-- `θ_run_frame`'s implicit arguments are found by unifying its conclusion with this one, which takes unfolding plain
-- definitions in a metavariable's type
set_option backward.isDefEq.respectTransparency.types false in
set_option maxHeartbeats 800000 in
/-- THE LAUNCH: `run_main`'s statement, and every semaphore counter of the machine at zero at every final state. -/
theorem run_main_quiescent : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- At the compiled mesh, for any values, from any memory with zero counters: every weakly fair execution of @main on the
    TensorCores terminates, and every final state has every array of the pipeline at what the library computes from the
    proof data and every other unscoped buffer as the region found it (Lib/Pipeline/Frame.lean `FramePost`). -/
theorem run_main : θ_run defs (onTc (τ := τ) (main (F := F))) (s₀ m ρ) (Pipeline.FramePost cfgs (dats m) 0 (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  frame_of m ρ (dats m) (A_eq m) (run_main m ρ)

/-- THE FRAME: `Cert.quiescent_Kernel3Ideal`'s statement (Defs.lean) at any `F` — Proof.lean cites it at `Bits`:
    `theorem Cert.Proof.claim : Cert.Claim := ⟨Cert.Kernel3Ideal.Gen.facts, fun m ρ _ => Cert.Kernel3Ideal.Gen.frame m ρ⟩`. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9))
      ∧ r.2.sem = fun _ => 0) :=
  θ_run_and (unchanged m ρ) ((θ_run defs _ _).mono (fun _ h => h.2) (run_main_quiescent m ρ))

end Cert.Kernel3Ideal.Gen

end
-- ==== Proof.InProj.Scalar.lean ====
/- The arithmetic that the input projections' call spells differently from the reference: group sums as a product with a
   block diagonal matrix, split in two parts; division by a power of two; the log-sigmoid. -/
module

public import Idealize.ShloMosaic.Lib.Pipeline.ValueKit

@[expose] public section

set_option maxRecDepth 16384

noncomputable section

namespace Cert.Proof.InProj

open Idealize.ShloMosaic

/-- An extended real that is a real number. -/
def IsReal (x : EReal) : Prop := ∃ r : ℝ, x = (r : EReal)

theorem IsReal.mul {x y : EReal} (hx : IsReal x) (hy : IsReal y) : IsReal (x * y) := by
  obtain ⟨a, rfl⟩ := hx
  obtain ⟨b, rfl⟩ := hy
  exact ⟨a * b, (EReal.coe_mul a b).symm⟩

theorem IsReal.add {x y : EReal} (hx : IsReal x) (hy : IsReal y) : IsReal (x + y) := by
  obtain ⟨a, rfl⟩ := hx
  obtain ⟨b, rfl⟩ := hy
  exact ⟨a + b, (EReal.coe_add a b).symm⟩

theorem IsReal.sum {ι : Type*} (s : Finset ι) {f : ι → EReal} (h : ∀ i, IsReal (f i)) : IsReal (∑ i ∈ s, f i) := by
  classical
  induction s using Finset.induction_on with
  | empty => exact ⟨0, by simp⟩
  | insert a s ha ih => rw [Finset.sum_insert ha]; exact (h a).add ih

theorem IsReal.sub_self {x : EReal} (hx : IsReal x) : x - x = 0 := by
  obtain ⟨a, rfl⟩ := hx
  rw [← EReal.coe_sub, _root_.sub_self, EReal.coe_zero]

theorem isReal_one : IsReal 1 := ⟨1, EReal.coe_one.symm⟩

theorem isReal_tanh (x : EReal) : IsReal (Ideal.tanh x) := by
  induction x with
  | bot => exact ⟨-1, by show (-1 : EReal) = _; rw [EReal.coe_neg, EReal.coe_one]⟩
  | top => exact ⟨1, EReal.coe_one.symm⟩
  | coe r => exact ⟨Real.tanh r, rfl⟩

/-! ## Literals -/

theorem lit_half : Ideal.ofBits .f32 0x3F000000#32 = ((2⁻¹ : ℝ) : EReal) := by
  simp [Ideal.ofBits, Ideal.ieee, -EReal.coe_mul, -EReal.coe_neg]; norm_num
theorem lit_64 : Ideal.ofBits .f32 0x42800000#32 = ((64 : ℝ) : EReal) := by
  simp [Ideal.ofBits, Ideal.ieee, -EReal.coe_mul, -EReal.coe_neg]; norm_num
theorem lit_inv64 : Ideal.ofBits .f32 0x3C800000#32 = ((64⁻¹ : ℝ) : EReal) := by
  simp [Ideal.ofBits, Ideal.ieee, -EReal.coe_mul, -EReal.coe_neg]; norm_num
theorem lit_16 : Ideal.ofBits .f32 0x41800000#32 = ((16 : ℝ) : EReal) := by
  simp [Ideal.ofBits, Ideal.ieee, -EReal.coe_mul, -EReal.coe_neg]; norm_num
theorem lit_inv16 : Ideal.ofBits .f32 0x3D800000#32 = ((16⁻¹ : ℝ) : EReal) := by
  simp [Ideal.ofBits, Ideal.ieee, -EReal.coe_mul, -EReal.coe_neg]; norm_num
theorem lit_1024 : Ideal.ofBits .f32 0x44800000#32 = ((1024 : ℝ) : EReal) := by
  simp [Ideal.ofBits, Ideal.ieee, -EReal.coe_mul, -EReal.coe_neg]; norm_num
theorem lit_eps : ∃ e : ℝ, 0 < e ∧ Ideal.ofBits .f32 0x358637BD#32 = ((e : ℝ) : EReal) := by
  refine ⟨_, ?_, by simp [Ideal.ofBits, Ideal.ieee, -EReal.coe_mul, -EReal.coe_neg]; rfl⟩
  norm_num

theorem div_real (x : EReal) (r : ℝ) (h : r ≠ 0) : Ideal.div x (r : EReal) = x * ((r⁻¹ : ℝ) : EReal) := by
  rw [Ideal.div, if_neg (by exact_mod_cast h), EReal.coe_inv]

theorem div_64 (x : EReal) : Ideal.div x (Ideal.ofBits .f32 0x42800000#32) = x * Ideal.ofBits .f32 0x3C800000#32 := by
  rw [lit_64, lit_inv64, div_real _ _ (by norm_num)]

theorem div_16 (x : EReal) : Ideal.div x (Ideal.ofBits .f32 0x41800000#32) = x * Ideal.ofBits .f32 0x3D800000#32 := by
  rw [lit_16, lit_inv16, div_real _ _ (by norm_num)]

/-! ## Group sums -/

/-- A sum in two parts, of which the second, being what the first leaves over, is nothing. -/
theorem split_sum {n : ℕ} (s w : Fin n → EReal) (hs : ∀ k, IsReal (s k)) :
    (∑ k, s k * w k) + (∑ k, (s k - s k) * w k) = ∑ k, s k * w k := by
  rw [Finset.sum_eq_zero (s := Finset.univ) (f := fun k => (s k - s k) * w k), add_zero]
  exact fun k _ => by rw [(hs k).sub_self, zero_mul]

/-- A product with a row of the block diagonal matrix of ones is the sum over the lane's group of 64. -/
theorem group_sum {n : ℕ} (G : ℕ) (hG : G * 64 = n) (s : Fin n → EReal) (j : Fin n) :
    (∑ k : Fin n, s k * (if k.val / 64 = j.val / 64 then 1 else 0))
      = ∑ d : Fin 64, s ⟨j.val / 64 * 64 + d.val, by omega⟩ := by
  rw [Fin.sum_univ_tiles G 64 hG]
  rw [Finset.sum_eq_single (⟨j.val / 64, by omega⟩ : Fin G)]
  · refine Finset.sum_congr rfl fun d _ => ?_
    rw [if_pos (by show (j.val / 64 * 64 + d.val) / 64 = _; omega), mul_one]
  · intro b _ hb
    refine Finset.sum_eq_zero fun d _ => ?_
    rw [if_neg, mul_zero]
    intro h
    apply hb
    apply Fin.ext
    show b.val = j.val / 64
    have h' : (b.val * 64 + d.val) / 64 = j.val / 64 := h
    omega
  · intro h
    exact absurd (Finset.mem_univ _) h

/-- A contraction of 128 positions of which only the first 16 are not padding. -/
theorem padded_sum (f : Fin 16 → EReal) (s : Fin 128 → EReal) (h : ∀ k : Fin 128, s k = if h : k.val < 16 then f ⟨k.val, h⟩ else 0) :
    (∑ k, s k) = ∑ k, f k := by
  rw [Fin.sum_univ_two_halves 16 112 rfl, Finset.sum_eq_zero (s := Finset.univ) (f := fun i : Fin 112 => s ⟨16 + i.val, by omega⟩), add_zero]
  · exact Finset.sum_congr rfl fun k _ => by rw [h]; exact dif_pos k.isLt
  · intro k _
    rw [h]
    exact dif_neg (by show ¬ 16 + k.val < 16; omega)

/-! ## The log-sigmoid -/

theorem neg_zero_sub (x : EReal) : (0 : EReal) - x = -x := by rw [sub_eq_add_neg, zero_add]

/-- `log (1 + exp (-|z|))` is a real number. -/
theorem isReal_log (z : EReal) : IsReal (Ideal.log (1 + Ideal.exp (-(max z (-z))))) := by
  have h0 : IsReal (Ideal.log (1 + 0)) := ⟨0, by
    rw [add_zero, ← EReal.coe_one, Ideal.log_coe, if_neg (by norm_num), Real.log_one]⟩
  induction z with
  | bot =>
    rw [EReal.neg_bot, max_eq_right bot_le, EReal.neg_top]
    exact h0
  | top =>
    rw [EReal.neg_top, max_eq_left bot_le, EReal.neg_top]
    exact h0
  | coe r =>
    have e : (-(max (r : EReal) (-(r : EReal))) : EReal) = ((-(max r (-r)) : ℝ) : EReal) := by
      rw [← EReal.coe_neg, ← EReal.coe_strictMono.monotone.map_max, ← EReal.coe_neg]
    rw [e]
    refine ⟨Real.log (1 + Real.exp (-(max r (-r)))), ?_⟩
    show Ideal.log (1 + ((Real.exp _ : ℝ) : EReal)) = _
    have h : ¬ 1 + Real.exp (-(max r (-r))) ≤ 0 := by have := Real.exp_pos (-(max r (-r))); linarith
    rw [← EReal.coe_one, ← EReal.coe_add, Ideal.log_coe, if_neg h]

/-- The log-sigmoid as the kernel and as the reference spell it. -/
theorem log_sigmoid (z : EReal) :
    -(max (-z) 0 + Ideal.log (1 + Ideal.exp (-(max (-z - 0) (-(-z - 0))))))
      = min z 0 - Ideal.log (1 + Ideal.exp (0 - max z (-z))) := by
  rw [neg_zero_sub, sub_zero, neg_neg, max_comm (-z) z]
  obtain ⟨b, hb⟩ := isReal_log z
  rw [hb, EReal.neg_add (.inr (EReal.coe_ne_top b)) (.inr (EReal.coe_ne_bot b))]
  congr 1
  rcases le_total z 0 with h | h
  · rw [min_eq_left h, max_eq_left (by simpa using EReal.neg_le_neg_iff.mpr h), neg_neg]
  · rw [min_eq_right h, max_eq_right (by simpa using EReal.neg_le_neg_iff.mpr h), neg_zero]

/-! ## The root mean square of a row -/

/-- Of a row of a thousand entries and a factor, the entry times the reciprocal of the root mean square is real,
    whatever the row holds: an infinite entry makes the factor zero. -/
theorem isReal_scaled {n : ℕ} (x : Fin n → EReal) (k : Fin n) :
    IsReal (x k * Ideal.rsqrt (Ideal.div (∑ l, x l * x l) (Ideal.ofBits .f32 0x44800000#32) + Ideal.ofBits .f32 0x358637BD#32)) := by
  obtain ⟨e, he, hee⟩ := lit_eps
  rw [lit_1024, hee, div_real _ _ (by norm_num)]
  have sq : ∀ l, 0 ≤ x l * x l := fun l => by
    rcases le_total 0 (x l) with h | h
    · exact mul_nonneg h h
    · have h' : 0 ≤ -x l := by simpa using EReal.neg_le_neg_iff.mpr h
      have := mul_nonneg h' h'
      rwa [neg_mul_neg] at this
  by_cases hx : ∀ l, IsReal (x l)
  · choose y hy using hx
    have hs : (∑ l, x l * x l) = ((∑ l, y l * y l : ℝ) : EReal) := by
      have : ∀ s : Finset (Fin n), (∑ l ∈ s, x l * x l) = ((∑ l ∈ s, y l * y l : ℝ) : EReal) := fun s => by
        classical
        induction s using Finset.induction_on with
        | empty => simp
        | insert a s ha ih => rw [Finset.sum_insert ha, Finset.sum_insert ha, ih, hy, EReal.coe_add, EReal.coe_mul]
      exact this _
    rw [hs, ← EReal.coe_mul, ← EReal.coe_add, hy]
    have hpos : 0 < (∑ l, y l * y l) * (1024 : ℝ)⁻¹ + e := by
      have : 0 ≤ ∑ l, y l * y l := Finset.sum_nonneg fun l _ => mul_self_nonneg _
      positivity
    refine IsReal.mul ⟨_, rfl⟩ ⟨(Real.sqrt ((∑ l, y l * y l) * (1024 : ℝ)⁻¹ + e))⁻¹, ?_⟩
    show (if _ then _ else if _ then _ else _) = _
    rw [if_neg (not_lt.mpr hpos.le), if_neg hpos.ne']
  · obtain ⟨l, hl⟩ := not_forall.mp hx
    have htop : x l * x l = ⊤ := by
      generalize x l = z at hl
      induction z with
      | bot => exact EReal.bot_mul_bot
      | top => exact EReal.top_mul_top
      | coe r => exact absurd ⟨r, rfl⟩ hl
    have hs : (∑ l, x l * x l) = ⊤ := by
      apply top_unique
      rw [← htop]
      exact Finset.single_le_sum (f := fun l => x l * x l) (fun l _ => sq l) (Finset.mem_univ l)
    rw [hs, EReal.top_mul_coe_of_pos (by norm_num), EReal.top_add_coe]
    refine ⟨0, ?_⟩
    show x k * 0 = _
    rw [mul_zero, EReal.coe_zero]

end Cert.Proof.InProj

end
-- ==== Proof.InProj.Spec.lean ====
/- The input projections as plain sums over the arguments: the normalised row, its products with the weights' columns, and
   what each of the eleven results makes of them. -/
module

public import Idealize.ShloMosaic.Lib.Pipeline.ValueKit

@[expose] public section

set_option maxRecDepth 16384

noncomputable section

namespace Cert.Proof.InProj

open Idealize.ShloMosaic

/-- The smooth gate of a unit, in its tanh form. -/
def gelu (z : EReal) : EReal :=
  z * (Ideal.ofBits .f32 0x3F000000#32 * (1 + Ideal.tanh (Ideal.ofBits .f32 0x3F4C422A#32
    * (z + Ideal.ofBits .f32 0x3D372713#32 * (z * z * z)))))

/-- Column `j` of row `s`, scaled to unit mean square over its group of 64 columns. -/
def scaled {n : ℕ} (G : ℕ) (hG : G * 64 = n) (s : Fin n → EReal) (j : Fin n) : EReal :=
  s j * Ideal.rsqrt (Ideal.div (∑ d : Fin 64, s ⟨j.val / 64 * 64 + d.val, by omega⟩ * s ⟨j.val / 64 * 64 + d.val, by omega⟩)
    (Ideal.ofBits .f32 0x42800000#32) + Ideal.ofBits .f32 0x358637BD#32)

/-- The logarithm of the logistic function. -/
def logSigmoid (z : EReal) : EReal := min z 0 - Ideal.log (1 + Ideal.exp (0 - max z (-z)))

variable (x : (⟨2, ![32768, 1024]⟩ : Shape).Idx → EReal) (g : (⟨1, ![1024]⟩ : Shape).Idx → EReal)
  (w : (⟨2, ![1024, 3088]⟩ : Shape).Idx → EReal)

/-- A row scaled to unit mean square, times the gain. -/
def normed (r : Fin 32768) (k : Fin 1024) : EReal :=
  x (ix2 r k) * Ideal.rsqrt (Ideal.div (∑ l, x (ix2 r l) * x (ix2 r l)) (Ideal.ofBits .f32 0x44800000#32)
    + Ideal.ofBits .f32 0x358637BD#32) * g (ix1 k)

/-- The projection of a row on column `j` of the weights. -/
def proj (r : Fin 32768) (j : Fin 3088) : EReal := ∑ k, normed x g r k * w (ix2 k j)

/-- A stretch of columns of the projection. -/
abbrev part (n lo : ℕ) (h : lo + n ≤ 3088) (r : Fin 32768) (j : Fin n) : EReal := proj x g w r ⟨lo + j.val, by omega⟩

section Chunk

variable (gv : (⟨2, ![4, 64]⟩ : Shape).Idx → EReal) (ws : (⟨3, ![4, 128, 128]⟩ : Shape).Idx → EReal)
  (bs : (⟨2, ![4, 128]⟩ : Shape).Idx → EReal)

/-- The chunk's gated and normed values. -/
def chunkVal (r : Fin 32768) (j : Fin 256) : EReal :=
  scaled 4 rfl (fun k => gelu (part x g w 256 256 (by decide) r k)) j * gv (ix2 ⟨j.val / 64, by omega⟩ ⟨j.val % 64, by omega⟩)

/-- The values mixed along the chunk of 128 rows, causally, plus the bias. -/
def mixed (r : Fin 32768) (j : Fin 256) : EReal :=
  (∑ s : Fin 128, (if s.val ≤ r.val % 128 then ws (ix3 ⟨j.val / 64, by omega⟩ ⟨r.val % 128, by omega⟩ s) else 0)
    * chunkVal x g w gv ⟨r.val / 128 * 128 + s.val, by omega⟩ j) + bs (ix2 ⟨j.val / 64, by omega⟩ ⟨r.val % 128, by omega⟩)

/-- The gated chunk. -/
def chunk (r : Fin 32768) (j : Fin 256) : EReal :=
  gelu (part x g w 256 0 (by decide) r j) * mixed x g w gv ws bs r j

end Chunk

/-- The normed queries, or keys, that lie from column `lo` on. -/
def head (lo : ℕ) (h : lo + 512 ≤ 3088) (gh : (⟨1, ![64]⟩ : Shape).Idx → EReal) (r : Fin 32768) (j : Fin 512) : EReal :=
  scaled 8 rfl (fun k => part x g w 512 lo h r k) j * gh (ix1 ⟨j.val % 64, by omega⟩)

/-- The recurrence's log decay. -/
def decay (w2 : (⟨2, ![16, 256]⟩ : Shape).Idx → EReal) (b : (⟨1, ![256]⟩ : Shape).Idx → EReal) (r : Fin 32768) (j : Fin 256) : EReal :=
  logSigmoid ((∑ k : Fin 16, part x g w 16 3072 (by decide) r k * w2 (ix2 k j)) + b (ix1 j)) * Ideal.ofBits .f32 0x3D800000#32

/-- The gate of the recurrence's output. -/
def silu (z : EReal) : EReal := z * Ideal.div 1 (1 + Ideal.exp (-z))

end Cert.Proof.InProj

end
-- ==== Proof.InProj.Finite.lean ====
/- What the precondition of the input projections says: the gain and the weights of the projections that are normed per
   head or group are real numbers, hence so are those projections. -/
module

public import proofs.«01_k».proof.Pre_finite_normed
public import proofs.«01_k».proof.Proof.InProj.Scalar
public import proofs.«01_k».proof.Proof.InProj.Spec
public import Idealize.ShloMosaic.Lib.WordCmp
public import Idealize.ShloMosaic.Lib.Pipeline.ValueKit

@[expose] public section

set_option maxRecDepth 16384

noncomputable section

namespace Cert.Proof.InProj

open Cert.Pre_finite_normed
open Idealize.ShloMosaic

/-- A value whose magnitude lies below infinity is a real number. -/
theorem isReal_of_abs (φ : FTy) (x : EReal) (h : (FloatOps.absf (F := Ideal) (φ := φ) x : EReal) < Ideal.ofBits FTy.f32 2139095040#32) :
    IsReal x := by
  have h' : max x (-x) < ⊤ := lt_of_lt_of_le h le_top
  obtain ⟨h1, h2⟩ := max_lt_iff.mp h'
  induction x with
  | bot => exact absurd h2 (by simp)
  | top => exact absurd h1 (lt_irrefl _)
  | coe r => exact ⟨r, rfl⟩

variable [Cert.Pre_finite_normed.Facts]

theorem normed_fn_at (x : FVec Ideal S32768x1024 .f32) (g : FVec Ideal S1024 .f32) (w : FVec Ideal S1024x3088 .f32)
    (gv : FVec Ideal S4x64 .f32) (ws : FVec Ideal S4x128x128 .f32) (bs : FVec Ideal S4x128 .f32) (gq gk : FVec Ideal S64 .f32)
    (w2 : FVec Ideal S16x256 .f32) (b : FVec Ideal S256 .f32)
    (h : fn (F := Ideal) x g w gv ws bs gq gk w2 b = fun _ => 1#1) (k : Fin 1024) (j : Fin 1280) :
    IsReal (g (ix1 k)) ∧ IsReal (w (ix2 k ⟨256 + j.val, by omega⟩)) := by
  have e := congrFun h (ix2 k j)
  have e' : fn (F := Ideal) x g w gv ws bs gq gk w2 b (ix2 k j) = BitVec.ofBool
      (decide ((FloatOps.absf (F := Ideal) (φ := .f32) (g (ix1 k)) : EReal) < Ideal.ofBits FTy.f32 2139095040#32)
        && decide ((FloatOps.absf (F := Ideal) (φ := .f32) (w (ix2 k ⟨256 + j.val, by omega⟩)) : EReal)
          < Ideal.ofBits FTy.f32 2139095040#32)) := by
    rw [← WordCmp.andi_ofBool]
    unfold fn
    pointwise
    try rfl
  rw [e', WordCmp.ofBool_eq_one_iff, Bool.and_eq_true, decide_eq_true_eq, decide_eq_true_eq] at e
  exact ⟨isReal_of_abs _ _ e.1, isReal_of_abs _ _ e.2⟩

theorem isReal_part (x : FVec Ideal S32768x1024 .f32) (g : FVec Ideal S1024 .f32) (w : FVec Ideal S1024x3088 .f32)
    (gv : FVec Ideal S4x64 .f32) (ws : FVec Ideal S4x128x128 .f32) (bs : FVec Ideal S4x128 .f32) (gq gk : FVec Ideal S64 .f32)
    (w2 : FVec Ideal S16x256 .f32) (b : FVec Ideal S256 .f32)
    (h : fn (F := Ideal) x g w gv ws bs gq gk w2 b = fun _ => 1#1) (n lo : ℕ) (hlo : lo + n ≤ 3088) (h1 : 256 ≤ lo) (h2 : lo + n ≤ 1536)
    (r : Fin 32768) (j : Fin n) : IsReal (part x g w n lo hlo r j) := by
  have e : (⟨lo + j.val, by omega⟩ : Fin 3088) = ⟨256 + (lo + j.val - 256), by omega⟩ :=
    Fin.ext (by show lo + j.val = 256 + (lo + j.val - 256); omega)
  unfold part proj
  rw [e]
  refine IsReal.sum _ fun k => ?_
  have f := normed_fn_at x g w gv ws bs gq gk w2 b h k ⟨lo + j.val - 256, by omega⟩
  exact ((isReal_scaled (fun l => x (ix2 r l)) k).mul f.1).mul f.2

end Cert.Proof.InProj

end
-- ==== Proof.InProj.Operands.lean ====
/- The blocks of a grid point of the input projections' call, at coordinates, as entries of its arguments. -/
module

public import proofs.«01_k».proof.Proof.Kernel3Ideal.Frame
public import proofs.«01_k».proof.Proof.InProj.Scalar
public import Idealize.ShloMosaic.Lib.Pipeline.ValueKit
public import Idealize.ShloMosaic.Lib.WordCmp

@[expose] public section

set_option maxRecDepth 16384

noncomputable section

namespace Cert.Proof.InProj

open Cert.Kernel3Ideal Cert.Kernel3Ideal.Gen
open Idealize.ShloMosaic Idealize.ShloMosaic.TcCoe Idealize.SL.Sem

variable (m : (ℓ : Loc nD τ sig) → Buf (Elt Ideal) ℓ) (c : Dev nD) (t : Fin cfg0.N)

theorem idx : ∀ t : Fin cfg0.N, win0_0.index t = ![t.val, 0] ∧ win0_1.index t = ![0, 0] ∧ win0_2.index t = ![0, 0]
    ∧ win0_3.index t = ![0, 0] ∧ win0_4.index t = ![0, 0] ∧ win0_5.index t = ![0, 0] ∧ win0_6.index t = ![0, 0]
    ∧ win0_7.index t = ![0, 0] ∧ win0_8.index t = ![0, 0] ∧ win0_9.index t = ![0, 0] ∧ win0_10.index t = ![0, 0]
    ∧ win0_11.index t = ![0, 0] ∧ win0_12.index t = ![0, 0] ∧ win0_13.index t = ![0, 0] ∧ win0_14.index t = ![0, 0]
    ∧ win0_15.index t = ![0, 0] ∧ win0_16.index t = ![0, 0] ∧ win0_17.index t = ![0, 0, 0] ∧ win0_18.index t = ![0, 0]
    ∧ win0_19.index t = ![0, 0] ∧ win0_20.index t = ![0, 0] :=
  (by decide +kernel : ∀ t : Fin grid0.N, _)

theorem idx_out : ∀ t : Fin cfg0.N, win0_21.index t = ![t.val, 0] ∧ win0_22.index t = ![t.val, 0]
    ∧ win0_23.index t = ![t.val / 16, 0, t.val % 16] ∧ win0_24.index t = ![t.val / 16, 0, t.val % 16]
    ∧ win0_25.index t = ![t.val, 0, 0] ∧ win0_26.index t = ![t.val, 0] ∧ win0_27.index t = ![t.val, 0]
    ∧ win0_28.index t = ![t.val, 0] ∧ win0_29.index t = ![t.val, 0] ∧ win0_30.index t = ![t.val, 0]
    ∧ win0_31.index t = ![t.val, 0] :=
  (by decide +kernel : ∀ t : Fin grid0.N, _)

theorem lt_points (t : Fin cfg0.N) : t.val < 128 := t.isLt

/-- The row of the arrays that row `p` of grid point `t`'s blocks is. -/
def rowOf (t : Fin cfg0.N) (p : Fin 256) : Fin 32768 :=
  ⟨t.val * 256 + p.val, by have := lt_points t; omega⟩

theorem x_at (p : Fin 256) (k : Fin 1024) :
    (iblk m c 0 t (ix2 p k) : EReal) = m (c.tc.loc main_arg0) (ix2 (rowOf t p) k) := by
  blk_point [iblk, V, idx t, rowOf]

theorem gmix_at (k : Fin 1024) : (iblk m c 1 t (ix2 0 k) : EReal)
    = m (c.tc.loc main_arg1) (ix1 k) := by
  have h : (iblk m c 1 t (ix2 0 k) : EReal) = V m c main_v12 (ix2 0 k) := by
    unfold iblk
    generalize V m c = W
    exact congrArg (W main_v12) (by blk_ext [idx t] <;> simp <;> try omega)
  refine h.trans ?_
  unfold V
  simp only [hostOps0, hostOps0_1, hostOps0_2, hostOps0_3, hostOps0_4, hostOps0_5, hostOps0_6, hostOps0_7, hostOps0_8, hostOps0_9, hostOps0_10,
    List.flatten_cons, List.flatten_nil, List.append_nil, List.cons_append, List.nil_append]
  entry_read
  try simp -implicitDefEqProofs only [StableHlo.TRef.toBuf, StableHlo.TRef.ofBuf, cast_cast, cast_eq]
  pointwise

theorem w2_at (k : Fin 1024) (j : Fin 256) : (iblk m c 2 t (ix2 k j) : EReal)
    = m (c.tc.loc main_arg2) (ix2 k ⟨0 + j.val, by omega⟩) := by
  have h : (iblk m c 2 t (ix2 k j) : EReal) = V m c main_v1 (ix2 k j) := by
    unfold iblk
    generalize V m c = W
    exact congrArg (W main_v1) (by blk_ext [idx t] <;> simp <;> try omega)
  refine h.trans ?_
  unfold V
  simp only [hostOps0, hostOps0_1, hostOps0_2, hostOps0_3, hostOps0_4, hostOps0_5, hostOps0_6, hostOps0_7, hostOps0_8, hostOps0_9, hostOps0_10,
    List.flatten_cons, List.flatten_nil, List.append_nil, List.cons_append, List.nil_append]
  entry_read
  try simp -implicitDefEqProofs only [StableHlo.TRef.toBuf, StableHlo.TRef.ofBuf, cast_cast, cast_eq]
  pointwise
  blk_ext

theorem w3_at (k : Fin 1024) (j : Fin 256) : (iblk m c 3 t (ix2 k j) : EReal)
    = m (c.tc.loc main_arg2) (ix2 k ⟨256 + j.val, by omega⟩) := by
  have h : (iblk m c 3 t (ix2 k j) : EReal) = V m c main_v2 (ix2 k j) := by
    unfold iblk
    generalize V m c = W
    exact congrArg (W main_v2) (by blk_ext [idx t] <;> simp <;> try omega)
  refine h.trans ?_
  unfold V
  simp only [hostOps0, hostOps0_1, hostOps0_2, hostOps0_3, hostOps0_4, hostOps0_5, hostOps0_6, hostOps0_7, hostOps0_8, hostOps0_9, hostOps0_10,
    List.flatten_cons, List.flatten_nil, List.append_nil, List.cons_append, List.nil_append]
  entry_read
  try simp -implicitDefEqProofs only [StableHlo.TRef.toBuf, StableHlo.TRef.ofBuf, cast_cast, cast_eq]
  pointwise

theorem w4_at (k : Fin 1024) (j : Fin 512) : (iblk m c 4 t (ix2 k j) : EReal)
    = m (c.tc.loc main_arg2) (ix2 k ⟨512 + j.val, by omega⟩) := by
  have h : (iblk m c 4 t (ix2 k j) : EReal) = V m c main_v3 (ix2 k j) := by
    unfold iblk
    generalize V m c = W
    exact congrArg (W main_v3) (by blk_ext [idx t] <;> simp <;> try omega)
  refine h.trans ?_
  unfold V
  simp only [hostOps0, hostOps0_1, hostOps0_2, hostOps0_3, hostOps0_4, hostOps0_5, hostOps0_6, hostOps0_7, hostOps0_8, hostOps0_9, hostOps0_10,
    List.flatten_cons, List.flatten_nil, List.append_nil, List.cons_append, List.nil_append]
  entry_read
  try simp -implicitDefEqProofs only [StableHlo.TRef.toBuf, StableHlo.TRef.ofBuf, cast_cast, cast_eq]
  pointwise

theorem w5_at (k : Fin 1024) (j : Fin 512) : (iblk m c 5 t (ix2 k j) : EReal)
    = m (c.tc.loc main_arg2) (ix2 k ⟨1024 + j.val, by omega⟩) := by
  have h : (iblk m c 5 t (ix2 k j) : EReal) = V m c main_v4 (ix2 k j) := by
    unfold iblk
    generalize V m c = W
    exact congrArg (W main_v4) (by blk_ext [idx t] <;> simp <;> try omega)
  refine h.trans ?_
  unfold V
  simp only [hostOps0, hostOps0_1, hostOps0_2, hostOps0_3, hostOps0_4, hostOps0_5, hostOps0_6, hostOps0_7, hostOps0_8, hostOps0_9, hostOps0_10,
    List.flatten_cons, List.flatten_nil, List.append_nil, List.cons_append, List.nil_append]
  entry_read
  try simp -implicitDefEqProofs only [StableHlo.TRef.toBuf, StableHlo.TRef.ofBuf, cast_cast, cast_eq]
  pointwise

theorem w6_at (k : Fin 1024) (j : Fin 512) : (iblk m c 6 t (ix2 k j) : EReal)
    = m (c.tc.loc main_arg2) (ix2 k ⟨1536 + j.val, by omega⟩) := by
  have h : (iblk m c 6 t (ix2 k j) : EReal) = V m c main_v5 (ix2 k j) := by
    unfold iblk
    generalize V m c = W
    exact congrArg (W main_v5) (by blk_ext [idx t] <;> simp <;> try omega)
  refine h.trans ?_
  unfold V
  simp only [hostOps0, hostOps0_1, hostOps0_2, hostOps0_3, hostOps0_4, hostOps0_5, hostOps0_6, hostOps0_7, hostOps0_8, hostOps0_9, hostOps0_10,
    List.flatten_cons, List.flatten_nil, List.append_nil, List.cons_append, List.nil_append]
  entry_read
  try simp -implicitDefEqProofs only [StableHlo.TRef.toBuf, StableHlo.TRef.ofBuf, cast_cast, cast_eq]
  pointwise

theorem w7_at (k : Fin 1024) (j : Fin 256) : (iblk m c 7 t (ix2 k j) : EReal)
    = m (c.tc.loc main_arg2) (ix2 k ⟨2048 + j.val, by omega⟩) := by
  have h : (iblk m c 7 t (ix2 k j) : EReal) = V m c main_v6 (ix2 k j) := by
    unfold iblk
    generalize V m c = W
    exact congrArg (W main_v6) (by blk_ext [idx t] <;> simp <;> try omega)
  refine h.trans ?_
  unfold V
  simp only [hostOps0, hostOps0_1, hostOps0_2, hostOps0_3, hostOps0_4, hostOps0_5, hostOps0_6, hostOps0_7, hostOps0_8, hostOps0_9, hostOps0_10,
    List.flatten_cons, List.flatten_nil, List.append_nil, List.cons_append, List.nil_append]
  entry_read
  try simp -implicitDefEqProofs only [StableHlo.TRef.toBuf, StableHlo.TRef.ofBuf, cast_cast, cast_eq]
  pointwise

theorem w8_at (k : Fin 1024) (j : Fin 256) : (iblk m c 8 t (ix2 k j) : EReal)
    = m (c.tc.loc main_arg2) (ix2 k ⟨2304 + j.val, by omega⟩) := by
  have h : (iblk m c 8 t (ix2 k j) : EReal) = V m c main_v7 (ix2 k j) := by
    unfold iblk
    generalize V m c = W
    exact congrArg (W main_v7) (by blk_ext [idx t] <;> simp <;> try omega)
  refine h.trans ?_
  unfold V
  simp only [hostOps0, hostOps0_1, hostOps0_2, hostOps0_3, hostOps0_4, hostOps0_5, hostOps0_6, hostOps0_7, hostOps0_8, hostOps0_9, hostOps0_10,
    List.flatten_cons, List.flatten_nil, List.append_nil, List.cons_append, List.nil_append]
  entry_read
  try simp -implicitDefEqProofs only [StableHlo.TRef.toBuf, StableHlo.TRef.ofBuf, cast_cast, cast_eq]
  pointwise

theorem w9_at (k : Fin 1024) (j : Fin 256) : (iblk m c 9 t (ix2 k j) : EReal)
    = m (c.tc.loc main_arg2) (ix2 k ⟨2560 + j.val, by omega⟩) := by
  have h : (iblk m c 9 t (ix2 k j) : EReal) = V m c main_v8 (ix2 k j) := by
    unfold iblk
    generalize V m c = W
    exact congrArg (W main_v8) (by blk_ext [idx t] <;> simp <;> try omega)
  refine h.trans ?_
  unfold V
  simp only [hostOps0, hostOps0_1, hostOps0_2, hostOps0_3, hostOps0_4, hostOps0_5, hostOps0_6, hostOps0_7, hostOps0_8, hostOps0_9, hostOps0_10,
    List.flatten_cons, List.flatten_nil, List.append_nil, List.cons_append, List.nil_append]
  entry_read
  try simp -implicitDefEqProofs only [StableHlo.TRef.toBuf, StableHlo.TRef.ofBuf, cast_cast, cast_eq]
  pointwise

theorem w10_at (k : Fin 1024) (j : Fin 256) : (iblk m c 10 t (ix2 k j) : EReal)
    = m (c.tc.loc main_arg2) (ix2 k ⟨2816 + j.val, by omega⟩) := by
  have h : (iblk m c 10 t (ix2 k j) : EReal) = V m c main_v9 (ix2 k j) := by
    unfold iblk
    generalize V m c = W
    exact congrArg (W main_v9) (by blk_ext [idx t] <;> simp <;> try omega)
  refine h.trans ?_
  unfold V
  simp only [hostOps0, hostOps0_1, hostOps0_2, hostOps0_3, hostOps0_4, hostOps0_5, hostOps0_6, hostOps0_7, hostOps0_8, hostOps0_9, hostOps0_10,
    List.flatten_cons, List.flatten_nil, List.append_nil, List.cons_append, List.nil_append]
  entry_read
  try simp -implicitDefEqProofs only [StableHlo.TRef.toBuf, StableHlo.TRef.ofBuf, cast_cast, cast_eq]
  pointwise

theorem w11_at (k : Fin 1024) (j : Fin 128) : (iblk m c 11 t (ix2 k j) : EReal)
    = if h : j.val < 16 then m (c.tc.loc main_arg2) (ix2 k ⟨3072 + j.val, by omega⟩) else (0 : EReal) := by
  have h : (iblk m c 11 t (ix2 k j) : EReal) = V m c main_v11 (ix2 k j) := by
    unfold iblk
    generalize V m c = W
    exact congrArg (W main_v11) (by blk_ext [idx t] <;> simp <;> try omega)
  refine h.trans ?_
  unfold V
  simp only [hostOps0, hostOps0_1, hostOps0_2, hostOps0_3, hostOps0_4, hostOps0_5, hostOps0_6, hostOps0_7, hostOps0_8, hostOps0_9, hostOps0_10,
    List.flatten_cons, List.flatten_nil, List.append_nil, List.cons_append, List.nil_append]
  entry_read
  try simp -implicitDefEqProofs only [StableHlo.TRef.toBuf, StableHlo.TRef.ofBuf, cast_cast, cast_eq]
  pointwise
  show _ = dite _ _ _
  congr 1
  funext _
  show (((0#32 : BitVec 32).toInt : ℝ) : EReal) = 0
  simp

theorem w12_at (k : Fin 128) (j : Fin 256) : (iblk m c 12 t (ix2 k j) : EReal)
    = if h : k.val < 16 then m (c.tc.loc main_arg8) (ix2 ⟨k.val, h⟩ j) else (0 : EReal) := by
  have h : (iblk m c 12 t (ix2 k j) : EReal) = V m c main_v14 (ix2 k j) := by
    unfold iblk
    generalize V m c = W
    exact congrArg (W main_v14) (by blk_ext [idx t] <;> simp <;> try omega)
  refine h.trans ?_
  unfold V
  simp only [hostOps0, hostOps0_1, hostOps0_2, hostOps0_3, hostOps0_4, hostOps0_5, hostOps0_6, hostOps0_7, hostOps0_8, hostOps0_9, hostOps0_10,
    List.flatten_cons, List.flatten_nil, List.append_nil, List.cons_append, List.nil_append]
  entry_read
  try simp -implicitDefEqProofs only [StableHlo.TRef.toBuf, StableHlo.TRef.ofBuf, cast_cast, cast_eq]
  pointwise
  show _ = dite _ _ _
  congr 1
  funext _
  show (((0#32 : BitVec 32).toInt : ℝ) : EReal) = 0
  simp

theorem bga_at (j : Fin 256) : (iblk m c 13 t (ix2 0 j) : EReal)
    = m (c.tc.loc main_arg9) (ix1 j) := by
  have h : (iblk m c 13 t (ix2 0 j) : EReal) = V m c main_v15 (ix2 0 j) := by
    unfold iblk
    generalize V m c = W
    exact congrArg (W main_v15) (by blk_ext [idx t] <;> simp <;> try omega)
  refine h.trans ?_
  unfold V
  simp only [hostOps0, hostOps0_1, hostOps0_2, hostOps0_3, hostOps0_4, hostOps0_5, hostOps0_6, hostOps0_7, hostOps0_8, hostOps0_9, hostOps0_10,
    List.flatten_cons, List.flatten_nil, List.append_nil, List.cons_append, List.nil_append]
  entry_read
  try simp -implicitDefEqProofs only [StableHlo.TRef.toBuf, StableHlo.TRef.ofBuf, cast_cast, cast_eq]
  pointwise

theorem gcv_at (j : Fin 256) : (iblk m c 14 t (ix2 0 j) : EReal)
    = m (c.tc.loc main_arg3) (ix2 ⟨j.val / 64, by omega⟩ ⟨j.val % 64, by omega⟩) := by
  have h : (iblk m c 14 t (ix2 0 j) : EReal) = V m c main_v16 (ix2 0 j) := by
    unfold iblk
    generalize V m c = W
    exact congrArg (W main_v16) (by blk_ext [idx t] <;> simp <;> try omega)
  refine h.trans ?_
  unfold V
  simp only [hostOps0, hostOps0_1, hostOps0_2, hostOps0_3, hostOps0_4, hostOps0_5, hostOps0_6, hostOps0_7, hostOps0_8, hostOps0_9, hostOps0_10,
    List.flatten_cons, List.flatten_nil, List.append_nil, List.cons_append, List.nil_append]
  entry_read
  try simp -implicitDefEqProofs only [StableHlo.TRef.toBuf, StableHlo.TRef.ofBuf, cast_cast, cast_eq]
  pointwise

theorem gq_at (j : Fin 512) : (iblk m c 15 t (ix2 0 j) : EReal)
    = m (c.tc.loc main_arg6) (ix1 ⟨j.val % 64, by omega⟩) := by
  have h : (iblk m c 15 t (ix2 0 j) : EReal) = V m c main_v20 (ix2 0 j) := by
    unfold iblk
    generalize V m c = W
    exact congrArg (W main_v20) (by blk_ext [idx t] <;> simp <;> try omega)
  refine h.trans ?_
  unfold V
  simp only [hostOps0, hostOps0_1, hostOps0_2, hostOps0_3, hostOps0_4, hostOps0_5, hostOps0_6, hostOps0_7, hostOps0_8, hostOps0_9, hostOps0_10,
    List.flatten_cons, List.flatten_nil, List.append_nil, List.cons_append, List.nil_append]
  entry_read
  try simp -implicitDefEqProofs only [StableHlo.TRef.toBuf, StableHlo.TRef.ofBuf, cast_cast, cast_eq]
  pointwise

theorem gk_at (j : Fin 512) : (iblk m c 16 t (ix2 0 j) : EReal)
    = m (c.tc.loc main_arg7) (ix1 ⟨j.val % 64, by omega⟩) := by
  have h : (iblk m c 16 t (ix2 0 j) : EReal) = V m c main_v24 (ix2 0 j) := by
    unfold iblk
    generalize V m c = W
    exact congrArg (W main_v24) (by blk_ext [idx t] <;> simp <;> try omega)
  refine h.trans ?_
  unfold V
  simp only [hostOps0, hostOps0_1, hostOps0_2, hostOps0_3, hostOps0_4, hostOps0_5, hostOps0_6, hostOps0_7, hostOps0_8, hostOps0_9, hostOps0_10,
    List.flatten_cons, List.flatten_nil, List.append_nil, List.cons_append, List.nil_append]
  entry_read
  try simp -implicitDefEqProofs only [StableHlo.TRef.toBuf, StableHlo.TRef.ofBuf, cast_cast, cast_eq]
  pointwise

theorem bmix_at (p : Fin 128) (j : Fin 256) : (iblk m c 18 t (ix2 p j) : EReal)
    = m (c.tc.loc main_arg5) (ix2 ⟨j.val / 64, by omega⟩ p) := by
  have h : (iblk m c 18 t (ix2 p j) : EReal) = V m c main_v53 (ix2 p j) := by
    unfold iblk
    generalize V m c = W
    exact congrArg (W main_v53) (by blk_ext [idx t] <;> simp <;> try omega)
  refine h.trans ?_
  unfold V
  simp only [hostOps0, hostOps0_1, hostOps0_2, hostOps0_3, hostOps0_4, hostOps0_5, hostOps0_6, hostOps0_7, hostOps0_8, hostOps0_9, hostOps0_10,
    List.flatten_cons, List.flatten_nil, List.append_nil, List.cons_append, List.nil_append]
  entry_read
  try simp -implicitDefEqProofs only [StableHlo.TRef.toBuf, StableHlo.TRef.ofBuf, cast_cast, cast_eq]
  pointwise

theorem group_at (k j : Fin 256) : (iblk m c 19 t (ix2 k j) : EReal)
    = if k.val / 64 = j.val / 64 then 1 else (0 : EReal) := by
  have h : (iblk m c 19 t (ix2 k j) : EReal) = V m c main_v33 (ix2 k j) := by
    unfold iblk
    generalize V m c = W
    exact congrArg (W main_v33) (by blk_ext [idx t] <;> simp <;> try omega)
  refine h.trans ?_
  unfold V
  simp only [hostOps0, hostOps0_1, hostOps0_2, hostOps0_3, hostOps0_4, hostOps0_5, hostOps0_6, hostOps0_7, hostOps0_8, hostOps0_9, hostOps0_10,
    List.flatten_cons, List.flatten_nil, List.append_nil, List.cons_append, List.nil_append]
  entry_read
  try simp -implicitDefEqProofs only [StableHlo.TRef.toBuf, StableHlo.TRef.ofBuf, cast_cast, cast_eq]
  pointwise
  rw [WordCmp.cmpi_eq_ofNat (by omega) (by omega), WordCmp.select_ofBool]
  simp only [decide_eq_true_eq]

theorem heads_at (k j : Fin 512) : (iblk m c 20 t (ix2 k j) : EReal)
    = if k.val / 64 = j.val / 64 then 1 else (0 : EReal) := by
  have h : (iblk m c 20 t (ix2 k j) : EReal) = V m c main_v42 (ix2 k j) := by
    unfold iblk
    generalize V m c = W
    exact congrArg (W main_v42) (by blk_ext [idx t] <;> simp <;> try omega)
  refine h.trans ?_
  unfold V
  simp only [hostOps0, hostOps0_1, hostOps0_2, hostOps0_3, hostOps0_4, hostOps0_5, hostOps0_6, hostOps0_7, hostOps0_8, hostOps0_9, hostOps0_10,
    List.flatten_cons, List.flatten_nil, List.append_nil, List.cons_append, List.nil_append]
  entry_read
  try simp -implicitDefEqProofs only [StableHlo.TRef.toBuf, StableHlo.TRef.ofBuf, cast_cast, cast_eq]
  pointwise
  rw [WordCmp.cmpi_eq_ofNat (by omega) (by omega), WordCmp.select_ofBool]
  simp only [decide_eq_true_eq]

theorem mix0_at (p s : Fin 128) : (View.ld (iblk m c 17 t) r0_5 (ix3 0 p s) : EReal)
    = if s.val ≤ p.val then m (c.tc.loc main_arg4) (ix3 0 p s) else (0 : EReal) := by
  have h : (View.ld (iblk m c 17 t) r0_5 (ix3 0 p s) : EReal) = V m c main_v47 (ix3 0 p s) := by
    unfold iblk
    generalize V m c = W
    exact congrArg (W main_v47) (by blk_ext [idx t] <;> simp <;> try omega)
  refine h.trans ?_
  unfold V
  simp only [hostOps0, hostOps0_1, hostOps0_2, hostOps0_3, hostOps0_4, hostOps0_5, hostOps0_6, hostOps0_7, hostOps0_8, hostOps0_9, hostOps0_10,
    List.flatten_cons, List.flatten_nil, List.append_nil, List.cons_append, List.nil_append]
  entry_read
  try simp -implicitDefEqProofs only [StableHlo.TRef.toBuf, StableHlo.TRef.ofBuf, cast_cast, cast_eq]
  pointwise
  rw [WordCmp.cmpi_sge_ofNat (by omega) (by omega), WordCmp.select_ofBool]
  simp only [decide_eq_true_eq]

theorem mix1_at (p s : Fin 128) : (View.ld (iblk m c 17 t) r0_6 (ix3 0 p s) : EReal)
    = if s.val ≤ p.val then m (c.tc.loc main_arg4) (ix3 1 p s) else (0 : EReal) := by
  have h : (View.ld (iblk m c 17 t) r0_6 (ix3 0 p s) : EReal) = V m c main_v47 (ix3 1 p s) := by
    unfold iblk
    generalize V m c = W
    exact congrArg (W main_v47) (by blk_ext [idx t] <;> simp <;> try omega)
  refine h.trans ?_
  unfold V
  simp only [hostOps0, hostOps0_1, hostOps0_2, hostOps0_3, hostOps0_4, hostOps0_5, hostOps0_6, hostOps0_7, hostOps0_8, hostOps0_9, hostOps0_10,
    List.flatten_cons, List.flatten_nil, List.append_nil, List.cons_append, List.nil_append]
  entry_read
  try simp -implicitDefEqProofs only [StableHlo.TRef.toBuf, StableHlo.TRef.ofBuf, cast_cast, cast_eq]
  pointwise
  rw [WordCmp.cmpi_sge_ofNat (by omega) (by omega), WordCmp.select_ofBool]
  simp only [decide_eq_true_eq]

theorem mix2_at (p s : Fin 128) : (View.ld (iblk m c 17 t) r0_7 (ix3 0 p s) : EReal)
    = if s.val ≤ p.val then m (c.tc.loc main_arg4) (ix3 2 p s) else (0 : EReal) := by
  have h : (View.ld (iblk m c 17 t) r0_7 (ix3 0 p s) : EReal) = V m c main_v47 (ix3 2 p s) := by
    unfold iblk
    generalize V m c = W
    exact congrArg (W main_v47) (by blk_ext [idx t] <;> simp <;> try omega)
  refine h.trans ?_
  unfold V
  simp only [hostOps0, hostOps0_1, hostOps0_2, hostOps0_3, hostOps0_4, hostOps0_5, hostOps0_6, hostOps0_7, hostOps0_8, hostOps0_9, hostOps0_10,
    List.flatten_cons, List.flatten_nil, List.append_nil, List.cons_append, List.nil_append]
  entry_read
  try simp -implicitDefEqProofs only [StableHlo.TRef.toBuf, StableHlo.TRef.ofBuf, cast_cast, cast_eq]
  pointwise
  rw [WordCmp.cmpi_sge_ofNat (by omega) (by omega), WordCmp.select_ofBool]
  simp only [decide_eq_true_eq]

theorem mix3_at (p s : Fin 128) : (View.ld (iblk m c 17 t) r0_8 (ix3 0 p s) : EReal)
    = if s.val ≤ p.val then m (c.tc.loc main_arg4) (ix3 3 p s) else (0 : EReal) := by
  have h : (View.ld (iblk m c 17 t) r0_8 (ix3 0 p s) : EReal) = V m c main_v47 (ix3 3 p s) := by
    unfold iblk
    generalize V m c = W
    exact congrArg (W main_v47) (by blk_ext [idx t] <;> simp <;> try omega)
  refine h.trans ?_
  unfold V
  simp only [hostOps0, hostOps0_1, hostOps0_2, hostOps0_3, hostOps0_4, hostOps0_5, hostOps0_6, hostOps0_7, hostOps0_8, hostOps0_9, hostOps0_10,
    List.flatten_cons, List.flatten_nil, List.append_nil, List.cons_append, List.nil_append]
  entry_read
  try simp -implicitDefEqProofs only [StableHlo.TRef.toBuf, StableHlo.TRef.ofBuf, cast_cast, cast_eq]
  pointwise
  rw [WordCmp.cmpi_sge_ofNat (by omega) (by omega), WordCmp.select_ofBool]
  simp only [decide_eq_true_eq]

end Cert.Proof.InProj

end
-- ==== Proof.InProj.Payload.lean ====
/- What the body of the input projections' call stores, at coordinates, over any blocks of its operands. -/
module

public import proofs.«01_k».proof.Proof.Gen.Kernel3Ideal.Skeleton
public import proofs.«01_k».proof.Proof.InProj.Scalar
public import proofs.«01_k».proof.Proof.InProj.Spec
public import Idealize.ShloMosaic.Lib.WordCmp

@[expose] public section

set_option maxRecDepth 16384

noncomputable section

namespace Cert.Proof.InProj

open Cert.Kernel3Ideal Cert.Kernel3Ideal.Gen
open Idealize.ShloMosaic Idealize.ShloMosaic.TcCoe Idealize.SL.Sem

/-! ## The normalised rows and the plain projections -/

theorem rows_at (xb : Vec Ideal S256x1024 .f32) (gb : Vec Ideal S1x1024 .f32) (p : Fin 256) (k : Fin 1024) :
    k0_pay2 (F := Ideal) xb gb (ix2 p k) = xb (ix2 p k) * Ideal.rsqrt (Ideal.div (∑ l, xb (ix2 p l) * xb (ix2 p l))
      (Ideal.ofBits .f32 0x44800000#32) + Ideal.ofBits .f32 0x358637BD#32) * gb (ix2 0 k) := by
  pointwise [k0_pay2]

section Plain

variable (H : FVec Ideal S256x1024 .bf16) (p : Fin 256)

theorem lq_pay (B : Vec Ideal S1024x256 .bf16) (j : Fin 256) :
    k0_pay25 (F := Ideal) H B (ix2 p j) = (∑ k, H (ix2 p k) * B (ix2 k j)) * Ideal.ofBits .f32 0x3E000000#32 := by
  pointwise [k0_pay25]

theorem lk_pay (B : Vec Ideal S1024x256 .bf16) (j : Fin 256) :
    k0_pay26 (F := Ideal) H B (ix2 p j) = ∑ k, H (ix2 p k) * B (ix2 k j) := by
  pointwise [k0_pay26]

theorem lv_pay (B : Vec Ideal S1024x256 .bf16) (j : Fin 256) :
    k0_pay27 (F := Ideal) H B (ix2 p j) = ∑ k, H (ix2 p k) * B (ix2 k j) := by
  pointwise [k0_pay27]

theorem gs_pay (B : Vec Ideal S1024x256 .bf16) (j : Fin 256) :
    k0_pay28 (F := Ideal) H B (ix2 p j) = silu (∑ k, H (ix2 p k) * B (ix2 k j)) := by
  unfold silu
  rw [← neg_zero_sub]
  pointwise [k0_pay28]

theorem vb_pay (B : Vec Ideal S1024x512 .bf16) (j : Fin 512) :
    k0_pay20 (F := Ideal) H B (ix2 p j) = ∑ k, H (ix2 p k) * B (ix2 k j) := by
  pointwise [k0_pay20, k0_pay19]

theorem vtf_pay (B : Vec Ideal S1024x512 .bf16) (j : Fin 512) :
    k0_pay23 (F := Ideal) H B (ix3 0 j p) = ∑ k, H (ix2 p k) * B (ix2 k j) := by
  pointwise [k0_pay23, k0_pay19]

theorem la_pay (A : Vec Ideal S1024x128 .bf16) (B : Vec Ideal S128x256 .bf16) (b : Vec Ideal S1x256 .f32) (j : Fin 256)
    (f : Fin 16 → EReal) (h : ∀ k : Fin 128, (∑ l, H (ix2 p l) * A (ix2 l k)) * B (ix2 k j) = if h : k.val < 16 then f ⟨k.val, h⟩ else 0) :
    k0_pay1 (F := Ideal) H (k0_pay29 A) (constant S256x128 .f32 0x00000000#32) B b (ix2 p j)
      = logSigmoid ((∑ k, f k) + b (ix2 0 j)) * Ideal.ofBits .f32 0x3D800000#32 := by
  unfold logSigmoid
  rw [← padded_sum f _ h]
  pointwise [k0_pay1, k0_pay29]
  rfl

end Plain

/-! ## Group norms -/

section Groups

variable (H : FVec Ideal S256x1024 .bf16) (p : Fin 256) (A : Vec Ideal S1024x512 .bf16) (D : Vec Ideal S512x512 .bf16)
  (gb : Vec Ideal S1x512 .f32) (hD : ∀ k j : Fin 512, D (ix2 k j) = if k.val / 64 = j.val / 64 then 1 else 0)
  (S : Fin 512 → EReal) (hS : ∀ j, ∑ k, H (ix2 p k) * A (ix2 k j) = S j) (hr : ∀ j, IsReal (S j))

include hr hD in
theorem groups (j : Fin 512) : (∑ k, S k * S k * D (ix2 k j)) + (∑ k, (S k * S k - S k * S k) * D (ix2 k j))
    = ∑ d : Fin 64, S ⟨j.val / 64 * 64 + d.val, by omega⟩ * S ⟨j.val / 64 * 64 + d.val, by omega⟩ := by
  refine (split_sum (fun k => S k * S k) (fun k => D (ix2 k j)) fun k => (hr k).mul (hr k)).trans ?_
  simp only [hD]
  exact group_sum 8 rfl (fun k => S k * S k) j

include hD hS hr

theorem q_pay (j : Fin 512) : k0_pay16 (F := Ideal) H A D gb (ix2 p j)
    = scaled 8 rfl S j * gb (ix2 0 j) * Ideal.ofBits .f32 0x3E000000#32 := by
  unfold scaled
  rw [div_64, ← groups D hD S hr]
  pointwise [k0_pay16]
  simp only [hS]

theorem k_pay (j : Fin 512) : k0_pay21 (F := Ideal) (k0_pay17 H A) (k0_pay18 H A) D gb (ix2 j p)
    = scaled 8 rfl S j * gb (ix2 0 j) := by
  unfold scaled
  rw [div_64, ← groups D hD S hr]
  pointwise [k0_pay21, k0_pay17, k0_pay18]
  simp only [hS]

theorem ktf_pay (j : Fin 512) : k0_pay22 (F := Ideal) (k0_pay17 H A) (k0_pay18 H A) D gb (ix3 0 j p)
    = scaled 8 rfl S j * gb (ix2 0 j) := by
  rw [← k_pay H p A D gb hD S hS hr]
  unfold k0_pay22
  generalize k0_pay21 (F := Ideal) (k0_pay17 H A) (k0_pay18 H A) D gb = Y
  pointwise

theorem kt_pay (j : Fin 512) : k0_pay24 (F := Ideal) (k0_pay17 H A) (k0_pay18 H A) D gb (ix3 0 j p)
    = scaled 8 rfl S j * gb (ix2 0 j) := by
  rw [← k_pay H p A D gb hD S hS hr]
  unfold k0_pay24
  generalize k0_pay21 (F := Ideal) (k0_pay17 H A) (k0_pay18 H A) D gb = Y
  pointwise

end Groups

/-! ## The chunk -/

theorem isReal_gelu {z : EReal} (h : IsReal z) : IsReal (gelu z) :=
  h.mul (IsReal.mul ⟨_, lit_half⟩ (isReal_one.add (isReal_tanh _)))

theorem chunkVal_pay (xb : Vec Ideal S256x1024 .f32) (gb : Vec Ideal S1x1024 .f32) (D : Vec Ideal S256x256 .bf16) (W : Vec Ideal S1024x256 .bf16) (gv : Vec Ideal S1x256 .f32)
    (p : Fin 256) (hD : ∀ k j : Fin 256, D (ix2 k j) = if k.val / 64 = j.val / 64 then 1 else 0)
    (S : Fin 256 → EReal) (hS : ∀ j, ∑ k, k0_pay2 xb gb (ix2 p k) * W (ix2 k j) = S j) (hr : ∀ j, IsReal (S j)) (j : Fin 256) :
    k0_pay6 (F := Ideal) (k0_pay4 xb gb W) (k0_pay5 xb gb W) (Scalar.ofBits .f32 0x3F4C422A#32) D gv (ix2 p j)
      = scaled 4 rfl (fun k => gelu (S k)) j * gv (ix2 0 j) := by
  have e := split_sum (fun k => gelu (S k) * gelu (S k)) (fun k => D (ix2 k j)) fun k => (isReal_gelu (hr k)).mul (isReal_gelu (hr k))
  simp only [hD] at e
  unfold scaled
  rw [div_64, ← group_sum 4 rfl (fun k => gelu (S k) * gelu (S k)) j, ← e]
  have h4 : ∀ j, k0_pay4 (F := Ideal) xb gb W (ix2 p j) = S j := fun j => by
    rw [← hS]
    unfold k0_pay4
    generalize k0_pay2 xb gb = H
    pointwise
  unfold k0_pay5
  generalize k0_pay4 (F := Ideal) xb gb W = Y at h4 ⊢
  unfold gelu
  pointwise [k0_pay6]
  simp only [h4, hD]

theorem gate_pay (xb : Vec Ideal S256x1024 .f32) (gb : Vec Ideal S1x1024 .f32) (W : Vec Ideal S1024x256 .bf16) (p j : Fin 256) :
    k0_pay3 (F := Ideal) xb gb W (ix2 p j) = gelu (∑ k, k0_pay2 xb gb (ix2 p k) * W (ix2 k j)) := by
  unfold k0_pay3
  generalize k0_pay2 xb gb = H
  pointwise [gelu]

/-- The lanes' group numbers, as the body computes them. -/
abbrev lanes : IVec S128x256 32 := k0_pay9 (iota .tc S128x256 32 [1] iota_S128x256_d1_w32) 64#32 k0_pay7 k0_pay8

theorem lanes_at (p : Fin 128) (j : Fin 256) : lanes (ix2 p j) = BitVec.ofNat 32 (j.val / 64) := by
  unfold lanes k0_pay9 k0_pay7 k0_pay8
  pointwise
  revert j
  decide +kernel

theorem lane_is : ∀ g i : Fin 4, IntOp.cmpi .eq (BitVec.ofNat 32 g.val) (BitVec.ofNat 32 i.val) = BitVec.ofBool (decide (g = i)) := by
  decide +kernel

theorem pick (g : Fin 4) (a : Fin 4 → EReal) :
    Scalar.select (IntOp.cmpi .eq (BitVec.ofNat 32 g.val) 3#32) (a 3) (Scalar.select (IntOp.cmpi .eq (BitVec.ofNat 32 g.val) 2#32) (a 2)
      (Scalar.select (IntOp.cmpi .eq (BitVec.ofNat 32 g.val) 1#32) (a 1) (Scalar.select (IntOp.cmpi .eq (BitVec.ofNat 32 g.val) 0#32) (a 0) 0)))
      = a g := by
  rw [show (3#32) = BitVec.ofNat 32 (3 : Fin 4).val from rfl, show (2#32) = BitVec.ofNat 32 (2 : Fin 4).val from rfl,
    show (1#32) = BitVec.ofNat 32 (1 : Fin 4).val from rfl, show (0#32) = BitVec.ofNat 32 (0 : Fin 4).val from rfl,
    lane_is, lane_is, lane_is, lane_is, Scalar.select_ofBool, Scalar.select_ofBool, Scalar.select_ofBool, Scalar.select_ofBool]
  match g with
  | 0 => rfl
  | 1 => rfl
  | 2 => rfl
  | 3 => rfl

section Mix

variable (v : FVec Ideal S256x256 .f32) (M : Fin 4 → Vec Ideal S1x128x128 .bf16) (p : Fin 128) (j : Fin 256)

theorem mix_first : k0_pay10 (F := Ideal) v (iota .tc S128x256 32 [1] iota_S128x256_d1_w32) 64#32 k0_pay7 k0_pay8 (M 0) (M 1) (M 2) (M 3) (ix2 p j)
    = ∑ s : Fin 128, M ⟨j.val / 64, by omega⟩ (ix3 0 p s) * v (ix2 ⟨s.val, by omega⟩ j) := by
  have h := lanes_at p j
  unfold k0_pay10
  unfold lanes at h
  generalize k0_pay9 (iota .tc S128x256 32 [1] iota_S128x256_d1_w32) 64#32 k0_pay7 k0_pay8 = L at h ⊢
  refine Eq.trans ?_ (pick ⟨j.val / 64, by omega⟩ fun g => ∑ s : Fin 128, M g (ix3 0 p s) * v (ix2 ⟨s.val, by omega⟩ j))
  rw [← h]
  pointwise

theorem mix_second : k0_pay13 (F := Ideal) v lanes (M 0) (M 1) (M 2) (M 3) (ix2 p j)
    = ∑ s : Fin 128, M ⟨j.val / 64, by omega⟩ (ix3 0 p s) * v (ix2 ⟨128 + s.val, by omega⟩ j) := by
  have h := lanes_at p j
  unfold k0_pay13
  generalize lanes = L at h ⊢
  refine Eq.trans ?_ (pick ⟨j.val / 64, by omega⟩ fun g => ∑ s : Fin 128, M g (ix3 0 p s) * v (ix2 ⟨128 + s.val, by omega⟩ j))
  rw [← h]
  pointwise

end Mix

theorem chunk_first (mx : FVec Ideal S128x256 .f32) (u : FVec Ideal S256x256 .f32) (b : Vec Ideal S128x256 .f32) (p : Fin 128) (j : Fin 256) :
    k0_pay12 (F := Ideal) mx (k0_pay11 u) b (ix2 p j) = u (ix2 ⟨p.val, by omega⟩ j) * (mx (ix2 p j) + b (ix2 p j)) := by
  pointwise [k0_pay12, k0_pay11]

theorem chunk_second (mx : FVec Ideal S128x256 .f32) (u : FVec Ideal S256x256 .f32) (b : Vec Ideal S128x256 .f32) (p : Fin 128) (j : Fin 256) :
    k0_pay15 (F := Ideal) mx (k0_pay14 u) b (ix2 p j) = u (ix2 ⟨128 + p.val, by omega⟩ j) * (mx (ix2 p j) + b (ix2 p j)) := by
  pointwise [k0_pay15, k0_pay14]

end Cert.Proof.InProj

end
-- ==== Proof.InProj.Results.lean ====
/- The eleven arrays the input projections' call has to leave, as functions of its arguments. -/
module

public import proofs.«01_k».proof.Proof.InProj.Spec

@[expose] public section

set_option maxRecDepth 16384

noncomputable section

namespace Cert.Proof.InProj

open Idealize.ShloMosaic

variable (x : (⟨2, ![32768, 1024]⟩ : Shape).Idx → EReal) (g : (⟨1, ![1024]⟩ : Shape).Idx → EReal)
  (w : (⟨2, ![1024, 3088]⟩ : Shape).Idx → EReal)

/-- Token `s` of sequence `b`, as a row. -/
def token (b : Fin 8) (s : Fin 4096) : Fin 32768 := ⟨b.val * 4096 + s.val, by omega⟩

/-- Row `s` of block `b`, as a row. -/
def blockRow (b : Fin 128) (s : Fin 256) : Fin 32768 := ⟨b.val * 256 + s.val, by omega⟩

def outYa (gv : (⟨2, ![4, 64]⟩ : Shape).Idx → EReal) (ws : (⟨3, ![4, 128, 128]⟩ : Shape).Idx → EReal)
    (bs : (⟨2, ![4, 128]⟩ : Shape).Idx → EReal) : (⟨2, ![32768, 256]⟩ : Shape).Idx → EReal :=
  fun y => chunk x g w gv ws bs (y 0) (y 1)

def outQ (gq : (⟨1, ![64]⟩ : Shape).Idx → EReal) : (⟨2, ![32768, 512]⟩ : Shape).Idx → EReal :=
  fun y => head x g w 512 (by decide) gq (y 0) (y 1) * Ideal.ofBits .f32 0x3E000000#32

def outKtf (gk : (⟨1, ![64]⟩ : Shape).Idx → EReal) : (⟨3, ![8, 512, 4096]⟩ : Shape).Idx → EReal :=
  fun y => head x g w 1024 (by decide) gk (token (y 0) (y 2)) (y 1)

def outVtf : (⟨3, ![8, 512, 4096]⟩ : Shape).Idx → EReal :=
  fun y => part x g w 512 1536 (by decide) (token (y 0) (y 2)) (y 1)

def outKt (gk : (⟨1, ![64]⟩ : Shape).Idx → EReal) : (⟨3, ![128, 512, 256]⟩ : Shape).Idx → EReal :=
  fun y => head x g w 1024 (by decide) gk (blockRow (y 0) (y 2)) (y 1)

def outVb : (⟨2, ![32768, 512]⟩ : Shape).Idx → EReal := fun y => part x g w 512 1536 (by decide) (y 0) (y 1)

def outLq : (⟨2, ![32768, 256]⟩ : Shape).Idx → EReal :=
  fun y => part x g w 256 2048 (by decide) (y 0) (y 1) * Ideal.ofBits .f32 0x3E000000#32

def outLk : (⟨2, ![32768, 256]⟩ : Shape).Idx → EReal := fun y => part x g w 256 2304 (by decide) (y 0) (y 1)

def outLv : (⟨2, ![32768, 256]⟩ : Shape).Idx → EReal := fun y => part x g w 256 2560 (by decide) (y 0) (y 1)

def outLa (w2 : (⟨2, ![16, 256]⟩ : Shape).Idx → EReal) (b : (⟨1, ![256]⟩ : Shape).Idx → EReal) :
    (⟨2, ![32768, 256]⟩ : Shape).Idx → EReal :=
  fun y => decay x g w w2 b (y 0) (y 1)

def outGs : (⟨2, ![32768, 256]⟩ : Shape).Idx → EReal := fun y => silu (part x g w 256 2816 (by decide) (y 0) (y 1))

end Cert.Proof.InProj

end
-- ==== Proof.InProj.Plain.lean ====
/- The results of the input projections' call that are plain products with the weights' columns. -/
module

public import proofs.«01_k».proof.Proof.InProj.Operands
public import proofs.«01_k».proof.Proof.InProj.Payload
public import proofs.«01_k».proof.Proof.InProj.Results

@[expose] public section

set_option maxRecDepth 16384

noncomputable section

namespace Cert.Proof.InProj

open Cert.Kernel3Ideal Cert.Kernel3Ideal.Gen
open Idealize.ShloMosaic Idealize.ShloMosaic.TcCoe Idealize.SL.Sem
open Idealize.ShloMosaic.Pipeline (Dat)

variable (m : (ℓ : Loc nD τ sig) → Buf (Elt Ideal) ℓ) (c : Dev nD) (t : Fin cfg0.N)

/-- The normed rows of a grid point. -/
abbrev rows : FVec Ideal S256x1024 .bf16 := k0_pay2 (F := Ideal) (iblk m c 0 t) (iblk m c 1 t)

theorem rows_eq (p : Fin 256) (k : Fin 1024) :
    rows m c t (ix2 p k) = normed (m (c.tc.loc main_arg0)) (m (c.tc.loc main_arg1)) (rowOf t p) k := by
  refine (rows_at _ _ p k).trans ?_
  simp only [x_at, gmix_at]
  rfl

/-- Their product with a stretch of the weights' columns. -/
theorem part_at {n : ℕ} (lo : ℕ) (hlo : lo + n ≤ 3088) (B : (⟨2, ![1024, n]⟩ : Shape).Idx → EReal)
    (hB : ∀ k j, B (ix2 k j) = m (c.tc.loc main_arg2) (ix2 k ⟨lo + j.val, by omega⟩)) (p : Fin 256) (j : Fin n) :
    (∑ k, rows m c t (ix2 p k) * B (ix2 k j))
      = part (m (c.tc.loc main_arg0)) (m (c.tc.loc main_arg1)) (m (c.tc.loc main_arg2)) n lo hlo (rowOf t p) j := by
  unfold part proj
  exact Finset.sum_congr rfl fun k _ => by rw [rows_eq, hB]

theorem final_lq : (dats m 0 c).arrAt 27 cfg0.N
    = outLq (m (c.tc.loc main_arg0)) (m (c.tc.loc main_arg1)) (m (c.tc.loc main_arg2)) := by
  refine (dats m 0 c).arrAt_eq_of_covers 27 _ (by decide +kernel) fun t _ y => ?_
  blk_simp
  rw [after0_27]
  unfold out0_27 k0_pay30
  frame_out
  obtain ⟨p, j, rfl⟩ : ∃ p j, y = ix2 p j := ⟨y 0, y 1, by blk_ext⟩
  rw [show ((View.whole main_v54_6).slice (win0_27.rect t)).emb (ix2 p j) = ix2 (rowOf t p) j by blk_ext [idx_out t, rowOf]]
  refine (lq_pay _ p _ j).trans ?_
  rw [part_at m c t 2048 (by decide) (iblk m c 7 t) (w7_at m c t) p j]
  rfl

theorem final_lk : (dats m 0 c).arrAt 28 cfg0.N
    = outLk (m (c.tc.loc main_arg0)) (m (c.tc.loc main_arg1)) (m (c.tc.loc main_arg2)) := by
  refine (dats m 0 c).arrAt_eq_of_covers 28 _ (by decide +kernel) fun t _ y => ?_
  blk_simp
  rw [after0_28]
  unfold out0_28 k0_pay30
  frame_out
  obtain ⟨p, j, rfl⟩ : ∃ p j, y = ix2 p j := ⟨y 0, y 1, by blk_ext⟩
  rw [show ((View.whole main_v54_7).slice (win0_28.rect t)).emb (ix2 p j) = ix2 (rowOf t p) j by blk_ext [idx_out t, rowOf]]
  refine (lk_pay _ p _ j).trans ?_
  rw [part_at m c t 2304 (by decide) (iblk m c 8 t) (w8_at m c t) p j]
  rfl

theorem final_lv : (dats m 0 c).arrAt 29 cfg0.N
    = outLv (m (c.tc.loc main_arg0)) (m (c.tc.loc main_arg1)) (m (c.tc.loc main_arg2)) := by
  refine (dats m 0 c).arrAt_eq_of_covers 29 _ (by decide +kernel) fun t _ y => ?_
  blk_simp
  rw [after0_29]
  unfold out0_29 k0_pay30
  frame_out
  obtain ⟨p, j, rfl⟩ : ∃ p j, y = ix2 p j := ⟨y 0, y 1, by blk_ext⟩
  rw [show ((View.whole main_v54_8).slice (win0_29.rect t)).emb (ix2 p j) = ix2 (rowOf t p) j by blk_ext [idx_out t, rowOf]]
  refine (lv_pay _ p _ j).trans ?_
  rw [part_at m c t 2560 (by decide) (iblk m c 9 t) (w9_at m c t) p j]
  rfl

theorem final_gs : (dats m 0 c).arrAt 31 cfg0.N
    = outGs (m (c.tc.loc main_arg0)) (m (c.tc.loc main_arg1)) (m (c.tc.loc main_arg2)) := by
  refine (dats m 0 c).arrAt_eq_of_covers 31 _ (by decide +kernel) fun t _ y => ?_
  blk_simp
  rw [after0_31]
  unfold out0_31 k0_pay30
  frame_out
  obtain ⟨p, j, rfl⟩ : ∃ p j, y = ix2 p j := ⟨y 0, y 1, by blk_ext⟩
  rw [show ((View.whole main_v54_10).slice (win0_31.rect t)).emb (ix2 p j) = ix2 (rowOf t p) j by blk_ext [idx_out t, rowOf]]
  refine (gs_pay _ p _ j).trans ?_
  rw [part_at m c t 2816 (by decide) (iblk m c 10 t) (w10_at m c t) p j]
  rfl

theorem final_vb : (dats m 0 c).arrAt 26 cfg0.N
    = outVb (m (c.tc.loc main_arg0)) (m (c.tc.loc main_arg1)) (m (c.tc.loc main_arg2)) := by
  refine (dats m 0 c).arrAt_eq_of_covers 26 _ (by decide +kernel) fun t _ y => ?_
  blk_simp
  rw [after0_26]
  unfold out0_26 k0_pay30
  frame_out
  obtain ⟨p, j, rfl⟩ : ∃ p j, y = ix2 p j := ⟨y 0, y 1, by blk_ext⟩
  rw [show ((View.whole main_v54_5).slice (win0_26.rect t)).emb (ix2 p j) = ix2 (rowOf t p) j by blk_ext [idx_out t, rowOf]]
  refine (vb_pay _ p _ j).trans ?_
  rw [part_at m c t 1536 (by decide) (iblk m c 6 t) (w6_at m c t) p j]
  rfl

theorem final_vtf : (dats m 0 c).arrAt 24 cfg0.N
    = outVtf (m (c.tc.loc main_arg0)) (m (c.tc.loc main_arg1)) (m (c.tc.loc main_arg2)) := by
  refine (dats m 0 c).arrAt_eq_of_covers 24 _ (by decide +kernel) fun t _ y => ?_
  blk_simp
  rw [after0_24]
  unfold out0_24 k0_pay30
  frame_out
  obtain ⟨z, j, p, rfl⟩ : ∃ z j p, y = ix3 z j p := ⟨y 0, y 1, y 2, by blk_ext⟩
  obtain rfl : z = 0 := Subsingleton.elim _ _
  rw [show ((View.whole main_v54_3).slice (win0_24.rect t)).emb (ix3 0 j p)
    = ix3 (⟨t.val / 16, by have := lt_points t; omega⟩ : Fin 8) j (⟨t.val % 16 * 256 + p.val, by omega⟩ : Fin 4096) by
      blk_ext [idx_out t]]
  refine (vtf_pay _ p _ j).trans ?_
  rw [part_at m c t 1536 (by decide) (iblk m c 6 t) (w6_at m c t) p j]
  unfold outVtf
  congr 1
  exact Fin.ext (by show t.val * 256 + p.val = t.val / 16 * 4096 + (t.val % 16 * 256 + p.val); omega)

end Cert.Proof.InProj

end
-- ==== Proof.InProj.Decay.lean ====
/- The log decay of the input projections' call: two products in a row, the inner dimension padded with zeros. -/
module

public import proofs.«01_k».proof.Proof.InProj.Plain

@[expose] public section

set_option maxRecDepth 16384

noncomputable section

namespace Cert.Proof.InProj

open Cert.Kernel3Ideal Cert.Kernel3Ideal.Gen
open Idealize.ShloMosaic Idealize.ShloMosaic.TcCoe Idealize.SL.Sem
open Idealize.ShloMosaic.Pipeline (Dat)

variable (m : (ℓ : Loc nD τ sig) → Buf (Elt Ideal) ℓ) (c : Dev nD) (t : Fin cfg0.N)

theorem low_at (p : Fin 256) (k : Fin 128) (hk : k.val < 16) :
    (∑ l, rows m c t (ix2 p l) * (iblk m c 11 t (ix2 l k) : EReal))
      = part (m (c.tc.loc main_arg0)) (m (c.tc.loc main_arg1)) (m (c.tc.loc main_arg2)) 16 3072 (by decide) (rowOf t p) ⟨k.val, hk⟩ := by
  unfold part proj
  exact Finset.sum_congr rfl fun l _ => by rw [rows_eq, w11_at, dif_pos hk]

theorem low_mul (p j : Fin 256) (k : Fin 128) :
    (∑ l, rows m c t (ix2 p l) * (iblk m c 11 t (ix2 l k) : EReal)) * (iblk m c 12 t (ix2 k j) : EReal)
      = if h : k.val < 16 then part (m (c.tc.loc main_arg0)) (m (c.tc.loc main_arg1)) (m (c.tc.loc main_arg2)) 16 3072 (by decide) (rowOf t p) ⟨k.val, h⟩
          * m (c.tc.loc main_arg8) (ix2 ⟨k.val, h⟩ j) else (0 : EReal) := by
  rw [w12_at]
  by_cases hk : k.val < 16
  · rw [low_at m c t p k hk, dif_pos hk, dif_pos hk]
  · rw [dif_neg hk, dif_neg hk, mul_zero]

theorem decay_at (p j : Fin 256) :
    k0_pay1 (F := Ideal) (rows m c t) (k0_pay29 (iblk m c 11 t)) (constant S256x128 .f32 0x00000000#32) (iblk m c 12 t) (iblk m c 13 t) (ix2 p j)
      = decay (m (c.tc.loc main_arg0)) (m (c.tc.loc main_arg1)) (m (c.tc.loc main_arg2)) (m (c.tc.loc main_arg8)) (m (c.tc.loc main_arg9)) (rowOf t p) j := by
  refine (la_pay (rows m c t) p (iblk m c 11 t) (iblk m c 12 t) (iblk m c 13 t) j
    (fun k => part (m (c.tc.loc main_arg0)) (m (c.tc.loc main_arg1)) (m (c.tc.loc main_arg2)) 16 3072 (by decide) (rowOf t p) k * m (c.tc.loc main_arg8) (ix2 k j)) (low_mul m c t p j)).trans ?_
  rw [bga_at]
  rfl

theorem final_la : (dats m 0 c).arrAt 30 cfg0.N
    = outLa (m (c.tc.loc main_arg0)) (m (c.tc.loc main_arg1)) (m (c.tc.loc main_arg2))
      (m (c.tc.loc main_arg8)) (m (c.tc.loc main_arg9)) := by
  refine (dats m 0 c).arrAt_eq_of_covers 30 _ (by decide +kernel) fun t _ y => ?_
  blk_simp
  rw [after0_30]
  unfold out0_30 k0_pay30
  frame_out
  obtain ⟨p, j, rfl⟩ : ∃ p j, y = ix2 p j := ⟨y 0, y 1, by blk_ext⟩
  rw [show ((View.whole main_v54_9).slice (win0_30.rect t)).emb (ix2 p j) = ix2 (rowOf t p) j by blk_ext [idx_out t, rowOf]]
  exact decay_at m c t p j

end Cert.Proof.InProj

end
-- ==== Proof.InProj.Heads.lean ====
/- The queries and the keys of the input projections' call, normed per head. -/
module

public import proofs.«01_k».proof.Proof.InProj.Plain

@[expose] public section

set_option maxRecDepth 16384

noncomputable section

namespace Cert.Proof.InProj

open Cert.Kernel3Ideal Cert.Kernel3Ideal.Gen
open Idealize.ShloMosaic Idealize.ShloMosaic.TcCoe Idealize.SL.Sem
open Idealize.ShloMosaic.Pipeline (Dat)

variable (m : (ℓ : Loc nD τ sig) → Buf (Elt Ideal) ℓ) (c : Dev nD) (t : Fin cfg0.N)

theorem final_q (hr : ∀ r j, IsReal (part (m (c.tc.loc main_arg0)) (m (c.tc.loc main_arg1)) (m (c.tc.loc main_arg2)) 512 512 (by decide) r j)) : (dats m 0 c).arrAt 22 cfg0.N
    = outQ (m (c.tc.loc main_arg0)) (m (c.tc.loc main_arg1)) (m (c.tc.loc main_arg2)) (m (c.tc.loc main_arg6)) := by
  refine (dats m 0 c).arrAt_eq_of_covers 22 _ (by decide +kernel) fun t _ y => ?_
  blk_simp
  rw [after0_22]
  unfold out0_22 k0_pay30
  frame_out
  obtain ⟨p, j, rfl⟩ : ∃ p j, y = ix2 p j := ⟨y 0, y 1, by blk_ext⟩
  rw [show ((View.whole main_v54_1).slice (win0_22.rect t)).emb (ix2 p j) = ix2 (rowOf t p) j by blk_ext [idx_out t, rowOf]]
  refine (q_pay (rows m c t) p (iblk m c 4 t) (iblk m c 20 t) (iblk m c 15 t) (heads_at m c t) _
    (part_at m c t 512 (by decide) (iblk m c 4 t) (w4_at m c t) p) (hr (rowOf t p)) j).trans ?_
  rw [gq_at]
  rfl

theorem final_ktf (hr : ∀ r j, IsReal (part (m (c.tc.loc main_arg0)) (m (c.tc.loc main_arg1)) (m (c.tc.loc main_arg2)) 512 1024 (by decide) r j)) : (dats m 0 c).arrAt 23 cfg0.N
    = outKtf (m (c.tc.loc main_arg0)) (m (c.tc.loc main_arg1)) (m (c.tc.loc main_arg2)) (m (c.tc.loc main_arg7)) := by
  refine (dats m 0 c).arrAt_eq_of_covers 23 _ (by decide +kernel) fun t _ y => ?_
  blk_simp
  rw [after0_23]
  unfold out0_23 k0_pay36 k0_pay37 k0_pay30
  frame_out
  obtain ⟨z, j, p, rfl⟩ : ∃ z j p, y = ix3 z j p := ⟨y 0, y 1, y 2, by blk_ext⟩
  obtain rfl : z = 0 := Subsingleton.elim _ _
  rw [show ((View.whole main_v54_2).slice (win0_23.rect t)).emb (ix3 0 j p)
    = ix3 (⟨t.val / 16, by have := lt_points t; omega⟩ : Fin 8) j (⟨t.val % 16 * 256 + p.val, by omega⟩ : Fin 4096) by
      blk_ext [idx_out t]]
  refine (ktf_pay (rows m c t) p (iblk m c 5 t) (iblk m c 20 t) (iblk m c 16 t) (heads_at m c t) _
    (part_at m c t 1024 (by decide) (iblk m c 5 t) (w5_at m c t) p) (hr (rowOf t p)) j).trans ?_
  rw [gk_at]
  unfold outKtf
  refine congrArg (fun r => head _ _ _ 1024 (by decide) _ r j) ?_
  exact Fin.ext (by show t.val * 256 + p.val = t.val / 16 * 4096 + (t.val % 16 * 256 + p.val); omega)

theorem final_kt (hr : ∀ r j, IsReal (part (m (c.tc.loc main_arg0)) (m (c.tc.loc main_arg1)) (m (c.tc.loc main_arg2)) 512 1024 (by decide) r j)) : (dats m 0 c).arrAt 25 cfg0.N
    = outKt (m (c.tc.loc main_arg0)) (m (c.tc.loc main_arg1)) (m (c.tc.loc main_arg2)) (m (c.tc.loc main_arg7)) := by
  refine (dats m 0 c).arrAt_eq_of_covers 25 _ (by decide +kernel) fun t _ y => ?_
  blk_simp
  rw [after0_25]
  unfold out0_25 k0_pay36 k0_pay37 k0_pay30
  frame_out
  obtain ⟨z, j, p, rfl⟩ : ∃ z j p, y = ix3 z j p := ⟨y 0, y 1, y 2, by blk_ext⟩
  obtain rfl : z = 0 := Subsingleton.elim _ _
  rw [show ((View.whole main_v54_4).slice (win0_25.rect t)).emb (ix3 0 j p)
    = ix3 (⟨t.val, lt_points t⟩ : Fin 128) j p by blk_ext [idx_out t]]
  refine (kt_pay (rows m c t) p (iblk m c 5 t) (iblk m c 20 t) (iblk m c 16 t) (heads_at m c t) _
    (part_at m c t 1024 (by decide) (iblk m c 5 t) (w5_at m c t) p) (hr (rowOf t p)) j).trans ?_
  rw [gk_at]
  rfl

end Cert.Proof.InProj

end
-- ==== Proof.InProj.Chunk.lean ====
/- The gated chunk of the input projections' call: two chunks of 128 rows per grid point, mixed one after the other. -/
module

public import proofs.«01_k».proof.Proof.InProj.Plain

@[expose] public section

set_option maxRecDepth 16384

noncomputable section

namespace Cert.Proof.InProj

open Cert.Kernel3Ideal Cert.Kernel3Ideal.Gen
open Idealize.ShloMosaic Idealize.ShloMosaic.TcCoe Idealize.SL.Sem
open Idealize.ShloMosaic.Pipeline (Dat)

variable (m : (ℓ : Loc nD τ sig) → Buf (Elt Ideal) ℓ) (c : Dev nD) (t : Fin cfg0.N)

/-- The four groups' mixing matrices, as loaded. -/
def mixes : Fin 4 → Vec Ideal S1x128x128 .bf16
  | 0 => View.ld (iblk m c 17 t) r0_5
  | 1 => View.ld (iblk m c 17 t) r0_6
  | 2 => View.ld (iblk m c 17 t) r0_7
  | 3 => View.ld (iblk m c 17 t) r0_8

theorem mixes_at (g : Fin 4) (p s : Fin 128) :
    mixes m c t g (ix3 0 p s) = if s.val ≤ p.val then m (c.tc.loc main_arg4) (ix3 g p s) else (0 : EReal) :=
  match g with
  | 0 => mix0_at m c t p s
  | 1 => mix1_at m c t p s
  | 2 => mix2_at m c t p s
  | 3 => mix3_at m c t p s

/-- The chunk's normed values. -/
abbrev vals : FVec Ideal S256x256 .f32 :=
  k0_pay6 (F := Ideal) (k0_pay4 (iblk m c 0 t) (iblk m c 1 t) (iblk m c 3 t)) (k0_pay5 (iblk m c 0 t) (iblk m c 1 t) (iblk m c 3 t)) (Scalar.ofBits .f32 0x3F4C422A#32)
    (iblk m c 19 t) (iblk m c 14 t)

theorem vals_eq (hr : ∀ r j, IsReal (part (m (c.tc.loc main_arg0)) (m (c.tc.loc main_arg1)) (m (c.tc.loc main_arg2)) 256 256 (by decide) r j)) (p j : Fin 256) :
    vals m c t (ix2 p j) = chunkVal (m (c.tc.loc main_arg0)) (m (c.tc.loc main_arg1)) (m (c.tc.loc main_arg2)) (m (c.tc.loc main_arg3)) (rowOf t p) j := by
  refine (chunkVal_pay (iblk m c 0 t) (iblk m c 1 t) (iblk m c 19 t) (iblk m c 3 t) (iblk m c 14 t) p (group_at m c t) _
    (part_at m c t 256 (by decide) (iblk m c 3 t) (w3_at m c t) p) (hr (rowOf t p)) j).trans ?_
  rw [gcv_at]
  rfl

theorem gate_eq (p j : Fin 256) :
    k0_pay3 (F := Ideal) (iblk m c 0 t) (iblk m c 1 t) (iblk m c 2 t) (ix2 p j) = gelu (part (m (c.tc.loc main_arg0)) (m (c.tc.loc main_arg1)) (m (c.tc.loc main_arg2)) 256 0 (by decide) (rowOf t p) j) := by
  refine (gate_pay (iblk m c 0 t) (iblk m c 1 t) (iblk m c 2 t) p j).trans ?_
  exact congrArg gelu (part_at m c t 0 (by decide) (iblk m c 2 t) (w2_at m c t) p j)

/-- The mixed values of one of a grid point's two chunks: row `s` of it is row `q s` of the block. -/
theorem mixed_at (x : (⟨2, ![32768, 1024]⟩ : Shape).Idx → EReal) (g : (⟨1, ![1024]⟩ : Shape).Idx → EReal)
    (w : (⟨2, ![1024, 3088]⟩ : Shape).Idx → EReal) (gv : (⟨2, ![4, 64]⟩ : Shape).Idx → EReal)
    (ws : (⟨3, ![4, 128, 128]⟩ : Shape).Idx → EReal) (bs : (⟨2, ![4, 128]⟩ : Shape).Idx → EReal)
    (o : ℕ) (ho : o = 0 ∨ o = 128) (q : Fin 128 → Fin 256) (hq : ∀ s, (q s).val = o + s.val) (p : Fin 128) (j : Fin 256) :
    mixed x g w gv ws bs (rowOf t (q p)) j
      = (∑ s : Fin 128, (if s.val ≤ p.val then ws (ix3 ⟨j.val / 64, by omega⟩ p s) else 0) * chunkVal x g w gv (rowOf t (q s)) j)
        + bs (ix2 ⟨j.val / 64, by omega⟩ p) := by
  have e : (rowOf t (q p)).val % 128 = p.val := by
    have := hq p
    show (t.val * 256 + (q p).val) % 128 = p.val
    rcases ho with rfl | rfl <;> omega
  have e' : ∀ s : Fin 128, (⟨(rowOf t (q p)).val / 128 * 128 + s.val, by omega⟩ : Fin 32768) = rowOf t (q s) := fun s => by
    have h1 := hq p
    have h2 := hq s
    refine Fin.ext ?_
    show (t.val * 256 + (q p).val) / 128 * 128 + s.val = t.val * 256 + (q s).val
    rcases ho with rfl | rfl <;> omega
  unfold mixed
  simp only [e, e']

theorem mix_first_eq (hr : ∀ r j, IsReal (part (m (c.tc.loc main_arg0)) (m (c.tc.loc main_arg1)) (m (c.tc.loc main_arg2)) 256 256 (by decide) r j)) (p : Fin 128) (j : Fin 256) :
    k0_pay10 (F := Ideal) (vals m c t) (iota .tc S128x256 32 [1] iota_S128x256_d1_w32) 64#32 k0_pay7 k0_pay8 (mixes m c t 0) (mixes m c t 1) (mixes m c t 2) (mixes m c t 3) (ix2 p j)
      = ∑ s : Fin 128, FloatOps.mulf (F := Ideal) (φ := .f32) (if s.val ≤ p.val then m (c.tc.loc main_arg4) (ix3 ⟨j.val / 64, by omega⟩ p s) else (0 : EReal))
          (chunkVal (m (c.tc.loc main_arg0)) (m (c.tc.loc main_arg1)) (m (c.tc.loc main_arg2)) (m (c.tc.loc main_arg3)) (rowOf t ⟨s.val, by omega⟩) j) := by
  refine (mix_first (vals m c t) (mixes m c t) p j).trans ?_
  refine Finset.sum_congr rfl fun s _ => ?_
  rw [mixes_at, vals_eq m c t hr]
  rfl

theorem mix_second_eq (hr : ∀ r j, IsReal (part (m (c.tc.loc main_arg0)) (m (c.tc.loc main_arg1)) (m (c.tc.loc main_arg2)) 256 256 (by decide) r j)) (p : Fin 128) (j : Fin 256) :
    k0_pay13 (F := Ideal) (vals m c t) lanes (mixes m c t 0) (mixes m c t 1) (mixes m c t 2) (mixes m c t 3) (ix2 p j)
      = ∑ s : Fin 128, FloatOps.mulf (F := Ideal) (φ := .f32) (if s.val ≤ p.val then m (c.tc.loc main_arg4) (ix3 ⟨j.val / 64, by omega⟩ p s) else (0 : EReal))
          (chunkVal (m (c.tc.loc main_arg0)) (m (c.tc.loc main_arg1)) (m (c.tc.loc main_arg2)) (m (c.tc.loc main_arg3)) (rowOf t ⟨128 + s.val, by omega⟩) j) := by
  refine (mix_second (vals m c t) (mixes m c t) p j).trans ?_
  refine Finset.sum_congr rfl fun s _ => ?_
  rw [mixes_at, vals_eq m c t hr]
  rfl

theorem final_ya (hr : ∀ r j, IsReal (part (m (c.tc.loc main_arg0)) (m (c.tc.loc main_arg1)) (m (c.tc.loc main_arg2)) 256 256 (by decide) r j)) : (dats m 0 c).arrAt 21 cfg0.N
    = outYa (m (c.tc.loc main_arg0)) (m (c.tc.loc main_arg1)) (m (c.tc.loc main_arg2)) (m (c.tc.loc main_arg3)) (m (c.tc.loc main_arg4)) (m (c.tc.loc main_arg5)) := by
  refine (dats m 0 c).arrAt_eq_of_covers 21 _ (by decide +kernel) fun t _ y => ?_
  blk_simp
  rw [after0_21]
  unfold out0_21 k0_pay31 k0_pay32 k0_pay33 k0_pay34 k0_pay35
  obtain ⟨a, j, rfl⟩ : ∃ a j, y = ix2 a j := ⟨y 0, y 1, by blk_ext⟩
  rw [show ((View.whole main_v54_0).slice (win0_21.rect t)).emb (ix2 a j) = ix2 (rowOf t a) j by blk_ext [idx_out t, rowOf]]
  frame_out
  canon_tiles x h
  · obtain ⟨p, l, rfl⟩ : ∃ p l, x = ix2 p l := ⟨x 0, x 1, by blk_ext⟩
    obtain rfl : a = (⟨128 + p.val, Nat.add_lt_add_left p.isLt 128⟩ : Fin 256) := Fin.ext h0
    obtain rfl : j = l := Fin.ext h1
    refine (chunk_second _ _ _ p j).trans ?_
    refine congrArg₂ (fun a b : EReal => a * b) (gate_eq m c t _ j) ?_
    refine Eq.trans ?_ (mixed_at t (m (c.tc.loc main_arg0)) (m (c.tc.loc main_arg1)) (m (c.tc.loc main_arg2)) (m (c.tc.loc main_arg3)) (m (c.tc.loc main_arg4)) (m (c.tc.loc main_arg5)) 128 (by decide)
      (fun s => ⟨128 + s.val, by omega⟩) (fun _ => rfl) p j).symm
    refine congrArg₂ (fun a b : EReal => a + b) (mix_second_eq m c t hr p j) (bmix_at m c t p j)
  · obtain ⟨p, l, rfl⟩ : ∃ p l, x = ix2 p l := ⟨x 0, x 1, by blk_ext⟩
    obtain rfl : a = (⟨p.val, Nat.lt_trans p.isLt (by decide)⟩ : Fin 256) := Fin.ext h0
    obtain rfl : j = l := Fin.ext h1
    refine (chunk_first _ _ _ p j).trans ?_
    refine congrArg₂ (fun a b : EReal => a * b) (gate_eq m c t _ j) ?_
    refine Eq.trans ?_ (mixed_at t (m (c.tc.loc main_arg0)) (m (c.tc.loc main_arg1)) (m (c.tc.loc main_arg2)) (m (c.tc.loc main_arg3)) (m (c.tc.loc main_arg4)) (m (c.tc.loc main_arg5)) 0 (by decide)
      (fun s => ⟨s.val, by omega⟩) (fun s => (Nat.zero_add s.val).symm) p j).symm
    refine congrArg₂ (fun a b : EReal => a + b) (mix_first_eq m c t hr p j) (bmix_at m c t p j)

end Cert.Proof.InProj

end
-- ==== Proof.InProj.Reference.lean ====
/- The reference of the input projections, result by result, at coordinates. -/
module

public import proofs.«01_k».proof.Proof.Gen.Reference3Ideal.Run
public import proofs.«01_k».proof.Proof.InProj.Scalar
public import proofs.«01_k».proof.Proof.InProj.Spec
public import Idealize.ShloMosaic.Lib.WordCmp

@[expose] public section

set_option maxRecDepth 16384

noncomputable section

namespace Cert.Proof.InProj

open Cert.Reference3Ideal Cert.Reference3Ideal.Gen Cert.Reference3Ideal.Value
open Idealize.ShloMosaic Idealize.ShloMosaic.TcCoe Idealize.SL.Sem Idealize.ShloMosaic.StableHlo

variable (V : Valuation τ sig (Elt Ideal))

theorem v13_at (r : Fin 32768) (j : Fin 3088) : res_main_v13 V (ix2 r j) = proj (V (Proc.devRef .tc main_arg0)) (V (Proc.devRef .tc main_arg1)) (V (Proc.devRef .tc main_arg2)) r j := by
  unfold res_main_v13
  pointwise [proj, normed]

theorem v14_at (r : Fin 32768) (j : Fin 256) : res_main_v14 V (ix2 r j) = part (V (Proc.devRef .tc main_arg0)) (V (Proc.devRef .tc main_arg1)) (V (Proc.devRef .tc main_arg2)) 256 0 (by decide) r j := by
  unfold res_main_v14
  unfold part
  rw [← v13_at]
  generalize res_main_v13 V = Y
  pointwise

theorem v15_at (r : Fin 32768) (j : Fin 256) : res_main_v15 V (ix2 r j) = part (V (Proc.devRef .tc main_arg0)) (V (Proc.devRef .tc main_arg1)) (V (Proc.devRef .tc main_arg2)) 256 256 (by decide) r j := by
  unfold res_main_v15
  unfold part
  rw [← v13_at]
  generalize res_main_v13 V = Y
  pointwise

theorem v18_at (r : Fin 32768) (j : Fin 512) : res_main_v18 V (ix2 r j) = part (V (Proc.devRef .tc main_arg0)) (V (Proc.devRef .tc main_arg1)) (V (Proc.devRef .tc main_arg2)) 512 1536 (by decide) r j := by
  unfold res_main_v18
  unfold part
  rw [← v13_at]
  generalize res_main_v13 V = Y
  pointwise

theorem v22_at (r : Fin 32768) (j : Fin 256) : res_main_v22 V (ix2 r j) = part (V (Proc.devRef .tc main_arg0)) (V (Proc.devRef .tc main_arg1)) (V (Proc.devRef .tc main_arg2)) 256 2816 (by decide) r j := by
  unfold res_main_v22
  unfold part
  rw [← v13_at]
  generalize res_main_v13 V = Y
  pointwise

theorem v37_at (r : Fin 32768) (g : Fin 4) (d : Fin 64) :
    res_main_v37 V (ix3 r g d) = gelu (part (V (Proc.devRef .tc main_arg0)) (V (Proc.devRef .tc main_arg1)) (V (Proc.devRef .tc main_arg2)) 256 256 (by decide) r ⟨g.val * 64 + d.val, by omega⟩) := by
  rw [← v15_at]
  unfold res_main_v37
  generalize res_main_v15 V = Y
  pointwise [gelu]

theorem v76_at (r : Fin 32768) (g : Fin 8) (d : Fin 64) :
    res_main_v76 V (ix3 r g d) = part (V (Proc.devRef .tc main_arg0)) (V (Proc.devRef .tc main_arg1)) (V (Proc.devRef .tc main_arg2)) 512 512 (by decide) r ⟨g.val * 64 + d.val, by omega⟩ := by
  unfold part
  rw [← v13_at]
  unfold res_main_v76
  generalize res_main_v13 V = Y
  pointwise

theorem v93_at (r : Fin 32768) (g : Fin 8) (d : Fin 64) :
    res_main_v93 V (ix3 r g d) = part (V (Proc.devRef .tc main_arg0)) (V (Proc.devRef .tc main_arg1)) (V (Proc.devRef .tc main_arg2)) 512 1024 (by decide) r ⟨g.val * 64 + d.val, by omega⟩ := by
  unfold part
  rw [← v13_at]
  unfold res_main_v93
  generalize res_main_v13 V = Y
  pointwise

theorem group_split (j : Fin 512) : (⟨j.val / 64 * 64 + j.val % 64, by omega⟩ : Fin 512) = j :=
  Fin.ext (by show j.val / 64 * 64 + j.val % 64 = j.val; omega)

theorem group_split' (j : Fin 256) : (⟨j.val / 64 * 64 + j.val % 64, by omega⟩ : Fin 256) = j :=
  Fin.ext (by show j.val / 64 * 64 + j.val % 64 = j.val; omega)

theorem v107_at (r : Fin 32768) (j : Fin 512) :
    res_main_v107 V (ix2 r j) = head (V (Proc.devRef .tc main_arg0)) (V (Proc.devRef .tc main_arg1)) (V (Proc.devRef .tc main_arg2)) 1024 (by decide) (V (Proc.devRef .tc main_arg7)) r j := by
  have h := v93_at V r
  unfold res_main_v107 head scaled
  generalize res_main_v93 V = Y at h ⊢
  pointwise
  simp only [h, group_split]

theorem ref_q (r : Fin 32768) (j : Fin 512) :
    (truncf .bf16 (mulf (shapeCast _ (mulf (mulf (res_main_v76 V) (broadcastInDim S32768x8x64 ![0, 1, 2] bcast_S32768x8x1_S32768x8x64_0_1_2 (Host.rsqrt (addf (Host.divf (broadcastInDim S32768x8x1 ![0, 1] bcast_S32768x8_S32768x8x1_0_1 (Host.reduceAdd (mulf (res_main_v76 V) (res_main_v76 V)) (constant S_ .f32 0x00000000#32) reducesTo_S32768x8x64_S32768x8_d2 h_S_)) (broadcastInDim S32768x8x1 ![] bcast_S_S32768x8x1 (constant S_ .f32 0x42800000#32))) (broadcastInDim S32768x8x1 ![] bcast_S_S32768x8x1 (constant S_ .f32 0x358637BD#32)))))) (broadcastInDim S32768x8x64 ![0, 1, 2] bcast_S1x1x64_S32768x8x64_0_1_2 (broadcastInDim S1x1x64 ![2] bcast_S64_S1x1x64_2 (V (Proc.devRef .tc main_arg6))))) shapeCasts_S32768x8x64_S32768x512) (broadcastInDim S32768x512 ![] bcast_S_S32768x512 (constant S_ .f32 0x3E000000#32))) bitsLt_bf16_f32 : FVec Ideal S32768x512 .bf16) (ix2 r j)
      = head (V (Proc.devRef .tc main_arg0)) (V (Proc.devRef .tc main_arg1)) (V (Proc.devRef .tc main_arg2)) 512 (by decide) (V (Proc.devRef .tc main_arg6)) r j * Ideal.ofBits .f32 0x3E000000#32 := by
  have h := v76_at V r
  unfold head scaled
  generalize res_main_v76 V = Y at h ⊢
  pointwise
  simp only [h, group_split]

theorem ref_ktf (b : Fin 8) (j : Fin 512) (s : Fin 4096) :
    (transpose S8x512x4096 [0, 2, 1] (shapeCast _ (res_main_v107 V) shapeCasts_S32768x512_S8x4096x512) transposes_S8x4096x512_S8x512x4096_0_2_1 : FVec Ideal S8x512x4096 .f32) (ix3 b j s)
      = head (V (Proc.devRef .tc main_arg0)) (V (Proc.devRef .tc main_arg1)) (V (Proc.devRef .tc main_arg2)) 1024 (by decide) (V (Proc.devRef .tc main_arg7)) ⟨b.val * 4096 + s.val, by omega⟩ j := by
  rw [← v107_at]
  generalize res_main_v107 V = Y
  pointwise

theorem ref_vtf (b : Fin 8) (j : Fin 512) (s : Fin 4096) :
    (transpose S8x512x4096 [0, 2, 1] (shapeCast _ (res_main_v18 V) shapeCasts_S32768x512_S8x4096x512) transposes_S8x4096x512_S8x512x4096_0_2_1 : FVec Ideal S8x512x4096 .f32) (ix3 b j s)
      = part (V (Proc.devRef .tc main_arg0)) (V (Proc.devRef .tc main_arg1)) (V (Proc.devRef .tc main_arg2)) 512 1536 (by decide) ⟨b.val * 4096 + s.val, by omega⟩ j := by
  rw [← v18_at]
  generalize res_main_v18 V = Y
  pointwise

theorem ref_kt (b : Fin 128) (j : Fin 512) (s : Fin 256) :
    (truncf .bf16 (transpose S128x512x256 [0, 2, 1] (shapeCast _ (res_main_v107 V) shapeCasts_S32768x512_S128x256x512) transposes_S128x256x512_S128x512x256_0_2_1) bitsLt_bf16_f32 : FVec Ideal S128x512x256 .bf16) (ix3 b j s)
      = head (V (Proc.devRef .tc main_arg0)) (V (Proc.devRef .tc main_arg1)) (V (Proc.devRef .tc main_arg2)) 1024 (by decide) (V (Proc.devRef .tc main_arg7)) ⟨b.val * 256 + s.val, by omega⟩ j := by
  rw [← v107_at]
  generalize res_main_v107 V = Y
  pointwise

theorem ref_vb (r : Fin 32768) (j : Fin 512) :
    (truncf .bf16 (res_main_v18 V) bitsLt_bf16_f32 : FVec Ideal S32768x512 .bf16) (ix2 r j) = part (V (Proc.devRef .tc main_arg0)) (V (Proc.devRef .tc main_arg1)) (V (Proc.devRef .tc main_arg2)) 512 1536 (by decide) r j := by
  rw [← v18_at]
  generalize res_main_v18 V = Y
  pointwise

theorem ref_lq (r : Fin 32768) (j : Fin 256) :
    (mulf (extractStridedSlice S32768x256 ![0, 2048] (res_main_v13 V) slices_S32768x3088_S32768x256_0_2048) (broadcastInDim S32768x256 ![] bcast_S_S32768x256 (constant S_ .f32 0x3E000000#32)) : FVec Ideal S32768x256 .f32) (ix2 r j)
      = part (V (Proc.devRef .tc main_arg0)) (V (Proc.devRef .tc main_arg1)) (V (Proc.devRef .tc main_arg2)) 256 2048 (by decide) r j * Ideal.ofBits .f32 0x3E000000#32 := by
  unfold part
  rw [← v13_at]
  generalize res_main_v13 V = Y
  pointwise

theorem ref_lk (r : Fin 32768) (j : Fin 256) :
    (extractStridedSlice S32768x256 ![0, 2304] (res_main_v13 V) slices_S32768x3088_S32768x256_0_2304 : FVec Ideal S32768x256 .f32) (ix2 r j) = part (V (Proc.devRef .tc main_arg0)) (V (Proc.devRef .tc main_arg1)) (V (Proc.devRef .tc main_arg2)) 256 2304 (by decide) r j := by
  unfold part
  rw [← v13_at]
  generalize res_main_v13 V = Y
  pointwise

theorem ref_lv (r : Fin 32768) (j : Fin 256) :
    (extractStridedSlice S32768x256 ![0, 2560] (res_main_v13 V) slices_S32768x3088_S32768x256_0_2560 : FVec Ideal S32768x256 .f32) (ix2 r j) = part (V (Proc.devRef .tc main_arg0)) (V (Proc.devRef .tc main_arg1)) (V (Proc.devRef .tc main_arg2)) 256 2560 (by decide) r j := by
  unfold part
  rw [← v13_at]
  generalize res_main_v13 V = Y
  pointwise

theorem call2_v0_at (r : Fin 32768) (j : Fin 256) : res_main_call2_v0 V (ix2 r j)
    = -((∑ k : Fin 16, part (V (Proc.devRef .tc main_arg0)) (V (Proc.devRef .tc main_arg1)) (V (Proc.devRef .tc main_arg2)) 16 3072 (by decide) r k * V (Proc.devRef .tc main_arg8) (ix2 k j)) + V (Proc.devRef .tc main_arg9) (ix1 j)) := by
  unfold part
  simp only [← v13_at]
  unfold res_main_call2_v0
  generalize res_main_v13 V = Y
  pointwise

theorem ref_la (r : Fin 32768) (j : Fin 256) :
    (Host.divf (Host.negf (select (cmpf .une (res_main_call2_call0_v3 V) (res_main_call2_call0_v3 V)) (addf (res_main_call2_v0 V) (broadcastInDim S32768x256 ![] bcast_S_S32768x256 (res_main_call2_call0_cst V))) (addf (maximumf (res_main_call2_v0 V) (broadcastInDim S32768x256 ![] bcast_S_S32768x256 (res_main_call2_call0_cst V))) (Host.log1p (Host.exp (Host.negf (Host.absf (res_main_call2_call0_v3 V)))))))) (broadcastInDim S32768x256 ![] bcast_S_S32768x256 (constant S_ .f32 0x41800000#32)) : FVec Ideal S32768x256 .f32) (ix2 r j)
      = decay (V (Proc.devRef .tc main_arg0)) (V (Proc.devRef .tc main_arg1)) (V (Proc.devRef .tc main_arg2)) (V (Proc.devRef .tc main_arg8)) (V (Proc.devRef .tc main_arg9)) r j := by
  have h := call2_v0_at V r j
  unfold decay logSigmoid
  generalize (∑ k : Fin 16, part (V (Proc.devRef .tc main_arg0)) (V (Proc.devRef .tc main_arg1)) (V (Proc.devRef .tc main_arg2)) 16 3072 (by decide) r k * V (Proc.devRef .tc main_arg8) (ix2 k j)) + V (Proc.devRef .tc main_arg9) (ix1 j) = z at h ⊢
  unfold res_main_call2_call0_v3 res_main_call2_call0_cst
  generalize res_main_call2_v0 V = Y at h ⊢
  pointwise
  simp only [h]
  rw [← log_sigmoid, ← div_16, if_neg (not_not.mpr rfl), sub_zero]
  rfl

theorem ref_gs (r : Fin 32768) (j : Fin 256) :
    (mulf (res_main_v22 V) (Host.divf (broadcastInDim S32768x256 ![] bcast_S_S32768x256 (constant S_ .f32 0x3F800000#32)) (addf (broadcastInDim S32768x256 ![] bcast_S_S32768x256 (constant S_ .f32 0x3F800000#32)) (Host.exp (Host.negf (res_main_v22 V))))) : FVec Ideal S32768x256 .f32) (ix2 r j) = silu (part (V (Proc.devRef .tc main_arg0)) (V (Proc.devRef .tc main_arg1)) (V (Proc.devRef .tc main_arg2)) 256 2816 (by decide) r j) := by
  rw [← v22_at]
  unfold silu
  generalize res_main_v22 V = Y
  pointwise

theorem ref_ya (r : Fin 32768) (j : Fin 256) :
    (truncf .bf16 (mulf (mulf (res_main_v14 V) (mulf (broadcastInDim S32768x256 ![] bcast_S_S32768x256 (constant S_ .f32 0x3F000000#32)) (addf (broadcastInDim S32768x256 ![] bcast_S_S32768x256 (constant S_ .f32 0x3F800000#32)) (Host.tanh (mulf (broadcastInDim S32768x256 ![] bcast_S_S32768x256 (constant S_ .f32 0x3F4C422A#32)) (addf (res_main_v14 V) (mulf (broadcastInDim S32768x256 ![] bcast_S_S32768x256 (constant S_ .f32 0x3D372713#32)) (mulf (mulf (res_main_v14 V) (res_main_v14 V)) (res_main_v14 V))))))))) (shapeCast _ (addf (transpose S256x128x4x64 [1, 3, 0, 2] (Host.dotGeneral dot_S256x128x4x64_S4x128x128_S4x256x64x128_1_2_03_1_2_0 none (shapeCast _ (mulf (mulf (res_main_v37 V) (broadcastInDim S32768x4x64 ![0, 1, 2] bcast_S32768x4x1_S32768x4x64_0_1_2 (Host.rsqrt (addf (Host.divf (broadcastInDim S32768x4x1 ![0, 1] bcast_S32768x4_S32768x4x1_0_1 (Host.reduceAdd (mulf (res_main_v37 V) (res_main_v37 V)) (constant S_ .f32 0x00000000#32) reducesTo_S32768x4x64_S32768x4_d2 h_S_)) (broadcastInDim S32768x4x1 ![] bcast_S_S32768x4x1 (constant S_ .f32 0x42800000#32))) (broadcastInDim S32768x4x1 ![] bcast_S_S32768x4x1 (constant S_ .f32 0x358637BD#32)))))) (broadcastInDim S32768x4x64 ![0, 1, 2] bcast_S1x4x64_S32768x4x64_0_1_2 (broadcastInDim S1x4x64 ![1, 2] bcast_S4x64_S1x4x64_1_2 (V (Proc.devRef .tc main_arg3))))) shapeCasts_S32768x4x64_S256x128x4x64) (select (broadcastInDim S4x128x128 ![1, 2] bcast_S128x128_S4x128x128_1_2 (select (cmpi .sge (addi (iotaInDim S128x128 32 0) (broadcastInDim S128x128 ![] bcast_S_S128x128 (constantI S_ 32 0#32))) (iotaInDim S128x128 32 1)) (broadcastInDim S128x128 ![] bcast_S_S128x128 (constantI S_ 1 1#1)) (broadcastInDim S128x128 ![] bcast_S_S128x128 (constantI S_ 1 0#1)))) (V (Proc.devRef .tc main_arg4)) (broadcastInDim S4x128x128 ![] bcast_S_S4x128x128 (sitofp .f32 (constantI S_ 32 0#32))))) transposes_S4x256x64x128_S256x128x4x64_1_3_0_2) (broadcastInDim S256x128x4x64 ![0, 1, 2, 3] bcast_S1x128x4x1_S256x128x4x64_0_1_2_3 (broadcastInDim S1x128x4x1 ![1, 2] bcast_S128x4_S1x128x4x1_1_2 (transpose S128x4 [1, 0] (V (Proc.devRef .tc main_arg5)) transposes_S4x128_S128x4_1_0)))) shapeCasts_S256x128x4x64_S32768x256)) bitsLt_bf16_f32 : FVec Ideal S32768x256 .bf16) (ix2 r j)
      = chunk (V (Proc.devRef .tc main_arg0)) (V (Proc.devRef .tc main_arg1)) (V (Proc.devRef .tc main_arg2)) (V (Proc.devRef .tc main_arg3)) (V (Proc.devRef .tc main_arg4)) (V (Proc.devRef .tc main_arg5)) r j := by
  have h := v37_at V
  unfold chunk mixed chunkVal
  obtain ⟨f, hf⟩ : ∃ f : Fin 32768 → Fin 256 → EReal, ∀ r k, gelu (part (V (Proc.devRef .tc main_arg0)) (V (Proc.devRef .tc main_arg1)) (V (Proc.devRef .tc main_arg2)) 256 256 (by decide) r k) = f r k :=
    ⟨_, fun _ _ => rfl⟩
  simp only [hf] at h ⊢
  unfold scaled
  rw [← v14_at]
  generalize res_main_v37 V = Y at h ⊢
  generalize res_main_v14 V = Z
  pointwise [gelu]
  simp only [h, group_split']
  refine congrArg₂ _ rfl (congrArg₂ _ (Finset.sum_congr rfl fun s _ => ?_) rfl)
  rw [mul_comm]
  refine congrArg₂ _ ?_ rfl
  rw [show IntOp.addi (BitVec.ofNat 32 (r.val % 128)) 0#32 = BitVec.ofNat 32 (r.val % 128) from BitVec.add_zero _,
    WordCmp.cmpi_sge_ofNat (by omega) (by omega), Scalar.select_ofBool]
  by_cases hs : s.val ≤ r.val % 128
  · rw [if_pos hs, decide_eq_true hs]
    rfl
  · rw [if_neg hs, decide_eq_false hs]
    show (((0#32 : BitVec 32).toInt : ℝ) : EReal) = 0
    simp

end Cert.Proof.InProj

end
-- ==== Proof.Kernel3Ideal.Blocks.lean ====
/- The run of the input projections' call, with each result array named block by block. -/
module

public import proofs.«01_k».proof.Proof.Kernel3Ideal.Frame
public import Idealize.ShloMosaic.Lib.Pipeline.Value

@[expose] public section

noncomputable section

namespace Cert.Kernel3Ideal.Value

open Cert.Kernel3Ideal Cert.Kernel3Ideal.Gen Idealize.ShloMosaic Idealize.ShloMosaic.TcCoe Idealize.SL.Sem
open Idealize.ShloMosaic.Pipeline (Dat)

variable {F : FTy → Type} [FloatOps F]
variable (m : (ℓ : Loc nD τ sig) → Buf (Elt F) ℓ) (ρ : Dev nD → PrngReg)

/-- After the frame run, output window 21's array is `(dats m 0 c).arrAt 21 N`. -/
theorem post21 (r : PUnit × MemSt nD τ sig (Elt F)) (h : Pipeline.FramePost cfgs (dats m) 0 (V m) r) (c : Dev nD) :
    r.2.mem ((c : Thread nD τ).loc main_v54_0) = (dats m 0 c).arrAt 21 cfg0.N :=
  (h c).1 21

/-- After the frame run, output window 22's array is `(dats m 0 c).arrAt 22 N`. -/
theorem post22 (r : PUnit × MemSt nD τ sig (Elt F)) (h : Pipeline.FramePost cfgs (dats m) 0 (V m) r) (c : Dev nD) :
    r.2.mem ((c : Thread nD τ).loc main_v54_1) = (dats m 0 c).arrAt 22 cfg0.N :=
  (h c).1 22

/-- After the frame run, output window 23's array is `(dats m 0 c).arrAt 23 N`. -/
theorem post23 (r : PUnit × MemSt nD τ sig (Elt F)) (h : Pipeline.FramePost cfgs (dats m) 0 (V m) r) (c : Dev nD) :
    r.2.mem ((c : Thread nD τ).loc main_v54_2) = (dats m 0 c).arrAt 23 cfg0.N :=
  (h c).1 23

/-- After the frame run, output window 24's array is `(dats m 0 c).arrAt 24 N`. -/
theorem post24 (r : PUnit × MemSt nD τ sig (Elt F)) (h : Pipeline.FramePost cfgs (dats m) 0 (V m) r) (c : Dev nD) :
    r.2.mem ((c : Thread nD τ).loc main_v54_3) = (dats m 0 c).arrAt 24 cfg0.N :=
  (h c).1 24

/-- After the frame run, output window 25's array is `(dats m 0 c).arrAt 25 N`. -/
theorem post25 (r : PUnit × MemSt nD τ sig (Elt F)) (h : Pipeline.FramePost cfgs (dats m) 0 (V m) r) (c : Dev nD) :
    r.2.mem ((c : Thread nD τ).loc main_v54_4) = (dats m 0 c).arrAt 25 cfg0.N :=
  (h c).1 25

/-- After the frame run, output window 26's array is `(dats m 0 c).arrAt 26 N`. -/
theorem post26 (r : PUnit × MemSt nD τ sig (Elt F)) (h : Pipeline.FramePost cfgs (dats m) 0 (V m) r) (c : Dev nD) :
    r.2.mem ((c : Thread nD τ).loc main_v54_5) = (dats m 0 c).arrAt 26 cfg0.N :=
  (h c).1 26

/-- After the frame run, output window 27's array is `(dats m 0 c).arrAt 27 N`. -/
theorem post27 (r : PUnit × MemSt nD τ sig (Elt F)) (h : Pipeline.FramePost cfgs (dats m) 0 (V m) r) (c : Dev nD) :
    r.2.mem ((c : Thread nD τ).loc main_v54_6) = (dats m 0 c).arrAt 27 cfg0.N :=
  (h c).1 27

/-- After the frame run, output window 28's array is `(dats m 0 c).arrAt 28 N`. -/
theorem post28 (r : PUnit × MemSt nD τ sig (Elt F)) (h : Pipeline.FramePost cfgs (dats m) 0 (V m) r) (c : Dev nD) :
    r.2.mem ((c : Thread nD τ).loc main_v54_7) = (dats m 0 c).arrAt 28 cfg0.N :=
  (h c).1 28

/-- After the frame run, output window 29's array is `(dats m 0 c).arrAt 29 N`. -/
theorem post29 (r : PUnit × MemSt nD τ sig (Elt F)) (h : Pipeline.FramePost cfgs (dats m) 0 (V m) r) (c : Dev nD) :
    r.2.mem ((c : Thread nD τ).loc main_v54_8) = (dats m 0 c).arrAt 29 cfg0.N :=
  (h c).1 29

/-- After the frame run, output window 30's array is `(dats m 0 c).arrAt 30 N`. -/
theorem post30 (r : PUnit × MemSt nD τ sig (Elt F)) (h : Pipeline.FramePost cfgs (dats m) 0 (V m) r) (c : Dev nD) :
    r.2.mem ((c : Thread nD τ).loc main_v54_9) = (dats m 0 c).arrAt 30 cfg0.N :=
  (h c).1 30

/-- After the frame run, output window 31's array is `(dats m 0 c).arrAt 31 N`. -/
theorem post31 (r : PUnit × MemSt nD τ sig (Elt F)) (h : Pipeline.FramePost cfgs (dats m) 0 (V m) r) (c : Dev nD) :
    r.2.mem ((c : Thread nD τ).loc main_v54_10) = (dats m 0 c).arrAt 31 cfg0.N :=
  (h c).1 31

/-- After the frame run, argument `main_arg0` is as launched: input window 0 stages it and never writes it back. -/
theorem kept_main_arg0 (r : PUnit × MemSt nD τ sig (Elt F)) (h : Pipeline.FramePost cfgs (dats m) 0 (V m) r) (c : Dev nD) :
    r.2.mem ((c : Thread nD τ).loc main_arg0) = m ((c : Thread nD τ).loc main_arg0) :=
  ((h c).1 0).trans (((dats m 0 c).arrAt_in 0 rfl _).trans ((A_eq m c 0).trans (V_main_arg0 m c)))

/-- After the frame run, argument `main_arg1` is as launched: no window stages it, and the run leaves the region's other buffers as they were. -/
theorem kept_main_arg1 (r : PUnit × MemSt nD τ sig (Elt F)) (h : Pipeline.FramePost cfgs (dats m) 0 (V m) r) (c : Dev nD) :
    r.2.mem ((c : Thread nD τ).loc main_arg1) = m ((c : Thread nD τ).loc main_arg1) :=
  ((h c).2 main_arg1 (Pipeline.mem_restRefs_of main_arg1 (by decide) (by decide))).trans (V_main_arg1 m c)

/-- After the frame run, argument `main_arg2` is as launched: no window stages it, and the run leaves the region's other buffers as they were. -/
theorem kept_main_arg2 (r : PUnit × MemSt nD τ sig (Elt F)) (h : Pipeline.FramePost cfgs (dats m) 0 (V m) r) (c : Dev nD) :
    r.2.mem ((c : Thread nD τ).loc main_arg2) = m ((c : Thread nD τ).loc main_arg2) :=
  ((h c).2 main_arg2 (Pipeline.mem_restRefs_of main_arg2 (by decide) (by decide))).trans (V_main_arg2 m c)

/-- After the frame run, argument `main_arg3` is as launched: no window stages it, and the run leaves the region's other buffers as they were. -/
theorem kept_main_arg3 (r : PUnit × MemSt nD τ sig (Elt F)) (h : Pipeline.FramePost cfgs (dats m) 0 (V m) r) (c : Dev nD) :
    r.2.mem ((c : Thread nD τ).loc main_arg3) = m ((c : Thread nD τ).loc main_arg3) :=
  ((h c).2 main_arg3 (Pipeline.mem_restRefs_of main_arg3 (by decide) (by decide))).trans (V_main_arg3 m c)

/-- After the frame run, argument `main_arg4` is as launched: no window stages it, and the run leaves the region's other buffers as they were. -/
theorem kept_main_arg4 (r : PUnit × MemSt nD τ sig (Elt F)) (h : Pipeline.FramePost cfgs (dats m) 0 (V m) r) (c : Dev nD) :
    r.2.mem ((c : Thread nD τ).loc main_arg4) = m ((c : Thread nD τ).loc main_arg4) :=
  ((h c).2 main_arg4 (Pipeline.mem_restRefs_of main_arg4 (by decide) (by decide))).trans (V_main_arg4 m c)

/-- After the frame run, argument `main_arg5` is as launched: no window stages it, and the run leaves the region's other buffers as they were. -/
theorem kept_main_arg5 (r : PUnit × MemSt nD τ sig (Elt F)) (h : Pipeline.FramePost cfgs (dats m) 0 (V m) r) (c : Dev nD) :
    r.2.mem ((c : Thread nD τ).loc main_arg5) = m ((c : Thread nD τ).loc main_arg5) :=
  ((h c).2 main_arg5 (Pipeline.mem_restRefs_of main_arg5 (by decide) (by decide))).trans (V_main_arg5 m c)

/-- After the frame run, argument `main_arg6` is as launched: no window stages it, and the run leaves the region's other buffers as they were. -/
theorem kept_main_arg6 (r : PUnit × MemSt nD τ sig (Elt F)) (h : Pipeline.FramePost cfgs (dats m) 0 (V m) r) (c : Dev nD) :
    r.2.mem ((c : Thread nD τ).loc main_arg6) = m ((c : Thread nD τ).loc main_arg6) :=
  ((h c).2 main_arg6 (Pipeline.mem_restRefs_of main_arg6 (by decide) (by decide))).trans (V_main_arg6 m c)

/-- After the frame run, argument `main_arg7` is as launched: no window stages it, and the run leaves the region's other buffers as they were. -/
theorem kept_main_arg7 (r : PUnit × MemSt nD τ sig (Elt F)) (h : Pipeline.FramePost cfgs (dats m) 0 (V m) r) (c : Dev nD) :
    r.2.mem ((c : Thread nD τ).loc main_arg7) = m ((c : Thread nD τ).loc main_arg7) :=
  ((h c).2 main_arg7 (Pipeline.mem_restRefs_of main_arg7 (by decide) (by decide))).trans (V_main_arg7 m c)

/-- After the frame run, argument `main_arg8` is as launched: no window stages it, and the run leaves the region's other buffers as they were. -/
theorem kept_main_arg8 (r : PUnit × MemSt nD τ sig (Elt F)) (h : Pipeline.FramePost cfgs (dats m) 0 (V m) r) (c : Dev nD) :
    r.2.mem ((c : Thread nD τ).loc main_arg8) = m ((c : Thread nD τ).loc main_arg8) :=
  ((h c).2 main_arg8 (Pipeline.mem_restRefs_of main_arg8 (by decide) (by decide))).trans (V_main_arg8 m c)

/-- After the frame run, argument `main_arg9` is as launched: no window stages it, and the run leaves the region's other buffers as they were. -/
theorem kept_main_arg9 (r : PUnit × MemSt nD τ sig (Elt F)) (h : Pipeline.FramePost cfgs (dats m) 0 (V m) r) (c : Dev nD) :
    r.2.mem ((c : Thread nD τ).loc main_arg9) = m ((c : Thread nD τ).loc main_arg9) :=
  ((h c).2 main_arg9 (Pipeline.mem_restRefs_of main_arg9 (by decide) (by decide))).trans (V_main_arg9 m c)

set_option maxHeartbeats 313980 in
/-- The frame run with each output array after the run NAMED — `(dats m 0 c).arrAt w N`, which `blocks_w` / `entry_w` read —,
    the arguments unchanged. -/
theorem run_blocks : θ_run defs (onTc (τ := τ) (main (F := F))) ⟨m, fun _ => 0, ρ⟩ fun r => ∀ c : Dev nD,
      r.2.mem ((c : Thread nD τ).loc main_v54_0) = (dats m 0 c).arrAt 21 cfg0.N
      ∧ r.2.mem ((c : Thread nD τ).loc main_v54_1) = (dats m 0 c).arrAt 22 cfg0.N
      ∧ r.2.mem ((c : Thread nD τ).loc main_v54_2) = (dats m 0 c).arrAt 23 cfg0.N
      ∧ r.2.mem ((c : Thread nD τ).loc main_v54_3) = (dats m 0 c).arrAt 24 cfg0.N
      ∧ r.2.mem ((c : Thread nD τ).loc main_v54_4) = (dats m 0 c).arrAt 25 cfg0.N
      ∧ r.2.mem ((c : Thread nD τ).loc main_v54_5) = (dats m 0 c).arrAt 26 cfg0.N
      ∧ r.2.mem ((c : Thread nD τ).loc main_v54_6) = (dats m 0 c).arrAt 27 cfg0.N
      ∧ r.2.mem ((c : Thread nD τ).loc main_v54_7) = (dats m 0 c).arrAt 28 cfg0.N
      ∧ r.2.mem ((c : Thread nD τ).loc main_v54_8) = (dats m 0 c).arrAt 29 cfg0.N
      ∧ r.2.mem ((c : Thread nD τ).loc main_v54_9) = (dats m 0 c).arrAt 30 cfg0.N
      ∧ r.2.mem ((c : Thread nD τ).loc main_v54_10) = (dats m 0 c).arrAt 31 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9) :=
  (θ_run defs _ _).mono (fun r h c => ⟨post21 m r h c,
      post22 m r h c,
      post23 m r h c,
      post24 m r h c,
      post25 m r h c,
      post26 m r h c,
      post27 m r h c,
      post28 m r h c,
      post29 m r h c,
      post30 m r h c,
      post31 m r h c,
      kept_main_arg0 m r h c,
      kept_main_arg1 m r h c,
      kept_main_arg2 m r h c,
      kept_main_arg3 m r h c,
      kept_main_arg4 m r h c,
      kept_main_arg5 m r h c,
      kept_main_arg6 m r h c,
      kept_main_arg7 m r h c,
      kept_main_arg8 m r h c,
      kept_main_arg9 m r h c⟩)
    (run_main m ρ)

end Cert.Kernel3Ideal.Value

end
-- ==== Proof.InProj.Value.lean ====
/- The input projections' call at exact arithmetic: the kernel's eleven results and the reference's are the same functions
   of the arguments. -/
module

public import proofs.«01_k».proof.Defs
public import proofs.«01_k».proof.Proof.InProj.Finite
public import proofs.«01_k».proof.Proof.InProj.Plain
public import proofs.«01_k».proof.Proof.InProj.Decay
public import proofs.«01_k».proof.Proof.InProj.Heads
public import proofs.«01_k».proof.Proof.InProj.Chunk
public import proofs.«01_k».proof.Proof.InProj.Reference
public import proofs.«01_k».proof.Proof.Kernel3Ideal.Blocks

@[expose] public section

set_option maxRecDepth 16384
set_option maxHeartbeats 3000000

noncomputable section

namespace Cert.Proof.InProj

open Cert.Kernel3Ideal Cert.Kernel3Ideal.Gen
open Idealize.ShloMosaic Idealize.ShloMosaic.TcCoe Idealize.SL.Sem

/-- The call and its reference end with the same eleven arrays. -/
theorem algebraic [Cert.Pre_finite_normed.Facts] : Cert.algebraic_Kernel3Ideal_Reference3Ideal_pre_finite_normed := by
  intro m ρ m' ρ' hpre hagree
  have hr : ∀ (c : Dev nD) (n lo : ℕ) (hlo : lo + n ≤ 3088), 256 ≤ lo → lo + n ≤ 1536 → ∀ r j,
      IsReal (part (m (c.tc.loc main_arg0)) (m (c.tc.loc main_arg1)) (m (c.tc.loc main_arg2)) n lo hlo r j) := fun c n lo hlo h1 h2 r j =>
    isReal_part _ _ _ _ _ _ _ _ _ _ (hpre c) n lo hlo h1 h2 r j
  refine ⟨fun c => outYa (m (c.tc.loc main_arg0)) (m (c.tc.loc main_arg1)) (m (c.tc.loc main_arg2)) (m (c.tc.loc main_arg3)) (m (c.tc.loc main_arg4)) (m (c.tc.loc main_arg5)),
    fun c => outQ (m (c.tc.loc main_arg0)) (m (c.tc.loc main_arg1)) (m (c.tc.loc main_arg2)) (m (c.tc.loc main_arg6)),
    fun c => outKtf (m (c.tc.loc main_arg0)) (m (c.tc.loc main_arg1)) (m (c.tc.loc main_arg2)) (m (c.tc.loc main_arg7)),
    fun c => outVtf (m (c.tc.loc main_arg0)) (m (c.tc.loc main_arg1)) (m (c.tc.loc main_arg2)),
    fun c => outKt (m (c.tc.loc main_arg0)) (m (c.tc.loc main_arg1)) (m (c.tc.loc main_arg2)) (m (c.tc.loc main_arg7)),
    fun c => outVb (m (c.tc.loc main_arg0)) (m (c.tc.loc main_arg1)) (m (c.tc.loc main_arg2)),
    fun c => outLq (m (c.tc.loc main_arg0)) (m (c.tc.loc main_arg1)) (m (c.tc.loc main_arg2)),
    fun c => outLk (m (c.tc.loc main_arg0)) (m (c.tc.loc main_arg1)) (m (c.tc.loc main_arg2)),
    fun c => outLv (m (c.tc.loc main_arg0)) (m (c.tc.loc main_arg1)) (m (c.tc.loc main_arg2)),
    fun c => outLa (m (c.tc.loc main_arg0)) (m (c.tc.loc main_arg1)) (m (c.tc.loc main_arg2)) (m (c.tc.loc main_arg8)) (m (c.tc.loc main_arg9)),
    fun c => outGs (m (c.tc.loc main_arg0)) (m (c.tc.loc main_arg1)) (m (c.tc.loc main_arg2)),
    (θ_run Cert.Kernel3Ideal.defs _ _).mono (fun _ h c => ?_) (Cert.Kernel3Ideal.Value.run_blocks m ρ), ?_⟩
  · obtain ⟨h0, h1, h2, h3, h4, h5, h6, h7, h8, h9, h10, ha⟩ := h c
    exact ⟨h0.trans (final_ya m c (hr c 256 256 (by decide) (by decide) (by decide))),
      h1.trans (final_q m c (hr c 512 512 (by decide) (by decide) (by decide))),
      h2.trans (final_ktf m c (hr c 512 1024 (by decide) (by decide) (by decide))),
      h3.trans (final_vtf m c),
      h4.trans (final_kt m c (hr c 512 1024 (by decide) (by decide) (by decide))),
      h5.trans (final_vb m c),
      h6.trans (final_lq m c),
      h7.trans (final_lk m c),
      h8.trans (final_lv m c),
      h9.trans (final_la m c),
      h10.trans (final_gs m c), ha⟩
  refine (θ_run Cert.Reference3Ideal.defs _ _).mono (fun _ h c => ?_) (Cert.Reference3Ideal.Value.run (F := Ideal) m' ρ')
  obtain ⟨a0, a1, a2, a3, a4, a5, a6, a7, a8, a9⟩ := hagree c
  obtain ⟨h0, h1, h2, h3, h4, h5, h6, h7, h8, h9, h10, ha⟩ := h c
  refine ⟨h0.trans ?_, h1.trans ?_, h2.trans ?_, h3.trans ?_, h4.trans ?_, h5.trans ?_, h6.trans ?_, h7.trans ?_, h8.trans ?_, h9.trans ?_, h10.trans ?_, ha⟩
  · beta_reduce
    rw [← a0, ← a1, ← a2, ← a3, ← a4, ← a5]
    funext y
    obtain ⟨r, j, rfl⟩ : ∃ r j, y = ix2 r j := ⟨y 0, y 1, by blk_ext⟩
    exact ref_ya (StableHlo.launchContents m' c) r j
  · beta_reduce
    rw [← a0, ← a1, ← a2, ← a6]
    funext y
    obtain ⟨r, j, rfl⟩ : ∃ r j, y = ix2 r j := ⟨y 0, y 1, by blk_ext⟩
    exact ref_q (StableHlo.launchContents m' c) r j
  · beta_reduce
    rw [← a0, ← a1, ← a2, ← a7]
    funext y
    obtain ⟨b, j, s, rfl⟩ : ∃ b j s, y = ix3 b j s := ⟨y 0, y 1, y 2, by blk_ext⟩
    exact ref_ktf (StableHlo.launchContents m' c) b j s
  · beta_reduce
    rw [← a0, ← a1, ← a2]
    funext y
    obtain ⟨b, j, s, rfl⟩ : ∃ b j s, y = ix3 b j s := ⟨y 0, y 1, y 2, by blk_ext⟩
    exact ref_vtf (StableHlo.launchContents m' c) b j s
  · beta_reduce
    rw [← a0, ← a1, ← a2, ← a7]
    funext y
    obtain ⟨b, j, s, rfl⟩ : ∃ b j s, y = ix3 b j s := ⟨y 0, y 1, y 2, by blk_ext⟩
    exact ref_kt (StableHlo.launchContents m' c) b j s
  · beta_reduce
    rw [← a0, ← a1, ← a2]
    funext y
    obtain ⟨r, j, rfl⟩ : ∃ r j, y = ix2 r j := ⟨y 0, y 1, by blk_ext⟩
    exact ref_vb (StableHlo.launchContents m' c) r j
  · beta_reduce
    rw [← a0, ← a1, ← a2]
    funext y
    obtain ⟨r, j, rfl⟩ : ∃ r j, y = ix2 r j := ⟨y 0, y 1, by blk_ext⟩
    exact ref_lq (StableHlo.launchContents m' c) r j
  · beta_reduce
    rw [← a0, ← a1, ← a2]
    funext y
    obtain ⟨r, j, rfl⟩ : ∃ r j, y = ix2 r j := ⟨y 0, y 1, by blk_ext⟩
    exact ref_lk (StableHlo.launchContents m' c) r j
  · beta_reduce
    rw [← a0, ← a1, ← a2]
    funext y
    obtain ⟨r, j, rfl⟩ : ∃ r j, y = ix2 r j := ⟨y 0, y 1, by blk_ext⟩
    exact ref_lv (StableHlo.launchContents m' c) r j
  · beta_reduce
    rw [← a0, ← a1, ← a2, ← a8, ← a9]
    funext y
    obtain ⟨r, j, rfl⟩ : ∃ r j, y = ix2 r j := ⟨y 0, y 1, by blk_ext⟩
    exact ref_la (StableHlo.launchContents m' c) r j
  · beta_reduce
    rw [← a0, ← a1, ← a2]
    funext y
    obtain ⟨r, j, rfl⟩ : ∃ r j, y = ix2 r j := ⟨y 0, y 1, by blk_ext⟩
    exact ref_gs (StableHlo.launchContents m' c) r j

end Cert.Proof.InProj

end
-- ==== Proof.KernelIdeal.Loop.lean ====
/-
  One trip of the attention's loop over pairs of key tiles, over the staging memrefs of a grid point.

  The loop overlaps three stages on six scratch buffers. A trip reads of the trip before it the logits of one
  tile (`zb`), the exponents of one tile (`aa`), the running sum over the tiles passed (`car`) and the
  output so far (`acc`); the other two buffers are written before they are read. `St` records these four values
  and `step` is what a trip makes of them.
-/
module

public import proofs.«01_k».proof.Proof.Gen.KernelIdeal.Loops
public import proofs.«01_k».proof.Proof.Gen.KernelIdeal.Frame
public import Idealize.ShloMosaic.Lib.VecWindow
public import Idealize.ShloMosaic.Lib.LoopRemainder

@[expose] public section

set_option maxRecDepth 16384

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄" => MT nD τ sig Unit (Elt F) ℕ (UR sig nD τ) ℕ

/-- What a trip of the loop finds of the trips before it. -/
structure St (F : FTy → Type) where
  /-- the logits whose tile this trip sums first -/
  zb : Vec F S1024x256 .f32
  /-- the exponents whose tile this trip weighs first -/
  aa : Vec F S1024x256 .f32
  /-- the running sum over the key tiles passed -/
  car : Vec F S1024x1 .f32
  /-- the output so far -/
  acc : Vec F S256x256 .f32

/-- The number of the pair of tiles, times two, as the program computes it. -/
abbrev pairWord (i : grid0.Coords) (k : Fin (k0_t1_loop i).trips) : BitVec 32 :=
  Scalar.muli 2#32 (Scf.iv 0#32 1#32 k)

/-- The logits a trip computes first. -/
def zaOf (i : grid0.Coords) (kt : Vec F S16x256x256 .bf16) (qs : Vec F S1024x256 .bf16) (v99 : FVec F S1024x1 .f32)
    (k : Fin (k0_t1_loop i).trips) : Vec F S1024x256 .f32 :=
  k0_pay2 v99 qs (View.ld kt (Rect.unit (s := S16x256x256) (k0_off4 i k) S1x256x256.size (k0_off4_inb i k)))

/-- The running sum between the two halves of a trip. -/
def carMid (i : grid0.Coords) (arg2 : BitVec 32) (v101 : FVec F S256x256 .bf16)
    (k : Fin (k0_t1_loop i).trips) (s : St F) : Vec F S1024x1 .f32 :=
  k0_pay6 arg2 (pairWord i k) (k0_pay4 v101 s.zb s.car) s.car

/-- The output between the two halves of a trip. -/
def accMid (i : grid0.Coords) (v : Vec F S4096x256 .bf16) (arg2 : BitVec 32) (v49 : IVec S256x256 32)
    (k : Fin (k0_t1_loop i).trips) (s : St F) : Vec F S256x256 .f32 :=
  k0_pay12 s.acc (k0_pay7 s.aa)
    (View.ld v (Rect.unit (s := S4096x256) (k0_off5 i k) S256x256.size (k0_off5_inb i k)))
    (k0_pay8 arg2 v49 (pairWord i k)) (k0_pay9 arg2 v49 (pairWord i k)) (k0_pay10 arg2 v49 (pairWord i k))
    (k0_pay11 arg2 v49 (pairWord i k))

/-- Whether the second half of a trip weighs a tile. -/
abbrev weighOdd (i : grid0.Coords) (arg2 : BitVec 32) (k : Fin (k0_t1_loop i).trips) : BitVec 1 :=
  Scalar.andi (Scalar.cmpi .sge (Scalar.addi (pairWord i k) 1#32) 2#32)
    (Scalar.cmpi .sle (Scalar.addi (pairWord i k) 1#32) (Scalar.addi arg2 1#32))

/-- What a trip leaves. -/
def step (i : grid0.Coords) (kt : Vec F S16x256x256 .bf16) (v : Vec F S4096x256 .bf16) (qs : Vec F S1024x256 .bf16)
    (arg2 : BitVec 32) (v49 : IVec S256x256 32) (v99 : FVec F S1024x1 .f32) (v101 : FVec F S256x256 .bf16)
    (k : Fin (k0_t1_loop i).trips) (s : St F) : St F where
  zb := k0_pay13 v99 qs (View.ld kt (Rect.unit (s := S16x256x256) (k0_off6 i k) S1x256x256.size (k0_off6_inb i k)))
  aa := k0_pay15 v101 (zaOf i kt qs v99 k) (carMid i arg2 v101 k s)
  car := k0_pay16 arg2 v101 (Scalar.addi (pairWord i k) 1#32) (zaOf i kt qs v99 k) (carMid i arg2 v101 k s)
    (carMid i arg2 v101 k s)
  acc := k0_pay17 v49 (accMid i v arg2 v49 k s) (k0_pay5 v101 s.zb s.car) (weighOdd i arg2 k)
    (View.ld v (Rect.unit (s := S4096x256) (k0_off7 i k) S256x256.size (k0_off7_inb i k)))

/-- The four values after the first `n` trips. -/
def after (i : grid0.Coords) (kt : Vec F S16x256x256 .bf16) (v : Vec F S4096x256 .bf16) (qs : Vec F S1024x256 .bf16)
    (arg2 : BitVec 32) (v49 : IVec S256x256 32) (v99 : FVec F S1024x1 .f32) (v101 : FVec F S256x256 .bf16) (s : St F) : ℕ → St F
  | 0 => s
  | n + 1 => if h : n < (k0_t1_loop i).trips then step i kt v qs arg2 v49 v99 v101 ⟨n, h⟩ (after i kt v qs arg2 v49 v99 v101 s n)
      else after i kt v qs arg2 v49 v99 v101 s n

theorem after_succ (i : grid0.Coords) (kt : Vec F S16x256x256 .bf16) (v : Vec F S4096x256 .bf16) (qs : Vec F S1024x256 .bf16)
    (arg2 : BitVec 32) (v49 : IVec S256x256 32) (v99 : FVec F S1024x1 .f32) (v101 : FVec F S256x256 .bf16) (s : St F)
    (k : Fin (k0_t1_loop i).trips) :
    after i kt v qs arg2 v49 v99 v101 s (k.val + 1)
      = step i kt v qs arg2 v49 v99 v101 k (after i kt v qs arg2 v49 v99 v101 s k.val) := by
  rw [after, dif_pos k.isLt]

/-- The scratch buffers and the two operands the loop reads, at the state `s`. -/
abbrev held (c : Dev nD) (arg5 : Memref sig .tc .vmem S16x256x256 .bf16) (arg6 : Memref sig .tc .vmem S4096x256 .bf16)
    (arg9 : Memref sig .tc .vmem S1024x256 .bf16) (arg10 arg11 arg12 arg13 : Memref sig .tc .vmem S1024x256 .f32)
    (arg14 : Memref sig .tc .vmem S1024x1 .f32) (arg15 : Memref sig .tc .vmem S256x256 .f32)
    (kt : Vec F S16x256x256 .bf16) (v : Vec F S4096x256 .bf16) (qs : Vec F S1024x256 .bf16) (s : St F) : sProp 𝕄 :=
  iprop(owns (c : Thread nD τ) arg5 fullShare kt ∗ owns (c : Thread nD τ) arg6 fullShare v ∗ owns (c : Thread nD τ) arg9 fullShare qs
    ∗ (∃ d, owns (c : Thread nD τ) arg10 fullShare d) ∗ owns (c : Thread nD τ) arg11 fullShare s.zb
    ∗ owns (c : Thread nD τ) arg12 fullShare s.aa ∗ (∃ d, owns (c : Thread nD τ) arg13 fullShare d)
    ∗ owns (c : Thread nD τ) arg14 fullShare s.car ∗ owns (c : Thread nD τ) arg15 fullShare s.acc)

set_option maxHeartbeats 1000000 in
/-- One trip takes the state to the next. -/
theorem trip_run (c : Dev nD) (i : grid0.Coords) (arg3 : Memref sig .tc .smem S8 .f32) (harg3 : arg3.IsWhole) (arg4 : Memref sig .tc .vmem S256x256 .bf16) (harg4 : arg4.IsWhole) (arg5 : Memref sig .tc .vmem S16x256x256 .bf16) (harg5 : arg5.IsWhole) (arg6 : Memref sig .tc .vmem S4096x256 .bf16) (harg6 : arg6.IsWhole) (arg7 : Memref sig .tc .vmem S256x256 .bf16) (harg7 : arg7.IsWhole) (arg8 : Memref sig .tc .vmem S256x256 .bf16) (harg8 : arg8.IsWhole) (arg9 : Memref sig .tc .vmem S1024x256 .bf16) (harg9 : arg9.IsWhole) (arg10 : Memref sig .tc .vmem S1024x256 .f32) (harg10 : arg10.IsWhole) (arg11 : Memref sig .tc .vmem S1024x256 .f32) (harg11 : arg11.IsWhole) (arg12 : Memref sig .tc .vmem S1024x256 .f32) (harg12 : arg12.IsWhole) (arg13 : Memref sig .tc .vmem S1024x256 .f32) (harg13 : arg13.IsWhole) (arg14 : Memref sig .tc .vmem S1024x1 .f32) (harg14 : arg14.IsWhole) (arg15 : Memref sig .tc .vmem S256x256 .f32) (harg15 : arg15.IsWhole)
    (arg2 : BitVec 32) (v49 : IVec S256x256 32) (v99 : FVec F S1024x1 .f32) (v101 : FVec F S256x256 .bf16) (v189 : BitVec 32)
    (kt : Vec F S16x256x256 .bf16) (v : Vec F S4096x256 .bf16) (qs : Vec F S1024x256 .bf16) (s : St F)
    (k : Fin (k0_t1_loop i).trips) (a : BitVec 32) :
    held c arg5 arg6 arg9 arg10 arg11 arg12 arg13 arg14 arg15 kt v qs s
      ⊢ wp frame (wpE (defs₀ (F := F)) Variants.none c none) Set.univ
          (k0_t1_body i arg3 harg3 arg4 harg4 arg5 harg5 arg6 harg6 arg7 harg7 arg8 harg8 arg9 harg9 arg10 harg10 arg11 harg11 arg12 harg12 arg13 harg13 arg14 harg14 arg15 harg15 arg2 v49 v99 v101 v189 k a)
          (fun _ => held c arg5 arg6 arg9 arg10 arg11 arg12 arg13 arg14 arg15 kt v qs (step i kt v qs arg2 v49 v99 v101 k s)) := by
  unfold held
  unfold owns
  iintro ⟨⟨%f5, %hf5, H5⟩, ⟨%f6, %hf6, H6⟩, ⟨%f9, %hf9, H9⟩, ⟨%d10, %f10, -, H10⟩, ⟨%f11, %hf11, H11⟩, ⟨%f12, %hf12, H12⟩, ⟨%d13, %f13, -, H13⟩, ⟨%f14, %hf14, H14⟩, ⟨%f15, %hf15, H15⟩⟩
  unfold k0_t1_body
  simp only [k0_part5_eq_skeleton]; unfold k0_part5_skel
  simp only [k0_part1_eq_skeleton, k0_part2_eq_skeleton, k0_part3_eq_skeleton, k0_part4_eq_skeleton]
  sl_exec
  sl_step
  have hv332 : trip_run.sl.v332 c i arg5 arg9 arg10 v99 k f5 f9 = zaOf i kt qs v99 k := by
    unfold trip_run.sl.v332 trip_run.sl.H10_1
    rw [View.readCov_full, View.readAt_full, View.readAt_eq_ld, hf9, hf5]; rfl
  have hv333 : trip_run.sl.v333 c i arg11 arg14 arg2 v101 k f11 f14 = carMid i arg2 v101 k s := by
    unfold trip_run.sl.v333 trip_run.sl.H14_1
    rw [View.readCov_full]
    unfold trip_run.sl.r
    rw [View.readAt_full, View.readAt_full, hf11, hf14]; rfl
  have hv362 : trip_run.sl.v362 c i arg6 arg12 arg15 arg2 v49 k f6 f12 f15 = accMid i v arg2 v49 k s := by
    unfold trip_run.sl.v362 trip_run.sl.H15_1
    refine (View.readCov_full _ _ _ _ _).trans ?_
    unfold trip_run.sl.r_1 trip_run.sl.r_2 trip_run.sl.r_3
    have e1 := (View.readAt_full arg15.view f15 inb_S256x256_S256x256_0_0).trans hf15
    have e2 := (View.readAt_full arg12.view f12 inb_S1024x256_S1024x256_0_0).trans hf12
    unfold accMid
    rw [View.readAt_eq_ld arg6.view, hf6]
    exact congrArg₂ (fun x y => k0_pay12 x (k0_pay7 y) _ _ _ _ _) e1 e2
  have hv363 : trip_run.sl.v363 c arg11 arg13 arg14 v101 f11 f14 = k0_pay5 v101 s.zb s.car := by
    unfold trip_run.sl.v363 trip_run.sl.H13_1
    rw [View.readCov_full, View.readAt_full, View.readAt_full, hf11, hf14]
  isplitl [H5]
  · iexists _; isplitr; · ipureintro; exact hf5
    iexact H5
  isplitl [H6]
  · iexists _; isplitr; · ipureintro; exact hf6
    iexact H6
  isplitl [H9]
  · iexists _; isplitr; · ipureintro; exact hf9
    iexact H9
  isplitl [H10]
  · iexists _, _; isplitr; swap; · iexact H10
    ipureintro; rfl
  isplitl [H11]
  · iexists _; isplitr; swap; · iexact H11
    ipureintro
    rw [View.read_writes_full, View.readAt_full, View.readAt_eq_ld, hf9, hf5]; rfl
  isplitl [H12]
  · iexists _; isplitr; swap; · iexact H12
    ipureintro
    rw [View.read_writes_full, hv332, hv333]; rfl
  isplitl [H13]
  · iexists _, _; isplitr; swap; · iexact H13
    ipureintro; rfl
  isplitl [H14]
  · iexists _; isplitr; swap; · iexact H14
    ipureintro
    rw [View.read_writes_full, hv332, hv333]; rfl
  · iexists _; isplitr; swap; · iexact H15
    ipureintro
    refine (View.read_writes_full _ _ _ _ _).trans ?_
    rw [hv362, hv363, View.readAt_eq_ld, hf6]; rfl

end Cert.Proof.KernelIdeal

end
-- ==== Proof.KernelIdeal.Body.lean ====
/-
  The attention's body at one grid point: what it leaves in the output's staging buffer, as a function of the blocks
  of the inputs and of what the two scratch buffers it reads before writing held (`zb`, `aa`).
-/
module

public import proofs.«01_k».proof.Proof.KernelIdeal.Loop

@[expose] public section

set_option maxRecDepth 16384

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄" => MT nD τ sig Unit (Elt F) ℕ (UR sig nD τ) ℕ

/-- The lane's head within the group of four, as the program computes it. -/
abbrev laneHead : IVec S256x256 32 := k0_pay38 (k0_pay35) (k0_pay36) (k0_pay37) 0#32

/-- The queries stacked four times, each copy holding one head's lanes and zero elsewhere. -/
def stacked (q : Vec F S256x256 .bf16) : Vec F S1024x256 .bf16 :=
  View.canon [⟨Rect.unit (s := S1024x256) ![768, 0] S256x256.size inb_S1024x256_S256x256_768_0, k0_pay42 k0_pay34 q⟩,
    ⟨Rect.unit (s := S1024x256) ![512, 0] S256x256.size inb_S1024x256_S256x256_512_0, k0_pay41 k0_pay34 q⟩,
    ⟨Rect.unit (s := S1024x256) ![256, 0] S256x256.size inb_S1024x256_S256x256_256_0, k0_pay40 k0_pay34 q⟩,
    ⟨Rect.unit (s := S1024x256) ![0, 0] S256x256.size inb_S1024x256_S256x256_0_0, k0_pay39 k0_pay34 q⟩]

/-- The four heads' biases as a column over the stacked rows. -/
def biasCol (i : grid0.Coords) (b : Vec F S8 .f32) : FVec F S1024x1 .f32 :=
  k0_pay43 (View.ld b (Rect.unit (s := S8) (k0_off1 i 0#32) S1.size (k0_off1_inb i 0)) (Shape.Idx.first (numel1_S1.symm ▸ Nat.one_pos)))
    (View.ld b (Rect.unit (s := S8) (k0_off1 i 1#32) S1.size (k0_off1_inb i 1)) (Shape.Idx.first (numel1_S1.symm ▸ Nat.one_pos)))
    (View.ld b (Rect.unit (s := S8) (k0_off1 i 2#32) S1.size (k0_off1_inb i 2)) (Shape.Idx.first (numel1_S1.symm ▸ Nat.one_pos)))
    (View.ld b (Rect.unit (s := S8) (k0_off1 i 3#32) S1.size (k0_off1_inb i 3)) (Shape.Idx.first (numel1_S1.symm ▸ Nat.one_pos)))

/-- The running sum after the diagonal tile. -/
def carDiag (i : grid0.Coords) (b : Vec F S8 .f32) (q : Vec F S256x256 .bf16) (kt : Vec F S16x256x256 .bf16)
    (ns : Vec F S256x256 .bf16) : Vec F S1024x1 .f32 :=
  k0_pay52 (biasCol i b) (k0_pay44 ns) k0_pay47 (stacked q)
    (View.ld kt (Rect.unit (s := S16x256x256) (k0_off2 i) S1x256x256.size (k0_off2_inb i)))

/-- The output after the diagonal tile. -/
def accDiag (i : grid0.Coords) (b : Vec F S8 .f32) (q : Vec F S256x256 .bf16) (kt : Vec F S16x256x256 .bf16)
    (v : Vec F S4096x256 .bf16) (ns : Vec F S256x256 .bf16) : Vec F S256x256 .f32 :=
  k0_pay55 laneHead
    (k0_pay53 (biasCol i b) (k0_pay44 ns) k0_pay47 (stacked q)
      (View.ld kt (Rect.unit (s := S16x256x256) (k0_off2 i) S1x256x256.size (k0_off2_inb i))))
    (View.ld v (Rect.unit (s := S4096x256) (k0_off3 i) S256x256.size (k0_off3_inb i))) (k0_pay54 laneHead)

/-- Whether the program clears the two scratch buffers it reads before writing. -/
abbrev clears (i : grid0.Coords) : Prop :=
  Scalar.cmpi .ne (Scalar.extui (Scalar.cmpi .eq (BitVec.ofNat 32 (i 2).val) 0#32)) 0#32 = (1#1 : BitVec 1)

/-- The state the loop is entered with, the two scratch buffers having held `zb` and `aa`. -/
def entry (i : grid0.Coords) (b : Vec F S8 .f32) (q : Vec F S256x256 .bf16) (kt : Vec F S16x256x256 .bf16)
    (v : Vec F S4096x256 .bf16) (ns : Vec F S256x256 .bf16) (zb aa : Vec F S1024x256 .f32) : St F where
  zb := if clears i then k0_pay45 else zb
  aa := if clears i then k0_pay46 else aa
  car := carDiag i b q kt ns
  acc := accDiag i b q kt v ns

/-- What the body leaves in the output's staging buffer. -/
def outOf (i : grid0.Coords) (b : Vec F S8 .f32) (q : Vec F S256x256 .bf16) (kt : Vec F S16x256x256 .bf16)
    (v : Vec F S4096x256 .bf16) (ns : Vec F S256x256 .bf16) (zb aa : Vec F S1024x256 .f32) : Vec F S256x256 .bf16 :=
  k0_pay1 (after i kt v (stacked q) (BitVec.ofNat 32 (i 2).val) laneHead (biasCol i b) (k0_pay44 ns)
    (entry i b q kt v ns zb aa) (k0_t1_loop i).trips).acc

theorem stacked_eq (V : View sig .tc .vmem S1024x256 .bf16) (f : V.ty.Contents (Elt F)) (q : Vec F S256x256 .bf16) :
    V.read (Elt F) (V.writes (Elt F) f [⟨Rect.unit (s := S1024x256) ![768, 0] S256x256.size inb_S1024x256_S256x256_768_0, k0_pay42 k0_pay34 q⟩,
    ⟨Rect.unit (s := S1024x256) ![512, 0] S256x256.size inb_S1024x256_S256x256_512_0, k0_pay41 k0_pay34 q⟩,
    ⟨Rect.unit (s := S1024x256) ![256, 0] S256x256.size inb_S1024x256_S256x256_256_0, k0_pay40 k0_pay34 q⟩,
    ⟨Rect.unit (s := S1024x256) ![0, 0] S256x256.size inb_S1024x256_S256x256_0_0, k0_pay39 k0_pay34 q⟩]) = stacked q := by
  refine View.read_writes_eq_canon V f _ fun y => ?_
  have h0 : (y 0).val < 1024 := (y 0).isLt
  have h1 : (y 1).val < 256 := (y 1).isLt
  have key : ∀ (o : ℕ) (inb : ∀ a, (![o, 0] : Fin 2 → ℕ) a + S256x256.size a ≤ S1024x256.size a), o ≤ (y 0).val → (y 0).val < o + 256 →
      y ∈ (Rect.unit (s := S1024x256) ![o, 0] S256x256.size inb).set := by
    intro o inb h h'
    rw [Rect.mem_set_unit]
    intro a
    fin_cases a
    · exact ⟨h, h'⟩
    · exact ⟨Nat.zero_le _, by show (y 1).val < 0 + 256; omega⟩
  by_cases a1 : 768 ≤ (y 0).val
  · exact ⟨_, List.mem_cons_self, key 768 inb_S1024x256_S256x256_768_0 a1 (by omega)⟩
  by_cases a2 : 512 ≤ (y 0).val
  · exact ⟨_, List.mem_cons_of_mem _ List.mem_cons_self, key 512 inb_S1024x256_S256x256_512_0 a2 (by omega)⟩
  by_cases a3 : 256 ≤ (y 0).val
  · exact ⟨_, List.mem_cons_of_mem _ (List.mem_cons_of_mem _ List.mem_cons_self), key 256 inb_S1024x256_S256x256_256_0 a3 (by omega)⟩
  · exact ⟨_, List.mem_cons_of_mem _ (List.mem_cons_of_mem _ (List.mem_cons_of_mem _ List.mem_cons_self)), key 0 inb_S1024x256_S256x256_0_0 (by omega) (by omega)⟩

set_option maxHeartbeats 1000000 in
/-- The body's triple, where the two scratch buffers are cleared. -/
theorem body_run_zero (c : Dev nD) (i : grid0.Coords) (arg3 : Memref sig .tc .smem S8 .f32) (harg3 : arg3.IsWhole) (arg4 : Memref sig .tc .vmem S256x256 .bf16) (harg4 : arg4.IsWhole) (arg5 : Memref sig .tc .vmem S16x256x256 .bf16) (harg5 : arg5.IsWhole) (arg6 : Memref sig .tc .vmem S4096x256 .bf16) (harg6 : arg6.IsWhole) (arg7 : Memref sig .tc .vmem S256x256 .bf16) (harg7 : arg7.IsWhole) (arg8 : Memref sig .tc .vmem S256x256 .bf16) (harg8 : arg8.IsWhole) (arg9 : Memref sig .tc .vmem S1024x256 .bf16) (harg9 : arg9.IsWhole) (arg10 : Memref sig .tc .vmem S1024x256 .f32) (harg10 : arg10.IsWhole) (arg11 : Memref sig .tc .vmem S1024x256 .f32) (harg11 : arg11.IsWhole) (arg12 : Memref sig .tc .vmem S1024x256 .f32) (harg12 : arg12.IsWhole) (arg13 : Memref sig .tc .vmem S1024x256 .f32) (harg13 : arg13.IsWhole) (arg14 : Memref sig .tc .vmem S1024x1 .f32) (harg14 : arg14.IsWhole) (arg15 : Memref sig .tc .vmem S256x256 .f32) (harg15 : arg15.IsWhole)
    (b : Vec F S8 .f32) (q : Vec F S256x256 .bf16) (kt : Vec F S16x256x256 .bf16) (v : Vec F S4096x256 .bf16)
    (ns : Vec F S256x256 .bf16) (zb aa : Vec F S1024x256 .f32) (hc : clears i) :
    ∀ K : PUnit → sProp 𝕄,
      iprop(owns (c : Thread nD τ) arg3 fullShare b ∗ owns (c : Thread nD τ) arg4 fullShare q
        ∗ owns (c : Thread nD τ) arg5 fullShare kt ∗ owns (c : Thread nD τ) arg6 fullShare v
        ∗ owns (c : Thread nD τ) arg7 fullShare ns ∗ (∃ d, owns (c : Thread nD τ) arg8 fullShare d)
        ∗ (∃ d, owns (c : Thread nD τ) arg9 fullShare d) ∗ (∃ d, owns (c : Thread nD τ) arg10 fullShare d)
        ∗ owns (c : Thread nD τ) arg11 fullShare zb ∗ owns (c : Thread nD τ) arg12 fullShare aa
        ∗ (∃ d, owns (c : Thread nD τ) arg13 fullShare d) ∗ (∃ d, owns (c : Thread nD τ) arg14 fullShare d)
        ∗ (∃ d, owns (c : Thread nD τ) arg15 fullShare d)
        ∗ (iprop(owns (c : Thread nD τ) arg3 fullShare b ∗ owns (c : Thread nD τ) arg4 fullShare q
            ∗ owns (c : Thread nD τ) arg5 fullShare kt ∗ owns (c : Thread nD τ) arg6 fullShare v
            ∗ owns (c : Thread nD τ) arg7 fullShare ns ∗ owns (c : Thread nD τ) arg8 fullShare (outOf i b q kt v ns zb aa)
            ∗ (∃ d, owns (c : Thread nD τ) arg9 fullShare d) ∗ (∃ d, owns (c : Thread nD τ) arg10 fullShare d)
            ∗ (∃ d, owns (c : Thread nD τ) arg11 fullShare d) ∗ (∃ d, owns (c : Thread nD τ) arg12 fullShare d)
            ∗ (∃ d, owns (c : Thread nD τ) arg13 fullShare d) ∗ (∃ d, owns (c : Thread nD τ) arg14 fullShare d)
            ∗ (∃ d, owns (c : Thread nD τ) arg15 fullShare d)) -∗ K ⟨⟩))
      ⊢ wp frame (wpE (defs₀ (F := F)) Variants.none c none) Set.univ (cc0_sb_prompt i arg3 harg3 arg4 harg4 arg5 harg5 arg6 harg6 arg7 harg7 arg8 harg8 arg9 harg9 arg10 harg10 arg11 harg11 arg12 harg12 arg13 harg13 arg14 harg14 arg15 harg15) K := by
  intro K
  simp only [cc0_sb_prompt_eq_skeleton]; unfold cc0_sb_prompt_skel
  simp only [k0_part11_eq_skeleton, k0_part12_eq_skeleton, k0_part13_eq_skeleton, k0_part14_eq_skeleton, k0_part15_eq_skeleton]
  unfold owns
  iintro ⟨⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, ⟨%d10, %f10, -, H10⟩, ⟨%f11, %hf11, H11⟩, ⟨%f12, %hf12, H12⟩, ⟨%d13, %f13, -, H13⟩, ⟨%d14, %f14, -, H14⟩, ⟨%d15, %f15, -, H15⟩, Hk⟩
  sl_exec
  have hq : View.readAt (Elt F) arg4.view (Rect.unit (s := S256x256) ![0, 0] S256x256.size inb_S256x256_S256x256_0_0).toLoadRect f4 = q :=
    (View.readAt_full _ _ _).trans hf4
  have hr : body_run_zero.sl.r = laneHead := rfl
  have hr5 : body_run_zero.sl.r_5 c i arg3 f3 = biasCol i b := by
    subst hf3
    rfl
  have hr6 : body_run_zero.sl.r_6 c arg7 f7 = k0_pay44 ns := by
    unfold body_run_zero.sl.r_6
    rw [View.readAt_full, hf7]
  have h9 : View.read (Elt F) arg9.view (arg9.view.writes (Elt F) arg9.view.junk (body_run_zero.sl.H9_4 c arg4 f4)) = stacked q := by
    unfold body_run_zero.sl.H9_4
    rw [hq]; exact stacked_eq _ _ _
  have hv124 : body_run_zero.sl.v124 c arg4 arg9 f4 = stacked q := by
    unfold body_run_zero.sl.v124
    exact (View.readAt_full arg9.view _ _).trans h9
  have h14 : View.read (Elt F) arg14.view (arg14.view.writes (Elt F) arg14.view.junk (body_run_zero.sl.H14_1 c i arg3 arg4 arg5 arg7 arg9 f3 f4 f5 f7)) = carDiag i b q kt ns := by
    unfold body_run_zero.sl.H14_1
    rw [View.read_writes_full, hr5, hr6, hv124, View.readAt_eq_ld, hf5]; rfl
  have h15 : View.read (Elt F) arg15.view (arg15.view.writes (Elt F) arg15.view.junk (body_run_zero.sl.H15_1 c i arg3 arg4 arg5 arg6 arg7 arg9 f3 f4 f5 f6 f7)) = accDiag i b q kt v ns := by
    unfold body_run_zero.sl.H15_1
    refine (View.read_writes_full _ _ _ _ _).trans ?_
    have e7 : body_run_zero.sl.r_7 c i arg3 arg4 arg5 arg7 arg9 f3 f4 f5 f7 = k0_pay53 (biasCol i b) (k0_pay44 ns) k0_pay47 (stacked q)
        (View.ld kt (Rect.unit (s := S16x256x256) (k0_off2 i) S1x256x256.size (k0_off2_inb i))) := by
      unfold body_run_zero.sl.r_7
      rw [hr5, hr6, hv124, View.readAt_eq_ld, hf5]
    rw [e7]
    unfold body_run_zero.sl.r_8
    rw [View.readAt_eq_ld, hf6]; rfl
  have h11 : View.read (Elt F) arg11.view (arg11.view.writes (Elt F) arg11.view.junk body_run_zero.sl.H11_1) = (entry i b q kt v ns zb aa).zb := by
    unfold body_run_zero.sl.H11_1
    rw [View.read_writes_full]; exact (if_pos hc).symm
  have h12 : View.read (Elt F) arg12.view (arg12.view.writes (Elt F) arg12.view.junk body_run_zero.sl.H12_1) = (entry i b q kt v ns zb aa).aa := by
    unfold body_run_zero.sl.H12_1
    rw [View.read_writes_full]; exact (if_pos hc).symm
  rw [hr, hr5, hr6]
  sl_for (fun k _ => held c arg5 arg6 arg9 arg10 arg11 arg12 arg13 arg14 arg15 kt v (stacked q)
    (after i kt v (stacked q) (BitVec.ofNat 32 (i 2).val) laneHead (biasCol i b) (k0_pay44 ns) (entry i b q kt v ns zb aa) k))
    $$ [H5 H6 H9 H10 H11 H12 H13 H14 H15]
  · intro k a
    have ht := trip_run c i arg3 harg3 arg4 harg4 arg5 harg5 arg6 harg6 arg7 harg7 arg8 harg8 arg9 harg9 arg10 harg10 arg11 harg11 arg12 harg12 arg13 harg13 arg14 harg14 arg15 harg15 (BitVec.ofNat 32 (i 2).val) laneHead (biasCol i b) (k0_pay44 ns) (body_run_zero.sl.v189 i) kt v (stacked q)
      (after i kt v (stacked q) (BitVec.ofNat 32 (i 2).val) laneHead (biasCol i b) (k0_pay44 ns) (entry i b q kt v ns zb aa) k) k a
    rw [← after_succ] at ht
    exact ht
  · unfold held owns
    isplitl [H5]
    · iexists _; isplitr; swap; · iexact H5
      ipureintro; exact hf5
    isplitl [H6]
    · iexists _; isplitr; swap; · iexact H6
      ipureintro; exact hf6
    isplitl [H9]
    · iexists _; isplitr; swap; · iexact H9
      ipureintro; exact h9
    isplitl [H10]
    · iexists _, _; isplitr; swap; · iexact H10
      ipureintro; rfl
    isplitl [H11]
    · iexists _; isplitr; swap; · iexact H11
      ipureintro; exact h11
    isplitl [H12]
    · iexists _; isplitr; swap; · iexact H12
      ipureintro; exact h12
    isplitl [H13]
    · iexists _, _; isplitr; swap; · iexact H13
      ipureintro; rfl
    isplitl [H14]
    · iexists _; isplitr; swap; · iexact H14
      ipureintro; exact h14
    · iexists _; isplitr; swap; · iexact H15
      ipureintro; exact h15
  unfold held owns
  iintro %a ⟨⟨%g5, %hg5, H5⟩, ⟨%g6, %hg6, H6⟩, ⟨%g9, %hg9, H9⟩, ⟨%e10, %g10, -, H10⟩, ⟨%g11, %hg11, H11⟩, ⟨%g12, %hg12, H12⟩, ⟨%e13, %g13, -, H13⟩, ⟨%g14, %hg14, H14⟩, ⟨%g15, %hg15, H15⟩⟩
  sl_exec
  sl_step
  iapply Hk
  isplitl [H3]
  · iexists _; isplitr; swap; · iexact H3
    ipureintro; exact hf3
  isplitl [H4]
  · iexists _; isplitr; swap; · iexact H4
    ipureintro; exact hf4
  isplitl [H5]
  · iexists _; isplitr; swap; · iexact H5
    ipureintro; exact hg5
  isplitl [H6]
  · iexists _; isplitr; swap; · iexact H6
    ipureintro; exact hg6
  isplitl [H7]
  · iexists _; isplitr; swap; · iexact H7
    ipureintro; exact hf7
  isplitl [H8]
  · iexists _; isplitr; swap; · iexact H8
    ipureintro
    refine (View.read_writes_full _ _ _ _ _).trans ?_
    exact congrArg k0_pay1 ((View.readAt_full arg15.view g15 _).trans hg15)
  isplitl [H9]
  · iexists _, _; isplitr; swap; · iexact H9
    ipureintro; rfl
  isplitl [H10]
  · iexists _, _; isplitr; swap; · iexact H10
    ipureintro; rfl
  isplitl [H11]
  · iexists _, _; isplitr; swap; · iexact H11
    ipureintro; rfl
  isplitl [H12]
  · iexists _, _; isplitr; swap; · iexact H12
    ipureintro; rfl
  isplitl [H13]
  · iexists _, _; isplitr; swap; · iexact H13
    ipureintro; rfl
  isplitl [H14]
  · iexists _, _; isplitr; swap; · iexact H14
    ipureintro; rfl
  · iexists _, _; isplitr; swap; · iexact H15
    ipureintro; rfl

set_option maxHeartbeats 1000000 in
/-- The body's triple, where they keep what they held. -/
theorem body_run_pos (c : Dev nD) (i : grid0.Coords) (arg3 : Memref sig .tc .smem S8 .f32) (harg3 : arg3.IsWhole) (arg4 : Memref sig .tc .vmem S256x256 .bf16) (harg4 : arg4.IsWhole) (arg5 : Memref sig .tc .vmem S16x256x256 .bf16) (harg5 : arg5.IsWhole) (arg6 : Memref sig .tc .vmem S4096x256 .bf16) (harg6 : arg6.IsWhole) (arg7 : Memref sig .tc .vmem S256x256 .bf16) (harg7 : arg7.IsWhole) (arg8 : Memref sig .tc .vmem S256x256 .bf16) (harg8 : arg8.IsWhole) (arg9 : Memref sig .tc .vmem S1024x256 .bf16) (harg9 : arg9.IsWhole) (arg10 : Memref sig .tc .vmem S1024x256 .f32) (harg10 : arg10.IsWhole) (arg11 : Memref sig .tc .vmem S1024x256 .f32) (harg11 : arg11.IsWhole) (arg12 : Memref sig .tc .vmem S1024x256 .f32) (harg12 : arg12.IsWhole) (arg13 : Memref sig .tc .vmem S1024x256 .f32) (harg13 : arg13.IsWhole) (arg14 : Memref sig .tc .vmem S1024x1 .f32) (harg14 : arg14.IsWhole) (arg15 : Memref sig .tc .vmem S256x256 .f32) (harg15 : arg15.IsWhole)
    (b : Vec F S8 .f32) (q : Vec F S256x256 .bf16) (kt : Vec F S16x256x256 .bf16) (v : Vec F S4096x256 .bf16)
    (ns : Vec F S256x256 .bf16) (zb aa : Vec F S1024x256 .f32) (hc : ¬clears i) :
    ∀ K : PUnit → sProp 𝕄,
      iprop(owns (c : Thread nD τ) arg3 fullShare b ∗ owns (c : Thread nD τ) arg4 fullShare q
        ∗ owns (c : Thread nD τ) arg5 fullShare kt ∗ owns (c : Thread nD τ) arg6 fullShare v
        ∗ owns (c : Thread nD τ) arg7 fullShare ns ∗ (∃ d, owns (c : Thread nD τ) arg8 fullShare d)
        ∗ (∃ d, owns (c : Thread nD τ) arg9 fullShare d) ∗ (∃ d, owns (c : Thread nD τ) arg10 fullShare d)
        ∗ owns (c : Thread nD τ) arg11 fullShare zb ∗ owns (c : Thread nD τ) arg12 fullShare aa
        ∗ (∃ d, owns (c : Thread nD τ) arg13 fullShare d) ∗ (∃ d, owns (c : Thread nD τ) arg14 fullShare d)
        ∗ (∃ d, owns (c : Thread nD τ) arg15 fullShare d)
        ∗ (iprop(owns (c : Thread nD τ) arg3 fullShare b ∗ owns (c : Thread nD τ) arg4 fullShare q
            ∗ owns (c : Thread nD τ) arg5 fullShare kt ∗ owns (c : Thread nD τ) arg6 fullShare v
            ∗ owns (c : Thread nD τ) arg7 fullShare ns ∗ owns (c : Thread nD τ) arg8 fullShare (outOf i b q kt v ns zb aa)
            ∗ (∃ d, owns (c : Thread nD τ) arg9 fullShare d) ∗ (∃ d, owns (c : Thread nD τ) arg10 fullShare d)
            ∗ (∃ d, owns (c : Thread nD τ) arg11 fullShare d) ∗ (∃ d, owns (c : Thread nD τ) arg12 fullShare d)
            ∗ (∃ d, owns (c : Thread nD τ) arg13 fullShare d) ∗ (∃ d, owns (c : Thread nD τ) arg14 fullShare d)
            ∗ (∃ d, owns (c : Thread nD τ) arg15 fullShare d)) -∗ K ⟨⟩))
      ⊢ wp frame (wpE (defs₀ (F := F)) Variants.none c none) Set.univ (cc0_sb_prompt i arg3 harg3 arg4 harg4 arg5 harg5 arg6 harg6 arg7 harg7 arg8 harg8 arg9 harg9 arg10 harg10 arg11 harg11 arg12 harg12 arg13 harg13 arg14 harg14 arg15 harg15) K := by
  intro K
  simp only [cc0_sb_prompt_eq_skeleton]; unfold cc0_sb_prompt_skel
  simp only [k0_part11_eq_skeleton, k0_part12_eq_skeleton, k0_part13_eq_skeleton, k0_part14_eq_skeleton, k0_part15_eq_skeleton]
  unfold owns
  iintro ⟨⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, ⟨%d10, %f10, -, H10⟩, ⟨%f11, %hf11, H11⟩, ⟨%f12, %hf12, H12⟩, ⟨%d13, %f13, -, H13⟩, ⟨%d14, %f14, -, H14⟩, ⟨%d15, %f15, -, H15⟩, Hk⟩
  sl_exec
  have hq : View.readAt (Elt F) arg4.view (Rect.unit (s := S256x256) ![0, 0] S256x256.size inb_S256x256_S256x256_0_0).toLoadRect f4 = q :=
    (View.readAt_full _ _ _).trans hf4
  have hr : body_run_pos.sl.r = laneHead := rfl
  have hr5 : body_run_pos.sl.r_5 c i arg3 f3 = biasCol i b := by
    subst hf3
    rfl
  have hr6 : body_run_pos.sl.r_6 c arg7 f7 = k0_pay44 ns := by
    unfold body_run_pos.sl.r_6
    rw [View.readAt_full, hf7]
  have h9 : View.read (Elt F) arg9.view (arg9.view.writes (Elt F) arg9.view.junk (body_run_pos.sl.H9_4 c arg4 f4)) = stacked q := by
    unfold body_run_pos.sl.H9_4
    rw [hq]; exact stacked_eq _ _ _
  have hv124 : body_run_pos.sl.v124 c arg4 arg9 f4 = stacked q := by
    unfold body_run_pos.sl.v124
    exact (View.readAt_full arg9.view _ _).trans h9
  have h14 : View.read (Elt F) arg14.view (arg14.view.writes (Elt F) arg14.view.junk (body_run_pos.sl.H14_1 c i arg3 arg4 arg5 arg7 arg9 f3 f4 f5 f7)) = carDiag i b q kt ns := by
    unfold body_run_pos.sl.H14_1
    rw [View.read_writes_full, hr5, hr6, hv124, View.readAt_eq_ld, hf5]; rfl
  have h15 : View.read (Elt F) arg15.view (arg15.view.writes (Elt F) arg15.view.junk (body_run_pos.sl.H15_1 c i arg3 arg4 arg5 arg6 arg7 arg9 f3 f4 f5 f6 f7)) = accDiag i b q kt v ns := by
    unfold body_run_pos.sl.H15_1
    refine (View.read_writes_full _ _ _ _ _).trans ?_
    have e7 : body_run_pos.sl.r_7 c i arg3 arg4 arg5 arg7 arg9 f3 f4 f5 f7 = k0_pay53 (biasCol i b) (k0_pay44 ns) k0_pay47 (stacked q)
        (View.ld kt (Rect.unit (s := S16x256x256) (k0_off2 i) S1x256x256.size (k0_off2_inb i))) := by
      unfold body_run_pos.sl.r_7
      rw [hr5, hr6, hv124, View.readAt_eq_ld, hf5]
    rw [e7]
    unfold body_run_pos.sl.r_8
    rw [View.readAt_eq_ld, hf6]; rfl
  have h11 : View.read (Elt F) arg11.view f11 = (entry i b q kt v ns zb aa).zb := hf11.trans (if_neg hc).symm
  have h12 : View.read (Elt F) arg12.view f12 = (entry i b q kt v ns zb aa).aa := hf12.trans (if_neg hc).symm
  rw [hr, hr5, hr6]
  sl_for (fun k _ => held c arg5 arg6 arg9 arg10 arg11 arg12 arg13 arg14 arg15 kt v (stacked q)
    (after i kt v (stacked q) (BitVec.ofNat 32 (i 2).val) laneHead (biasCol i b) (k0_pay44 ns) (entry i b q kt v ns zb aa) k))
    $$ [H5 H6 H9 H10 H11 H12 H13 H14 H15]
  · intro k a
    have ht := trip_run c i arg3 harg3 arg4 harg4 arg5 harg5 arg6 harg6 arg7 harg7 arg8 harg8 arg9 harg9 arg10 harg10 arg11 harg11 arg12 harg12 arg13 harg13 arg14 harg14 arg15 harg15 (BitVec.ofNat 32 (i 2).val) laneHead (biasCol i b) (k0_pay44 ns) (body_run_pos.sl.v189 i) kt v (stacked q)
      (after i kt v (stacked q) (BitVec.ofNat 32 (i 2).val) laneHead (biasCol i b) (k0_pay44 ns) (entry i b q kt v ns zb aa) k) k a
    rw [← after_succ] at ht
    exact ht
  · unfold held owns
    isplitl [H5]
    · iexists _; isplitr; swap; · iexact H5
      ipureintro; exact hf5
    isplitl [H6]
    · iexists _; isplitr; swap; · iexact H6
      ipureintro; exact hf6
    isplitl [H9]
    · iexists _; isplitr; swap; · iexact H9
      ipureintro; exact h9
    isplitl [H10]
    · iexists _, _; isplitr; swap; · iexact H10
      ipureintro; rfl
    isplitl [H11]
    · iexists _; isplitr; swap; · iexact H11
      ipureintro; exact h11
    isplitl [H12]
    · iexists _; isplitr; swap; · iexact H12
      ipureintro; exact h12
    isplitl [H13]
    · iexists _, _; isplitr; swap; · iexact H13
      ipureintro; rfl
    isplitl [H14]
    · iexists _; isplitr; swap; · iexact H14
      ipureintro; exact h14
    · iexists _; isplitr; swap; · iexact H15
      ipureintro; exact h15
  unfold held owns
  iintro %a ⟨⟨%g5, %hg5, H5⟩, ⟨%g6, %hg6, H6⟩, ⟨%g9, %hg9, H9⟩, ⟨%e10, %g10, -, H10⟩, ⟨%g11, %hg11, H11⟩, ⟨%g12, %hg12, H12⟩, ⟨%e13, %g13, -, H13⟩, ⟨%g14, %hg14, H14⟩, ⟨%g15, %hg15, H15⟩⟩
  sl_exec
  sl_step
  iapply Hk
  isplitl [H3]
  · iexists _; isplitr; swap; · iexact H3
    ipureintro; exact hf3
  isplitl [H4]
  · iexists _; isplitr; swap; · iexact H4
    ipureintro; exact hf4
  isplitl [H5]
  · iexists _; isplitr; swap; · iexact H5
    ipureintro; exact hg5
  isplitl [H6]
  · iexists _; isplitr; swap; · iexact H6
    ipureintro; exact hg6
  isplitl [H7]
  · iexists _; isplitr; swap; · iexact H7
    ipureintro; exact hf7
  isplitl [H8]
  · iexists _; isplitr; swap; · iexact H8
    ipureintro
    refine (View.read_writes_full _ _ _ _ _).trans ?_
    exact congrArg k0_pay1 ((View.readAt_full arg15.view g15 _).trans hg15)
  isplitl [H9]
  · iexists _, _; isplitr; swap; · iexact H9
    ipureintro; rfl
  isplitl [H10]
  · iexists _, _; isplitr; swap; · iexact H10
    ipureintro; rfl
  isplitl [H11]
  · iexists _, _; isplitr; swap; · iexact H11
    ipureintro; rfl
  isplitl [H12]
  · iexists _, _; isplitr; swap; · iexact H12
    ipureintro; rfl
  isplitl [H13]
  · iexists _, _; isplitr; swap; · iexact H13
    ipureintro; rfl
  isplitl [H14]
  · iexists _, _; isplitr; swap; · iexact H14
    ipureintro; rfl
  · iexists _, _; isplitr; swap; · iexact H15
    ipureintro; rfl

/-- The body at any point. -/
theorem body_run (c : Dev nD) (i : grid0.Coords) (arg3 : Memref sig .tc .smem S8 .f32) (harg3 : arg3.IsWhole) (arg4 : Memref sig .tc .vmem S256x256 .bf16) (harg4 : arg4.IsWhole) (arg5 : Memref sig .tc .vmem S16x256x256 .bf16) (harg5 : arg5.IsWhole) (arg6 : Memref sig .tc .vmem S4096x256 .bf16) (harg6 : arg6.IsWhole) (arg7 : Memref sig .tc .vmem S256x256 .bf16) (harg7 : arg7.IsWhole) (arg8 : Memref sig .tc .vmem S256x256 .bf16) (harg8 : arg8.IsWhole) (arg9 : Memref sig .tc .vmem S1024x256 .bf16) (harg9 : arg9.IsWhole) (arg10 : Memref sig .tc .vmem S1024x256 .f32) (harg10 : arg10.IsWhole) (arg11 : Memref sig .tc .vmem S1024x256 .f32) (harg11 : arg11.IsWhole) (arg12 : Memref sig .tc .vmem S1024x256 .f32) (harg12 : arg12.IsWhole) (arg13 : Memref sig .tc .vmem S1024x256 .f32) (harg13 : arg13.IsWhole) (arg14 : Memref sig .tc .vmem S1024x1 .f32) (harg14 : arg14.IsWhole) (arg15 : Memref sig .tc .vmem S256x256 .f32) (harg15 : arg15.IsWhole)
    (b : Vec F S8 .f32) (q : Vec F S256x256 .bf16) (kt : Vec F S16x256x256 .bf16) (v : Vec F S4096x256 .bf16)
    (ns : Vec F S256x256 .bf16) (zb aa : Vec F S1024x256 .f32) :
    ∀ K : PUnit → sProp 𝕄,
      iprop(owns (c : Thread nD τ) arg3 fullShare b ∗ owns (c : Thread nD τ) arg4 fullShare q
        ∗ owns (c : Thread nD τ) arg5 fullShare kt ∗ owns (c : Thread nD τ) arg6 fullShare v
        ∗ owns (c : Thread nD τ) arg7 fullShare ns ∗ (∃ d, owns (c : Thread nD τ) arg8 fullShare d)
        ∗ (∃ d, owns (c : Thread nD τ) arg9 fullShare d) ∗ (∃ d, owns (c : Thread nD τ) arg10 fullShare d)
        ∗ owns (c : Thread nD τ) arg11 fullShare zb ∗ owns (c : Thread nD τ) arg12 fullShare aa
        ∗ (∃ d, owns (c : Thread nD τ) arg13 fullShare d) ∗ (∃ d, owns (c : Thread nD τ) arg14 fullShare d)
        ∗ (∃ d, owns (c : Thread nD τ) arg15 fullShare d)
        ∗ (iprop(owns (c : Thread nD τ) arg3 fullShare b ∗ owns (c : Thread nD τ) arg4 fullShare q
            ∗ owns (c : Thread nD τ) arg5 fullShare kt ∗ owns (c : Thread nD τ) arg6 fullShare v
            ∗ owns (c : Thread nD τ) arg7 fullShare ns ∗ owns (c : Thread nD τ) arg8 fullShare (outOf i b q kt v ns zb aa)
            ∗ (∃ d, owns (c : Thread nD τ) arg9 fullShare d) ∗ (∃ d, owns (c : Thread nD τ) arg10 fullShare d)
            ∗ (∃ d, owns (c : Thread nD τ) arg11 fullShare d) ∗ (∃ d, owns (c : Thread nD τ) arg12 fullShare d)
            ∗ (∃ d, owns (c : Thread nD τ) arg13 fullShare d) ∗ (∃ d, owns (c : Thread nD τ) arg14 fullShare d)
            ∗ (∃ d, owns (c : Thread nD τ) arg15 fullShare d)) -∗ K ⟨⟩))
      ⊢ wp frame (wpE (defs₀ (F := F)) Variants.none c none) Set.univ (cc0_sb_prompt i arg3 harg3 arg4 harg4 arg5 harg5 arg6 harg6 arg7 harg7 arg8 harg8 arg9 harg9 arg10 harg10 arg11 harg11 arg12 harg12 arg13 harg13 arg14 harg14 arg15 harg15) K := by
  intro K
  by_cases hc : clears i
  · exact body_run_zero c i arg3 harg3 arg4 harg4 arg5 harg5 arg6 harg6 arg7 harg7 arg8 harg8 arg9 harg9 arg10 harg10 arg11 harg11 arg12 harg12 arg13 harg13 arg14 harg14 arg15 harg15 b q kt v ns zb aa hc K
  · exact body_run_pos c i arg3 harg3 arg4 harg4 arg5 harg5 arg6 harg6 arg7 harg7 arg8 harg8 arg9 harg9 arg10 harg10 arg11 harg11 arg12 harg12 arg13 harg13 arg14 harg14 arg15 harg15 b q kt v ns zb aa hc K

end Cert.Proof.KernelIdeal

end
-- ==== Proof.KernelIdeal.Run.lean ====
/-
  The attention's run: the pipeline's data, its body obligation from the body's triple, the launch, and the frame. Of the
  output the data say only that each block is `outOf` of the inputs' blocks and of SOME contents of the two scratch buffers
  that the body reads before writing; the value module shows that these do not matter over the reals.
-/
module

public import proofs.«01_k».proof.Proof.KernelIdeal.Body
public import proofs.«01_k».proof.Proof.Gen.KernelIdeal.Frame
public import Idealize.ShloMosaic.Lib.Pipeline.DatRel

@[expose] public section

set_option maxRecDepth 16384

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligationRel)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- The blocks of the five inputs at a point. -/
def bBlk (c : Dev nD) (t : Fin cfg0.N) : Vec F S8 .f32 := Gen.iblk m c 0 t
def qBlk (c : Dev nD) (t : Fin cfg0.N) : Vec F S256x256 .bf16 := Gen.iblk m c 1 t
def ktBlk (c : Dev nD) (t : Fin cfg0.N) : Vec F S16x256x256 .bf16 := Gen.iblk m c 2 t
def vBlk (c : Dev nD) (t : Fin cfg0.N) : Vec F S4096x256 .bf16 := Gen.iblk m c 3 t
def nsBlk (c : Dev nD) (t : Fin cfg0.N) : Vec F S256x256 .bf16 := Gen.iblk m c 4 t

/-- The data of the pipeline: inputs keep their blocks; the scratch buffers pass from point to point at any contents. -/
def dat (c : Dev nD) : Dat τ (Elt F) Unit ℕ (UR sig nD τ) ℕ cfg0 c where
  A w := Gen.V m c (Pipeline.arrRef spec0 w)
  after w t := match w with
    | ⟨0, _⟩ => Gen.iblk m c 0 t
    | ⟨1, _⟩ => Gen.iblk m c 1 t
    | ⟨2, _⟩ => Gen.iblk m c 2 t
    | ⟨3, _⟩ => Gen.iblk m c 3 t
    | ⟨4, _⟩ => Gen.iblk m c 4 t
    | ⟨5, h⟩ => Pipeline.Dat.unnamed (cfg := cfg0) ⟨5, h⟩ t
  Φ _ := Pipeline.ΦA spec0 c
  q _ := fullShare
  owed _ := 0

theorem dat_A (c : Dev nD) (w : Fin cfg0.W) : (dat m c).A w = Gen.V m c (Pipeline.arrRef spec0 w) := by dsimp only [dat]

theorem dat_after0 (c : Dev nD) (t : Fin cfg0.N) : (dat m c).after 0 t = Gen.iblk m c 0 t := by dsimp only [dat]
theorem dat_after1 (c : Dev nD) (t : Fin cfg0.N) : (dat m c).after 1 t = Gen.iblk m c 1 t := by dsimp only [dat]
theorem dat_after2 (c : Dev nD) (t : Fin cfg0.N) : (dat m c).after 2 t = Gen.iblk m c 2 t := by dsimp only [dat]
theorem dat_after3 (c : Dev nD) (t : Fin cfg0.N) : (dat m c).after 3 t = Gen.iblk m c 3 t := by dsimp only [dat]
theorem dat_after4 (c : Dev nD) (t : Fin cfg0.N) : (dat m c).after 4 t = Gen.iblk m c 4 t := by dsimp only [dat]

/-- The one output window. -/
def isOutput : Fin cfg0.W → Bool := fun w => w.val == 5

/-- What the output's buffer may hold after the body at `t`. -/
def Left (c : Dev nD) (w : Fin cfg0.W) (t : Fin cfg0.N) (X : (cfg0.win w).block.Idx → Elt F (cfg0.win w).elt) : Prop :=
  match w, X with
  | ⟨5, _⟩, X => ∃ zb aa : Vec F S1024x256 .f32,
      X = outOf (grid0.coords t) (bBlk m c t) (qBlk m c t) (ktBlk m c t) (vBlk m c t) (nsBlk m c t) zb aa
  | _, _ => True

theorem left5 (c : Dev nD) (t : Fin cfg0.N) (X : Vec F S256x256 .bf16) :
    Left m c (5 : Fin cfg0.W) t X ↔ ∃ zb aa : Vec F S1024x256 .f32,
      X = outOf (grid0.coords t) (bBlk m c t) (qBlk m c t) (ktBlk m c t) (vBlk m c t) (nsBlk m c t) zb aa := Iff.rfl

/-- A scratch buffer at some contents, as the body's triple takes it. -/
theorem scratch_owns (c : Dev nD) (b : Ref sig .tc) :
    (iprop(∃ f : Buf (Elt F) ((c : Thread nD τ).loc b), ((c : Thread nD τ).loc b) ↦{fullShare} f) : sProp 𝕄)
      = iprop(∃ d, owns (c : Thread nD τ) (Memref.whole b) fullShare d) :=
  by simp only [owns_whole]; try rfl

set_option maxHeartbeats 800000 in
/-- The body at any point. -/
theorem sound (c : Dev nD) (t : Fin cfg0.N) :
    iprop((dat m c).Φ t.castSucc ∗ (dat m c).owesAt () t.castSucc
      ∗ (∃ d, owns (c : Thread nD τ) (st0_0 t) fullShare ((dat m c).before 0 t d))
      ∗ (∃ d, owns (c : Thread nD τ) (st0_1 t) fullShare ((dat m c).before 1 t d))
      ∗ (∃ d, owns (c : Thread nD τ) (st0_2 t) fullShare ((dat m c).before 2 t d))
      ∗ (∃ d, owns (c : Thread nD τ) (st0_3 t) fullShare ((dat m c).before 3 t d))
      ∗ (∃ d, owns (c : Thread nD τ) (st0_4 t) fullShare ((dat m c).before 4 t d))
      ∗ (∃ Y, ⌜((dat m c).toRRel isOutput (Left m c)).Finds 5 t Y⌝ ∗ owns (c : Thread nD τ) (st0_5 t) fullShare Y))
    ⊢ wp frame (wpE (defs₀ (F := F)) Variants.none c none) Set.univ (bodyAt0 t) fun _ =>
      iprop((dat m c).Φ t.succ ∗ (dat m c).owesAt () t.succ
      ∗ owns (c : Thread nD τ) (st0_0 t) fullShare ((dat m c).after 0 t)
      ∗ owns (c : Thread nD τ) (st0_1 t) fullShare ((dat m c).after 1 t)
      ∗ owns (c : Thread nD τ) (st0_2 t) fullShare ((dat m c).after 2 t)
      ∗ owns (c : Thread nD τ) (st0_3 t) fullShare ((dat m c).after 3 t)
      ∗ owns (c : Thread nD τ) (st0_4 t) fullShare ((dat m c).after 4 t)
      ∗ (∃ X, ⌜Left m c 5 t X⌝ ∗ owns (c : Thread nD τ) (st0_5 t) fullShare X)) := by
  rw [show (dat m c).Φ t.succ = Pipeline.ΦA spec0 c from rfl, show (dat m c).Φ t.castSucc = Pipeline.ΦA spec0 c from rfl,
    show (dat m c).owesAt () t.succ = (dat m c).owesAt () t.castSucc from rfl,
    dat_after0, dat_after1, dat_after2, dat_after3, dat_after4]
  simp only [Gen.before0_0_of m (dat m c) (dat_A m c 0) (dat_after0 m c), Gen.before0_1_of m (dat m c) (dat_A m c 1) (dat_after1 m c),
    Gen.before0_2_of m (dat m c) (dat_A m c 2) (dat_after2 m c), Gen.before0_3_of m (dat m c) (dat_A m c 3) (dat_after3 m c),
    Gen.before0_4_of m (dat m c) (dat_A m c 4) (dat_after4 m c)]
  unfold Pipeline.ΦA bodyAt0
  rw [Gen.scopedRest0_eq, scratch_owns c cc0_scratch0, scratch_owns c cc0_scratch1, scratch_owns c cc0_scratch2,
    scratch_owns c cc0_scratch3, scratch_owns c cc0_scratch4, scratch_owns c cc0_scratch5, scratch_owns c cc0_scratch6]
  iintro ⟨⟨⟨S0, S1, ⟨%zb, S2⟩, ⟨%aa, S3⟩, S4, S5, S6⟩, Hr⟩, Ho, ⟨%d0, H0⟩, ⟨%d1, H1⟩, ⟨%d2, H2⟩, ⟨%d3, H3⟩, ⟨%d4, H4⟩, ⟨%Y, -, H5⟩⟩
  have hrun := fun K => body_run c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _)
    (bBlk m c t) (qBlk m c t) (ktBlk m c t) (vBlk m c t) (nsBlk m c t) zb aa K
  iapply (hrun _)
  isplitl [H0]; · iexact H0
  isplitl [H1]; · iexact H1
  isplitl [H2]; · iexact H2
  isplitl [H3]; · iexact H3
  isplitl [H4]; · iexact H4
  isplitl [H5]; · iexists _; iexact H5
  isplitl [S0]; · iexact S0
  isplitl [S1]; · iexact S1
  isplitl [S2]; · iexact S2
  isplitl [S3]; · iexact S3
  isplitl [S4]; · iexact S4
  isplitl [S5]; · iexact S5
  isplitl [S6]; · iexact S6
  iintro ⟨H0, H1, H2, H3, H4, H5, S0, S1, S2, S3, S4, S5, S6⟩
  isplitl [S0 S1 S2 S3 S4 S5 S6 Hr]
  · isplitl [S0 S1 S2 S3 S4 S5 S6]
    · isplitl [S0]; · iexact S0
      isplitl [S1]; · iexact S1
      isplitl [S2]; · iexact S2
      isplitl [S3]; · iexact S3
      isplitl [S4]; · iexact S4
      isplitl [S5]; · iexact S5
      iexact S6
    · iexact Hr
  isplitl [Ho]; · iexact Ho
  isplitl [H0]; · iexact H0
  isplitl [H1]; · iexact H1
  isplitl [H2]; · iexact H2
  isplitl [H3]; · iexact H3
  isplitl [H4]; · iexact H4
  iexists _; isplitr; swap; · iexact H5
  ipureintro; exact ⟨zb, aa, rfl⟩

/-- The body table's row is the body. -/
theorem row (t : Fin cfg0.N) : defs₀ (F := F) .tc cfg0.body (cfg0.bodyArgs t (cfg0.slots t)) = bodyAt0 t := by
  unfold defs₀; rw [Defs.onTc_tc]

/-- The pipeline's body obligation. -/
theorem obligation (c : Dev nD) : BodyObligationRel (dat m c) (defs₀ (F := F)) Variants.none () Set.univ isOutput (Left m c) := fun t => by
  rw [bigSep_W0, bigSep_W0, row]
  exact triple_restated (sound m c t) rfl .rfl fun _ => .rfl

/-- The data as the launch takes them. -/
abbrev rdat (c : Dev nD) : RDat τ (Elt F) Unit ℕ (UR sig nD τ) ℕ cfg0 c := (dat m c).toRRel isOutput (Left m c)

set_option backward.isDefEq.respectTransparency.types false in
/-- The launch: every run ends with every array at contents that the data allow, and every counter at zero. -/
theorem launch : θ_run defs (onTc (τ := τ) (main (F := F))) (s₀ m ρ)
    (fun r => (Pipeline.RDat.FramePost (cfgs 0) (rdat m) (Gen.V m)) r ∧ r.2.sem = fun _ => 0) :=
  Pipeline.RDat.θ_run_frame (Q' := _) cfgs (0 : Fin 1) launch0 defs₀ Variants.none (rdat m) m ρ main
    (hbody := fun c => (obligation m c).toRRel) (hshare := fun c => (dat m c).share_full fun _ => rfl)
    (howed := fun _ _ => rfl) (V := Gen.V m) (hmain := Gen.hmain m Variants.none) (hA := dat_A m) (hΦ := fun _ _ => rfl)

/-- The argument arrays are as launched after a run that ends as the launch says. -/
theorem args_of (r : PUnit × MemSt nD τ sig (Elt F)) (h : Pipeline.RDat.FramePost (cfgs 0) (rdat m) (Gen.V m) r) (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  ⟨(h.arr_in c 0 rfl).trans ((dat_A m c 0).trans (V_main_arg0 m c)), (h.arr_in c 1 rfl).trans ((dat_A m c 1).trans (V_main_arg1 m c)),
    (h.arr_in c 2 rfl).trans ((dat_A m c 2).trans (V_main_arg2 m c)), (h.arr_in c 3 rfl).trans ((dat_A m c 3).trans (V_main_arg3 m c))⟩

/-- The frame. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) ∧ r.2.sem = fun _ => 0) :=
  (θ_run defs _ _).mono (fun r (h : _ ∧ _) => ⟨args_of m r h.1, h.2⟩) (launch m ρ)

end Cert.Proof.KernelIdeal

end
-- ==== Proof.OutFfn.Value.lean ====
/- The output projection and feed-forward call at exact arithmetic: what its tiles leave and what the reference computes
   are one function of the arguments (`tail` over `resid`); the two contractions are cut where the kernel cuts them. -/
module

public import proofs.«01_k».proof.Defs
public import proofs.«01_k».proof.Proof.Gen.Kernel2Ideal.Value
public import proofs.«01_k».proof.Proof.Gen.Reference2Ideal.Run
public import Idealize.ShloMosaic.Lib.Pipeline.ValueKit

@[expose] public section
set_option maxRecDepth 16384
noncomputable section
namespace Cert.Proof.OutFfn
open Cert.Kernel2Ideal Cert.Kernel2Ideal.Gen
open Idealize.ShloMosaic Idealize.ShloMosaic.TcCoe Idealize.SL.Sem
open Idealize.ShloMosaic.Pipeline (Dat)

/-! ## The layer's tail as plain sums over its arguments -/

section Spec

variable (x : FVec Ideal S32768x1024 .f32) (ya : FVec Ideal S32768x256 .bf16) (yb : FVec Ideal S32768x512 .bf16)
  (yc : FVec Ideal S32768x256 .bf16) (wo : FVec Ideal S1024x1024 .f32) (g : FVec Ideal S1024 .f32)
  (wu : FVec Ideal S1024x4096 .f32) (wd : FVec Ideal S4096x1024 .f32)

/-- The residual stream after the output projection of the three heads' concatenation. -/
def resid (r : Fin 32768) (j : Fin 1024) : EReal :=
  x (ix2 r j) + ∑ k : Fin 1024, (if h : k.val < 256 then ya (ix2 r ⟨k.val, h⟩)
    else if h : k.val - 256 < 512 then yb (ix2 r ⟨k.val - 256, h⟩)
    else yc (ix2 r ⟨k.val - 256 - 512, by omega⟩)) * wo (ix2 k j)

/-- A row scaled to unit mean square, times the gain. -/
def normed (X : Fin 32768 → Fin 1024 → EReal) (r : Fin 32768) (k : Fin 1024) : EReal :=
  X r k * Ideal.rsqrt (Ideal.div (∑ l, X r l * X r l) (Ideal.ofBits .f32 1149239296#32)
    + Ideal.ofBits .f32 897988541#32) * g (ix1 k)

/-- One of the 4096 units of the feed-forward part. -/
def unit (X : Fin 32768 → Fin 1024 → EReal) (r : Fin 32768) (u : Fin 4096) : EReal :=
  max (∑ k, normed g X r k * wu (ix2 k u)) 0

/-- The layer's result from its residual stream. -/
def tail (X : Fin 32768 → Fin 1024 → EReal) (r : Fin 32768) (j : Fin 1024) : EReal :=
  X r j + ∑ u, unit g wu X r u * unit g wu X r u * wd (ix2 u j)

end Spec

variable (m : (ℓ : Loc nD τ sig) → Buf (Elt Ideal) ℓ)

/-- The residual stream of a launch's arguments. -/
abbrev stream (c : Dev nD) : Fin 32768 → Fin 1024 → EReal :=
  resid (m (c.tc.loc main_arg0)) (m (c.tc.loc main_arg1)) (m (c.tc.loc main_arg2)) (m (c.tc.loc main_arg3))
    (m (c.tc.loc main_arg4))

/-- The array the kernel has to leave. -/
def result (c : Dev nD) : FVec Ideal S32768x1024 .f32 := fun y =>
  tail (m (c.tc.loc main_arg5)) (m (c.tc.loc main_arg6)) (m (c.tc.loc main_arg7)) (stream m c) (y 0) (y 1)

theorem idx : ∀ t : Fin cfg0.N, win0_0.index t = ![t.val, 0] ∧ win0_1.index t = ![t.val, 0]
    ∧ win0_2.index t = ![t.val, 0] ∧ win0_3.index t = ![t.val, 0] ∧ win0_4.index t = ![0, 0]
    ∧ win0_5.index t = ![0, 0] ∧ win0_6.index t = ![0, 0] ∧ win0_7.index t = ![0, 0]
    ∧ win0_8.index t = ![0, 0] ∧ win0_9.index t = ![0, 0] ∧ win0_10.index t = ![t.val, 0] :=
  (by decide +kernel : ∀ t : Fin grid0.N, _)

/-- The row of the arrays that row `p` of grid point `t`'s blocks is. -/
def rowOf (t : Fin cfg0.N) (p : Fin 256) : Fin 32768 :=
  ⟨t.val * 256 + p.val, by have h : t.val < 128 := t.isLt; omega⟩

theorem stream_blk (c : Dev nD) (t : Fin cfg0.N) (p : Fin 256) (j : Fin 1024) :
    k0_pay3 (iblk m c 0 t) (iblk m c 1 t) (iblk m c 4 t) (iblk m c 2 t) (iblk m c 5 t) (iblk m c 3 t) (iblk m c 6 t)
      (ix2 p j) = stream m c (rowOf t p) j := by
  unfold stream resid
  rw [Fin.sum_univ_two_halves 256 768 rfl, Fin.sum_univ_two_halves 512 256 rfl, ← add_assoc, ← add_assoc]
  pointwise [k0_pay3]
  blk_point [iblk, V, idx t, rowOf]

/-- The hidden block of a grid point is the rows' scaled stream. -/
theorem normed_blk (c : Dev nD) (t : Fin cfg0.N) (p : Fin 256) (k : Fin 1024) :
    k0_pay4 (iblk m c 0 t) (iblk m c 1 t) (iblk m c 4 t) (iblk m c 2 t) (iblk m c 5 t) (iblk m c 3 t) (iblk m c 6 t)
      (iblk m c 7 t) (ix2 p k) = normed (m (c.tc.loc main_arg5)) (stream m c) (rowOf t p) k := by
  have h := stream_blk m c t
  unfold k0_pay4
  generalize k0_pay3 (iblk m c 0 t) (iblk m c 1 t) (iblk m c 4 t) (iblk m c 2 t) (iblk m c 5 t) (iblk m c 3 t)
    (iblk m c 6 t) = X at h ⊢
  generalize stream m c = Y at h ⊢
  pointwise [normed]
  simp only [h]
  blk_point [iblk, V, idx t]

/-- One chunk of the feed-forward part, over any hidden block and any two weight tiles. -/
theorem chunk (H : FVec Ideal S256x1024 .bf16) (up dn : Vec Ideal S1024x1024 .bf16) (o : FVec Ideal S256x1024 .f32)
    (y : S256x1024.Idx) :
    k0_pay5 H up o dn y = o y + ∑ u, max (∑ k, H (ix2 (y 0) k) * up (ix2 k u)) 0
      * max (∑ k, H (ix2 (y 0) k) * up (ix2 k u)) 0 * dn (ix2 u (y 1)) := by
  pointwise [k0_pay5]

theorem chunk' (H : FVec Ideal S256x1024 .bf16) (up dn : Vec Ideal S1024x1024 .bf16) (o : FVec Ideal S256x1024 .f32) :
    k0_pay6 H up o dn = k0_pay5 H up o dn ∧ k0_pay1 (k0_pay7 H up) o dn = k0_pay5 H up o dn
      ∧ k0_pay2 H up o dn = k0_pay5 H up o dn := by
  refine ⟨?_, ?_, ?_⟩ <;> funext y <;> pointwise [k0_pay1, k0_pay2, k0_pay5, k0_pay6, k0_pay7]

/-- The 4096 units in four chunks. -/
theorem tail_chunks (g : FVec Ideal S1024 .f32) (wu : FVec Ideal S1024x4096 .f32) (wd : FVec Ideal S4096x1024 .f32)
    (X : Fin 32768 → Fin 1024 → EReal) (r : Fin 32768) (j : Fin 1024) (f : Fin 4096 → EReal)
    (hf : f = fun u => unit g wu X r u * unit g wu X r u * wd (ix2 u j)) :
    tail g wu wd X r j = X r j + (∑ u : Fin 1024, f ⟨u.val, by omega⟩) + (∑ u : Fin 1024, f ⟨1024 + u.val, by omega⟩)
      + (∑ u : Fin 1024, f ⟨2048 + u.val, by omega⟩) + ∑ u : Fin 1024, f ⟨3072 + u.val, by omega⟩ := by
  have e : (∑ u, f u) = (∑ u : Fin 1024, f ⟨u.val, by omega⟩) + (∑ u : Fin 1024, f ⟨1024 + u.val, by omega⟩)
      + (∑ u : Fin 1024, f ⟨2048 + u.val, by omega⟩) + ∑ u : Fin 1024, f ⟨3072 + u.val, by omega⟩ := by
    rw [Fin.sum_univ_tiles 4 1024 rfl f, Fin.sum_univ_four]
    simp
  unfold tail
  rw [← hf, e]
  simp only [add_assoc]

theorem up_0 (c : Dev nD) (t : Fin cfg0.N) (k u : Fin 1024) :
    View.ld (iblk m c 8 t) (Rect.unit ![0, 0] ![1024, 1024] inb_S1024x4096_S1024x1024_0_0) (ix2 k u)
      = m (c.tc.loc main_arg6) (ix2 k ⟨u.val, by omega⟩) := by
  blk_point [iblk, V, idx t]

theorem dn_0 (c : Dev nD) (t : Fin cfg0.N) (u j : Fin 1024) :
    View.ld (iblk m c 9 t) (Rect.unit ![0, 0] ![1024, 1024] inb_S4096x1024_S1024x1024_0_0) (ix2 u j)
      = m (c.tc.loc main_arg7) (ix2 ⟨u.val, by omega⟩ j) := by
  blk_point [iblk, V, idx t]

theorem up_1024 (c : Dev nD) (t : Fin cfg0.N) (k u : Fin 1024) :
    View.ld (iblk m c 8 t) (Rect.unit ![0, 1024] ![1024, 1024] inb_S1024x4096_S1024x1024_0_1024) (ix2 k u)
      = m (c.tc.loc main_arg6) (ix2 k ⟨1024 + u.val, by omega⟩) := by
  blk_point [iblk, V, idx t]

theorem dn_1024 (c : Dev nD) (t : Fin cfg0.N) (u j : Fin 1024) :
    View.ld (iblk m c 9 t) (Rect.unit ![1024, 0] ![1024, 1024] inb_S4096x1024_S1024x1024_1024_0) (ix2 u j)
      = m (c.tc.loc main_arg7) (ix2 ⟨1024 + u.val, by omega⟩ j) := by
  blk_point [iblk, V, idx t]

theorem up_2048 (c : Dev nD) (t : Fin cfg0.N) (k u : Fin 1024) :
    View.ld (iblk m c 8 t) (Rect.unit ![0, 2048] ![1024, 1024] inb_S1024x4096_S1024x1024_0_2048) (ix2 k u)
      = m (c.tc.loc main_arg6) (ix2 k ⟨2048 + u.val, by omega⟩) := by
  blk_point [iblk, V, idx t]

theorem dn_2048 (c : Dev nD) (t : Fin cfg0.N) (u j : Fin 1024) :
    View.ld (iblk m c 9 t) (Rect.unit ![2048, 0] ![1024, 1024] inb_S4096x1024_S1024x1024_2048_0) (ix2 u j)
      = m (c.tc.loc main_arg7) (ix2 ⟨2048 + u.val, by omega⟩ j) := by
  blk_point [iblk, V, idx t]

theorem up_3072 (c : Dev nD) (t : Fin cfg0.N) (k u : Fin 1024) :
    View.ld (iblk m c 8 t) (Rect.unit ![0, 3072] ![1024, 1024] inb_S1024x4096_S1024x1024_0_3072) (ix2 k u)
      = m (c.tc.loc main_arg6) (ix2 k ⟨3072 + u.val, by omega⟩) := by
  blk_point [iblk, V, idx t]

theorem dn_3072 (c : Dev nD) (t : Fin cfg0.N) (u j : Fin 1024) :
    View.ld (iblk m c 9 t) (Rect.unit ![3072, 0] ![1024, 1024] inb_S4096x1024_S1024x1024_3072_0) (ix2 u j)
      = m (c.tc.loc main_arg7) (ix2 ⟨3072 + u.val, by omega⟩ j) := by
  blk_point [iblk, V, idx t]

/-- The kernel leaves the layer's tail in its output. -/
theorem final (c : Dev nD) : (dats m 0 c).arrAt 10 cfg0.N = result m c := by
  refine (dats m 0 c).arrAt_eq_of_covers 10 _ (by decide +kernel) fun t _ y => ?_
  blk_simp
  rw [after0_10]
  unfold outsAt0
  frame_out
  obtain ⟨p, j, rfl⟩ : ∃ p j, y = ix2 p j := ⟨y 0, y 1, by blk_ext⟩
  simp only [chunk', chunk, ix2, normed_blk, stream_blk]
  simp only [up_0, up_1024, up_2048, up_3072, dn_0, dn_1024, dn_2048, dn_3072]
  rw [show ((View.whole main_v7).slice (win0_10.rect t)).emb (ix2 p j) = ix2 (rowOf t p) j by blk_ext [idx t, rowOf]]
  refine Eq.trans ?_ (tail_chunks _ _ _ _ (rowOf t p) j _ rfl).symm
  simp only [unit]

/-- So does the reference. -/
theorem reference_eq (m' : (ℓ : Loc Cert.Reference2Ideal.nD Cert.Reference2Ideal.τ Cert.Reference2Ideal.sig) → Buf (Elt Ideal) ℓ)
    (c : Dev nD) : Cert.Reference2Ideal.Value.res_main_v23 m' c = fun y =>
      tail (m' (c.tc.loc Cert.Reference2Ideal.main_arg5)) (m' (c.tc.loc Cert.Reference2Ideal.main_arg6))
        (m' (c.tc.loc Cert.Reference2Ideal.main_arg7))
        (resid (m' (c.tc.loc Cert.Reference2Ideal.main_arg0)) (m' (c.tc.loc Cert.Reference2Ideal.main_arg1))
          (m' (c.tc.loc Cert.Reference2Ideal.main_arg2)) (m' (c.tc.loc Cert.Reference2Ideal.main_arg3))
          (m' (c.tc.loc Cert.Reference2Ideal.main_arg4))) (y 0) (y 1) := by
  funext y
  unfold Cert.Reference2Ideal.Value.res_main_v23
  obtain ⟨p, j, rfl⟩ : ∃ p j, y = ix2 p j := ⟨y 0, y 1, by blk_ext⟩
  pointwise [tail, unit, normed, resid]

/-- The call and its reference end with the same array. -/
theorem algebraic : Cert.algebraic_Kernel2Ideal_Reference2Ideal := by
  intro m ρ m' ρ' _ hagree
  refine ⟨fun c => result m c, (θ_run Cert.Kernel2Ideal.defs _ _).mono
    (fun _ h c => ⟨(h c).1.trans (final m c), (h c).2⟩) (Cert.Kernel2Ideal.Value.run_blocks m ρ), ?_⟩
  refine (θ_run Cert.Reference2Ideal.defs _ _).mono (fun _ h c => ⟨(h c).1.trans ?_, (h c).2⟩)
    (Cert.Reference2Ideal.Value.run (F := Ideal) m' ρ')
  obtain ⟨h0, h1, h2, h3, h4, h5, h6, h7⟩ := hagree c
  rw [reference_eq, h0, h1, h2, h3, h4, h5, h6, h7]
  rfl

end Cert.Proof.OutFfn
end
-- ==== Proof.OutFfnSample.Value.lean ====
/- The output projection and feed-forward call of the sample rows at exact arithmetic: what its one block leaves and what the reference computes
   are one function of the arguments (`tail` over `resid`); the two contractions are cut where the kernel cuts them. -/
module

public import proofs.«01_k».proof.Defs
public import proofs.«01_k».proof.Proof.Gen.Kernel4Ideal.Value
public import proofs.«01_k».proof.Proof.Gen.Reference4Ideal.Run
public import Idealize.ShloMosaic.Lib.Pipeline.ValueKit

@[expose] public section
set_option maxRecDepth 16384
noncomputable section
namespace Cert.Proof.OutFfnSample
open Cert.Kernel4Ideal Cert.Kernel4Ideal.Gen
open Idealize.ShloMosaic Idealize.ShloMosaic.TcCoe Idealize.SL.Sem
open Idealize.ShloMosaic.Pipeline (Dat)

/-! ## The layer's tail as plain sums over its arguments -/

section Spec

variable (x : FVec Ideal S128x1024 .f32) (ya : FVec Ideal S128x256 .bf16) (yb : FVec Ideal S128x512 .bf16)
  (yc : FVec Ideal S128x256 .bf16) (wo : FVec Ideal S1024x1024 .f32) (g : FVec Ideal S1024 .f32)
  (wu : FVec Ideal S1024x4096 .f32) (wd : FVec Ideal S4096x1024 .f32)

/-- The residual stream after the output projection of the three heads' concatenation. -/
def resid (r : Fin 128) (j : Fin 1024) : EReal :=
  x (ix2 r j) + ∑ k : Fin 1024, (if h : k.val < 256 then ya (ix2 r ⟨k.val, h⟩)
    else if h : k.val - 256 < 512 then yb (ix2 r ⟨k.val - 256, h⟩)
    else yc (ix2 r ⟨k.val - 256 - 512, by omega⟩)) * wo (ix2 k j)

/-- A row scaled to unit mean square, times the gain. -/
def normed (X : Fin 128 → Fin 1024 → EReal) (r : Fin 128) (k : Fin 1024) : EReal :=
  X r k * Ideal.rsqrt (Ideal.div (∑ l, X r l * X r l) (Ideal.ofBits .f32 1149239296#32)
    + Ideal.ofBits .f32 897988541#32) * g (ix1 k)

/-- One of the 4096 units of the feed-forward part. -/
def unit (X : Fin 128 → Fin 1024 → EReal) (r : Fin 128) (u : Fin 4096) : EReal :=
  max (∑ k, normed g X r k * wu (ix2 k u)) 0

/-- The layer's result from its residual stream. -/
def tail (X : Fin 128 → Fin 1024 → EReal) (r : Fin 128) (j : Fin 1024) : EReal :=
  X r j + ∑ u, unit g wu X r u * unit g wu X r u * wd (ix2 u j)

end Spec

variable (m : (ℓ : Loc nD τ sig) → Buf (Elt Ideal) ℓ)

/-- The residual stream of a launch's arguments. -/
abbrev stream (c : Dev nD) : Fin 128 → Fin 1024 → EReal :=
  resid (m (c.tc.loc main_arg0)) (m (c.tc.loc main_arg1)) (m (c.tc.loc main_arg2)) (m (c.tc.loc main_arg3))
    (m (c.tc.loc main_arg4))

/-- The array the kernel has to leave. -/
def result (c : Dev nD) : FVec Ideal S128x1024 .f32 := fun y =>
  tail (m (c.tc.loc main_arg5)) (m (c.tc.loc main_arg6)) (m (c.tc.loc main_arg7)) (stream m c) (y 0) (y 1)

theorem idx : ∀ t : Fin cfg0.N, win0_0.index t = ![t.val, 0] ∧ win0_1.index t = ![t.val, 0]
    ∧ win0_2.index t = ![t.val, 0] ∧ win0_3.index t = ![t.val, 0] ∧ win0_4.index t = ![0, 0]
    ∧ win0_5.index t = ![0, 0] ∧ win0_6.index t = ![0, 0] ∧ win0_7.index t = ![0, 0]
    ∧ win0_8.index t = ![0, 0] ∧ win0_9.index t = ![0, 0] ∧ win0_10.index t = ![t.val, 0] :=
  (by decide +kernel : ∀ t : Fin grid0.N, _)

/-- The row of the arrays that row `p` of grid point `t`'s blocks is. -/
def rowOf (t : Fin cfg0.N) (p : Fin 128) : Fin 128 :=
  ⟨t.val * 128 + p.val, by have h : t.val < 1 := t.isLt; omega⟩

theorem stream_blk (c : Dev nD) (t : Fin cfg0.N) (p : Fin 128) (j : Fin 1024) :
    k0_pay3 (iblk m c 0 t) (iblk m c 1 t) (iblk m c 4 t) (iblk m c 2 t) (iblk m c 5 t) (iblk m c 3 t) (iblk m c 6 t)
      (ix2 p j) = stream m c (rowOf t p) j := by
  unfold stream resid
  rw [Fin.sum_univ_two_halves 256 768 rfl, Fin.sum_univ_two_halves 512 256 rfl, ← add_assoc, ← add_assoc]
  pointwise [k0_pay3]
  blk_point [iblk, V, idx t, rowOf]

/-- The hidden block of a grid point is the rows' scaled stream. -/
theorem normed_blk (c : Dev nD) (t : Fin cfg0.N) (p : Fin 128) (k : Fin 1024) :
    k0_pay4 (iblk m c 0 t) (iblk m c 1 t) (iblk m c 4 t) (iblk m c 2 t) (iblk m c 5 t) (iblk m c 3 t) (iblk m c 6 t)
      (iblk m c 7 t) (ix2 p k) = normed (m (c.tc.loc main_arg5)) (stream m c) (rowOf t p) k := by
  have h := stream_blk m c t
  unfold k0_pay4
  generalize k0_pay3 (iblk m c 0 t) (iblk m c 1 t) (iblk m c 4 t) (iblk m c 2 t) (iblk m c 5 t) (iblk m c 3 t)
    (iblk m c 6 t) = X at h ⊢
  generalize stream m c = Y at h ⊢
  pointwise [normed]
  simp only [h]
  blk_point [iblk, V, idx t]

/-- One chunk of the feed-forward part, over any hidden block and any two weight tiles. -/
theorem chunk (H : FVec Ideal S128x1024 .bf16) (up dn : Vec Ideal S1024x1024 .bf16) (o : FVec Ideal S128x1024 .f32)
    (y : S128x1024.Idx) :
    k0_pay5 H up o dn y = o y + ∑ u, max (∑ k, H (ix2 (y 0) k) * up (ix2 k u)) 0
      * max (∑ k, H (ix2 (y 0) k) * up (ix2 k u)) 0 * dn (ix2 u (y 1)) := by
  pointwise [k0_pay5]

theorem chunk' (H : FVec Ideal S128x1024 .bf16) (up dn : Vec Ideal S1024x1024 .bf16) (o : FVec Ideal S128x1024 .f32) :
    k0_pay6 H up o dn = k0_pay5 H up o dn ∧ k0_pay1 (k0_pay7 H up) o dn = k0_pay5 H up o dn
      ∧ k0_pay2 H up o dn = k0_pay5 H up o dn := by
  refine ⟨?_, ?_, ?_⟩ <;> funext y <;> pointwise [k0_pay1, k0_pay2, k0_pay5, k0_pay6, k0_pay7]

/-- The 4096 units in four chunks. -/
theorem tail_chunks (g : FVec Ideal S1024 .f32) (wu : FVec Ideal S1024x4096 .f32) (wd : FVec Ideal S4096x1024 .f32)
    (X : Fin 128 → Fin 1024 → EReal) (r : Fin 128) (j : Fin 1024) (f : Fin 4096 → EReal)
    (hf : f = fun u => unit g wu X r u * unit g wu X r u * wd (ix2 u j)) :
    tail g wu wd X r j = X r j + (∑ u : Fin 1024, f ⟨u.val, by omega⟩) + (∑ u : Fin 1024, f ⟨1024 + u.val, by omega⟩)
      + (∑ u : Fin 1024, f ⟨2048 + u.val, by omega⟩) + ∑ u : Fin 1024, f ⟨3072 + u.val, by omega⟩ := by
  have e : (∑ u, f u) = (∑ u : Fin 1024, f ⟨u.val, by omega⟩) + (∑ u : Fin 1024, f ⟨1024 + u.val, by omega⟩)
      + (∑ u : Fin 1024, f ⟨2048 + u.val, by omega⟩) + ∑ u : Fin 1024, f ⟨3072 + u.val, by omega⟩ := by
    rw [Fin.sum_univ_tiles 4 1024 rfl f, Fin.sum_univ_four]
    simp
  unfold tail
  rw [← hf, e]
  simp only [add_assoc]

theorem up_0 (c : Dev nD) (t : Fin cfg0.N) (k u : Fin 1024) :
    View.ld (iblk m c 8 t) (Rect.unit ![0, 0] ![1024, 1024] inb_S1024x4096_S1024x1024_0_0) (ix2 k u)
      = m (c.tc.loc main_arg6) (ix2 k ⟨u.val, by omega⟩) := by
  blk_point [iblk, V, idx t]

theorem dn_0 (c : Dev nD) (t : Fin cfg0.N) (u j : Fin 1024) :
    View.ld (iblk m c 9 t) (Rect.unit ![0, 0] ![1024, 1024] inb_S4096x1024_S1024x1024_0_0) (ix2 u j)
      = m (c.tc.loc main_arg7) (ix2 ⟨u.val, by omega⟩ j) := by
  blk_point [iblk, V, idx t]

theorem up_1024 (c : Dev nD) (t : Fin cfg0.N) (k u : Fin 1024) :
    View.ld (iblk m c 8 t) (Rect.unit ![0, 1024] ![1024, 1024] inb_S1024x4096_S1024x1024_0_1024) (ix2 k u)
      = m (c.tc.loc main_arg6) (ix2 k ⟨1024 + u.val, by omega⟩) := by
  blk_point [iblk, V, idx t]

theorem dn_1024 (c : Dev nD) (t : Fin cfg0.N) (u j : Fin 1024) :
    View.ld (iblk m c 9 t) (Rect.unit ![1024, 0] ![1024, 1024] inb_S4096x1024_S1024x1024_1024_0) (ix2 u j)
      = m (c.tc.loc main_arg7) (ix2 ⟨1024 + u.val, by omega⟩ j) := by
  blk_point [iblk, V, idx t]

theorem up_2048 (c : Dev nD) (t : Fin cfg0.N) (k u : Fin 1024) :
    View.ld (iblk m c 8 t) (Rect.unit ![0, 2048] ![1024, 1024] inb_S1024x4096_S1024x1024_0_2048) (ix2 k u)
      = m (c.tc.loc main_arg6) (ix2 k ⟨2048 + u.val, by omega⟩) := by
  blk_point [iblk, V, idx t]

theorem dn_2048 (c : Dev nD) (t : Fin cfg0.N) (u j : Fin 1024) :
    View.ld (iblk m c 9 t) (Rect.unit ![2048, 0] ![1024, 1024] inb_S4096x1024_S1024x1024_2048_0) (ix2 u j)
      = m (c.tc.loc main_arg7) (ix2 ⟨2048 + u.val, by omega⟩ j) := by
  blk_point [iblk, V, idx t]

theorem up_3072 (c : Dev nD) (t : Fin cfg0.N) (k u : Fin 1024) :
    View.ld (iblk m c 8 t) (Rect.unit ![0, 3072] ![1024, 1024] inb_S1024x4096_S1024x1024_0_3072) (ix2 k u)
      = m (c.tc.loc main_arg6) (ix2 k ⟨3072 + u.val, by omega⟩) := by
  blk_point [iblk, V, idx t]

theorem dn_3072 (c : Dev nD) (t : Fin cfg0.N) (u j : Fin 1024) :
    View.ld (iblk m c 9 t) (Rect.unit ![3072, 0] ![1024, 1024] inb_S4096x1024_S1024x1024_3072_0) (ix2 u j)
      = m (c.tc.loc main_arg7) (ix2 ⟨3072 + u.val, by omega⟩ j) := by
  blk_point [iblk, V, idx t]

/-- The kernel leaves the layer's tail in its output. -/
theorem final (c : Dev nD) : (dats m 0 c).arrAt 10 cfg0.N = result m c := by
  refine (dats m 0 c).arrAt_eq_of_covers 10 _ (by decide +kernel) fun t _ y => ?_
  blk_simp
  rw [after0_10]
  unfold outsAt0
  frame_out
  obtain ⟨p, j, rfl⟩ : ∃ p j, y = ix2 p j := ⟨y 0, y 1, by blk_ext⟩
  simp only [chunk', chunk, ix2, normed_blk, stream_blk]
  simp only [up_0, up_1024, up_2048, up_3072, dn_0, dn_1024, dn_2048, dn_3072]
  rw [show ((View.whole main_v7).slice (win0_10.rect t)).emb (ix2 p j) = ix2 (rowOf t p) j by blk_ext [idx t, rowOf]]
  refine Eq.trans ?_ (tail_chunks _ _ _ _ (rowOf t p) j _ rfl).symm
  simp only [unit]

/-- So does the reference. -/
theorem reference_eq (m' : (ℓ : Loc Cert.Reference4Ideal.nD Cert.Reference4Ideal.τ Cert.Reference4Ideal.sig) → Buf (Elt Ideal) ℓ)
    (c : Dev nD) : Cert.Reference4Ideal.Value.res_main_v23 m' c = fun y =>
      tail (m' (c.tc.loc Cert.Reference4Ideal.main_arg5)) (m' (c.tc.loc Cert.Reference4Ideal.main_arg6))
        (m' (c.tc.loc Cert.Reference4Ideal.main_arg7))
        (resid (m' (c.tc.loc Cert.Reference4Ideal.main_arg0)) (m' (c.tc.loc Cert.Reference4Ideal.main_arg1))
          (m' (c.tc.loc Cert.Reference4Ideal.main_arg2)) (m' (c.tc.loc Cert.Reference4Ideal.main_arg3))
          (m' (c.tc.loc Cert.Reference4Ideal.main_arg4))) (y 0) (y 1) := by
  funext y
  unfold Cert.Reference4Ideal.Value.res_main_v23
  obtain ⟨p, j, rfl⟩ : ∃ p j, y = ix2 p j := ⟨y 0, y 1, by blk_ext⟩
  pointwise [tail, unit, normed, resid]

/-- The call and its reference end with the same array. -/
theorem algebraic : Cert.algebraic_Kernel4Ideal_Reference4Ideal := by
  intro m ρ m' ρ' _ hagree
  refine ⟨fun c => result m c, (θ_run Cert.Kernel4Ideal.defs _ _).mono
    (fun _ h c => ⟨(h c).1.trans (final m c), (h c).2⟩) (Cert.Kernel4Ideal.Value.run_blocks m ρ), ?_⟩
  refine (θ_run Cert.Reference4Ideal.defs _ _).mono (fun _ h c => ⟨(h c).1.trans ?_, (h c).2⟩)
    (Cert.Reference4Ideal.Value.run (F := Ideal) m' ρ')
  obtain ⟨h0, h1, h2, h3, h4, h5, h6, h7⟩ := hagree c
  rw [reference_eq, h0, h1, h2, h3, h4, h5, h6, h7]
  rfl

end Cert.Proof.OutFfnSample
end
-- ==== Proof.Attn.Scalar.lean ====
/- The arithmetic of stick-breaking attention over the reals: the softplus as kernel and reference spell it, and sums of
   softplus over stretches of keys. -/
module

public import proofs.«01_k».proof.Proof.Gen.KernelIdeal
public import Idealize.ShloMosaic.Lib.Pipeline.ValueKit

@[expose] public section

set_option maxRecDepth 16384

noncomputable section

namespace Cert.Proof.Attn

open Idealize.ShloMosaic

/-- The softplus, in the form that does not overflow. -/
def sp (x : ℝ) : ℝ := max x 0 + Real.log (1 + Real.exp (-|x|))

/-- The sum of the softplus of the logits `z` from key `s` up to, and without, the query's own position `T`. -/
def rest (z : ℕ → ℝ) (T s : ℕ) : ℝ := ∑ k ∈ Finset.Ico s T, sp (z k)

/-- What the query at `T` weighs key `s` by. -/
def wt (z : ℕ → ℝ) (T s : ℕ) : ℝ := Real.exp (z s - rest z T s)

theorem ereal_max (a b : ℝ) : max (a : EReal) b = ((max a b : ℝ) : EReal) :=
  (EReal.coe_strictMono.monotone.map_max).symm

theorem ereal_sum {ι : Type*} (s : Finset ι) (f : ι → ℝ) : (∑ i ∈ s, (f i : EReal)) = ((∑ i ∈ s, f i : ℝ) : EReal) := by
  classical
  induction s using Finset.induction_on with
  | empty => simp
  | insert a s ha ih => rw [Finset.sum_insert ha, Finset.sum_insert ha, ih, EReal.coe_add]

theorem log_one_add (x : ℝ) : Ideal.log (1 + ((Real.exp x : ℝ) : EReal)) = ((Real.log (1 + Real.exp x) : ℝ) : EReal) := by
  have h : ¬ 1 + Real.exp x ≤ 0 := by have := Real.exp_pos x; linarith
  rw [← EReal.coe_one, ← EReal.coe_add, Ideal.log_coe, if_neg h]

/-- The kernel's softplus: a power of two whose exponent is scaled by minus the reciprocal of `log 2`. -/
theorem softplus_kernel (x : ℝ) :
    max (x : EReal) 0 + Ideal.log (1 + FloatOps.exp2 (F := Ideal) (φ := .f32)
      (FloatOps.absf (F := Ideal) (φ := .f32) (x : EReal) * Named.named (F := Ideal) (φ := .f32) Cert.KernelIdeal.κ "neg_log2_e" 3216550459#32))
      = ((sp x : ℝ) : EReal) := by
  have hn : (Named.named (F := Ideal) (φ := .f32) Cert.KernelIdeal.κ "neg_log2_e" 3216550459#32 : EReal)
      = ((-((Real.log 2)⁻¹) : ℝ) : EReal) := by
    rfl
  have ha : (FloatOps.absf (F := Ideal) (φ := .f32) (x : EReal) : EReal) = ((|x| : ℝ) : EReal) := by
    rw [Ideal.absf_def]
    exact (congrArg (max (x : EReal)) (EReal.coe_neg x).symm).trans (ereal_max x (-x))
  have he : (FloatOps.exp2 (F := Ideal) (φ := .f32) (FloatOps.absf (F := Ideal) (φ := .f32) (x : EReal)
      * Named.named (F := Ideal) (φ := .f32) Cert.KernelIdeal.κ "neg_log2_e" 3216550459#32) : EReal) = ((Real.exp (-|x|) : ℝ) : EReal) := by
    rw [ha, hn]
    change Ideal.exp2 _ = _
    rw [← EReal.coe_mul, Ideal.exp2_coe]
    congr 1
    change (2 : ℝ) ^ (_ : ℝ) = _
    rw [Real.rpow_def_of_pos (by norm_num)]
    congr 1
    have h2 : Real.log 2 ≠ 0 := (Real.log_pos (by norm_num)).ne'
    field_simp
  rw [he, log_one_add, ← EReal.coe_zero, ereal_max, ← EReal.coe_add]
  rfl

/-- A column of masked suffix sums: the keys before `p`, from `c` on, each counted negatively. -/
theorem masked_suffix (g : ℕ → ℝ) (c p : ℕ) (hp : p ≤ 256) :
    (∑ k : Fin 256, if k.val < p then g k.val * (if c ≤ k.val then -1 else 0) else 0) = -∑ k ∈ Finset.Ico c p, g k := by
  rw [Fin.sum_univ_eq_sum_range (fun k => if k < p then g k * (if c ≤ k then (-1 : ℝ) else 0) else 0) 256, ← Finset.sum_neg_distrib,
    ← Finset.sum_filter, ]
  simp only [mul_ite, mul_neg, mul_one, mul_zero]
  rw [← Finset.sum_filter]
  refine Finset.sum_congr (Finset.ext fun k => ?_) fun _ _ => rfl
  simp only [Finset.mem_filter, Finset.mem_range, Finset.mem_Ico]
  omega

/-- A stretch of keys within a tile, at its place among all the keys. -/
theorem stretch (g : ℕ → ℝ) (j c p : ℕ) :
    (∑ k ∈ Finset.Ico c p, g (256 * j + k)) = ∑ k ∈ Finset.Ico (256 * j + c) (256 * j + p), g k := by
  rw [Finset.sum_Ico_add (fun k => g k) c p (256 * j), Nat.add_comm c, Nat.add_comm p]

theorem rest_split (z : ℕ → ℝ) (T s m : ℕ) (h1 : s ≤ m) (h2 : m ≤ T) :
    rest z T s = (∑ k ∈ Finset.Ico s m, sp (z k)) + rest z T m :=
  (Finset.sum_Ico_consecutive (fun k => sp (z k)) h1 h2).symm

theorem rest_self (z : ℕ → ℝ) (T s : ℕ) (h : T ≤ s) : rest z T s = 0 := by
  unfold rest; rw [Finset.Ico_eq_empty_of_le h, Finset.sum_empty]

/-- The keys of a tile, as a stretch. -/
theorem tile_sum {M : Type*} [AddCommMonoid M] (f : ℕ → M) (j : ℕ) :
    (∑ s : Fin 256, f (256 * j + s.val)) = ∑ k ∈ Finset.Ico (256 * j) (256 * (j + 1)), f k := by
  rw [Fin.sum_univ_eq_sum_range (fun s => f (256 * j + s)) 256, Finset.sum_Ico_eq_sum_range]
  congr 2
  omega

/-- The logit of query `t` and key `s` in head `h` of sequence `n`. -/
def logit (b : (⟨1, ![8]⟩ : Shape).Idx → EReal) (q : (⟨2, ![32768, 512]⟩ : Shape).Idx → EReal)
    (k : (⟨3, ![128, 512, 256]⟩ : Shape).Idx → EReal) (n h : Fin 8) (t s : Fin 4096) : EReal :=
  (∑ x : Fin 64, q (ix2 ⟨n.val * 4096 + t.val, by omega⟩ ⟨h.val * 64 + x.val, by omega⟩)
    * k (ix3 ⟨n.val * 16 + s.val / 256, by omega⟩ ⟨h.val * 64 + x.val, by omega⟩ ⟨s.val % 256, by omega⟩)) + b (ix1 h)

/-- The logits of one query, as reals. -/
def zr (b : (⟨1, ![8]⟩ : Shape).Idx → EReal) (q : (⟨2, ![32768, 512]⟩ : Shape).Idx → EReal)
    (k : (⟨3, ![128, 512, 256]⟩ : Shape).Idx → EReal) (n h : Fin 8) (t : Fin 4096) : ℕ → ℝ :=
  fun s => if hs : s < 4096 then (logit b q k n h t ⟨s, hs⟩).toReal else 0

theorem logit_coe {b : (⟨1, ![8]⟩ : Shape).Idx → EReal} {q : (⟨2, ![32768, 512]⟩ : Shape).Idx → EReal}
    {k : (⟨3, ![128, 512, 256]⟩ : Shape).Idx → EReal} (hb : ∀ i, ∃ r : ℝ, b i = (r : EReal))
    (hq : ∀ i, ∃ r : ℝ, q i = (r : EReal)) (hk : ∀ i, ∃ r : ℝ, k i = (r : EReal)) (n h : Fin 8) (t s : Fin 4096) :
    logit b q k n h t s = ((zr b q k n h t s.val : ℝ) : EReal) := by
  choose b' hb using hb
  choose q' hq using hq
  choose k' hk using hk
  unfold zr
  rw [dif_pos s.isLt]
  suffices H : ∃ r : ℝ, logit b q k n h t s = (r : EReal) by
    obtain ⟨r, hr⟩ := H
    rw [show (⟨s.val, s.isLt⟩ : Fin 4096) = s from rfl, hr, EReal.toReal_coe]
  unfold logit
  simp only [hb, hq, hk, ← EReal.coe_mul, ereal_sum, ← EReal.coe_add]
  exact ⟨_, rfl⟩

/-- The attention's result at row `r` and lane `l`. -/
def target (b : (⟨1, ![8]⟩ : Shape).Idx → EReal) (q : (⟨2, ![32768, 512]⟩ : Shape).Idx → EReal)
    (k : (⟨3, ![128, 512, 256]⟩ : Shape).Idx → EReal) (v : (⟨2, ![32768, 512]⟩ : Shape).Idx → EReal)
    (r : Fin 32768) (l : Fin 512) : EReal :=
  ∑ s : Fin 4096, (if s.val < r.val % 4096 then
      ((wt (zr b q k ⟨r.val / 4096, by omega⟩ ⟨l.val / 64, by omega⟩ ⟨r.val % 4096, by omega⟩) (r.val % 4096) s.val : ℝ) : EReal)
    else 0) * v (ix2 ⟨r.val / 4096 * 4096 + s.val, by omega⟩ l)

end Cert.Proof.Attn

end
-- ==== Proof.Attn.Tiles.lean ====
/- The kernel's stages on one tile of keys, read at an element: the suffix sums of the softplus, the exponents, the running
   sum, the diagonal tile's masked versions of these, and the weighing of a tile of values. -/
module

public import proofs.«01_k».proof.Proof.KernelIdeal.Run
public import proofs.«01_k».proof.Proof.Attn.Scalar
public import Idealize.ShloMosaic.Lib.Pipeline.ValueKit
public import Idealize.ShloMosaic.Lib.WordCmp

@[expose] public section

set_option maxRecDepth 16384

noncomputable section

namespace Cert.Proof.Attn

open Cert.KernelIdeal Cert.KernelIdeal.Gen
open Idealize.ShloMosaic Idealize.ShloMosaic.TcCoe Idealize.SL.Sem
open Cert.Proof.KernelIdeal

/-- The matrix whose product with a row of softplus values leaves minus their suffix sums. -/
def IsSuffix (ns : FVec Ideal S256x256 .bf16) : Prop :=
  ∀ k c : Fin 256, ns (ix2 k c) = ((if c.val ≤ k.val then -1 else 0 : ℝ) : EReal)

theorem sums_at (ns : FVec Ideal S256x256 .bf16) (hns : IsSuffix ns) (X : FVec Ideal S1024x256 .f32) (g : ℕ → ℝ) (ρ : Fin 1024)
    (hX : ∀ k : Fin 256, X (ix2 ρ k) = ((g k.val : ℝ) : EReal)) (c : Fin 256) :
    k0_pay3 (F := Ideal) ns X (ix2 ρ c) = ((-∑ k ∈ Finset.Ico c.val 256, sp (g k) : ℝ) : EReal) := by
  unfold k0_pay3
  pointwise
  refine (Finset.sum_congr rfl fun k _ => ?_).trans ((ereal_sum Finset.univ fun k : Fin 256 =>
    if k.val < 256 then sp (g k.val) * (if c.val ≤ k.val then -1 else 0) else 0).trans (congrArg _ (masked_suffix (fun k => sp (g k)) c.val 256 le_rfl)))
  rw [if_pos k.isLt, hX, hns, softplus_kernel, ← EReal.coe_mul]

theorem args_at (ns : FVec Ideal S256x256 .bf16) (hns : IsSuffix ns) (X : FVec Ideal S1024x256 .f32) (C : FVec Ideal S1024x1 .f32)
    (z : ℕ → ℝ) (T j : ℕ) (hj : 256 * (j + 1) ≤ T) (ρ : Fin 1024)
    (hX : ∀ k : Fin 256, X (ix2 ρ k) = ((z (256 * j + k.val) : ℝ) : EReal))
    (hC : C (ix2 ρ 0) = ((-rest z T (256 * (j + 1)) : ℝ) : EReal)) (c : Fin 256) :
    k0_pay5 (F := Ideal) ns X C (ix2 ρ c) = ((z (256 * j + c.val) - rest z T (256 * j + c.val) : ℝ) : EReal) := by
  have e : k0_pay5 (F := Ideal) ns X C (ix2 ρ c) = X (ix2 ρ c) + k0_pay3 (F := Ideal) ns X (ix2 ρ c) + C (ix2 ρ 0) := by
    unfold k0_pay5
    pointwise
  rw [e, hX, hC, sums_at ns hns X (fun k => z (256 * j + k)) ρ hX c, ← EReal.coe_add, ← EReal.coe_add]
  refine congrArg _ ?_
  rw [stretch (fun k => sp (z k)), rest_split z T (256 * j + c.val) (256 * (j + 1)) (by omega) hj, Nat.mul_add, Nat.mul_one]
  ring_nf

theorem carry_at (ns : FVec Ideal S256x256 .bf16) (hns : IsSuffix ns) (X : FVec Ideal S1024x256 .f32) (C : FVec Ideal S1024x1 .f32)
    (z : ℕ → ℝ) (T j : ℕ) (hj : 256 * (j + 1) ≤ T) (ρ : Fin 1024)
    (hX : ∀ k : Fin 256, X (ix2 ρ k) = ((z (256 * j + k.val) : ℝ) : EReal))
    (hC : C (ix2 ρ 0) = ((-rest z T (256 * (j + 1)) : ℝ) : EReal)) :
    k0_pay4 (F := Ideal) ns X C (ix2 ρ 0) = ((-rest z T (256 * j) : ℝ) : EReal) := by
  have e : k0_pay4 (F := Ideal) ns X C (ix2 ρ 0) = C (ix2 ρ 0) + k0_pay3 (F := Ideal) ns X (ix2 ρ 0) := by
    unfold k0_pay4
    pointwise
  rw [e, hC, sums_at ns hns X (fun k => z (256 * j + k)) ρ hX 0, ← EReal.coe_add]
  refine congrArg _ ?_
  rw [stretch (fun k => sp (z k)), rest_split z T (256 * j) (256 * (j + 1)) (by omega) hj, Nat.mul_add, Nat.mul_one]
  show _ + -∑ k ∈ Finset.Ico (256 * j + 0) _, _ = _
  rw [Nat.add_zero]
  ring_nf

theorem exps_at (A : FVec Ideal S1024x256 .f32) (z : ℕ → ℝ) (T s : ℕ) (ρ : Fin 1024) (c : Fin 256)
    (hA : A (ix2 ρ c) = ((z s - rest z T s : ℝ) : EReal)) :
    k0_pay7 (F := Ideal) A (ix2 ρ c) = ((wt z T s : ℝ) : EReal) := by
  have e : k0_pay7 (F := Ideal) A (ix2 ρ c) = Ideal.exp (A (ix2 ρ c)) := by
    unfold k0_pay7
    pointwise
  rw [e, hA, Ideal.exp_coe]
  rfl

section Diagonal

variable (b : FVec Ideal S1024x1 .f32) (ns : FVec Ideal S256x256 .bf16) (w : IVec S1024x256 32) (qs : FVec Ideal S1024x256 .bf16)
  (kt : FVec Ideal S1x256x256 .bf16)

theorem logit_eq (ρ : Fin 1024) (c : Fin 256) :
    k0_pay2 (F := Ideal) b qs kt (ix2 ρ c) = (∑ x : Fin 256, qs (ix2 ρ x) * kt (ix3 0 x c)) + b (ix2 ρ 0) := by
  unfold k0_pay2
  pointwise

theorem logit_eq_diag (ρ : Fin 1024) (c : Fin 256) :
    k0_pay49 (F := Ideal) b qs kt (ix2 ρ c) = (∑ x : Fin 256, qs (ix2 ρ x) * kt (ix3 0 x c)) + b (ix2 ρ 0) := by
  unfold k0_pay49
  pointwise

theorem mask_at (ρ : Fin 1024) (p : ℕ) (hp : p < 256) (hw : ∀ c : Fin 256, w (ix2 ρ c) = BitVec.ofNat 32 p) (c : Fin 256) :
    k0_pay48 w (ix2 ρ c) = BitVec.ofBool (decide (c.val < p)) := by
  have e : k0_pay48 w (ix2 ρ c) = IntOp.cmpi .slt (BitVec.ofNat 32 c.val) (w (ix2 ρ c)) := by
    unfold k0_pay48
    pointwise
  rw [e, hw]
  exact WordCmp.cmpi_slt_ofNat (by omega) (by omega)

theorem sums_at_diag (hns : IsSuffix ns) (z : ℕ → ℝ) (j p : ℕ) (hp : p < 256) (ρ : Fin 1024)
    (hw : ∀ c : Fin 256, w (ix2 ρ c) = BitVec.ofNat 32 p)
    (hX : ∀ k : Fin 256, k0_pay49 (F := Ideal) b qs kt (ix2 ρ k) = ((z (256 * j + k.val) : ℝ) : EReal)) (c : Fin 256) :
    k0_pay51 (F := Ideal) b ns w qs kt (ix2 ρ c) = ((-rest z (256 * j + p) (256 * j + c.val) : ℝ) : EReal) := by
  unfold k0_pay51
  pointwise
  refine (Finset.sum_congr rfl fun k _ => ?_).trans ((ereal_sum Finset.univ fun k : Fin 256 =>
    if k.val < p then sp (z (256 * j + k.val)) * (if c.val ≤ k.val then -1 else 0) else 0).trans
      (congrArg _ ((masked_suffix (fun k => sp (z (256 * j + k))) c.val p hp.le).trans ?_)))
  · rw [mask_at w ρ p hp hw, hX, hns, softplus_kernel, ← EReal.coe_mul, Scalar.select_ofBool]
    simp only [decide_eq_true_eq]
    by_cases h : k.val < p
    · rw [if_pos h, if_pos h]
    · rw [if_neg h, if_neg h]
      rfl
  · rw [stretch (fun k => sp (z k))]
    rfl

theorem zero_carry (ρ : Fin 1024) : k0_pay50 (F := Ideal) (ix2 ρ 0) = (0 : EReal) := by
  unfold k0_pay50
  pointwise

theorem carry_at_diag (hns : IsSuffix ns) (z : ℕ → ℝ) (j p : ℕ) (hp : p < 256) (ρ : Fin 1024)
    (hw : ∀ c : Fin 256, w (ix2 ρ c) = BitVec.ofNat 32 p)
    (hX : ∀ k : Fin 256, k0_pay49 (F := Ideal) b qs kt (ix2 ρ k) = ((z (256 * j + k.val) : ℝ) : EReal)) :
    k0_pay52 (F := Ideal) b ns w qs kt (ix2 ρ 0) = ((-rest z (256 * j + p) (256 * j) : ℝ) : EReal) := by
  have e : k0_pay52 (F := Ideal) b ns w qs kt (ix2 ρ 0) = k0_pay50 (F := Ideal) (ix2 ρ 0) + k0_pay51 (F := Ideal) b ns w qs kt (ix2 ρ 0) := by
    unfold k0_pay52
    pointwise
  rw [e, zero_carry, zero_add, sums_at_diag b ns w qs kt hns z j p hp ρ hw hX 0]
  rfl

theorem exps_at_diag (hns : IsSuffix ns) (z : ℕ → ℝ) (j p : ℕ) (hp : p < 256) (ρ : Fin 1024)
    (hw : ∀ c : Fin 256, w (ix2 ρ c) = BitVec.ofNat 32 p)
    (hX : ∀ k : Fin 256, k0_pay49 (F := Ideal) b qs kt (ix2 ρ k) = ((z (256 * j + k.val) : ℝ) : EReal)) (c : Fin 256) :
    k0_pay53 (F := Ideal) b ns w qs kt (ix2 ρ c)
      = if c.val < p then ((wt z (256 * j + p) (256 * j + c.val) : ℝ) : EReal) else 0 := by
  have e : k0_pay53 (F := Ideal) b ns w qs kt (ix2 ρ c) = Scalar.select (k0_pay48 w (ix2 ρ c))
      (Ideal.exp (k0_pay49 (F := Ideal) b qs kt (ix2 ρ c) + k0_pay51 (F := Ideal) b ns w qs kt (ix2 ρ c) + k0_pay50 (F := Ideal) (ix2 ρ 0))) 0 := by
    unfold k0_pay53
    pointwise
  rw [e, mask_at w ρ p hp hw, zero_carry, add_zero, sums_at_diag b ns w qs kt hns z j p hp ρ hw hX c, hX, Scalar.select_ofBool,
    ← EReal.coe_add, Ideal.exp_coe, ← sub_eq_add_neg]
  simp only [decide_eq_true_eq]
  rfl

end Diagonal

/-- The product of four stacked tiles of weights and four copies of a tile of values, each copy masked to one head. -/
theorem weigh_sum (E : Fin 1024 → Fin 256 → EReal) (v : Fin 256 → EReal) (m0 m1 m2 m3 : Fin 256 → BitVec 1) (p : Fin 256)
    (hd : Fin 4) (valid : Bool) (h0 : ∀ s, m0 s = BitVec.ofBool (decide (hd.val = 0) && valid))
    (h1 : ∀ s, m1 s = BitVec.ofBool (decide (hd.val = 1) && valid)) (h2 : ∀ s, m2 s = BitVec.ofBool (decide (hd.val = 2) && valid))
    (h3 : ∀ s, m3 s = BitVec.ofBool (decide (hd.val = 3) && valid)) :
    (∑ x : Fin 1024,
      (if h : x.val < 256 then E ⟨p.val, by omega⟩ ⟨x.val, h⟩
        else if h2 : x.val - 256 < 256 then E ⟨256 + p.val, by omega⟩ ⟨x.val - 256, h2⟩
        else if h3 : x.val - 256 - 256 < 256 then E ⟨512 + p.val, by omega⟩ ⟨x.val - 256 - 256, h3⟩
        else E ⟨768 + p.val, by omega⟩ ⟨x.val - 256 - 256 - 256, by omega⟩)
      * (if h : x.val < 256 then Scalar.select (m0 ⟨x.val, h⟩) (v ⟨x.val, h⟩) 0
        else if h2 : x.val - 256 < 256 then Scalar.select (m1 ⟨x.val - 256, h2⟩) (v ⟨x.val - 256, h2⟩) 0
        else if h3 : x.val - 256 - 256 < 256 then Scalar.select (m2 ⟨x.val - 256 - 256, h3⟩) (v ⟨x.val - 256 - 256, h3⟩) 0
        else Scalar.select (m3 ⟨x.val - 256 - 256 - 256, by omega⟩) (v ⟨x.val - 256 - 256 - 256, by omega⟩) 0))
      = if valid then ∑ s : Fin 256, E ⟨256 * hd.val + p.val, by omega⟩ s * v s else 0 := by
  rw [Fin.sum_univ_tiles 4 256 rfl, Fin.sum_univ_four]
  simp only [h0, h1, h2, h3, Scalar.select_ofBool]
  have t0 : ∀ t : Fin 256, (0 : Fin 4).val * 256 + t.val = t.val := fun t => by simp
  have t1 : ∀ t : Fin 256, (1 : Fin 4).val * 256 + t.val = 256 + t.val := fun t => by simp
  have t2 : ∀ t : Fin 256, (2 : Fin 4).val * 256 + t.val = 512 + t.val := fun t => by simp
  have t3 : ∀ t : Fin 256, (3 : Fin 4).val * 256 + t.val = 768 + t.val := fun t => by simp
  have a1 : ∀ t : Fin 256, ¬ 256 + t.val < 256 := fun t => by omega
  have b1 : ∀ t : Fin 256, 256 + t.val - 256 = t.val := fun t => by omega
  have a2 : ∀ t : Fin 256, ¬ 512 + t.val < 256 := fun t => by omega
  have b2 : ∀ t : Fin 256, 512 + t.val - 256 = 256 + t.val := fun t => by omega
  have a3 : ∀ t : Fin 256, ¬ 768 + t.val < 256 := fun t => by omega
  have b3 : ∀ t : Fin 256, 768 + t.val - 256 = 512 + t.val := fun t => by omega
  simp only [t0, t1, t2, t3, a1, b1, a2, b2, a3, b3, Fin.is_lt, dif_pos, dif_neg, not_false_eq_true, Fin.eta]
  obtain ⟨hd, hhd⟩ := hd
  cases valid
  · simp
  · interval_cases hd <;> simp

end Cert.Proof.Attn

end
-- ==== Proof.Attn.Words.lean ====
/- The words the kernel computes: offsets of tiles, the loop's number of trips, its guards, and the masks' lane and row
   numbers. Each is a function of a few small numbers, so each is checked at all of them. -/
module

public import proofs.«01_k».proof.Proof.KernelIdeal.Run
public import Idealize.ShloMosaic.Lib.Pipeline.ValueKit
public import Idealize.ShloMosaic.Lib.WordCmp

@[expose] public section

set_option maxRecDepth 16384

noncomputable section

namespace Cert.Proof.Attn

open Cert.KernelIdeal Cert.KernelIdeal.Gen
open Idealize.ShloMosaic Idealize.ShloMosaic.TcCoe Idealize.SL.Sem
open Cert.Proof.KernelIdeal

/-- The word of `max (q - 1) 0`. -/
abbrev top (q : ℕ) : BitVec 32 := Scalar.maxsi (Scalar.subi (BitVec.ofNat 32 q) 1#32) 0#32

/-- The word of twice the trip's number. -/
abbrev pair (n : ℕ) : BitVec 32 := Scalar.muli 2#32 (Scf.iv 0#32 1#32 n)

abbrev tile4 (q n : ℕ) : BitVec 32 := Scalar.minsi (top q) (Scalar.maxsi 0#32 (Scalar.subi (Scalar.subi (BitVec.ofNat 32 q) 1#32) (pair n)))
abbrev tile5 (q n : ℕ) : BitVec 32 := Scalar.minsi (top q) (Scalar.maxsi 0#32 (Scalar.subi (Scalar.addi (BitVec.ofNat 32 q) 1#32) (pair n)))
abbrev tile6 (q n : ℕ) : BitVec 32 :=
  Scalar.minsi (top q) (Scalar.maxsi 0#32 (Scalar.subi (Scalar.subi (BitVec.ofNat 32 q) 1#32) (Scalar.addi (pair n) 1#32)))
abbrev tile7 (q n : ℕ) : BitVec 32 :=
  Scalar.minsi (top q) (Scalar.maxsi 0#32 (Scalar.subi (Scalar.addi (BitVec.ofNat 32 q) 1#32) (Scalar.addi (pair n) 1#32)))

theorem tile4_eq : ∀ q : Fin 16, ∀ n : Fin 9, 2 * n.val + 1 ≤ q.val → (tile4 q.val n.val).toNat = q.val - 1 - 2 * n.val := by
  decide +kernel
theorem tile5_eq : ∀ q : Fin 16, ∀ n : Fin 9, 1 ≤ n.val → 2 * n.val ≤ q.val + 1 →
    (Scalar.muli (tile5 q.val n.val) 256#32).toNat = 256 * (q.val + 1 - 2 * n.val) := by
  decide +kernel
theorem tile6_eq : ∀ q : Fin 16, ∀ n : Fin 9, 2 * n.val + 2 ≤ q.val → (tile6 q.val n.val).toNat = q.val - 2 - 2 * n.val := by
  decide +kernel
theorem tile7_eq : ∀ q : Fin 16, ∀ n : Fin 9, 1 ≤ n.val → 2 * n.val ≤ q.val →
    (Scalar.muli (tile7 q.val n.val) 256#32).toNat = 256 * (q.val - 2 * n.val) := by
  decide +kernel

theorem tile_lt (i : grid0.Coords) : (i 2).val < 16 := (i 2).isLt

theorem off2_eq (i : grid0.Coords) : k0_off2 i 0 = (i 2).val ∧ k0_off2 i 1 = 0 ∧ k0_off2 i 2 = 0 := by
  have h : ∀ q : Fin 16, (Scalar.indexCast (BitVec.ofNat 32 q.val) : Index).toNat = q.val := by decide +kernel
  exact ⟨h ⟨(i 2).val, tile_lt i⟩, rfl, rfl⟩

theorem off3_eq (i : grid0.Coords) : k0_off3 i 0 = 256 * (i 2).val ∧ k0_off3 i 1 = 0 := by
  have h : ∀ q : Fin 16, (Scalar.indexCast (Scalar.muli (BitVec.ofNat 32 q.val) 256#32) : Index).toNat = 256 * q.val := by decide +kernel
  exact ⟨h ⟨(i 2).val, tile_lt i⟩, rfl⟩

theorem off1_eq (i : grid0.Coords) (w : Fin 4) : k0_off1 i (BitVec.ofNat 32 w.val) 0 = 4 * (i 1).val + w.val := by
  have h : ∀ g : Fin 2, ∀ w : Fin 4, (Scalar.indexCast (Scalar.addi (Scalar.muli (BitVec.ofNat 32 g.val) 4#32) (BitVec.ofNat 32 w.val)) : Index).toNat
      = 4 * g.val + w.val := by decide +kernel
  exact h ⟨(i 1).val, (i 1).isLt⟩ w

theorem lt_nine {q n : ℕ} (hq : q < 16) (h : 2 * n ≤ q + 1) : n < 9 := by omega
theorem le_of_add_one {q n : ℕ} (h : 2 * n + 1 ≤ q) : 2 * n ≤ q + 1 := by omega
theorem le_of_le {q n : ℕ} (h : 2 * n ≤ q) : 2 * n ≤ q + 1 := by omega
theorem le_of_add_two {q n : ℕ} (h : 2 * n + 2 ≤ q) : 2 * n ≤ q + 1 := by omega

section Trip

variable (i : grid0.Coords) (k : Fin (k0_t1_loop i).trips)

theorem off4_eq (h : 2 * k.val + 1 ≤ (i 2).val) :
    k0_off4 i k 0 = (i 2).val - 1 - 2 * k.val ∧ k0_off4 i k 1 = 0 ∧ k0_off4 i k 2 = 0 :=
  ⟨tile4_eq ⟨(i 2).val, tile_lt i⟩ ⟨k.val, lt_nine (tile_lt i) (le_of_add_one h)⟩ h, rfl, rfl⟩

theorem off5_eq (h1 : 1 ≤ k.val) (h : 2 * k.val ≤ (i 2).val + 1) :
    k0_off5 i k 0 = 256 * ((i 2).val + 1 - 2 * k.val) ∧ k0_off5 i k 1 = 0 :=
  ⟨tile5_eq ⟨(i 2).val, tile_lt i⟩ ⟨k.val, lt_nine (tile_lt i) (h)⟩ h1 h, rfl⟩

theorem off6_eq (h : 2 * k.val + 2 ≤ (i 2).val) :
    k0_off6 i k 0 = (i 2).val - 2 - 2 * k.val ∧ k0_off6 i k 1 = 0 ∧ k0_off6 i k 2 = 0 :=
  ⟨tile6_eq ⟨(i 2).val, tile_lt i⟩ ⟨k.val, lt_nine (tile_lt i) (le_of_add_two h)⟩ h, rfl, rfl⟩

theorem off7_eq (h1 : 1 ≤ k.val) (h : 2 * k.val ≤ (i 2).val) :
    k0_off7 i k 0 = 256 * ((i 2).val - 2 * k.val) ∧ k0_off7 i k 1 = 0 :=
  ⟨tile7_eq ⟨(i 2).val, tile_lt i⟩ ⟨k.val, lt_nine (tile_lt i) (le_of_le h)⟩ h1 h, rfl⟩

end Trip

theorem trips_of : ∀ q0 : Fin 8, ∀ q1 : Fin 2, ∀ q : Fin 16,
    (k0_t1_loop (Fin.cons q0 (Fin.cons q1 (Fin.cons q (fun a => a.elim0))))).trips = if q.val = 0 then 0 else (q.val + 3) / 2 := by
  decide +kernel

theorem trips_eq (i : grid0.Coords) : (k0_t1_loop i).trips = if (i 2).val = 0 then 0 else ((i 2).val + 3) / 2 :=
  trips_of 0 0 ⟨(i 2).val, tile_lt i⟩

theorem sumFirst : ∀ q : Fin 16, ∀ n : Fin 9,
    Scalar.andi (Scalar.cmpi .sge (pair n.val) 1#32) (Scalar.cmpi .sle (pair n.val) (BitVec.ofNat 32 q.val))
      = BitVec.ofBool (decide (1 ≤ 2 * n.val ∧ 2 * n.val ≤ q.val)) := by decide +kernel

theorem sumSecond : ∀ q : Fin 16, ∀ n : Fin 9,
    Scalar.andi (Scalar.cmpi .sge (Scalar.addi (pair n.val) 1#32) 1#32) (Scalar.cmpi .sle (Scalar.addi (pair n.val) 1#32) (BitVec.ofNat 32 q.val))
      = BitVec.ofBool (decide (2 * n.val + 1 ≤ q.val)) := by decide +kernel

theorem weighFirst : ∀ q : Fin 16, ∀ n : Fin 9,
    Scalar.andi (Scalar.cmpi .sge (pair n.val) 2#32) (Scalar.cmpi .sle (pair n.val) (Scalar.addi (BitVec.ofNat 32 q.val) 1#32))
      = BitVec.ofBool (decide (1 ≤ n.val ∧ 2 * n.val ≤ q.val + 1)) := by decide +kernel

theorem weighSecond : ∀ q : Fin 16, ∀ n : Fin 9,
    Scalar.andi (Scalar.cmpi .sge (Scalar.addi (pair n.val) 1#32) 2#32)
        (Scalar.cmpi .sle (Scalar.addi (pair n.val) 1#32) (Scalar.addi (BitVec.ofNat 32 q.val) 1#32))
      = BitVec.ofBool (decide (1 ≤ n.val ∧ 2 * n.val ≤ q.val)) := by decide +kernel

theorem laneHead_eq (p l : Fin 256) : laneHead (ix2 p l) = BitVec.ofNat 32 (l.val / 64) := by
  unfold laneHead k0_pay38 k0_pay35 k0_pay36 k0_pay37
  pointwise
  revert l
  decide +kernel

theorem lane34_eq (p l : Fin 256) : k0_pay34 (ix2 p l) = BitVec.ofNat 32 (l.val / 64) := by
  unfold k0_pay34
  pointwise
  revert l
  decide +kernel

theorem row_eq (r : Fin 1024) (c : Fin 256) : k0_pay47 (ix2 r c) = BitVec.ofNat 32 (r.val % 256) := by
  unfold k0_pay47
  pointwise
  revert r
  decide +kernel

theorem head_mask : ∀ h : Fin 4, ∀ g : Fin 4, IntOp.cmpi .eq (BitVec.ofNat 32 h.val) (BitVec.ofNat 32 g.val)
    = BitVec.ofBool (decide (h.val = g.val)) := by decide +kernel

end Cert.Proof.Attn

end
-- ==== Proof.Attn.Point.lean ====
/- One grid point of the attention. The loop over pairs of key tiles keeps, for the tiles passed so far, the running sums and
   the weighted values; after the last trip every key before the query has been weighed. -/
module

public import proofs.«01_k».proof.Proof.Attn.Tiles
public import proofs.«01_k».proof.Proof.Attn.Words

@[expose] public section

set_option maxRecDepth 16384

noncomputable section

namespace Cert.Proof.Attn

open Cert.KernelIdeal Cert.KernelIdeal.Gen
open Idealize.ShloMosaic Idealize.ShloMosaic.TcCoe Idealize.SL.Sem
open Cert.Proof.KernelIdeal

/-- The stacked row that holds, for position `p` of the tile, the head that lane `l` belongs to. -/
abbrev rowOf (p l : Fin 256) : Fin 1024 := ⟨256 * (l.val / 64) + p.val, by omega⟩

theorem ld_tile (kt : Vec Ideal S16x256x256 .bf16) (off : Fin 3 → ℕ) (inb : ∀ a, off a + S1x256x256.size a ≤ S16x256x256.size a)
    (j : ℕ) (hj : j < 16) (h : off 0 = j ∧ off 1 = 0 ∧ off 2 = 0) (x c : Fin 256) :
    View.ld kt (Rect.unit (s := S16x256x256) off S1x256x256.size inb) (ix3 0 x c) = kt (ix3 ⟨j, hj⟩ x c) := by
  refine View.ld_unit_apply_of kt off S1x256x256.size inb _ _ fun a => ?_
  fin_cases a
  · show j = off 0 + 0; omega
  · show x.val = off 1 + x.val; omega
  · show c.val = off 2 + c.val; omega

theorem ld_rows (v : Vec Ideal S4096x256 .bf16) (off : Fin 2 → ℕ) (inb : ∀ a, off a + S256x256.size a ≤ S4096x256.size a)
    (j : ℕ) (hj : j < 16) (h : off 0 = 256 * j ∧ off 1 = 0) (s l : Fin 256) :
    View.ld v (Rect.unit (s := S4096x256) off S256x256.size inb) (ix2 s l) = v (ix2 ⟨256 * j + s.val, by omega⟩ l) := by
  refine View.ld_unit_apply_of v off S256x256.size inb _ _ fun a => ?_
  fin_cases a
  · show 256 * j + s.val = off 0 + s.val; omega
  · show l.val = off 1 + l.val; omega

theorem andi_bools : ∀ a b : Bool, IntOp.andi (BitVec.ofBool a) (BitVec.ofBool b) = BitVec.ofBool (a && b) := by decide

theorem lane_mask (s l : Fin 256) (g : Fin 4) : IntOp.cmpi .eq (laneHead (ix2 s l)) (BitVec.ofNat 32 g.val)
    = BitVec.ofBool (decide (l.val / 64 = g.val)) := by
  rw [laneHead_eq]
  exact head_mask ⟨l.val / 64, by omega⟩ g

section Weigh

variable (acc : FVec Ideal S256x256 .f32) (A : FVec Ideal S1024x256 .f32) (v : FVec Ideal S256x256 .bf16) (valid : Bool) (p l : Fin 256)

theorem weigh_first (E : FVec Ideal S1024x256 .bf16) (a w : BitVec 32)
    (hw : Scalar.andi (Scalar.cmpi .sge w 2#32) (Scalar.cmpi .sle w (Scalar.addi a 1#32)) = BitVec.ofBool valid) :
    k0_pay12 (F := Ideal) acc E v (k0_pay8 a laneHead w) (k0_pay9 a laneHead w) (k0_pay10 a laneHead w) (k0_pay11 a laneHead w) (ix2 p l)
      = acc (ix2 p l) + if valid then ∑ s : Fin 256, E (ix2 (rowOf p l) s) * v (ix2 s l) else 0 := by
  have h0 : ∀ s : Fin 256, k0_pay8 a laneHead w (ix2 s l) = BitVec.ofBool (decide (l.val / 64 = 0) && valid) := fun s =>
    ((by unfold k0_pay8; pointwise : k0_pay8 a laneHead w (ix2 s l) = IntOp.andi (IntOp.cmpi .eq (laneHead (ix2 s l)) 0#32)
      (Scalar.andi (Scalar.cmpi .sge w 2#32) (Scalar.cmpi .sle w (Scalar.addi a 1#32))))).trans (by
      rw [hw, show IntOp.cmpi .eq (laneHead (ix2 s l)) 0#32 = _ from lane_mask s l 0, andi_bools]; rfl)
  have h1 : ∀ s : Fin 256, k0_pay9 a laneHead w (ix2 s l) = BitVec.ofBool (decide (l.val / 64 = 1) && valid) := fun s =>
    ((by unfold k0_pay9; pointwise : k0_pay9 a laneHead w (ix2 s l) = IntOp.andi (IntOp.cmpi .eq (laneHead (ix2 s l)) 1#32)
      (Scalar.andi (Scalar.cmpi .sge w 2#32) (Scalar.cmpi .sle w (Scalar.addi a 1#32))))).trans (by
      rw [hw, show IntOp.cmpi .eq (laneHead (ix2 s l)) 1#32 = _ from lane_mask s l 1, andi_bools]; rfl)
  have h2 : ∀ s : Fin 256, k0_pay10 a laneHead w (ix2 s l) = BitVec.ofBool (decide (l.val / 64 = 2) && valid) := fun s =>
    ((by unfold k0_pay10; pointwise : k0_pay10 a laneHead w (ix2 s l) = IntOp.andi (IntOp.cmpi .eq (laneHead (ix2 s l)) 2#32)
      (Scalar.andi (Scalar.cmpi .sge w 2#32) (Scalar.cmpi .sle w (Scalar.addi a 1#32))))).trans (by
      rw [hw, show IntOp.cmpi .eq (laneHead (ix2 s l)) 2#32 = _ from lane_mask s l 2, andi_bools]; rfl)
  have h3 : ∀ s : Fin 256, k0_pay11 a laneHead w (ix2 s l) = BitVec.ofBool (decide (l.val / 64 = 3) && valid) := fun s =>
    ((by unfold k0_pay11; pointwise : k0_pay11 a laneHead w (ix2 s l) = IntOp.andi (IntOp.cmpi .eq (laneHead (ix2 s l)) 3#32)
      (Scalar.andi (Scalar.cmpi .sge w 2#32) (Scalar.cmpi .sle w (Scalar.addi a 1#32))))).trans (by
      rw [hw, show IntOp.cmpi .eq (laneHead (ix2 s l)) 3#32 = _ from lane_mask s l 3, andi_bools]; rfl)
  generalize k0_pay8 a laneHead w = m0 at h0 ⊢
  generalize k0_pay9 a laneHead w = m1 at h1 ⊢
  generalize k0_pay10 a laneHead w = m2 at h2 ⊢
  generalize k0_pay11 a laneHead w = m3 at h3 ⊢
  unfold k0_pay12
  pointwise
  exact congrArg (acc (ix2 p l) + ·) (weigh_sum (fun r s => E (ix2 r s)) (fun s => v (ix2 s l)) (fun s => m0 (ix2 s l)) (fun s => m1 (ix2 s l))
    (fun s => m2 (ix2 s l)) (fun s => m3 (ix2 s l)) p ⟨l.val / 64, by omega⟩ valid h0 h1 h2 h3)

theorem weigh_second (w : BitVec 1) (hw : w = BitVec.ofBool valid) :
    k0_pay17 (F := Ideal) laneHead acc A w v (ix2 p l)
      = acc (ix2 p l) + if valid then ∑ s : Fin 256, Ideal.exp (A (ix2 (rowOf p l) s)) * v (ix2 s l) else 0 := by
  have h : ∀ (g : Fin 4) (s : Fin 256), IntOp.andi (IntOp.cmpi .eq (laneHead (ix2 s l)) (BitVec.ofNat 32 g.val)) w
      = BitVec.ofBool (decide (l.val / 64 = g.val) && valid) := fun g s => by
    rw [lane_mask, hw, andi_bools]
  generalize laneHead = lh at h ⊢
  unfold k0_pay17
  pointwise
  exact congrArg (acc (ix2 p l) + ·) (weigh_sum (fun r s => Ideal.exp (A (ix2 r s))) (fun s => v (ix2 s l))
    (fun s => IntOp.andi (IntOp.cmpi .eq (lh (ix2 s l)) 0#32) w) (fun s => IntOp.andi (IntOp.cmpi .eq (lh (ix2 s l)) 1#32) w)
    (fun s => IntOp.andi (IntOp.cmpi .eq (lh (ix2 s l)) 2#32) w) (fun s => IntOp.andi (IntOp.cmpi .eq (lh (ix2 s l)) 3#32) w)
    p ⟨l.val / 64, by omega⟩ valid (h 0) (h 1) (h 2) (h 3))

theorem weigh_diag (E : FVec Ideal S1024x256 .bf16) :
    k0_pay55 (F := Ideal) laneHead E v (k0_pay54 laneHead) (ix2 p l) = ∑ s : Fin 256, E (ix2 (rowOf p l) s) * v (ix2 s l) := by
  have h : ∀ (g : Fin 4) (s : Fin 256), IntOp.cmpi .eq (laneHead (ix2 s l)) (BitVec.ofNat 32 g.val)
      = BitVec.ofBool (decide (l.val / 64 = g.val) && true) := fun g s => by
    rw [lane_mask, Bool.and_true]
  have h0 : ∀ s : Fin 256, k0_pay54 laneHead (ix2 s l) = BitVec.ofBool (decide (l.val / 64 = 0) && true) := fun s =>
    ((by unfold k0_pay54; pointwise : k0_pay54 laneHead (ix2 s l) = IntOp.cmpi .eq (laneHead (ix2 s l)) 0#32)).trans (h 0 s)
  generalize k0_pay54 laneHead = m0 at h0 ⊢
  generalize laneHead = lh at h ⊢
  unfold k0_pay55
  pointwise
  exact (weigh_sum (fun r s => E (ix2 r s)) (fun s => v (ix2 s l))
    (fun s => m0 (ix2 s l)) (fun s => IntOp.cmpi .eq (lh (ix2 s l)) 1#32)
    (fun s => IntOp.cmpi .eq (lh (ix2 s l)) 2#32) (fun s => IntOp.cmpi .eq (lh (ix2 s l)) 3#32)
    p ⟨l.val / 64, by omega⟩ true h0 (h 1) (h 2) (h 3)).trans (if_pos rfl)

end Weigh

end Cert.Proof.Attn

end
-- ==== Proof.Attn.Loop.lean ====
/- The loop over pairs of key tiles, trip by trip, and the output of a grid point. -/
module

public import proofs.«01_k».proof.Proof.Attn.Point

@[expose] public section

set_option maxRecDepth 16384

noncomputable section

namespace Cert.Proof.Attn

open Cert.KernelIdeal Cert.KernelIdeal.Gen
open Idealize.ShloMosaic Idealize.ShloMosaic.TcCoe Idealize.SL.Sem
open Cert.Proof.KernelIdeal

/-- A trip, with the tiles it loads as arguments. -/
def trip (q n : ℕ) (kt4 kt6 : FVec Ideal S1x256x256 .bf16) (v5 v7 : FVec Ideal S256x256 .bf16) (qs : FVec Ideal S1024x256 .bf16)
    (bias : FVec Ideal S1024x1 .f32) (ns : FVec Ideal S256x256 .bf16) (s : St Ideal) : St Ideal where
  zb := k0_pay13 bias qs kt6
  aa := k0_pay15 ns (k0_pay2 bias qs kt4) (k0_pay6 (BitVec.ofNat 32 q) (pair n) (k0_pay4 ns s.zb s.car) s.car)
  car := k0_pay16 (BitVec.ofNat 32 q) ns (Scalar.addi (pair n) 1#32) (k0_pay2 bias qs kt4)
    (k0_pay6 (BitVec.ofNat 32 q) (pair n) (k0_pay4 ns s.zb s.car) s.car)
    (k0_pay6 (BitVec.ofNat 32 q) (pair n) (k0_pay4 ns s.zb s.car) s.car)
  acc := k0_pay17 laneHead (k0_pay12 s.acc (k0_pay7 s.aa) v5 (k0_pay8 (BitVec.ofNat 32 q) laneHead (pair n))
      (k0_pay9 (BitVec.ofNat 32 q) laneHead (pair n)) (k0_pay10 (BitVec.ofNat 32 q) laneHead (pair n))
      (k0_pay11 (BitVec.ofNat 32 q) laneHead (pair n)))
    (k0_pay5 ns s.zb s.car)
    (Scalar.andi (Scalar.cmpi .sge (Scalar.addi (pair n) 1#32) 2#32)
      (Scalar.cmpi .sle (Scalar.addi (pair n) 1#32) (Scalar.addi (BitVec.ofNat 32 q) 1#32))) v7

theorem step_eq (i : grid0.Coords) (kt : Vec Ideal S16x256x256 .bf16) (v : Vec Ideal S4096x256 .bf16) (qs : Vec Ideal S1024x256 .bf16)
    (bias : FVec Ideal S1024x1 .f32) (ns : FVec Ideal S256x256 .bf16) (k : Fin (k0_t1_loop i).trips) (s : St Ideal) :
    step i kt v qs (BitVec.ofNat 32 (i 2).val) laneHead bias ns k s
      = trip (i 2).val k.val (View.ld kt (Rect.unit (s := S16x256x256) (k0_off4 i k) S1x256x256.size (k0_off4_inb i k)))
          (View.ld kt (Rect.unit (s := S16x256x256) (k0_off6 i k) S1x256x256.size (k0_off6_inb i k)))
          (View.ld v (Rect.unit (s := S4096x256) (k0_off5 i k) S256x256.size (k0_off5_inb i k)))
          (View.ld v (Rect.unit (s := S4096x256) (k0_off7 i k) S256x256.size (k0_off7_inb i k))) qs bias ns s := rfl

section Invariant

variable (q : ℕ) (zf : Fin 1024 → ℕ → ℝ) (vf : ℕ → Fin 256 → EReal)

/-- The position, among all keys, of the query of a stacked row. -/
abbrev pos (ρ : Fin 1024) : ℕ := 256 * q + ρ.val % 256

/-- What key `k` contributes to lane `l` of position `p`. -/
def share (p l : Fin 256) (k : ℕ) : EReal := ((wt (zf (rowOf p l)) (256 * q + p.val) k : ℝ) : EReal) * vf k l

theorem pos_row (p l : Fin 256) : pos q (rowOf p l) = 256 * q + p.val := by
  show 256 * q + (256 * (l.val / 64) + p.val) % 256 = _
  omega

/-- What the four values hold after `n` trips. -/
structure Inv (n : ℕ) (s : St Ideal) : Prop where
  zb : 1 ≤ n → 2 * n ≤ q → ∀ (ρ : Fin 1024) (c : Fin 256), s.zb (ix2 ρ c) = ((zf ρ (256 * (q - 2 * n) + c.val) : ℝ) : EReal)
  aa : 1 ≤ n → 2 * n - 1 ≤ q → ∀ (ρ : Fin 1024) (c : Fin 256), s.aa (ix2 ρ c)
    = ((zf ρ (256 * (q + 1 - 2 * n) + c.val) - rest (zf ρ) (pos q ρ) (256 * (q + 1 - 2 * n) + c.val) : ℝ) : EReal)
  car : ∀ ρ : Fin 1024, s.car (ix2 ρ 0) = ((-rest (zf ρ) (pos q ρ) (256 * (q - min (2 * n - 1) q)) : ℝ) : EReal)
  acc : ∀ p l : Fin 256, s.acc (ix2 p l)
    = ∑ k ∈ Finset.Ico (256 * (q + 1 - min (max (2 * n - 1) 1) (q + 1))) (256 * q + p.val), share q zf vf p l k

/-- A tile of values weighed: the contributions of its keys. -/
theorem tile_share (E : Fin 256 → EReal) (w : Fin 256 → EReal) (j : ℕ) (p l : Fin 256)
    (hE : ∀ s : Fin 256, E s = ((wt (zf (rowOf p l)) (pos q (rowOf p l)) (256 * j + s.val) : ℝ) : EReal))
    (hw : ∀ s : Fin 256, w s = vf (256 * j + s.val) l) :
    (∑ s : Fin 256, E s * w s) = ∑ k ∈ Finset.Ico (256 * j) (256 * (j + 1)), share q zf vf p l k := by
  rw [← tile_sum (share q zf vf p l) j]
  refine Finset.sum_congr rfl fun s _ => ?_
  rw [hE, hw, pos_row]
  rfl

theorem add_tile (f : ℕ → EReal) (j T : ℕ) (h : 256 * (j + 1) ≤ T) :
    (∑ k ∈ Finset.Ico (256 * (j + 1)) T, f k) + (∑ k ∈ Finset.Ico (256 * j) (256 * (j + 1)), f k) = ∑ k ∈ Finset.Ico (256 * j) T, f k := by
  rw [add_comm]
  exact Finset.sum_Ico_consecutive f (by omega) h

theorem trip_inv (n : ℕ) (hq : q < 16) (hn : n < 9) (kt : Vec Ideal S16x256x256 .bf16) (qs : FVec Ideal S1024x256 .bf16)
    (bias : FVec Ideal S1024x1 .f32) (ns : FVec Ideal S256x256 .bf16) (hns : IsSuffix ns)
    (hlog : ∀ (j : ℕ) (hj : j < 16) (ρ : Fin 1024) (c : Fin 256),
      (∑ x : Fin 256, qs (ix2 ρ x) * kt (ix3 ⟨j, hj⟩ x c)) + bias (ix2 ρ 0) = ((zf ρ (256 * j + c.val) : ℝ) : EReal))
    (kt4 kt6 : FVec Ideal S1x256x256 .bf16) (v5 v7 : FVec Ideal S256x256 .bf16)
    (h4 : 2 * n + 1 ≤ q → ∀ x c : Fin 256, kt4 (ix3 0 x c) = kt (ix3 ⟨q - 1 - 2 * n, by omega⟩ x c))
    (h6 : 2 * n + 2 ≤ q → ∀ x c : Fin 256, kt6 (ix3 0 x c) = kt (ix3 ⟨q - 2 - 2 * n, by omega⟩ x c))
    (h5 : 1 ≤ n → 2 * n ≤ q + 1 → ∀ s l : Fin 256, v5 (ix2 s l) = vf (256 * (q + 1 - 2 * n) + s.val) l)
    (h7 : 1 ≤ n → 2 * n ≤ q → ∀ s l : Fin 256, v7 (ix2 s l) = vf (256 * (q - 2 * n) + s.val) l)
    (s : St Ideal) (h : Inv q zf vf n s) : Inv q zf vf (n + 1) (trip q n kt4 kt6 v5 v7 qs bias ns s) := by
  -- the logits the trip computes first
  have hza : 2 * n + 1 ≤ q → ∀ (ρ : Fin 1024) (c : Fin 256), k0_pay2 (F := Ideal) bias qs kt4 (ix2 ρ c)
      = ((zf ρ (256 * (q - 1 - 2 * n) + c.val) : ℝ) : EReal) := fun hk ρ c => by
    rw [logit_eq]
    simp only [h4 hk]
    exact hlog _ _ ρ c
  -- the running sum between the halves
  have hcm : ∀ ρ : Fin 1024, k0_pay6 (F := Ideal) (BitVec.ofNat 32 q) (pair n) (k0_pay4 ns s.zb s.car) s.car (ix2 ρ 0)
      = ((-rest (zf ρ) (pos q ρ) (256 * (q - min (2 * n) q)) : ℝ) : EReal) := fun ρ => by
    have e : k0_pay6 (F := Ideal) (BitVec.ofNat 32 q) (pair n) (k0_pay4 ns s.zb s.car) s.car (ix2 ρ 0)
        = Scalar.select (Scalar.andi (Scalar.cmpi .sge (pair n) 1#32) (Scalar.cmpi .sle (pair n) (BitVec.ofNat 32 q)))
            (k0_pay4 (F := Ideal) ns s.zb s.car (ix2 ρ 0)) (s.car (ix2 ρ 0)) := by
      unfold k0_pay6
      pointwise
    rw [e, sumFirst ⟨q, hq⟩ ⟨n, hn⟩, Scalar.select_ofBool]
    simp only [decide_eq_true_eq]
    by_cases hk : 1 ≤ 2 * n ∧ 2 * n ≤ q
    · rw [if_pos hk, show min (2 * n) q = 2 * n by omega]
      refine carry_at ns hns s.zb s.car (zf ρ) (pos q ρ) (q - 2 * n) (by show _ ≤ 256 * q + _; omega) ρ (fun c => h.zb (by omega) hk.2 ρ c) ?_
      rw [h.car ρ, show q - min (2 * n - 1) q = q - 2 * n + 1 by omega]
    · rw [if_neg hk, h.car ρ, show min (2 * n - 1) q = min (2 * n) q by omega]
  refine ⟨fun _ hk ρ c => ?_, fun _ hk ρ c => ?_, fun ρ => ?_, fun p l => ?_⟩
  · show k0_pay2 (F := Ideal) bias qs kt6 (ix2 ρ c) = _
    rw [logit_eq]
    simp only [h6 (by omega)]
    rw [hlog, show q - 2 - 2 * n = q - 2 * (n + 1) by omega]
  · show k0_pay5 (F := Ideal) ns _ _ (ix2 ρ c) = _
    rw [show q + 1 - 2 * (n + 1) = q - 1 - 2 * n by omega]
    refine args_at ns hns _ _ (zf ρ) (pos q ρ) (q - 1 - 2 * n) (by show _ ≤ 256 * q + _; omega) ρ (fun c => hza (by omega) ρ c) ?_ c
    rw [hcm ρ, show q - min (2 * n) q = q - 1 - 2 * n + 1 by omega]
  · have e : ∀ (X : FVec Ideal S1024x256 .f32) (C : FVec Ideal S1024x1 .f32),
        k0_pay16 (F := Ideal) (BitVec.ofNat 32 q) ns (Scalar.addi (pair n) 1#32) X C C (ix2 ρ 0)
        = Scalar.select (Scalar.andi (Scalar.cmpi .sge (Scalar.addi (pair n) 1#32) 1#32)
            (Scalar.cmpi .sle (Scalar.addi (pair n) 1#32) (BitVec.ofNat 32 q)))
            (k0_pay4 (F := Ideal) ns X C (ix2 ρ 0)) (C (ix2 ρ 0)) := fun X C => by
      unfold k0_pay16 k0_pay4
      pointwise
      rfl
    refine (e _ _).trans ?_
    rw [sumSecond ⟨q, hq⟩ ⟨n, hn⟩, Scalar.select_ofBool]
    simp only [decide_eq_true_eq]
    by_cases hk : 2 * n + 1 ≤ q
    · rw [if_pos hk, show q - min (2 * (n + 1) - 1) q = q - 1 - 2 * n by omega]
      refine carry_at ns hns _ _ (zf ρ) (pos q ρ) (q - 1 - 2 * n) (by show _ ≤ 256 * q + _; omega) ρ (fun c => hza hk ρ c) ?_
      rw [hcm ρ, show q - min (2 * n) q = q - 1 - 2 * n + 1 by omega]
    · rw [if_neg hk, hcm ρ, show min (2 * (n + 1) - 1) q = min (2 * n) q by omega]
  · -- the output after the first half
    have hm : k0_pay12 (F := Ideal) s.acc (k0_pay7 s.aa) v5 (k0_pay8 (BitVec.ofNat 32 q) laneHead (pair n))
        (k0_pay9 (BitVec.ofNat 32 q) laneHead (pair n)) (k0_pay10 (BitVec.ofNat 32 q) laneHead (pair n))
        (k0_pay11 (BitVec.ofNat 32 q) laneHead (pair n)) (ix2 p l)
        = ∑ k ∈ Finset.Ico (256 * (q + 1 - min (max (2 * n) 1) (q + 1))) (256 * q + p.val), share q zf vf p l k := by
      rw [weigh_first s.acc v5 (decide (1 ≤ n ∧ 2 * n ≤ q + 1)) p l (k0_pay7 s.aa) (BitVec.ofNat 32 q) (pair n) (weighFirst ⟨q, hq⟩ ⟨n, hn⟩),
        h.acc p l]
      simp only [decide_eq_true_eq]
      by_cases hk : 1 ≤ n ∧ 2 * n ≤ q + 1
      · rw [if_pos hk, tile_share q zf vf (fun c => k0_pay7 (F := Ideal) s.aa (ix2 (rowOf p l) c)) (fun c => v5 (ix2 c l)) (q + 1 - 2 * n) p l
          (fun c => exps_at s.aa _ _ _ _ c (h.aa hk.1 (by omega) _ c)) (fun c => h5 hk.1 hk.2 c l),
          show q + 1 - min (max (2 * n - 1) 1) (q + 1) = q + 1 - 2 * n + 1 by omega,
          show q + 1 - min (max (2 * n) 1) (q + 1) = q + 1 - 2 * n by omega]
        exact add_tile _ _ _ (by omega)
      · rw [if_neg hk, add_zero, show min (max (2 * n - 1) 1) (q + 1) = min (max (2 * n) 1) (q + 1) by omega]
    show k0_pay17 (F := Ideal) laneHead _ _ _ v7 (ix2 p l) = _
    rw [weigh_second _ _ v7 (decide (1 ≤ n ∧ 2 * n ≤ q)) p l _ (weighSecond ⟨q, hq⟩ ⟨n, hn⟩), hm]
    simp only [decide_eq_true_eq]
    by_cases hk : 1 ≤ n ∧ 2 * n ≤ q
    · rw [if_pos hk, tile_share q zf vf (fun c => Ideal.exp (k0_pay5 (F := Ideal) ns s.zb s.car (ix2 (rowOf p l) c))) (fun c => v7 (ix2 c l))
        (q - 2 * n) p l (fun c => ?_) (fun c => h7 hk.1 hk.2 c l),
        show q + 1 - min (max (2 * n) 1) (q + 1) = q - 2 * n + 1 by omega,
        show q + 1 - min (max (2 * (n + 1) - 1) 1) (q + 1) = q - 2 * n by omega]
      · exact add_tile _ _ _ (by omega)
      · rw [args_at ns hns s.zb s.car (zf (rowOf p l)) (pos q (rowOf p l)) (q - 2 * n) (by show _ ≤ 256 * q + _; omega) (rowOf p l)
          (fun c => h.zb hk.1 hk.2 _ c) (by rw [h.car, show q - min (2 * n - 1) q = q - 2 * n + 1 by omega]) c, Ideal.exp_coe]
        rfl
    · rw [if_neg hk, add_zero, show min (max (2 * n) 1) (q + 1) = min (max (2 * (n + 1) - 1) 1) (q + 1) by omega]

end Invariant

end Cert.Proof.Attn

end
-- ==== Proof.Attn.Output.lean ====
/- What a grid point of the attention leaves: the state its loop is entered with, the trips, and the output at a position. -/
module

public import proofs.«01_k».proof.Proof.Attn.Loop

@[expose] public section

set_option maxRecDepth 16384

noncomputable section

namespace Cert.Proof.Attn

open Cert.KernelIdeal Cert.KernelIdeal.Gen
open Idealize.ShloMosaic Idealize.ShloMosaic.TcCoe Idealize.SL.Sem
open Cert.Proof.KernelIdeal

/-- The values of a batch and a group of heads, by key. -/
def valueAt (v : Vec Ideal S4096x256 .bf16) (k : ℕ) (l : Fin 256) : EReal :=
  if hk : k < 4096 then v (ix2 ⟨k, hk⟩ l) else 0

theorem valueAt_of (v : Vec Ideal S4096x256 .bf16) (k : ℕ) (l : Fin 256) (hk : k < 4096) : valueAt v k l = v (ix2 ⟨k, hk⟩ l) :=
  dif_pos hk

theorem lower_start (q : ℕ) : q - min (2 * 0 - 1) q = q := by omega
theorem lower_acc_start (q : ℕ) : q + 1 - min (max (2 * 0 - 1) 1) (q + 1) = q := by omega
theorem lower_acc_end (q n : ℕ) (h : n = if q = 0 then 0 else (q + 3) / 2) : q + 1 - min (max (2 * n - 1) 1) (q + 1) = 0 := by
  split at h <;> omega
theorem trips_lt (q n : ℕ) (hq : q < 16) (h : n < if q = 0 then 0 else (q + 3) / 2) : n < 9 := by
  split at h <;> omega
theorem key_lt {q j s : ℕ} (hq : q < 16) (hj : j ≤ q) (hs : s < 256) : 256 * j + s < 4096 := by omega
theorem below_a {q n : ℕ} : q - 1 - 2 * n ≤ q := by omega
theorem below_b {q n : ℕ} : q - 2 - 2 * n ≤ q := by omega
theorem below_c {q n : ℕ} (h1 : 1 ≤ n) : q + 1 - 2 * n ≤ q := by omega
theorem below_d {q n : ℕ} : q - 2 * n ≤ q := by omega

/-- The keys before position `p` of a tile, as a stretch. -/
theorem below_sum (f : ℕ → EReal) (j p : ℕ) (hp : p ≤ 256) :
    (∑ s : Fin 256, if s.val < p then f (256 * j + s.val) else 0) = ∑ k ∈ Finset.Ico (256 * j) (256 * j + p), f k := by
  rw [Fin.sum_univ_eq_sum_range (fun s => if s < p then f (256 * j + s) else 0) 256, ← Finset.sum_filter, Finset.sum_Ico_eq_sum_range]
  refine Finset.sum_congr (Finset.ext fun k => ?_) fun _ _ => rfl
  simp only [Finset.mem_filter, Finset.mem_range]
  omega

section Point

variable (i : grid0.Coords) (b : Vec Ideal S8 .f32) (qb : Vec Ideal S256x256 .bf16) (kt : Vec Ideal S16x256x256 .bf16)
  (v : Vec Ideal S4096x256 .bf16) (ns : Vec Ideal S256x256 .bf16) (zb aa : Vec Ideal S1024x256 .f32) (zf : Fin 1024 → ℕ → ℝ)
  (hns : IsSuffix (k0_pay44 (F := Ideal) ns))
  (hlog : ∀ (j : ℕ) (hj : j < 16) (ρ : Fin 1024) (c : Fin 256),
    (∑ x : Fin 256, stacked (F := Ideal) qb (ix2 ρ x) * kt (ix3 ⟨j, hj⟩ x c)) + biasCol (F := Ideal) i b (ix2 ρ 0)
      = ((zf ρ (256 * j + c.val) : ℝ) : EReal))

include hlog in
theorem diag_logit (ρ : Fin 1024) (c : Fin 256) :
    k0_pay49 (F := Ideal) (biasCol i b) (stacked qb)
      (View.ld kt (Rect.unit (s := S16x256x256) (k0_off2 i) S1x256x256.size (k0_off2_inb i))) (ix2 ρ c)
      = ((zf ρ (256 * (i 2).val + c.val) : ℝ) : EReal) := by
  rw [logit_eq_diag]
  simp only [fun x => ld_tile kt (k0_off2 i) (k0_off2_inb i) (i 2).val (tile_lt i) (off2_eq i) x c]
  exact hlog _ _ ρ c

include hlog hns in
theorem entry_inv : Inv (i 2).val zf (valueAt v) 0 (entry i b qb kt v ns zb aa) := by
  refine ⟨fun h => absurd h (by decide), fun h => absurd h (by decide), fun ρ => ?_, fun p l => ?_⟩
  · rw [lower_start]
    exact carry_at_diag _ _ _ _ _ hns (zf ρ) (i 2).val (ρ.val % 256) (Nat.mod_lt _ (by decide)) ρ (fun c => row_eq ρ c)
      (fun k => diag_logit i b qb kt zf hlog ρ k)
  · rw [lower_acc_start]
    refine (weigh_diag _ p l _).trans ((Finset.sum_congr rfl fun s _ => ?_).trans (below_sum (share (i 2).val zf (valueAt v) p l) (i 2).val p.val p.isLt.le))
    rw [exps_at_diag _ _ _ _ _ hns (zf (rowOf p l)) (i 2).val p.val p.isLt (rowOf p l)
      (fun c => (row_eq (rowOf p l) c).trans (congrArg (BitVec.ofNat 32) (by show (256 * (l.val / 64) + p.val) % 256 = p.val; omega)))
      (fun k => diag_logit i b qb kt zf hlog (rowOf p l) k) s,
      ld_rows v (k0_off3 i) (k0_off3_inb i) (i 2).val (tile_lt i) (off3_eq i) s l, ite_mul, zero_mul]
    refine if_congr Iff.rfl (congrArg _ ?_) rfl
    exact (valueAt_of v _ l _).symm

include hlog hns in
theorem after_inv (n : ℕ) (hn : n ≤ (k0_t1_loop i).trips) :
    Inv (i 2).val zf (valueAt v) n (after i kt v (stacked qb) (BitVec.ofNat 32 (i 2).val) laneHead (biasCol i b) (k0_pay44 ns)
      (entry i b qb kt v ns zb aa) n) := by
  induction n with
  | zero => exact entry_inv i b qb kt v ns zb aa zf hns hlog
  | succ n ih =>
    have hs := after_succ i kt v (stacked qb) (BitVec.ofNat 32 (i 2).val) laneHead (biasCol i b) (k0_pay44 ns) (entry i b qb kt v ns zb aa) ⟨n, hn⟩
    refine (congrArg (Inv (i 2).val zf (valueAt v) (n + 1)) (hs.trans (step_eq i kt v _ _ _ ⟨n, hn⟩ _))).mpr ?_
    have h9 : n < 9 := trips_lt (i 2).val n (tile_lt i) (by rw [← trips_eq i]; exact hn)
    exact trip_inv (i 2).val zf (valueAt v) n (tile_lt i) h9 kt (stacked qb) (biasCol i b) (k0_pay44 ns) hns hlog _ _ _ _
      (fun h x c => ld_tile kt _ _ _ (lt_of_le_of_lt below_a (tile_lt i)) (off4_eq i ⟨n, hn⟩ h) x c)
      (fun h x c => ld_tile kt _ _ _ (lt_of_le_of_lt below_b (tile_lt i)) (off6_eq i ⟨n, hn⟩ h) x c)
      (fun h1 h s l => (ld_rows v _ _ _ (lt_of_le_of_lt (below_c h1) (tile_lt i)) (off5_eq i ⟨n, hn⟩ h1 h) s l).trans
        (valueAt_of v _ l (key_lt (tile_lt i) (below_c h1) s.isLt)).symm)
      (fun h1 h s l => (ld_rows v _ _ _ (lt_of_le_of_lt below_d (tile_lt i)) (off7_eq i ⟨n, hn⟩ h1 h) s l).trans
        (valueAt_of v _ l (key_lt (tile_lt i) below_d s.isLt)).symm)
      _ (ih (Nat.le_of_succ_le hn))

include hlog hns in
/-- The output at a position and a lane: every key before the position, weighed. -/
theorem out_at (p l : Fin 256) : outOf (F := Ideal) i b qb kt v ns zb aa (ix2 p l)
    = ∑ k ∈ Finset.Ico 0 (256 * (i 2).val + p.val), share (i 2).val zf (valueAt v) p l k := by
  have e : ∀ X : Vec Ideal S256x256 .f32, k0_pay1 (F := Ideal) X (ix2 p l) = X (ix2 p l) := fun X => by
    unfold k0_pay1
    pointwise
  unfold outOf
  rw [e, (after_inv i b qb kt v ns zb aa zf hns hlog _ le_rfl).acc p l, lower_acc_end (i 2).val _ (trips_eq i)]

end Point

end Cert.Proof.Attn

end
-- ==== Proof.Attn.Blocks.lean ====
/- The blocks of a grid point of the attention at coordinates, and the logits the program computes of them. -/
module

public import proofs.«01_k».proof.Proof.Attn.Output
public import proofs.«01_k».proof.Proof.KernelIdeal.Run
public import Idealize.ShloMosaic.Lib.Pipeline.ValueKit

@[expose] public section

set_option maxRecDepth 16384

noncomputable section

namespace Cert.Proof.Attn

open Cert.KernelIdeal Cert.KernelIdeal.Gen
open Idealize.ShloMosaic Idealize.ShloMosaic.TcCoe Idealize.SL.Sem
open Cert.Proof.KernelIdeal

section Stack

variable (i : grid0.Coords) (b : Vec Ideal S8 .f32) (qb : Vec Ideal S256x256 .bf16)

theorem head_lt (i : grid0.Coords) (ρ : Fin 1024) : 4 * (i 1).val + ρ.val / 256 < 8 := by
  have h : (i 1).val < 2 := (i 1).isLt
  omega

theorem lane_is (p x : Fin 256) (g : Fin 4) : IntOp.cmpi .eq (k0_pay34 (ix2 p x)) (BitVec.ofNat 32 g.val)
    = BitVec.ofBool (decide (x.val / 64 = g.val)) := by
  rw [lane34_eq]
  exact head_mask ⟨x.val / 64, by omega⟩ g

theorem copy_at (ρ : Fin 1024) (x : Fin 256) (y : S256x256.Idx) (g : Fin 4) (h0 : ρ.val = 256 * g.val + (y 0).val) (h1 : x.val = (y 1).val)
    (f : IVec S256x256 32 → Vec Ideal S256x256 .bf16 → FVec Ideal S256x256 .bf16)
    (hf : ∀ (w : IVec S256x256 32) (p x : Fin 256),
      f w qb (ix2 p x) = Scalar.select (IntOp.cmpi .eq (w (ix2 p x)) (BitVec.ofNat 32 g.val)) (qb (ix2 p x)) 0) :
    f k0_pay34 qb y = if x.val / 64 = ρ.val / 256 then qb (ix2 ⟨ρ.val % 256, Nat.mod_lt _ (by decide)⟩ x) else 0 := by
  obtain ⟨p, x', rfl⟩ : ∃ p x' : Fin 256, y = ix2 p x' := ⟨y 0, y 1, by blk_ext⟩
  have h0' : ρ.val = 256 * g.val + p.val := h0
  obtain rfl : x = x' := Fin.ext h1
  rw [hf, lane_is, Scalar.select_ofBool, show (⟨ρ.val % 256, Nat.mod_lt _ (by decide)⟩ : Fin 256) = p from Fin.ext (by show ρ.val % 256 = p.val; omega),
    show ρ.val / 256 = g.val by omega]
  simp only [decide_eq_true_eq]

theorem stacked_at (ρ : Fin 1024) (x : Fin 256) :
    stacked (F := Ideal) qb (ix2 ρ x) = if x.val / 64 = ρ.val / 256 then qb (ix2 ⟨ρ.val % 256, Nat.mod_lt _ (by decide)⟩ x) else 0 := by
  unfold stacked
  canon_tiles y h
  · exact copy_at qb ρ x y 3 h0 h1 k0_pay42 fun w p x => by unfold k0_pay42; pointwise
  · exact copy_at qb ρ x y 2 h0 h1 k0_pay41 fun w p x => by unfold k0_pay41; pointwise
  · exact copy_at qb ρ x y 1 h0 h1 k0_pay40 fun w p x => by unfold k0_pay40; pointwise
  · exact copy_at qb ρ x y 0 (h0.trans (Nat.zero_add _).symm) h1 k0_pay39 fun w p x => by unfold k0_pay39; pointwise

theorem biasCol_at (ρ : Fin 1024) :
    biasCol (F := Ideal) i b (ix2 ρ 0) = b (ix1 ⟨4 * (i 1).val + ρ.val / 256, head_lt i ρ⟩) := by
  have o := fun w : Fin 4 => off1_eq i w
  unfold biasCol k0_pay43
  pointwise
  by_cases h0 : ρ.val < 256
  · rw [dif_pos h0]
    refine congrArg b (congrArg ix1 (Fin.ext ((o 0).trans ?_)))
    show 4 * (i 1).val + 0 = 4 * (i 1).val + ρ.val / 256; omega
  rw [dif_neg h0]
  by_cases h1 : ρ.val - 256 < 256
  · rw [dif_pos h1]
    refine congrArg b (congrArg ix1 (Fin.ext ((o 1).trans ?_)))
    show 4 * (i 1).val + 1 = 4 * (i 1).val + ρ.val / 256; omega
  rw [dif_neg h1]
  by_cases h2 : ρ.val - 256 - 256 < 256
  · rw [dif_pos h2]
    refine congrArg b (congrArg ix1 (Fin.ext ((o 2).trans ?_)))
    show 4 * (i 1).val + 2 = 4 * (i 1).val + ρ.val / 256; omega
  rw [dif_neg h2]
  refine congrArg b (congrArg ix1 (Fin.ext ((o 3).trans ?_)))
  show 4 * (i 1).val + 3 = 4 * (i 1).val + ρ.val / 256; omega

end Stack

variable (m : (ℓ : Loc nD τ sig) → Buf (Elt Ideal) ℓ) (c : Dev nD)

theorem idx : ∀ t : Fin cfg0.N, win0_0.index t = ![0]
    ∧ win0_1.index t = ![(grid0.coords t 0).val * 16 + (grid0.coords t 2).val, (grid0.coords t 1).val]
    ∧ win0_2.index t = ![(grid0.coords t 0).val, (grid0.coords t 1).val, 0]
    ∧ win0_3.index t = ![(grid0.coords t 0).val, (grid0.coords t 1).val]
    ∧ win0_4.index t = ![0, 0]
    ∧ win0_5.index t = ![(grid0.coords t 0).val * 16 + (grid0.coords t 2).val, (grid0.coords t 1).val] :=
  (by decide +kernel : ∀ t : Fin grid0.N, _)

theorem coords_lt (t : Fin cfg0.N) : (grid0.coords t 0).val < 8 ∧ (grid0.coords t 1).val < 2 ∧ (grid0.coords t 2).val < 16 :=
  ⟨(grid0.coords t 0).isLt, (grid0.coords t 1).isLt, (grid0.coords t 2).isLt⟩

theorem b_at (t : Fin cfg0.N) (h : Fin 8) : bBlk m c t (ix1 h) = m (c.tc.loc main_arg0) (ix1 h) := by
  unfold bBlk
  blk_ext [iblk, V, idx t]

theorem q_at (t : Fin cfg0.N) (p x : Fin 256) : qBlk m c t (ix2 p x)
    = m (c.tc.loc main_arg1) (ix2 ⟨(grid0.coords t 0).val * 4096 + (256 * (grid0.coords t 2).val + p.val), by have := coords_lt t; omega⟩
        ⟨256 * (grid0.coords t 1).val + x.val, by have := coords_lt t; omega⟩) := by
  unfold qBlk
  blk_ext [iblk, V, idx t]

theorem kt_at (t : Fin cfg0.N) (j : Fin 16) (x s : Fin 256) : ktBlk m c t (ix3 j x s)
    = m (c.tc.loc main_arg2) (ix3 ⟨(grid0.coords t 0).val * 16 + j.val, by have := coords_lt t; omega⟩
        ⟨256 * (grid0.coords t 1).val + x.val, by have := coords_lt t; omega⟩ s) := by
  unfold ktBlk
  blk_ext [iblk, V, idx t]

theorem v_at (t : Fin cfg0.N) (s : Fin 4096) (l : Fin 256) : vBlk m c t (ix2 s l)
    = m (c.tc.loc main_arg3) (ix2 ⟨(grid0.coords t 0).val * 4096 + s.val, by have := coords_lt t; omega⟩
        ⟨256 * (grid0.coords t 1).val + l.val, by have := coords_lt t; omega⟩) := by
  unfold vBlk
  blk_ext [iblk, V, idx t]

theorem suffix_mask (k s : Fin 256) :
    IntOp.cmpi .sge (BitVec.ofNat 32 k.val) (BitVec.ofNat 32 s.val) = BitVec.ofBool (decide (s.val ≤ k.val)) :=
  WordCmp.cmpi_sge_ofNat (by omega) (by omega)

theorem ns_at (t : Fin cfg0.N) : IsSuffix (k0_pay44 (F := Ideal) (nsBlk m c t)) := fun k s => by
  have e : k0_pay44 (F := Ideal) (nsBlk m c t) (ix2 k s) = nsBlk m c t (ix2 k s) := by
    unfold k0_pay44
    pointwise
  rw [e]
  have e2 : nsBlk m c t (ix2 k s) = V m c main_v4 (ix2 k s) := by
    unfold nsBlk
    blk_ext [iblk, idx t]
  rw [e2]
  have e3 : V m c main_v4 = truncf .bf16 (select (cmpi .sge (iotaInDim S256x256 32 0) (iotaInDim S256x256 32 1))
      (broadcastInDim S256x256 ![] bcast_S_S256x256 (constant (F := Ideal) S_ .f32 0xBF800000#32))
      (broadcastInDim S256x256 ![] bcast_S_S256x256 (constant (F := Ideal) S_ .f32 0x00000000#32))) bitsLt_bf16_f32 := by
    entry_read
    rfl
  rw [e3]
  pointwise
  rw [show Ideal.ofBits FTy.f32 3212836864#32 = ((-1 : ℝ) : EReal) from ?_, suffix_mask k s, Scalar.select_ofBool]
  · simp only [decide_eq_true_eq]
    split <;> rfl
  · simp [Ideal.ofBits, Ideal.ieee, -EReal.coe_mul, -EReal.coe_neg]
    norm_num

end Cert.Proof.Attn

end
-- ==== Proof.Attn.Points.lean ====
/- The output block of a grid point of the attention: at each of its positions and lanes, what the attention's formula
   gives for the row and the lane that the position and the lane stand for in the whole arrays. -/
module

public import proofs.«01_k».proof.Proof.Attn.Blocks

@[expose] public section

set_option maxRecDepth 16384

noncomputable section

namespace Cert.Proof.Attn

open Cert.KernelIdeal Cert.KernelIdeal.Gen
open Idealize.ShloMosaic Idealize.ShloMosaic.TcCoe Idealize.SL.Sem
open Cert.Proof.KernelIdeal

theorem ix3_congr {a b c : ℕ} {i i' : Fin a} {j j' : Fin b} {k k' : Fin c} (hi : i = i') (hj : j = j') (hk : k = k') :
    ix3 i j k = ix3 i' j' k' := by
  subst hi hj hk
  rfl

theorem prefix_sum (f : ℕ → EReal) (T : ℕ) (hT : T ≤ 4096) :
    (∑ s : Fin 4096, if s.val < T then f s.val else 0) = ∑ k ∈ Finset.Ico 0 T, f k := by
  rw [Fin.sum_univ_eq_sum_range (fun s => if s < T then f s else 0) 4096, ← Finset.sum_filter]
  refine Finset.sum_congr (Finset.ext fun k => ?_) fun _ _ => rfl
  simp only [Finset.mem_filter, Finset.mem_range, Finset.mem_Ico]
  omega

section Spec

variable (b : (⟨1, ![8]⟩ : Shape).Idx → EReal) (q : (⟨2, ![32768, 512]⟩ : Shape).Idx → EReal)
  (k : (⟨3, ![128, 512, 256]⟩ : Shape).Idx → EReal) (v : (⟨2, ![32768, 512]⟩ : Shape).Idx → EReal)
  (n hp qi : ℕ) (hn : n < 8) (hhp : hp < 2) (hqi : qi < 16)

include hn hhp hqi in
theorem target_eq (p l : Fin 256) (w : ℕ → EReal) (hw : ∀ s : Fin 4096, w s.val = v (ix2 ⟨n * 4096 + s.val, by omega⟩ ⟨256 * hp + l.val, by omega⟩)) :
    target b q k v ⟨n * 4096 + (256 * qi + p.val), by omega⟩ ⟨256 * hp + l.val, by omega⟩
      = ∑ s ∈ Finset.Ico 0 (256 * qi + p.val),
          ((wt (zr b q k ⟨n, hn⟩ ⟨4 * hp + l.val / 64, by omega⟩ ⟨256 * qi + p.val, by omega⟩) (256 * qi + p.val) s : ℝ) : EReal) * w s := by
  rw [← prefix_sum _ _ (by omega)]
  unfold target
  have e1 : (n * 4096 + (256 * qi + p.val)) / 4096 = n := by omega
  have e2 : (n * 4096 + (256 * qi + p.val)) % 4096 = 256 * qi + p.val := by omega
  have e3 : (256 * hp + l.val) / 64 = 4 * hp + l.val / 64 := by omega
  refine Finset.sum_congr rfl fun s _ => ?_
  simp only [e1, e2, e3]
  rw [ite_mul, zero_mul, hw]

end Spec

variable (m : (ℓ : Loc nD τ sig) → Buf (Elt Ideal) ℓ) (c : Dev nD) (t : Fin cfg0.N)

/-- The logits of the stacked rows of a grid point. -/
abbrev rowLogits (ρ : Fin 1024) : ℕ → ℝ :=
  zr (m (c.tc.loc main_arg0)) (m (c.tc.loc main_arg1)) (m (c.tc.loc main_arg2)) ⟨(grid0.coords t 0).val, (coords_lt t).1⟩
    ⟨4 * (grid0.coords t 1).val + ρ.val / 256, by have := coords_lt t; omega⟩
    ⟨256 * (grid0.coords t 2).val + ρ.val % 256, by have := coords_lt t; omega⟩

theorem block_logit (j : ℕ) (hj : j < 16) (ρ : Fin 1024) (s : Fin 256) :
    (∑ x : Fin 256, stacked (F := Ideal) (qBlk m c t) (ix2 ρ x) * ktBlk m c t (ix3 ⟨j, hj⟩ x s))
        + biasCol (F := Ideal) (grid0.coords t) (bBlk m c t) (ix2 ρ 0)
      = logit (m (c.tc.loc main_arg0)) (m (c.tc.loc main_arg1)) (m (c.tc.loc main_arg2)) ⟨(grid0.coords t 0).val, (coords_lt t).1⟩
          ⟨4 * (grid0.coords t 1).val + ρ.val / 256, by have := coords_lt t; omega⟩
          ⟨256 * (grid0.coords t 2).val + ρ.val % 256, by have := coords_lt t; omega⟩ ⟨256 * j + s.val, by omega⟩ := by
  have hc := coords_lt t
  unfold logit
  rw [biasCol_at, b_at]
  refine congrArg (· + _) ?_
  simp only [stacked_at, q_at, kt_at, ite_mul, zero_mul]
  rw [Fin.sum_univ_tiles 4 64 (by norm_num)]
  have hsplit : ∀ (g : Fin 4) (x : Fin 64), (g.val * 64 + x.val) / 64 = g.val := fun g x => by omega
  simp only [hsplit]
  rw [Finset.sum_eq_single (⟨ρ.val / 256, by omega⟩ : Fin 4)]
  · refine Finset.sum_congr rfl fun x _ => ?_
    rw [if_pos rfl]
    refine congrArg₂ (· * ·) (congrArg _ (congrArg₂ ix2 (Fin.ext ?_) (Fin.ext ?_))) (congrArg _ ?_)
    · rfl
    · show 256 * (grid0.coords t 1).val + (ρ.val / 256 * 64 + x.val) = (4 * (grid0.coords t 1).val + ρ.val / 256) * 64 + x.val
      omega
    · refine ix3_congr (Fin.ext ?_) (Fin.ext ?_) (Fin.ext ?_)
      · show (grid0.coords t 0).val * 16 + j = (grid0.coords t 0).val * 16 + (256 * j + s.val) / 256
        omega
      · show 256 * (grid0.coords t 1).val + (ρ.val / 256 * 64 + x.val) = (4 * (grid0.coords t 1).val + ρ.val / 256) * 64 + x.val
        omega
      · show s.val = (256 * j + s.val) % 256
        omega
  · intro g _ hg
    refine Finset.sum_eq_zero fun x _ => if_neg fun h => hg (Fin.ext h)
  · intro h; exact absurd (Finset.mem_univ _) h

variable (hb : ∀ i, ∃ r : ℝ, m (c.tc.loc main_arg0) i = (r : EReal)) (hq : ∀ i, ∃ r : ℝ, m (c.tc.loc main_arg1) i = (r : EReal))
  (hk : ∀ i, ∃ r : ℝ, m (c.tc.loc main_arg2) i = (r : EReal))

include hb hq hk in
theorem point_at (zb aa : Vec Ideal S1024x256 .f32) (p l : Fin 256) :
    outOf (F := Ideal) (grid0.coords t) (bBlk m c t) (qBlk m c t) (ktBlk m c t) (vBlk m c t) (nsBlk m c t) zb aa (ix2 p l)
      = target (m (c.tc.loc main_arg0)) (m (c.tc.loc main_arg1)) (m (c.tc.loc main_arg2)) (m (c.tc.loc main_arg3))
          ⟨(grid0.coords t 0).val * 4096 + (256 * (grid0.coords t 2).val + p.val), by have := coords_lt t; omega⟩
          ⟨256 * (grid0.coords t 1).val + l.val, by have := coords_lt t; omega⟩ := by
  have hc := coords_lt t
  rw [out_at (grid0.coords t) _ _ _ _ _ zb aa (rowLogits m c t) (ns_at m c t)
    (fun j hj ρ s => (block_logit m c t j hj ρ s).trans (logit_coe hb hq hk _ _ _ _)) p l,
    target_eq _ _ _ _ _ _ _ hc.1 hc.2.1 hc.2.2 p l (fun k => valueAt (vBlk m c t) k l)
      (fun s => (valueAt_of _ _ _ s.isLt).trans (v_at m c t s l))]
  have e1 : (256 * (l.val / 64) + p.val) / 256 = l.val / 64 := by omega
  have e2 : (256 * (l.val / 64) + p.val) % 256 = p.val := by omega
  unfold share
  simp only [rowLogits, e1, e2]

end Cert.Proof.Attn

end
-- ==== Proof.Attn.Reference.lean ====
/- The reference attention at an element: its own stages (the logits, the log of the sigmoid, the masked rests, their
   running sum, the weights, the weighted values), each read at an index. -/
module

public import proofs.«01_k».proof.Proof.Gen.ReferenceIdeal.Run
public import proofs.«01_k».proof.Proof.Attn.Scalar
public import Idealize.ShloMosaic.Lib.Pipeline.ValueKit
public import Idealize.ShloMosaic.Lib.WordCmp

@[expose] public section

set_option maxRecDepth 16384

noncomputable section

namespace Cert.Proof.Attn.Reference

open Cert.ReferenceIdeal Cert.ReferenceIdeal.Gen
open Idealize.ShloMosaic Idealize.ShloMosaic.TcCoe Idealize.SL.Sem
open Cert.Proof.Attn

/-- One logit of every query and key of every head. -/
abbrev Grid4 := FVec Ideal S8x8x4096x4096 .f32

def logits (b : FVec Ideal S8 .f32) (q : FVec Ideal S32768x512 .bf16) (k : FVec Ideal S128x512x256 .bf16) : Grid4 :=
  (addf (Host.dotGeneral dot_S8x4096x8x64_S8x4096x8x64_S8x8x4096x4096_3_3_1_1_02_02 none (shapeCast _ (extf .f32 q bitsLt_bf16_f32) shapeCasts_S32768x512_S8x4096x8x64) (shapeCast _ (transpose S128x256x512 [0, 2, 1] (extf .f32 k bitsLt_bf16_f32) transposes_S128x512x256_S128x256x512_0_2_1) shapeCasts_S128x256x512_S8x4096x8x64)) (broadcastInDim S8x8x4096x4096 ![0, 1, 2, 3] bcast_S1x8x1x1_S8x8x4096x4096_0_1_2_3 (broadcastInDim S1x8x1x1 ![1] bcast_S8_S1x8x1x1_1 b)))

def logBeta (Z : Grid4) : Grid4 :=
  (Host.negf (select (cmpf .une (subf (Host.negf Z) (broadcastInDim S8x8x4096x4096 ![] bcast_S_S8x8x4096x4096 (constant S_ .f32 0x00000000#32))) (subf (Host.negf Z) (broadcastInDim S8x8x4096x4096 ![] bcast_S_S8x8x4096x4096 (constant S_ .f32 0x00000000#32)))) (addf (Host.negf Z) (broadcastInDim S8x8x4096x4096 ![] bcast_S_S8x8x4096x4096 (constant S_ .f32 0x00000000#32))) (addf (maximumf (Host.negf Z) (broadcastInDim S8x8x4096x4096 ![] bcast_S_S8x8x4096x4096 (constant S_ .f32 0x00000000#32))) (Host.log1p (Host.exp (Host.negf (Host.absf (subf (Host.negf Z) (broadcastInDim S8x8x4096x4096 ![] bcast_S_S8x8x4096x4096 (constant S_ .f32 0x00000000#32))))))))))

def causal : IVec S8x8x4096x4096 1 :=
  (broadcastInDim S8x8x4096x4096 ![2, 3] bcast_S4096x4096_S8x8x4096x4096_2_3 (cmpi .slt (broadcastInDim S4096x4096 ![0, 1] bcast_S1x4096_S4096x4096_0_1 (broadcastInDim S1x4096 ![1] bcast_S4096_S1x4096_1 (iotaInDim S4096 32 0))) (broadcastInDim S4096x4096 ![0, 1] bcast_S4096x1_S4096x4096_0_1 (broadcastInDim S4096x1 ![0] bcast_S4096_S4096x1_0 (iotaInDim S4096 32 0)))))

def rests (M : IVec S8x8x4096x4096 1) (L Z : Grid4) : Grid4 :=
  (select M (subf L Z) (broadcastInDim S8x8x4096x4096 ![] bcast_S_S8x8x4096x4096 (id (constant S_ .f32 0x00000000#32))))

def running (R : Grid4) : Grid4 :=
  (Host.reduceWindowAdd ![1, 1, 1, 4096] ![1, 1, 1, 1] ![0, 0, 0, 0] ![0, 0, 0, 4095] R (broadcastInDim S_ ![] bcast_S_S_ (constant S_ .f32 0x00000000#32)) reduceWindows_S8x8x4096x4096_S8x8x4096x4096_w1s1p0_0_w1s1p0_0_w1s1p0_0_w4096s1p0_4095 h_S_)

def weights (M : IVec S8x8x4096x4096 1) (L C R : Grid4) : Grid4 :=
  (select M (Host.exp (addf L (subf C R))) (broadcastInDim S8x8x4096x4096 ![] bcast_S_S8x8x4096x4096 (id (constant S_ .f32 0x00000000#32))))

def weighted (v : FVec Ideal S32768x512 .bf16) (A : Grid4) : FVec Ideal S32768x512 .bf16 :=
  truncf .bf16 (shapeCast _ (transpose S8x4096x8x64 [0, 3, 1, 2] (Host.dotGeneral dot_S8x4096x8x64_S8x8x4096x4096_S8x8x64x4096_1_3_3_2_02_01 none (shapeCast _ (extf .f32 v bitsLt_bf16_f32) shapeCasts_S32768x512_S8x4096x8x64) A) transposes_S8x8x64x4096_S8x4096x8x64_0_3_1_2) shapeCasts_S8x4096x8x64_S32768x512) bitsLt_bf16_f32

/-- The reference's result, from its arguments. -/
def result (b : FVec Ideal S8 .f32) (q : FVec Ideal S32768x512 .bf16) (k : FVec Ideal S128x512x256 .bf16)
    (v : FVec Ideal S32768x512 .bf16) : FVec Ideal S32768x512 .bf16 :=
  let Z := logits b q k
  let L := logBeta Z
  let R := rests causal L Z
  weighted v (weights causal L (running R) R)

theorem res_eq (m : (ℓ : Loc nD τ sig) → Buf (Elt Ideal) ℓ) (c : Dev nD) :
    Cert.ReferenceIdeal.Value.res_main_v28 (F := Ideal) m c
      = result (m ((c.tc : Thread nD τ).loc main_arg0)) (m ((c.tc : Thread nD τ).loc main_arg1))
          (m ((c.tc : Thread nD τ).loc main_arg2)) (m ((c.tc : Thread nD τ).loc main_arg3)) := by
  unfold Cert.ReferenceIdeal.Value.res_main_v28
  rfl

theorem logits_at (b : FVec Ideal S8 .f32) (q : FVec Ideal S32768x512 .bf16) (k : FVec Ideal S128x512x256 .bf16)
    (n h : Fin 8) (t s : Fin 4096) :
    logits b q k (ix4 n h t s) = logit b q k n h t s := by
  unfold logits
  pointwise
  rfl

theorem weighted_at (v : FVec Ideal S32768x512 .bf16) (A : Grid4) (r : Fin 32768) (l : Fin 512) :
    weighted v A (ix2 r l) = ∑ s : Fin 4096, v (ix2 ⟨r.val / 4096 * 4096 + s.val, by omega⟩ l)
      * A (ix4 ⟨r.val / 4096, by omega⟩ ⟨l.val / 64, by omega⟩ ⟨r.val % 4096, by omega⟩ s) := by
  unfold weighted
  pointwise

theorem sp_neg (x : ℝ) : -(max (-x) 0 + Real.log (1 + Real.exp (-|(-x)|))) = x - sp x := by
  unfold sp
  rw [abs_neg]
  have : max x 0 = x + max (-x) 0 := by
    rcases le_total 0 x with h | h
    · rw [max_eq_left h, max_eq_right (by linarith)]; ring
    · rw [max_eq_right h, max_eq_left (by linarith)]; ring
  rw [this]; ring

theorem logBeta_at (Z : Grid4) (y : S8x8x4096x4096.Idx) (z : ℝ) (h : Z y = (z : EReal)) :
    logBeta Z y = ((z - sp z : ℝ) : EReal) := by
  have e : logBeta Z y = -(max (-Z y) 0 + Ideal.log1p (Ideal.exp (-FloatOps.absf (F := Ideal) (φ := .f32) (-Z y)))) := by
    unfold logBeta
    pointwise
    simp only [ne_eq, not_true_eq_false, if_false]
  rw [e, h, Ideal.absf_def, ← EReal.coe_neg, ← EReal.coe_neg, ereal_max, ← EReal.coe_neg, Ideal.exp_coe, Ideal.log1p, log_one_add,
    ← EReal.coe_zero, ereal_max, ← EReal.coe_add, ← EReal.coe_neg, ← sp_neg]
  rfl

theorem causal_at (n h : Fin 8) (t s : Fin 4096) :
    causal (ix4 n h t s) = BitVec.ofBool (decide (s.val < t.val)) := by
  have e : causal (ix4 n h t s) = IntOp.cmpi .slt (BitVec.ofNat 32 s.val) (BitVec.ofNat 32 t.val) := by
    unfold causal
    pointwise
  rw [e]
  exact WordCmp.cmpi_slt_ofNat (by omega) (by omega)

theorem rests_at (M) (L Z : Grid4) (y : S8x8x4096x4096.Idx) :
    rests M L Z y = Scalar.select (M y) (L y - Z y) 0 := by
  unfold rests
  pointwise
  congr 1
  simp only [id]
  pointwise

theorem weights_at (M) (L C R : Grid4) (y : S8x8x4096x4096.Idx) :
    weights M L C R y = Scalar.select (M y) (Ideal.exp (L y + (C y - R y))) 0 := by
  unfold weights
  pointwise
  congr 1
  simp only [id]
  pointwise

theorem foldl_add {ι : Type*} (g : ι → EReal) (l : List ι) (a : EReal) :
    l.foldl (fun r n => r + g n) a = a + (l.map g).sum := by
  induction l generalizing a with
  | nil => simp
  | cons x l ih => rw [List.foldl_cons, ih, List.map_cons, List.sum_cons, add_assoc]

/-- A window sum at an element: the initial value and the sum over the window's own indices. -/
theorem window_sum {s t u : Shape} (window strides lo hi : Fin s.rank → Nat) (x : s.Idx → EReal) (init : u.Idx → EReal)
    (h : s.ReduceWindows window strides lo hi t) (hu : 0 < u.numel) (j : t.Idx) :
    Host.reduceWindow (· + ·) window strides lo hi x init h hu j
      = init (Shape.Idx.first hu) + ∑ w : (⟨s.rank, window⟩ : Shape).Idx,
          (if hin : ∀ a, lo a ≤ (j (a.cast h.1.symm)).val * strides a + (w a).val
              ∧ (j (a.cast h.1.symm)).val * strides a + (w a).val - lo a < s.size a
            then x (fun a => ⟨(j (a.cast h.1.symm)).val * strides a + (w a).val - lo a, (hin a).2⟩)
            else init (Shape.Idx.first hu)) := by
  unfold Host.reduceWindow
  refine (foldl_add _ _ _).trans ?_
  rw [← Fin.sum_univ_def]
  congr 1
  refine (Finset.sum_congr rfl fun n _ => ?_).trans (Equiv.sum_comp (⟨s.rank, window⟩ : Shape).rowMajor.symm (fun w =>
    (if hin : ∀ a, lo a ≤ (j (a.cast h.1.symm)).val * strides a + (w a).val
              ∧ (j (a.cast h.1.symm)).val * strides a + (w a).val - lo a < s.size a
            then x (fun a => ⟨(j (a.cast h.1.symm)).val * strides a + (w a).val - lo a, (hin a).2⟩)
            else init (Shape.Idx.first hu))))
  exact dite_congr rfl (fun _ => rfl) (fun _ => rfl)

theorem running_at (R : Grid4) (n h : Fin 8) (t s : Fin 4096) :
    running R (ix4 n h t s)
      = ∑ k : Fin 4096, (if hk : s.val + k.val < 4096 then R (ix4 n h t ⟨s.val + k.val, hk⟩) else 0) := by
  have z : (broadcastInDim S_ ![] bcast_S_S_ (constant (F := Ideal) S_ .f32 0x00000000#32)) (Shape.Idx.first h_S_) = (0 : EReal) := by
    pointwise
  unfold running Host.reduceWindowAdd
  rw [Ideal.hostReduceWindowAdd_def]
  unfold Ideal.hostReduceWindowAdd
  rw [window_sum]
  rw [z, zero_add]
  refine (sum_idx4 (n0 := 1) (n1 := 1) (n2 := 1) (n3 := 4096) _).trans ?_
  rw [Fin.sum_univ_one, Fin.sum_univ_one, Fin.sum_univ_one]
  refine Finset.sum_congr rfl fun k _ => ?_
  by_cases hk : s.val + k.val < 4096
  · rw [dif_pos hk, dif_pos]
    · refine congrArg R (funext fun a => ?_)
      fin_cases a <;> apply Fin.ext
      · show n.val * 1 + 0 - 0 = n.val; omega
      · show h.val * 1 + 0 - 0 = h.val; omega
      · show t.val * 1 + 0 - 0 = t.val; omega
      · show s.val * 1 + k.val - 0 = s.val + k.val; omega
    · intro a
      fin_cases a
      · show 0 ≤ n.val * 1 + 0 ∧ n.val * 1 + 0 - 0 < 8; omega
      · show 0 ≤ h.val * 1 + 0 ∧ h.val * 1 + 0 - 0 < 8; omega
      · show 0 ≤ t.val * 1 + 0 ∧ t.val * 1 + 0 - 0 < 4096; omega
      · show 0 ≤ s.val * 1 + k.val ∧ s.val * 1 + k.val - 0 < 4096; omega
  · rw [dif_neg hk, dif_neg]
    intro H
    have := (H 3).2
    change s.val * 1 + k.val - 0 < 4096 at this
    omega

theorem result_at (b : FVec Ideal S8 .f32) (q : FVec Ideal S32768x512 .bf16) (k : FVec Ideal S128x512x256 .bf16)
    (v : FVec Ideal S32768x512 .bf16) (hb : ∀ i, ∃ r : ℝ, b i = (r : EReal)) (hq : ∀ i, ∃ r : ℝ, q i = (r : EReal))
    (hk : ∀ i, ∃ r : ℝ, k i = (r : EReal)) (r : Fin 32768) (l : Fin 512) :
    result b q k v (ix2 r l) = target b q k v r l := by
  unfold result target
  rw [weighted_at]
  refine Finset.sum_congr rfl fun s _ => ?_
  rw [mul_comm]
  congr 1
  generalize (⟨r.val / 4096, _⟩ : Fin 8) = n
  generalize (⟨l.val / 64, _⟩ : Fin 8) = h
  have hz : ∀ s, logits b q k (ix4 n h ⟨r.val % 4096, by omega⟩ s) = ((zr b q k n h ⟨r.val % 4096, by omega⟩ s.val : ℝ) : EReal) :=
    fun s => (logits_at ..).trans (logit_coe hb hq hk ..)
  have hc : ∀ s, causal (ix4 n h ⟨r.val % 4096, by omega⟩ s) = BitVec.ofBool (decide (s.val < r.val % 4096)) := fun s => causal_at ..
  generalize zr b q k n h ⟨r.val % 4096, _⟩ = z at hz ⊢
  have hl : ∀ s, logBeta (logits b q k) (ix4 n h ⟨r.val % 4096, by omega⟩ s) = ((z s.val - sp (z s.val) : ℝ) : EReal) :=
    fun s => logBeta_at _ _ _ (hz s)
  have hr : ∀ s, rests causal (logBeta (logits b q k)) (logits b q k) (ix4 n h ⟨r.val % 4096, by omega⟩ s)
      = ((if s.val < r.val % 4096 then -sp (z s.val) else 0 : ℝ) : EReal) := fun s => by
    rw [rests_at, hc, hl, hz, ← EReal.coe_sub, Scalar.select_ofBool]
    simp only [decide_eq_true_eq]
    by_cases h1 : s.val < r.val % 4096
    · rw [if_pos h1, if_pos h1]
      exact congrArg _ (by ring)
    · rw [if_neg h1, if_neg h1]
      rfl
  have hw : running (rests causal (logBeta (logits b q k)) (logits b q k)) (ix4 n h ⟨r.val % 4096, by omega⟩ s)
      = ((-rest z (r.val % 4096) s.val : ℝ) : EReal) := by
    rw [running_at]
    simp only [hr]
    have : ∀ k : Fin 4096, (if hk : s.val + k.val < 4096 then
        (((if (⟨s.val + k.val, hk⟩ : Fin 4096).val < r.val % 4096 then -sp (z (⟨s.val + k.val, hk⟩ : Fin 4096).val) else 0 : ℝ)) : EReal) else 0)
        = ((if k.val < r.val % 4096 - s.val then -sp (z (s.val + k.val)) else 0 : ℝ) : EReal) := fun k => by
      by_cases h1 : s.val + k.val < r.val % 4096
      · rw [dif_pos (by omega), if_pos h1, if_pos (by omega)]
      · rw [if_neg (show ¬ k.val < r.val % 4096 - s.val by omega)]
        split
        · simp only [if_neg h1]
        · rfl
    simp only [this]
    rw [ereal_sum, Fin.sum_univ_eq_sum_range (fun k => if k < r.val % 4096 - s.val then -sp (z (s.val + k)) else 0) 4096]
    congr 1
    unfold rest
    rw [Finset.sum_Ico_eq_sum_range, ← Finset.sum_neg_distrib, ← Finset.sum_filter]
    refine Finset.sum_congr (Finset.ext fun a => ?_) fun _ _ => rfl
    simp only [Finset.mem_filter, Finset.mem_range]
    omega
  rw [weights_at, hc, hl, hw, hr, Scalar.select_ofBool, ← EReal.coe_sub, ← EReal.coe_add, Ideal.exp_coe]
  by_cases h1 : s.val < r.val % 4096
  · rw [if_pos h1, if_pos h1]
    simp only [decide_eq_true_eq]
    rw [if_pos h1]
    unfold wt
    exact congrArg (fun x : ℝ => ((Real.exp x : ℝ) : EReal)) (by ring)
  · rw [if_neg h1, if_neg h1]
    simp only [decide_eq_true_eq]
    rw [if_neg h1]

end Cert.Proof.Attn.Reference

end
-- ==== Proof.Attn.Finite.lean ====
/- What the precondition of the attention says: every query, every key and every bias is a real number. -/
module

public import proofs.«01_k».proof.Pre_finite_logits
public import proofs.«01_k».proof.Proof.Attn.Scalar
public import Idealize.ShloMosaic.Lib.WordCmp
public import Idealize.ShloMosaic.Lib.Pipeline.ValueKit

@[expose] public section

set_option maxRecDepth 16384

noncomputable section

namespace Cert.Proof.Attn

open Cert.Pre_finite_logits
open Idealize.ShloMosaic

variable [Cert.Pre_finite_logits.Facts]

/-- A value whose magnitude is below infinity is a real number. -/
theorem real_of_abs (φ : FTy) (x : EReal) (h : (FloatOps.absf (F := Ideal) (φ := φ) x : EReal) < Ideal.ofBits FTy.f32 2139095040#32) :
    ∃ r : ℝ, x = (r : EReal) := by
  have htop : Ideal.ofBits FTy.f32 2139095040#32 = ⊤ := by simp [Ideal.ofBits, Ideal.ieee]
  rw [htop] at h
  have h' : max x (-x) < ⊤ := h
  rw [max_lt_iff] at h'
  refine ⟨x.toReal, (EReal.coe_toReal h'.1.ne ?_).symm⟩
  rintro rfl
  exact absurd h'.2 (by simp)

theorem fn_at (b : FVec Ideal S8 .f32) (q : FVec Ideal S32768x512 .bf16) (k : FVec Ideal S128x512x256 .bf16) (v : FVec Ideal S32768x512 .bf16)
    (h : fn (F := Ideal) b q k v = fun _ => 1#1) (r : Fin 32768) (g : Fin 8) (x : Fin 64) :
    (∃ y : ℝ, q (ix2 r ⟨g.val * 64 + x.val, by omega⟩) = (y : EReal))
      ∧ (∃ y : ℝ, k (ix3 ⟨r.val / 256, by omega⟩ ⟨r.val % 256 * 2 + g.val / 4, by omega⟩ ⟨g.val % 4 * 64 + x.val, by omega⟩) = (y : EReal))
      ∧ ∃ y : ℝ, b (ix1 g) = (y : EReal) := by
  have e := congrFun h (ix3 r g x)
  have e' : fn (F := Ideal) b q k v (ix3 r g x) = BitVec.ofBool
      (decide ((FloatOps.absf (F := Ideal) (φ := .f32) (q (ix2 r ⟨g.val * 64 + x.val, by omega⟩)) : EReal) < Ideal.ofBits FTy.f32 2139095040#32)
        && decide ((FloatOps.absf (F := Ideal) (φ := .f32) (k (ix3 ⟨r.val / 256, by omega⟩ ⟨r.val % 256 * 2 + g.val / 4, by omega⟩
          ⟨g.val % 4 * 64 + x.val, by omega⟩)) : EReal) < Ideal.ofBits FTy.f32 2139095040#32)
        && decide ((FloatOps.absf (F := Ideal) (φ := .f32) (b (ix1 g)) : EReal) < Ideal.ofBits FTy.f32 2139095040#32)) := by
    rw [← WordCmp.andi_ofBool, ← WordCmp.andi_ofBool]
    unfold fn
    pointwise
    try rfl
  rw [e', WordCmp.ofBool_eq_one_iff, Bool.and_eq_true, Bool.and_eq_true, decide_eq_true_eq, decide_eq_true_eq, decide_eq_true_eq] at e
  exact ⟨real_of_abs _ _ e.1.1, real_of_abs _ _ e.1.2, real_of_abs _ _ e.2⟩

variable {b : FVec Ideal S8 .f32} {q : FVec Ideal S32768x512 .bf16} {k : FVec Ideal S128x512x256 .bf16} {v : FVec Ideal S32768x512 .bf16}
  (h : fn (F := Ideal) b q k v = fun _ => 1#1)

include h

theorem finite_bias (i : S8.Idx) : ∃ r : ℝ, b i = (r : EReal) := by
  obtain ⟨g, rfl⟩ : ∃ g : Fin 8, i = ix1 g := ⟨i 0, by blk_ext⟩
  exact (fn_at b q k v h 0 g 0).2.2

theorem finite_query (i : S32768x512.Idx) : ∃ r : ℝ, q i = (r : EReal) := by
  obtain ⟨r, l, rfl⟩ : ∃ (r : Fin 32768) (l : Fin 512), i = ix2 r l := ⟨i 0, i 1, by blk_ext⟩
  have e := (fn_at b q k v h r ⟨l.val / 64, by omega⟩ ⟨l.val % 64, by omega⟩).1
  rwa [show (⟨l.val / 64 * 64 + l.val % 64, by omega⟩ : Fin 512) = l from Fin.ext (by show l.val / 64 * 64 + l.val % 64 = l.val; omega)] at e

theorem finite_key (i : S128x512x256.Idx) : ∃ r : ℝ, k i = (r : EReal) := by
  obtain ⟨a, d, c, rfl⟩ : ∃ (a : Fin 128) (d : Fin 512) (c : Fin 256), i = ix3 a d c := ⟨i 0, i 1, i 2, by blk_ext⟩
  have e := (fn_at b q k v h ⟨a.val * 256 + d.val / 2, by omega⟩ ⟨d.val % 2 * 4 + c.val / 64, by omega⟩ ⟨c.val % 64, by omega⟩).2.1
  have e1 : (a.val * 256 + d.val / 2) / 256 = a.val := by omega
  have e2 : (a.val * 256 + d.val / 2) % 256 * 2 + (d.val % 2 * 4 + c.val / 64) / 4 = d.val := by omega
  have e3 : (d.val % 2 * 4 + c.val / 64) % 4 * 64 + c.val % 64 = c.val := by omega
  simp only [e1, e2, e3] at e
  exact e

end Cert.Proof.Attn

end
-- ==== Proof.Attn.Value.lean ====
/- The attention against its reference: both end with the array that the attention's formula gives. -/
module

public import proofs.«01_k».proof.Defs
public import proofs.«01_k».proof.Proof.Attn.Points
public import proofs.«01_k».proof.Proof.Attn.Reference
public import proofs.«01_k».proof.Proof.Attn.Finite
public import proofs.«01_k».proof.Proof.Gen.ReferenceIdeal.Run
public import Idealize.ShloMosaic.Lib.Pipeline.ArrRel

@[expose] public section

set_option maxRecDepth 16384

noncomputable section

namespace Cert.Proof.Attn

open Cert.KernelIdeal Cert.KernelIdeal.Gen
open Idealize.ShloMosaic Idealize.ShloMosaic.TcCoe Idealize.SL.Sem
open Idealize.ShloMosaic.Pipeline (RDat Dat)
open Cert.Proof.KernelIdeal

/-- The array that a launch's arguments give. -/
def final (m : (ℓ : Loc nD τ sig) → Buf (Elt Ideal) ℓ) (c : Dev nD) : FVec Ideal S32768x512 .bf16 := fun y =>
  target (m (c.tc.loc main_arg0)) (m (c.tc.loc main_arg1)) (m (c.tc.loc main_arg2)) (m (c.tc.loc main_arg3)) (y 0) (y 1)

section Kernel

variable (m : (ℓ : Loc nD τ sig) → Buf (Elt Ideal) ℓ) (c : Dev nD)
  (hb : ∀ i, ∃ r : ℝ, m (c.tc.loc main_arg0) i = (r : EReal)) (hq : ∀ i, ∃ r : ℝ, m (c.tc.loc main_arg1) i = (r : EReal))
  (hk : ∀ i, ∃ r : ℝ, m (c.tc.loc main_arg2) i = (r : EReal))

include hb hq hk in
/-- After the launch the result is the array of the formula, whatever the scratch buffers held. -/
theorem array_eq (after : (w : Fin cfg0.W) → Fin cfg0.N → (cfg0.win w).block.Idx → Elt Ideal (cfg0.win w).elt)
    (hl : ∀ (w : Fin cfg0.W) (u : Fin cfg0.N), (cfg0.win w).flush u = true → (rdat m c).Leaves w u (after w u)) :
    ((rdat m c).withAfter after).arrAt 5 cfg0.N = final m c := by
  refine ((rdat m c).withAfter after).arrAt_eq_of_covers 5 _ (by decide +kernel) fun t hf y => ?_
  obtain ⟨zb, aa, e⟩ := (left5 m c t _).mp (Dat.toRRel_leaves _ rfl (hl 5 t hf))
  rw [RDat.withAfter_after]
  blk_simp
  rw [e]
  obtain ⟨p, l, rfl⟩ : ∃ p l, y = ix2 p l := ⟨y 0, y 1, by blk_ext⟩
  rw [show (win0_5.blk t).view.emb (ix2 p l) = ix2 (⟨(grid0.coords t 0).val * 4096 + (256 * (grid0.coords t 2).val + p.val),
      by have := coords_lt t; omega⟩ : Fin 32768) (⟨256 * (grid0.coords t 1).val + l.val, by have := coords_lt t; omega⟩ : Fin 512) by
    blk_ext [idx t]]
  exact point_at m c t hb hq hk zb aa p l

end Kernel

/-- The attention and its reference end with the same array. -/
theorem algebraic [Cert.Pre_finite_logits.Facts] : Cert.algebraic_KernelIdeal_ReferenceIdeal_pre_finite_logits := by
  intro m ρ m' ρ' hpre hagree
  refine ⟨fun c => final m c, (θ_run Cert.KernelIdeal.defs _ _).mono (fun r h c => ?_) (Cert.Proof.KernelIdeal.launch m ρ), ?_⟩
  · obtain ⟨after, hl, ha⟩ := RDat.FramePost.exists_exact h.1 c
    exact ⟨(ha 5).trans (array_eq m c (finite_bias (hpre c)) (finite_query (hpre c)) (finite_key (hpre c)) after hl),
      Cert.Proof.KernelIdeal.args_of m r h.1 c⟩
  refine (θ_run Cert.ReferenceIdeal.defs _ _).mono (fun _ h c => ⟨(h c).1.trans ?_, (h c).2⟩)
    (Cert.ReferenceIdeal.Value.run (F := Ideal) m' ρ')
  obtain ⟨h0, h1, h2, h3⟩ := hagree c
  rw [Reference.res_eq, h0, h1, h2, h3]
  funext y
  obtain ⟨r, l, rfl⟩ : ∃ (r : Fin 32768) (l : Fin 512), y = ix2 r l := ⟨y 0, y 1, by blk_ext⟩
  exact Reference.result_at _ _ _ _ (finite_bias (hpre c)) (finite_query (hpre c)) (finite_key (hpre c)) r l

end Cert.Proof.Attn

end
-- ==== Proof.Gla.Tables.lean ====
/- The constant tables of the gated recurrence's call: which rows each decay sums over, and which level an entry of the
   score matrix takes. -/
module

public import proofs.«01_k».proof.Proof.Gen.Kernel5Ideal.Skeleton
public import proofs.«01_k».proof.Proof.InProj.Scalar
public import Idealize.ShloMosaic.Lib.Pipeline.ValueKit
public import Idealize.ShloMosaic.Lib.WordCmp

@[expose] public section

set_option maxRecDepth 16384

noncomputable section

namespace Cert.Proof.Gla

open Cert.Kernel5Ideal Cert.Kernel5Ideal.Gen
open Idealize.ShloMosaic Idealize.ShloMosaic.TcCoe
open Cert.Proof.InProj (IsReal)

/-- Row `t` of level `n`'s sixteen, or of head `n`'s sixteen. -/
def row (n : Fin 4) (t : Fin 16) : Fin 64 := ⟨n.val * 16 + t.val, by omega⟩

/-- Whether the sum of the decays up to `t` takes row `u`. -/
abbrev upto (t u : Fin 16) : Bool := lit1 ⟨t.val * 16 + u.val, by omega⟩ == 0x3F80#16

/-- Whether the queries' decay of a level takes row `u`. -/
abbrev queryRow (r : Fin 64) (u : Fin 16) : Bool := lit2 ⟨r.val * 16 + u.val, by omega⟩ == 0x3F80#16

/-- Whether the keys' decay of a level takes row `u`. -/
abbrev keyRow (r : Fin 64) (u : Fin 16) : Bool := lit3 ⟨r.val * 16 + u.val, by omega⟩ == 0x3F80#16

/-- The level of an entry of a head's score matrix. -/
abbrev level (r : Fin 64) (s : Fin 16) : BitVec 32 := lit0 ⟨r.val * 16 + s.val, by omega⟩

theorem lit1_bit : ∀ i, lit1 i = 0#16 ∨ lit1 i = 0x3F80#16 := by decide +kernel
theorem lit2_bit : ∀ i, lit2 i = 0#16 ∨ lit2 i = 0x3F80#16 := by decide +kernel
theorem lit3_bit : ∀ i, lit3 i = 0#16 ∨ lit3 i = 0x3F80#16 := by decide +kernel

theorem upto_iff : ∀ t u : Fin 16, upto t u = decide (u ≤ t) := by decide +kernel

/-- Entries above the diagonal are dropped. -/
theorem level_above : ∀ (h : Fin 4) (t s : Fin 16), (level (row h t) s).slt 0#32 = decide (t < s) := by decide +kernel

/-- The entries on the diagonal take none of the four levels. -/
theorem level_diag : ∀ (h n : Fin 4) (t : Fin 16), (level (row h t) t == BitVec.ofNat 32 n.val) = false := by decide +kernel

/-- An entry below the diagonal takes one level. -/
theorem level_below : ∀ (h : Fin 4) (t s : Fin 16), s < t → ∃ n : Fin 4, level (row h t) s = BitVec.ofNat 32 n.val := by
  decide +kernel

/-- At its level, the rows that the decays of its query and its key take are those between the two. -/
theorem level_rows : ∀ (h n : Fin 4) (t s : Fin 16), level (row h t) s = BitVec.ofNat 32 n.val → ∀ u : Fin 16,
    (queryRow (row n t) u).toNat + (keyRow (row n s) u).toNat + (decide (u ≤ s)).toNat = (decide (u ≤ t)).toNat := by
  decide +kernel

theorem lit_one : Ideal.ofBits .bf16 0x3F80#16 = ((1 : ℝ) : EReal) := by
  simp [Ideal.ofBits, Ideal.ieee, -EReal.coe_mul, -EReal.coe_neg, -EReal.coe_one]; try norm_num

theorem bf16_bit (w : BitVec 16) (h : w = 0#16 ∨ w = 0x3F80#16) :
    Ideal.ofBits .bf16 w = if w == 0x3F80#16 then 1 else 0 := by
  rcases h with rfl | rfl
  · simp [Ideal.ofBits, Ideal.ieee]
  · rw [lit_one, EReal.coe_one]
    rfl

end Cert.Proof.Gla

end
-- ==== Proof.Gla.Core.lean ====
/- The gated recurrence over one chunk as plain sums, and the decays of the call's levels as its decays. -/
module

public import proofs.«01_k».proof.Proof.Gla.Tables

@[expose] public section

set_option maxRecDepth 16384

noncomputable section

namespace Cert.Proof.Gla

open Cert.Kernel5Ideal Cert.Kernel5Ideal.Gen
open Idealize.ShloMosaic Idealize.ShloMosaic.TcCoe
open Cert.Proof.InProj (IsReal)

theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The sum of the rows a table takes. -/
def taken (b : Fin 16 → Bool) (x : Fin 16 → ℝ) : ℝ := ∑ u, if b u = true then x u else 0

/-- A product with a table of zeros and ones, split in two parts. -/
theorem taken_eq (b : Fin 16 → Bool) (x : Fin 16 → ℝ) :
    (∑ u, (if b u = true then (1 : EReal) else 0) * (x u : EReal))
      + (∑ u, (if b u = true then (1 : EReal) else 0) * ((x u : EReal) - (x u : EReal))) = ((taken b x : ℝ) : EReal) := by
  have z : ∀ u, (x u : EReal) - (x u : EReal) = 0 := fun u => IsReal.sub_self ⟨x u, rfl⟩
  simp only [z, mul_zero, Finset.sum_const_zero, add_zero]
  unfold taken
  rw [coe_sum]
  refine Finset.sum_congr rfl fun u _ => ?_
  by_cases h : b u = true
  · rw [if_pos h, if_pos h, one_mul]
  · rw [if_neg h, if_neg h, zero_mul, EReal.coe_zero]

/-- The log decay up to a row. -/
def cum (x : Fin 16 → ℝ) (t : Fin 16) : ℝ := taken (fun u => decide (u ≤ t)) x

theorem taken_upto (x : Fin 16 → ℝ) (t : Fin 16) : taken (upto t) x = cum x t := by
  unfold cum
  congr 1
  funext u
  exact upto_iff t u

theorem exp_coe (r : ℝ) : Ideal.exp (r : EReal) = ((Real.exp r : ℝ) : EReal) := rfl

theorem level_decay (h n : Fin 4) (t s : Fin 16) (e : level (row h t) s = BitVec.ofNat 32 n.val) (x : Fin 16 → ℝ) :
    Real.exp (taken (queryRow (row n t)) x) * Real.exp (taken (keyRow (row n s)) x) = Real.exp (cum x t - cum x s) := by
  rw [← Real.exp_add]
  congr 1
  unfold cum taken
  rw [eq_sub_iff_add_eq, ← Finset.sum_add_distrib, ← Finset.sum_add_distrib]
  refine Finset.sum_congr rfl fun u _ => ?_
  have f := level_rows h n t s e u
  revert f
  beta_reduce
  generalize queryRow (row n t) u = b1
  generalize keyRow (row n s) u = b2
  generalize decide (u ≤ s) = b3
  generalize decide (u ≤ t) = b4
  cases b1 <;> cases b2 <;> cases b3 <;> cases b4 <;> simp

/-- A lane's head. -/
def headOf (j : Fin 256) : Fin 4 := ⟨j.val / 64, by omega⟩

/-- A head's lane. -/
def lane (h : Fin 4) (d : Fin 64) : Fin 256 := ⟨h.val * 64 + d.val, by omega⟩

theorem headOf_lane (h : Fin 4) (d : Fin 64) : headOf (lane h d) = h := by
  apply Fin.ext
  show (h.val * 64 + d.val) / 64 = h.val
  omega

/-- A sum over the lanes of one head. -/
theorem head_sum (h : Fin 4) (f : Fin 256 → EReal) : (∑ j, if headOf j = h then f j else 0) = ∑ d, f (lane h d) := by
  rw [Fin.sum_univ_tiles 4 64 rfl (fun j => if headOf j = h then f j else 0)]
  refine (Finset.sum_eq_single h (fun g _ hg => ?_) (fun e => absurd (Finset.mem_univ h) e)).trans ?_
  · refine Finset.sum_eq_zero fun d _ => ?_
    exact if_neg fun e => hg ((headOf_lane g d).symm.trans e)
  · refine Finset.sum_congr rfl fun d _ => ?_
    exact if_pos (headOf_lane h d)

/-! ## The chunk -/

section Chunk

variable (q k v : Fin 16 → Fin 256 → EReal) (a : Fin 256 → Fin 16 → ℝ) (S : Fin 4 → Fin 64 → Fin 64 → EReal)

/-- The weight of row `s` in row `t`. -/
def att (h : Fin 4) (t s : Fin 16) : EReal :=
  if s ≤ t then ∑ d, q t (lane h d) * ((Real.exp (cum (a (lane h d)) t - cum (a (lane h d)) s) : ℝ) : EReal) * k s (lane h d) else 0

/-- A row's result, before its norm. -/
def mixed (t : Fin 16) (h : Fin 4) (e : Fin 64) : EReal :=
  (∑ d, q t (lane h d) * ((Real.exp (cum (a (lane h d)) t) : ℝ) : EReal) * S h d e) + ∑ s, att q k a h t s * v s (lane h e)

/-- The state after the chunk. -/
def after (h : Fin 4) (d e : Fin 64) : EReal :=
  S h d e * ((Real.exp (cum (a (lane h d)) 15) : ℝ) : EReal)
    + ∑ s, k s (lane h d) * ((Real.exp (cum (a (lane h d)) 15 - cum (a (lane h d)) s) : ℝ) : EReal) * v s (lane h e)

theorem isReal_mixed (hq : ∀ t j, IsReal (q t j)) (hk : ∀ t j, IsReal (k t j)) (hv : ∀ t j, IsReal (v t j))
    (hS : ∀ h d e, IsReal (S h d e)) (t : Fin 16) (h : Fin 4) (e : Fin 64) : IsReal (mixed q k v a S t h e) := by
  unfold mixed
  refine (IsReal.sum _ fun d => ((hq _ _).mul ⟨_, rfl⟩).mul (hS _ _ _)).add (IsReal.sum _ fun s => IsReal.mul ?_ (hv _ _))
  unfold att
  by_cases c : s ≤ t
  · rw [if_pos c]
    exact IsReal.sum _ fun d => ((hq _ _).mul ⟨_, rfl⟩).mul (hk _ _)
  · rw [if_neg c]
    exact ⟨0, rfl⟩

end Chunk

end Cert.Proof.Gla

end
-- ==== Proof.Gla.Levels.lean ====
/- The score matrix of the gated recurrence's call, level by level: each level's entries are scores with the decays of their
   query and their key. -/
module

public import proofs.«01_k».proof.Proof.Gla.Core

@[expose] public section

set_option maxRecDepth 16384

noncomputable section

namespace Cert.Proof.Gla

open Cert.Kernel5Ideal Cert.Kernel5Ideal.Gen
open Idealize.ShloMosaic Idealize.ShloMosaic.TcCoe
open Cert.Proof.InProj (IsReal)

theorem lanes_at (t : Fin 16) (j : Fin 256) : k0_pay5 (ix2 t j) = BitVec.ofNat 32 (j.val / 64) := by
  unfold k0_pay5
  pointwise
  revert j
  decide +kernel

theorem lane_is : ∀ g i : Fin 4, IntOp.cmpi .eq (BitVec.ofNat 32 g.val) (BitVec.ofNat 32 i.val) = BitVec.ofBool (decide (g = i)) := by
  decide +kernel

/-- The score of a query row and a key row over the lanes of one head. -/
def score (h : Fin 4) (q k : Fin 256 → EReal) : EReal := ∑ j, (if headOf j = h then q j else 0) * k j

/-- The queries of a level, once per head with the other heads' lanes put to zero, against the keys of that level. -/
def stackedScores (L : IVec S16x256 32) (Q K : FVec Ideal S16x256 .bf16) : FVec Ideal S64x16 .f32 :=
  matmul dot_S64x256_S16x256_S64x16_1_1_0_0_n_n none
    (concatenate S64x256 0 [⟨S16x256, select (cmpi .eq L (broadcast S16x256 0#32)) Q (broadcast S16x256 (Scalar.ofBits .bf16 0x0000#16))⟩,
      ⟨S16x256, select (cmpi .eq L (broadcast S16x256 1#32)) Q (broadcast S16x256 (Scalar.ofBits .bf16 0x0000#16))⟩,
      ⟨S16x256, select (cmpi .eq L (broadcast S16x256 2#32)) Q (broadcast S16x256 (Scalar.ofBits .bf16 0x0000#16))⟩,
      ⟨S16x256, select (cmpi .eq L (broadcast S16x256 3#32)) Q (broadcast S16x256 (Scalar.ofBits .bf16 0x0000#16))⟩]
      concatenates_S16x256_S16x256_S16x256_S16x256_S64x256_d0) K (constant S64x16 .f32 0x00000000#32)

theorem select_head (g i : Fin 4) (x y : EReal) :
    Scalar.select (IntOp.cmpi .eq (BitVec.ofNat 32 g.val) (BitVec.ofNat 32 i.val)) x y = if g = i then x else y := by
  rw [lane_is, Scalar.select_ofBool]
  by_cases e : g = i <;> simp [e]

theorem scores_at (L : IVec S16x256 32) (hL : ∀ t j, L (ix2 t j) = BitVec.ofNat 32 (j.val / 64))
    (Q K : FVec Ideal S16x256 .bf16) (h : Fin 4) (t s : Fin 16) :
    stackedScores L Q K (ix2 (row h t) s) = score h (fun j => Q (ix2 t j)) (fun j => K (ix2 s j)) := by
  have e : ∀ (j : Fin 256) (i : Fin 4), (if headOf j = i then Q (ix2 t j) else (0 : EReal))
      = Scalar.select (IntOp.cmpi .eq (L (ix2 t j)) (BitVec.ofNat 32 i.val)) (Q (ix2 t j)) 0 := fun j i => by
    rw [hL]
    exact (select_head (headOf j) i _ _).symm
  unfold score
  simp only [e]
  unfold stackedScores row
  fin_cases h
  · pointwise
  · pointwise
  · have e2 : (⟨32 + t.val - 16 - 16, by omega⟩ : Fin 16) = t := Fin.ext (by show 32 + t.val - 16 - 16 = t.val; omega)
    pointwise
    refine Finset.sum_congr rfl fun x _ => ?_
    rw [dif_neg (by omega), dif_neg (by omega), dif_pos (by omega), e2]
    pointwise
  · have e2 : (⟨48 + t.val - 16 - 16 - 16, by omega⟩ : Fin 16) = t := Fin.ext (by show 48 + t.val - 16 - 16 - 16 = t.val; omega)
    pointwise
    refine Finset.sum_congr rfl fun x _ => ?_
    rw [dif_neg (by omega), dif_neg (by omega), dif_neg (by omega), e2]
    pointwise

/-- The rows of a level. -/
def levelRows (n : Fin 4) (E : FVec Ideal S64x256 .f32) : FVec Ideal S16x256 .f32 := fun i => E (ix2 (row n (i 0)) (i 1))

variable (L : IVec S16x256 32) (q k : FVec Ideal S16x256 .f32) (E G : FVec Ideal S64x256 .f32)

/-- The scores with a level's decays. -/
def levelScores (n : Fin 4) : FVec Ideal S64x16 .f32 :=
  stackedScores L (fun i => q i * levelRows n E i) (fun i => k i * levelRows n G i)

theorem slice_0 (E : FVec Ideal S64x256 .f32) : extractStridedSlice S16x256 ![0, 0] E slices_S64x256_o0_0_S16x256 = levelRows 0 E := by
  funext i
  obtain ⟨t, j, rfl⟩ : ∃ t j, i = ix2 t j := ⟨i 0, i 1, by blk_ext⟩
  pointwise [levelRows, row]
theorem slice_1 (E : FVec Ideal S64x256 .f32) : extractStridedSlice S16x256 ![16, 0] E slices_S64x256_o16_0_S16x256 = levelRows 1 E := by
  funext i
  obtain ⟨t, j, rfl⟩ : ∃ t j, i = ix2 t j := ⟨i 0, i 1, by blk_ext⟩
  pointwise [levelRows, row]
theorem slice_2 (E : FVec Ideal S64x256 .f32) : extractStridedSlice S16x256 ![32, 0] E slices_S64x256_o32_0_S16x256 = levelRows 2 E := by
  funext i
  obtain ⟨t, j, rfl⟩ : ∃ t j, i = ix2 t j := ⟨i 0, i 1, by blk_ext⟩
  pointwise [levelRows, row]
theorem slice_3 (E : FVec Ideal S64x256 .f32) : extractStridedSlice S16x256 ![48, 0] E slices_S64x256_o48_0_S16x256 = levelRows 3 E := by
  funext i
  obtain ⟨t, j, rfl⟩ : ∃ t j, i = ix2 t j := ⟨i 0, i 1, by blk_ext⟩
  pointwise [levelRows, row]

theorem diag_eq : k0_pay22 (F := Ideal) L q k = stackedScores L (fun i => q i) (fun i => k i) := rfl

/-- A level's entries put over the entries so far. -/
def over (n : BitVec 32) (lv : IVec S64x16 32) (x y : FVec Ideal S64x16 .f32) : FVec Ideal S64x16 .f32 :=
  fun i => Scalar.select (IntOp.cmpi .eq (lv i) n) (x i) (y i)

theorem below_eq (lv : IVec S64x16 32) (D : FVec Ideal S64x16 .f32) :
    k0_pay28 (F := Ideal) L lv q k E G D (k0_pay24 L q E) (k0_pay25 L q E) (k0_pay26 L q E) (k0_pay27 L q E)
      = over 1#32 lv (levelScores L q k E G 1) (over 0#32 lv (levelScores L q k E G 0) D) := by
  unfold levelScores
  rw [← slice_0, ← slice_1, ← slice_0, ← slice_1]
  rfl

theorem second_eq (lv : IVec S64x16 32) (D : FVec Ideal S64x16 .f32) :
    k0_pay32 (F := Ideal) L lv k G D (k0_pay29 q E) (k0_pay30 L q E) (k0_pay31 L) (Scalar.ofBits .bf16 0x0000#16)
      = over 2#32 lv (levelScores L q k E G 2) D := by
  unfold levelScores
  rw [← slice_2, ← slice_2]
  rfl

theorem third_eq : k0_pay33 (F := Ideal) L q k E G = levelScores L q k E G 3 := by
  unfold levelScores
  rw [← slice_3, ← slice_3]
  rfl

end Cert.Proof.Gla

end
-- ==== Proof.Gla.Payload.lean ====
/- What the body of the gated recurrence's call computes from its blocks, at coordinates: the chunk's results and the state
   after it. -/
module

public import proofs.«01_k».proof.Proof.Gla.Levels

@[expose] public section

set_option maxRecDepth 16384
set_option maxHeartbeats 3000000

noncomputable section

namespace Cert.Proof.Gla

open Cert.Kernel5Ideal Cert.Kernel5Ideal.Gen
open Idealize.ShloMosaic Idealize.ShloMosaic.TcCoe
open Cert.Proof.InProj (IsReal)

/-- A lane's place in its head. -/
def within (j : Fin 256) : Fin 64 := ⟨j.val % 64, Nat.mod_lt _ (by decide)⟩

theorem lane_of (j : Fin 256) : lane (headOf j) (within j) = j := by
  apply Fin.ext
  show j.val / 64 * 64 + j.val % 64 = j.val
  omega

theorem within_lane (h : Fin 4) (d : Fin 64) : within (lane h d) = d := by
  apply Fin.ext
  show (h.val * 64 + d.val) % 64 = d.val
  omega

/-! ## Decays -/

section Decays

variable (A : Vec Ideal S1x16x256 .f32) (a : Fin 256 → Fin 16 → ℝ) (hA : ∀ u j, A (ix3 0 u j) = ((a j u : ℝ) : EReal))
include hA

theorem cum_pay (low : Vec Ideal S16x16 .bf16) (hlow : ∀ t u, low (ix2 t u) = if upto t u = true then (1 : EReal) else 0)
    (t : Fin 16) (j : Fin 256) : k0_pay14 (F := Ideal) low A (ix2 t j) = ((cum (a j) t : ℝ) : EReal) := by
  rw [← taken_upto, ← taken_eq]
  simp only [← hlow, ← hA]
  pointwise [k0_pay14, k0_pay13]

theorem last_pay (low : Vec Ideal S16x16 .bf16) (hlow : ∀ t u, low (ix2 t u) = if upto t u = true then (1 : EReal) else 0)
    (j : Fin 256) : k0_pay15 (F := Ideal) low A (ix2 0 j) = ((cum (a j) 15 : ℝ) : EReal) := by
  rw [← cum_pay A a hA low hlow]
  unfold k0_pay15
  generalize k0_pay14 (F := Ideal) low A = B
  pointwise

theorem query_pay (dq : Vec Ideal S64x16 .bf16) (hdq : ∀ r u, dq (ix2 r u) = if queryRow r u = true then (1 : EReal) else 0)
    (r : Fin 64) (j : Fin 256) :
    k0_pay17 (F := Ideal) dq A (ix2 r j) = ((Real.exp (taken (queryRow r) (a j)) : ℝ) : EReal) := by
  rw [← exp_coe, ← taken_eq]
  simp only [← hdq, ← hA]
  pointwise [k0_pay17, k0_pay13]

theorem key_pay (dk : Vec Ideal S64x16 .bf16) (hdk : ∀ r u, dk (ix2 r u) = if keyRow r u = true then (1 : EReal) else 0)
    (r : Fin 64) (j : Fin 256) :
    k0_pay21 (F := Ideal) dk (k0_pay19 A) (k0_pay20 dk A) (ix2 r j) = ((Real.exp (taken (keyRow r) (a j)) : ℝ) : EReal) := by
  rw [← exp_coe, ← taken_eq]
  simp only [← hdk, ← hA]
  pointwise [k0_pay21, k0_pay20, k0_pay19, k0_pay18, k0_pay13]

end Decays

/-! ## Weights -/

theorem score_lanes (h : Fin 4) (q k : Fin 256 → EReal) : score h q k = ∑ d, q (lane h d) * k (lane h d) := by
  unfold score
  rw [← head_sum h fun j => q j * k j]
  refine Finset.sum_congr rfl fun j _ => ?_
  by_cases e : headOf j = h
  · rw [if_pos e, if_pos e]
  · rw [if_neg e, if_neg e, zero_mul]

theorem cmpi_eq (x y : BitVec 32) : IntOp.cmpi .eq x y = BitVec.ofBool (x == y) := rfl

theorem cmpi_slt (x y : BitVec 32) : IntOp.cmpi .slt x y = BitVec.ofBool (x.slt y) := rfl

theorem ofNat_beq : ∀ n i : Fin 4, (BitVec.ofNat 32 n.val == BitVec.ofNat 32 i.val) = decide (n = i) := by decide +kernel

/-- The four levels over the diagonal. -/
def levelled (lv : BitVec 32) (D : EReal) (W : Fin 4 → EReal) : EReal :=
  Scalar.select (IntOp.cmpi .eq lv 3#32) (W 3) (Scalar.select (IntOp.cmpi .eq lv 2#32) (W 2)
    (Scalar.select (IntOp.cmpi .eq lv 1#32) (W 1) (Scalar.select (IntOp.cmpi .eq lv 0#32) (W 0) D)))

theorem levelled_bool (lv : BitVec 32) (D : EReal) (W : Fin 4 → EReal) :
    levelled lv D W = if (lv == BitVec.ofNat 32 (3 : Fin 4).val) = true then W 3 else if (lv == BitVec.ofNat 32 (2 : Fin 4).val) = true then W 2
      else if (lv == BitVec.ofNat 32 (1 : Fin 4).val) = true then W 1 else if (lv == BitVec.ofNat 32 (0 : Fin 4).val) = true then W 0 else D := by
  unfold levelled
  rw [cmpi_eq, cmpi_eq, cmpi_eq, cmpi_eq, Scalar.select_ofBool, Scalar.select_ofBool, Scalar.select_ofBool, Scalar.select_ofBool]
  rfl

theorem levelled_at (n : Fin 4) (D : EReal) (W : Fin 4 → EReal) : levelled (BitVec.ofNat 32 n.val) D W = W n := by
  rw [levelled_bool, ofNat_beq, ofNat_beq, ofNat_beq, ofNat_beq]
  match n with
  | 0 => rfl
  | 1 => rfl
  | 2 => rfl
  | 3 => rfl

theorem levelled_none (lv : BitVec 32) (h : ∀ n : Fin 4, (lv == BitVec.ofNat 32 n.val) = false) (D : EReal) (W : Fin 4 → EReal) :
    levelled lv D W = D := by
  rw [levelled_bool, h, h, h, h]
  rfl

section Weights

variable (q k : FVec Ideal S16x256 .f32) (E G : FVec Ideal S64x256 .f32) (a : Fin 256 → Fin 16 → ℝ)
  (hE : ∀ r j, E (ix2 r j) = ((Real.exp (taken (queryRow r) (a j)) : ℝ) : EReal))
  (hG : ∀ r j, G (ix2 r j) = ((Real.exp (taken (keyRow r) (a j)) : ℝ) : EReal))
include hE hG

theorem levelScores_at (n h : Fin 4) (t s : Fin 16) (e : level (row h t) s = BitVec.ofNat 32 n.val) :
    levelScores k0_pay5 q k E G n (ix2 (row h t) s)
      = ∑ d, (q (ix2 t (lane h d)) : EReal) * ((Real.exp (cum (a (lane h d)) t - cum (a (lane h d)) s) : ℝ) : EReal) * k (ix2 s (lane h d)) := by
  unfold levelScores
  rw [scores_at _ lanes_at, score_lanes]
  refine Finset.sum_congr rfl fun d _ => ?_
  rw [← level_decay h n t s e, EReal.coe_mul, ← hE, ← hG]
  show (q (ix2 t (lane h d)) : EReal) * E (ix2 (row n t) (lane h d)) * ((k (ix2 s (lane h d)) : EReal) * G (ix2 (row n s) (lane h d))) = _
  generalize (q (ix2 t (lane h d)) : EReal) = x
  generalize (k (ix2 s (lane h d)) : EReal) = y
  generalize (E (ix2 (row n t) (lane h d)) : EReal) = z
  generalize (G (ix2 (row n s) (lane h d)) : EReal) = w
  rw [mul_comm y w, ← mul_assoc, mul_assoc x z w]

/-- The weights, the entries above the diagonal put to zero. -/
theorem att_at (h : Fin 4) (t s : Fin 16) :
    Scalar.select (IntOp.cmpi .slt (level (row h t) s) 0#32) 0 (levelled (level (row h t) s)
        (stackedScores k0_pay5 (fun i => q i) (fun i => k i) (ix2 (row h t) s)) fun n => levelScores k0_pay5 q k E G n (ix2 (row h t) s))
      = att (fun t j => q (ix2 t j)) (fun t j => k (ix2 t j)) a h t s := by
  rw [cmpi_slt, level_above, Scalar.select_ofBool]
  unfold att
  rcases lt_trichotomy t s with c | rfl | c
  · rw [decide_eq_true c, if_neg (not_le.mpr c)]
    rfl
  · rw [decide_eq_false (lt_irrefl t), if_pos (le_refl t), levelled_none _ fun n => level_diag h n t, scores_at _ lanes_at, score_lanes]
    refine Finset.sum_congr rfl fun d _ => ?_
    rw [sub_self, Real.exp_zero, EReal.coe_one, mul_one]
  · obtain ⟨n, e⟩ := level_below h t s c
    rw [decide_eq_false (not_lt.mpr c.le), if_pos c.le, e, levelled_at, levelScores_at q k E G a hE hG n h t s e]
    rfl

end Weights

/-! ## The chunk's results -/

/-- The weighted values, all heads' rows one below the other. -/
def weighted (lv : Vec Ideal S64x16 .i32) (v : FVec Ideal S16x256 .f32) (X : FVec Ideal S64x16 .f32) : FVec Ideal S64x256 .f32 :=
  matmul dot_S64x16_S16x256_S64x256_1_0_0_1_n_n none
    (truncf .bf16 (select (cmpi .slt lv (broadcast S64x16 0#32)) (broadcast S64x16 (Scalar.ofBits .f32 0x00000000#32)) X) bitsLt_bf16_f32 : FVec Ideal S64x16 .bf16)
    (truncf .bf16 v bitsLt_bf16_f32 : FVec Ideal S16x256 .bf16) (constant S64x256 .f32 0x00000000#32)

theorem weighted_at (lv : Vec Ideal S64x16 .i32) (v : FVec Ideal S16x256 .f32) (X : FVec Ideal S64x16 .f32) (r : Fin 64) (j : Fin 256) :
    weighted lv v X (ix2 r j) = ∑ s : Fin 16, (Scalar.select (IntOp.cmpi .slt (lv (ix2 r s)) 0#32) 0 (X (ix2 r s)) : EReal) * v (ix2 s j) := by
  unfold weighted
  pointwise

theorem pick_head (g : Fin 4) (x : EReal) (f : Fin 4 → EReal) :
    x + Scalar.select (IntOp.cmpi .eq (BitVec.ofNat 32 g.val) 0#32) (f 0) 0 + Scalar.select (IntOp.cmpi .eq (BitVec.ofNat 32 g.val) 1#32) (f 1) 0
      + Scalar.select (IntOp.cmpi .eq (BitVec.ofNat 32 g.val) 2#32) (f 2) 0 + Scalar.select (IntOp.cmpi .eq (BitVec.ofNat 32 g.val) 3#32) (f 3) 0
      = x + f g := by
  rw [show (3#32) = BitVec.ofNat 32 (3 : Fin 4).val from rfl, show (2#32) = BitVec.ofNat 32 (2 : Fin 4).val from rfl,
    show (1#32) = BitVec.ofNat 32 (1 : Fin 4).val from rfl, show (0#32) = BitVec.ofNat 32 (0 : Fin 4).val from rfl,
    select_head, select_head, select_head, select_head]
  match g with
  | 0 => simp
  | 1 => simp
  | 2 => simp
  | 3 => simp

theorem combine_at (lv : Vec Ideal S64x16 .i32) (v I : FVec Ideal S16x256 .f32) (X W : FVec Ideal S64x16 .f32) (t : Fin 16) (j : Fin 256) :
    k0_pay35 (F := Ideal) k0_pay5 lv v I X W (k0_pay34 (F := Ideal) lv) (ix2 t j)
      = I (ix2 t j) + weighted lv v (over 3#32 lv W X) (ix2 (row (headOf j) t) j) := by
  have e : k0_pay35 (F := Ideal) k0_pay5 lv v I X W (k0_pay34 (F := Ideal) lv)
      = addf (addf (addf (addf I (select (cmpi .eq k0_pay5 (broadcast S16x256 0#32)) (levelRows 0 (weighted lv v (over 3#32 lv W X))) (broadcast S16x256 (Scalar.ofBits .f32 0x00000000#32))))
        (select (cmpi .eq k0_pay5 (broadcast S16x256 1#32)) (levelRows 1 (weighted lv v (over 3#32 lv W X))) (broadcast S16x256 (Scalar.ofBits .f32 0x00000000#32))))
        (select (cmpi .eq k0_pay5 (broadcast S16x256 2#32)) (levelRows 2 (weighted lv v (over 3#32 lv W X))) (broadcast S16x256 (Scalar.ofBits .f32 0x00000000#32))))
        (select (cmpi .eq k0_pay5 (broadcast S16x256 3#32)) (levelRows 3 (weighted lv v (over 3#32 lv W X))) (broadcast S16x256 (Scalar.ofBits .f32 0x00000000#32))) := by
    rw [← slice_0, ← slice_1, ← slice_2, ← slice_3]
    rfl
  rw [e]
  have l := lanes_at t j
  generalize k0_pay5 = L at l ⊢
  generalize weighted lv v (over 3#32 lv W X) = PV
  rw [← pick_head (headOf j) _ fun g => PV (ix2 (row g t) j)]
  unfold headOf
  rw [← l]
  pointwise [levelRows]

theorem inter_at (low : Vec Ideal S16x16 .bf16) (Q A : Vec Ideal S1x16x256 .f32) (St : Vec Ideal S256x256 .f32) (t : Fin 16) (j : Fin 256) :
    k0_pay16 (F := Ideal) low Q A St (ix2 t j)
      = ∑ l : Fin 256, (Q (ix3 0 t l) : EReal) * Ideal.exp (k0_pay14 (F := Ideal) low A (ix2 t l)) * St (ix2 j l) := by
  unfold k0_pay16
  generalize k0_pay14 (F := Ideal) low A = B
  pointwise [k0_pay10]

/-- The state as the call keeps it: heads on the diagonal, values by keys. -/
def packed (S : Fin 4 → Fin 64 → Fin 64 → EReal) (i j : Fin 256) : EReal :=
  if headOf i = headOf j then S (headOf i) (within j) (within i) else 0

/-- A row of the chunk's results, before its norm. -/
theorem mixed_pay (low : Vec Ideal S16x16 .bf16) (hlow : ∀ t u, low (ix2 t u) = if upto t u = true then (1 : EReal) else 0)
    (dq : Vec Ideal S64x16 .bf16) (hdq : ∀ r u, dq (ix2 r u) = if queryRow r u = true then (1 : EReal) else 0)
    (dk : Vec Ideal S64x16 .bf16) (hdk : ∀ r u, dk (ix2 r u) = if keyRow r u = true then (1 : EReal) else 0)
    (lv : Vec Ideal S64x16 .i32) (hlv : ∀ r s, lv (ix2 r s) = level r s)
    (A : Vec Ideal S1x16x256 .f32) (a : Fin 256 → Fin 16 → ℝ) (hA : ∀ u j, A (ix3 0 u j) = ((a j u : ℝ) : EReal))
    (Q : Vec Ideal S1x16x256 .f32) (q k v : FVec Ideal S16x256 .f32) (hQ : ∀ t j, Q (ix3 0 t j) = q (ix2 t j))
    (St : Vec Ideal S256x256 .f32) (S : Fin 4 → Fin 64 → Fin 64 → EReal) (hS : ∀ i j, St (ix2 i j) = packed S i j)
    (t : Fin 16) (j : Fin 256) :
    k0_pay35 (F := Ideal) k0_pay5 lv v (k0_pay16 low Q A St)
        (over 2#32 lv (levelScores k0_pay5 q k (k0_pay17 dq A) (k0_pay21 dk (k0_pay19 A) (k0_pay20 dk A)) 2)
          (over 1#32 lv (levelScores k0_pay5 q k (k0_pay17 dq A) (k0_pay21 dk (k0_pay19 A) (k0_pay20 dk A)) 1)
            (over 0#32 lv (levelScores k0_pay5 q k (k0_pay17 dq A) (k0_pay21 dk (k0_pay19 A) (k0_pay20 dk A)) 0)
              (stackedScores k0_pay5 (fun i => q i) (fun i => k i)))))
        (levelScores k0_pay5 q k (k0_pay17 dq A) (k0_pay21 dk (k0_pay19 A) (k0_pay20 dk A)) 3) (k0_pay34 (F := Ideal) lv) (ix2 t j)
      = mixed (fun t j => q (ix2 t j)) (fun t j => k (ix2 t j)) (fun t j => v (ix2 t j)) a S t (headOf j) (within j) := by
  have hE := query_pay A a hA dq hdq
  have hG := key_pay A a hA dk hdk
  generalize k0_pay17 (F := Ideal) dq A = E at hE ⊢
  generalize k0_pay21 (F := Ideal) dk (k0_pay19 A) (k0_pay20 dk A) = G at hG ⊢
  rw [combine_at, inter_at, weighted_at]
  unfold mixed
  refine congrArg₂ (· + ·) ?_ (Finset.sum_congr rfl fun s _ => ?_)
  · have f := head_sum (headOf j) fun l => (q (ix2 t l) : EReal) * ((Real.exp (cum (a l) t) : ℝ) : EReal) * S (headOf j) (within l) (within j)
    simp only [within_lane] at f
    refine Eq.trans ?_ f
    refine Finset.sum_congr rfl fun l _ => ?_
    rw [cum_pay A a hA low hlow, exp_coe, hQ, hS]
    unfold packed
    by_cases e : headOf l = headOf j
    · rw [if_pos e, if_pos e.symm]
    · rw [if_neg e, if_neg (Ne.symm e), mul_zero]
  · rw [← att_at q k E G a hE hG, lane_of, hlv]
    simp only [over, levelled, hlv]

/-! ## The state -/

/-- The entries of the state that belong to a head. -/
abbrev own : IVec S256x256 1 :=
  k0_pay8 (iota .tc S256x256 32 [0] iota_S256x256_d0_w32) 64#32 k0_pay6 k0_pay7
    (Scalar.subi (Scalar.extui (Scalar.cmpi .sgt 64#32 0#32)) (Scalar.extui (Scalar.cmpi .slt 64#32 0#32)))

theorem own_at (i j : Fin 256) : own (ix2 i j) = BitVec.ofBool (decide (headOf i = headOf j)) := by
  have e : own (ix2 i j) = IntOp.cmpi .eq (k0_pay5 (ix2 0 i)) (k0_pay5 (ix2 0 j)) := by
    unfold own k0_pay8 k0_pay6 k0_pay7 k0_pay5
    pointwise
  rw [e, lanes_at, lanes_at]
  exact lane_is (headOf i) (headOf j)

theorem state_pay (low : Vec Ideal S16x16 .bf16) (hlow : ∀ t u, low (ix2 t u) = if upto t u = true then (1 : EReal) else 0)
    (A : Vec Ideal S1x16x256 .f32) (a : Fin 256 → Fin 16 → ℝ) (hA : ∀ u j, A (ix3 0 u j) = ((a j u : ℝ) : EReal))
    (k v : FVec Ideal S16x256 .f32)
    (St : Vec Ideal S256x256 .f32) (S : Fin 4 → Fin 64 → Fin 64 → EReal) (hS : ∀ i j, St (ix2 i j) = packed S i j)
    (i j : Fin 256) :
    k0_pay36 (F := Ideal) own k v (k0_pay14 low A) (k0_pay15 low A) St (ix2 i j)
      = packed (after (fun t j => k (ix2 t j)) (fun t j => v (ix2 t j)) a S) i j := by
  have hB := cum_pay A a hA low hlow
  have hl := last_pay A a hA low hlow
  have ho := own_at i j
  generalize own = O at ho ⊢
  generalize k0_pay14 (F := Ideal) low A = B at hB ⊢
  generalize k0_pay15 (F := Ideal) low A = Bl at hl ⊢
  have e : k0_pay36 (F := Ideal) O k v B Bl St (ix2 i j) = St (ix2 i j) * Ideal.exp (Bl (ix2 0 j))
      + Scalar.select (O (ix2 i j)) (∑ s : Fin 16, (v (ix2 s i) : EReal) * (k (ix2 s j) * Ideal.exp (Bl (ix2 0 j) - B (ix2 s j)))) 0 := by
    pointwise [k0_pay36]
  rw [e, ho, Scalar.select_ofBool, hS, hl]
  unfold packed after
  by_cases c : headOf i = headOf j
  · rw [if_pos c, if_pos c, decide_eq_true c, exp_coe, c, lane_of, ← c, lane_of]
    refine congrArg₂ (· + ·) rfl (Finset.sum_congr rfl fun s _ => ?_)
    rw [hB, ← EReal.coe_sub, exp_coe, mul_comm]
  · rw [if_neg c, if_neg c, decide_eq_false c, zero_mul]
    exact zero_add _

/-! ## The output -/

theorem out_pay (D : Vec Ideal S256x256 .bf16) (hD : ∀ l j : Fin 256, D (ix2 l j) = if headOf l = headOf j then (1 : EReal) else 0)
    (O : FVec Ideal S16x256 .f32) (g : Vec Ideal S1x256 .f32) (gs : Vec Ideal S1x16x256 .f32) (t : Fin 16) (hO : ∀ j, IsReal (O (ix2 t j)))
    (j : Fin 256) :
    k0_pay2 (F := Ideal) D O g gs (ix3 0 t j) = O (ix2 t j) * Ideal.rsqrt (Ideal.div (∑ d, O (ix2 t (lane (headOf j) d)) * O (ix2 t (lane (headOf j) d)))
      (Ideal.ofBits .f32 0x42800000#32) + Ideal.ofBits .f32 0x358637BD#32) * g (ix2 0 j) * gs (ix3 0 t j) := by
  have e := Cert.Proof.InProj.split_sum (fun k => O (ix2 t k) * O (ix2 t k)) (fun k => D (ix2 k j)) fun k => (hO k).mul (hO k)
  rw [Cert.Proof.InProj.div_64, ← head_sum (headOf j) fun l => O (ix2 t l) * O (ix2 t l)]
  have f : (∑ l, if headOf l = headOf j then (O (ix2 t l) * O (ix2 t l) : EReal) else 0) = ∑ l, (O (ix2 t l) * O (ix2 t l) : EReal) * D (ix2 l j) := by
    refine Finset.sum_congr rfl fun l _ => ?_
    rw [hD]
    by_cases c : headOf l = headOf j
    · rw [if_pos c, if_pos c, mul_one]
    · rw [if_neg c, if_neg c, mul_zero]
  rw [f, ← e]
  pointwise [k0_pay2]

end Cert.Proof.Gla

end
-- ==== Proof.Gla.Operands.lean ====
/- The blocks of a grid point of the gated recurrence's call, at coordinates, as entries of its arguments. -/
module

public import proofs.«01_k».proof.Proof.Gen.Kernel5Ideal.Value
public import proofs.«01_k».proof.Proof.Gla.Payload

@[expose] public section

set_option maxRecDepth 16384
set_option maxHeartbeats 3000000

noncomputable section

namespace Cert.Proof.Gla

open Cert.Kernel5Ideal Cert.Kernel5Ideal.Gen
open Idealize.ShloMosaic Idealize.ShloMosaic.TcCoe Idealize.SL.Sem

variable (m : (ℓ : Loc nD τ sig) → Buf (Elt Ideal) ℓ) (c : Dev nD) (t : Fin cfg0.N)

theorem idx : ∀ t : Fin cfg0.N, win0_0.index t = ![t.val, 0, 0] ∧ win0_1.index t = ![t.val, 0, 0] ∧ win0_2.index t = ![t.val, 0, 0]
    ∧ win0_3.index t = ![t.val, 0, 0] ∧ win0_4.index t = ![t.val, 0, 0] ∧ win0_5.index t = ![t.val, 0, 0] ∧ win0_6.index t = ![0, 0]
    ∧ win0_7.index t = ![0, 0] ∧ win0_8.index t = ![0, 0] ∧ win0_9.index t = ![0, 0] ∧ win0_10.index t = ![0, 0]
    ∧ win0_11.index t = ![0, 0] ∧ win0_12.index t = ![t.val, 0, 0] ∧ win0_13.index t = ![t.val, 0, 0] :=
  (by decide +kernel : ∀ t : Fin grid0.N, _)

/-- The sequence of a grid point. -/
def seqOf (t : Fin cfg0.N) : Fin 32 := ⟨t.val, t.isLt⟩

theorem q_at (p : Fin 16) (j : Fin 256) : (iblk m c 0 t (ix3 0 p j) : EReal) = m (c.tc.loc main_arg0) (ix3 (seqOf t) p j) := by
  blk_point [iblk, V, idx t, seqOf]
theorem k_at (p : Fin 16) (j : Fin 256) : (iblk m c 1 t (ix3 0 p j) : EReal) = m (c.tc.loc main_arg1) (ix3 (seqOf t) p j) := by
  blk_point [iblk, V, idx t, seqOf]
theorem v_at (p : Fin 16) (j : Fin 256) : (iblk m c 2 t (ix3 0 p j) : EReal) = m (c.tc.loc main_arg2) (ix3 (seqOf t) p j) := by
  blk_point [iblk, V, idx t, seqOf]
theorem a_at (p : Fin 16) (j : Fin 256) : (iblk m c 3 t (ix3 0 p j) : EReal) = m (c.tc.loc main_arg3) (ix3 (seqOf t) p j) := by
  blk_point [iblk, V, idx t, seqOf]
theorem gate_at (p : Fin 16) (j : Fin 256) : (iblk m c 4 t (ix3 0 p j) : EReal) = m (c.tc.loc main_arg4) (ix3 (seqOf t) p j) := by
  blk_point [iblk, V, idx t, seqOf]

theorem state_at (i j : Fin 256) : (iblk m c 5 t (ix3 0 i j) : EReal)
    = packed (fun h d e => m (c.tc.loc main_arg5) (ix4 (seqOf t) h d e)) i j := by
  have h : (iblk m c 5 t (ix3 0 i j) : EReal) = V m c main_v6 (ix3 (seqOf t) i j) := by
    unfold iblk
    generalize V m c = W
    exact congrArg (W main_v6) (by blk_ext [idx t, seqOf] <;> simp <;> try omega)
  refine h.trans ?_
  unfold V
  simp only [hostOps0, hostOps0_1, hostOps0_2, hostOps0_3, hostOps0_4,
    List.flatten_cons, List.flatten_nil, List.append_nil, List.cons_append, List.nil_append]
  entry_read
  try simp -implicitDefEqProofs only [StableHlo.TRef.toBuf, StableHlo.TRef.ofBuf, cast_cast, cast_eq]
  pointwise
  exact select_head (headOf i) (headOf j) _ _

theorem gain_at (j : Fin 256) : (iblk m c 11 t (ix2 0 j) : EReal) = m (c.tc.loc main_arg6) (ix1 (within j)) := by
  have h : (iblk m c 11 t (ix2 0 j) : EReal) = V m c main_v10 (ix2 0 j) := by
    unfold iblk
    generalize V m c = W
    exact congrArg (W main_v10) (by blk_ext [idx t] <;> simp <;> try omega)
  refine h.trans ?_
  unfold V
  simp only [hostOps0, hostOps0_1, hostOps0_2, hostOps0_3, hostOps0_4,
    List.flatten_cons, List.flatten_nil, List.append_nil, List.cons_append, List.nil_append]
  entry_read
  pointwise
  rfl

theorem group_at (l j : Fin 256) : (iblk m c 10 t (ix2 l j) : EReal) = if headOf l = headOf j then (1 : EReal) else 0 := by
  have h : (iblk m c 10 t (ix2 l j) : EReal) = V m c main_v19 (ix2 l j) := by
    unfold iblk
    generalize V m c = W
    exact congrArg (W main_v19) (by blk_ext [idx t] <;> simp <;> try omega)
  refine h.trans ?_
  unfold V
  simp only [hostOps0, hostOps0_1, hostOps0_2, hostOps0_3, hostOps0_4,
    List.flatten_cons, List.flatten_nil, List.append_nil, List.cons_append, List.nil_append]
  entry_read
  try simp -implicitDefEqProofs only [StableHlo.TRef.toBuf, StableHlo.TRef.ofBuf, cast_cast, cast_eq]
  pointwise
  exact select_head (headOf l) (headOf j) _ _

theorem place_16' : ∀ p u : Fin 16, (S16x16.rowMajor (ix2 p u)).val = p.val * 16 + u.val := by decide +kernel

theorem place_64' : ∀ (p : Fin 64) (u : Fin 16), (S64x16.rowMajor (ix2 p u)).val = p.val * 16 + u.val := by decide +kernel

theorem place_16 (p u : Fin 16) : S16x16.rowMajor (ix2 p u) = (⟨p.val * 16 + u.val, by omega⟩ : Fin 256) := Fin.ext (place_16' p u)

theorem place_64 (p : Fin 64) (u : Fin 16) : S64x16.rowMajor (ix2 p u) = (⟨p.val * 16 + u.val, by omega⟩ : Fin 1024) := Fin.ext (place_64' p u)

theorem low_at (p : Fin 16) (u : Fin 16) : (iblk m c 6 t (ix2 p u) : EReal) = if upto p u = true then (1 : EReal) else 0 := by
  have h : (iblk m c 6 t (ix2 p u) : EReal) = V m c main_cst (ix2 p u) := by
    unfold iblk
    generalize V m c = W
    exact congrArg (W main_cst) (by blk_ext [idx t] <;> simp <;> try omega)
  refine h.trans ?_
  unfold V
  simp only [hostOps0, hostOps0_1, hostOps0_2, hostOps0_3, hostOps0_4,
    List.flatten_cons, List.flatten_nil, List.append_nil, List.cons_append, List.nil_append]
  entry_read
  rw [place_16]
  exact bf16_bit _ (lit1_bit _)

theorem query_at (p : Fin 64) (u : Fin 16) : (iblk m c 7 t (ix2 p u) : EReal) = if queryRow p u = true then (1 : EReal) else 0 := by
  have h : (iblk m c 7 t (ix2 p u) : EReal) = V m c main_cst_0 (ix2 p u) := by
    unfold iblk
    generalize V m c = W
    exact congrArg (W main_cst_0) (by blk_ext [idx t] <;> simp <;> try omega)
  refine h.trans ?_
  unfold V
  simp only [hostOps0, hostOps0_1, hostOps0_2, hostOps0_3, hostOps0_4,
    List.flatten_cons, List.flatten_nil, List.append_nil, List.cons_append, List.nil_append]
  entry_read
  rw [place_64]
  exact bf16_bit _ (lit2_bit _)

theorem key_at (p : Fin 64) (u : Fin 16) : (iblk m c 8 t (ix2 p u) : EReal) = if keyRow p u = true then (1 : EReal) else 0 := by
  have h : (iblk m c 8 t (ix2 p u) : EReal) = V m c main_cst_1 (ix2 p u) := by
    unfold iblk
    generalize V m c = W
    exact congrArg (W main_cst_1) (by blk_ext [idx t] <;> simp <;> try omega)
  refine h.trans ?_
  unfold V
  simp only [hostOps0, hostOps0_1, hostOps0_2, hostOps0_3, hostOps0_4,
    List.flatten_cons, List.flatten_nil, List.append_nil, List.cons_append, List.nil_append]
  entry_read
  rw [place_64]
  exact bf16_bit _ (lit3_bit _)

theorem level_at (p : Fin 64) (u : Fin 16) : (iblk m c 9 t (ix2 p u) : BitVec 32) = level p u := by
  have h : (iblk m c 9 t (ix2 p u) : BitVec 32) = V m c main_c (ix2 p u) := by
    unfold iblk
    generalize V m c = W
    exact congrArg (W main_c) (by blk_ext [idx t] <;> simp <;> try omega)
  refine h.trans ?_
  unfold V
  simp only [hostOps0, hostOps0_1, hostOps0_2, hostOps0_3, hostOps0_4,
    List.flatten_cons, List.flatten_nil, List.append_nil, List.cons_append, List.nil_append]
  entry_read
  exact congrArg lit0 (place_64 p u)

end Cert.Proof.Gla

end
-- ==== Proof.Gla.Reference.lean ====
/- The reference of the gated recurrence over one chunk, at coordinates. -/
module

public import proofs.«01_k».proof.Proof.Gen.Reference5Ideal.Run
public import proofs.«01_k».proof.Proof.Attn.Reference
public import proofs.«01_k».proof.Proof.Gla.Payload

@[expose] public section

set_option maxRecDepth 16384
set_option maxHeartbeats 3000000

noncomputable section

namespace Cert.Proof.Gla

open Cert.Reference5Ideal Cert.Reference5Ideal.Gen
open Idealize.ShloMosaic Idealize.ShloMosaic.TcCoe Idealize.SL.Sem
open Cert.Proof.InProj (IsReal)

/-- The log decays up to each row. -/
def running (A : FVec Ideal S32x16x256 .f32) : FVec Ideal S32x16x4x64 .f32 :=
  (Host.reduceWindowAdd ![1, 16, 1, 1] ![1, 1, 1, 1] ![0, 15, 0, 0] ![0, 0, 0, 0] (shapeCast _ A shapeCasts_S32x16x256_S32x16x4x64) (broadcastInDim S_ ![] bcast_S_S_ (constant S_ .f32 0x00000000#32)) reduceWindows_S32x16x4x64_S32x16x4x64_w1s1p0_0_w16s1p15_0_w1s1p0_0_w1s1p0_0 h_S_)

/-- The weights of the rows. -/
def weights (q k : FVec Ideal S32x16x256 .f32) (C : FVec Ideal S32x16x4x64 .f32) : FVec Ideal S32x16x16x4 .f32 :=
  (Host.reduceAdd (mulf (mulf (broadcastInDim S32x16x16x4x64 ![0, 1, 2, 3, 4] bcast_S32x16x1x4x64_S32x16x16x4x64_0_1_2_3_4 (broadcastInDim S32x16x1x4x64 ![0, 1, 3, 4] bcast_S32x16x4x64_S32x16x1x4x64_0_1_3_4 (shapeCast _ q shapeCasts_S32x16x256_S32x16x4x64))) (Host.exp (select (broadcastInDim S32x16x16x4x64 ![0, 1, 2, 3, 4] bcast_S1x16x16x1x1_S32x16x16x4x64_0_1_2_3_4 (broadcastInDim S1x16x16x1x1 ![1, 2] bcast_S16x16_S1x16x16x1x1_1_2 (select (cmpi .sge (addi (iotaInDim S16x16 32 0) (broadcastInDim S16x16 ![] bcast_S_S16x16 (constantI S_ 32 0#32))) (iotaInDim S16x16 32 1)) (broadcastInDim S16x16 ![] bcast_S_S16x16 (constantI S_ 1 1#1)) (broadcastInDim S16x16 ![] bcast_S_S16x16 (constantI S_ 1 0#1))))) (subf (broadcastInDim S32x16x16x4x64 ![0, 1, 2, 3, 4] bcast_S32x16x1x4x64_S32x16x16x4x64_0_1_2_3_4 (broadcastInDim S32x16x1x4x64 ![0, 1, 3, 4] bcast_S32x16x4x64_S32x16x1x4x64_0_1_3_4 C)) (broadcastInDim S32x16x16x4x64 ![0, 1, 2, 3, 4] bcast_S32x1x16x4x64_S32x16x16x4x64_0_1_2_3_4 (broadcastInDim S32x1x16x4x64 ![0, 2, 3, 4] bcast_S32x16x4x64_S32x1x16x4x64_0_2_3_4 C))) (broadcastInDim S32x16x16x4x64 ![] bcast_S_S32x16x16x4x64 (id (constant S_ .f32 0xFF800000#32)))))) (broadcastInDim S32x16x16x4x64 ![0, 1, 2, 3, 4] bcast_S32x1x16x4x64_S32x16x16x4x64_0_1_2_3_4 (broadcastInDim S32x1x16x4x64 ![0, 2, 3, 4] bcast_S32x16x4x64_S32x1x16x4x64_0_2_3_4 (shapeCast _ k shapeCasts_S32x16x256_S32x16x4x64)))) (constant S_ .f32 0x00000000#32) reducesTo_S32x16x16x4x64_S32x16x16x4_d4 h_S_)

/-- The rows' results, before their norm. -/
def rows (q v : FVec Ideal S32x16x256 .f32) (s0 : FVec Ideal S32x4x64x64 .f32) (C : FVec Ideal S32x16x4x64 .f32)
    (W : FVec Ideal S32x16x16x4 .f32) : FVec Ideal S32x16x4x64 .f32 :=
  (addf (transpose S32x16x4x64 [0, 3, 1, 2] (Host.dotGeneral dot_S32x4x64x64_S32x16x4x64_S32x4x64x16_2_3_3_1_01_02 none s0 (mulf (shapeCast _ q shapeCasts_S32x16x256_S32x16x4x64) (Host.exp C))) transposes_S32x4x64x16_S32x16x4x64_0_3_1_2) (transpose S32x16x4x64 [0, 3, 1, 2] (Host.dotGeneral dot_S32x16x4x64_S32x16x16x4_S32x4x64x16_1_2_3_1_02_03 none (shapeCast _ v shapeCasts_S32x16x256_S32x16x4x64) W) transposes_S32x4x64x16_S32x16x4x64_0_3_1_2))

/-- The state after the chunk. -/
def state (k v : FVec Ideal S32x16x256 .f32) (s0 : FVec Ideal S32x4x64x64 .f32) (C : FVec Ideal S32x16x4x64 .f32) :
    FVec Ideal S32x4x64x64 .f32 :=
  (addf (mulf s0 (broadcastInDim S32x4x64x64 ![0, 1, 2, 3] bcast_S32x4x64x1_S32x4x64x64_0_1_2_3 (broadcastInDim S32x4x64x1 ![0, 1, 2] bcast_S32x4x64_S32x4x64x1_0_1_2 (Host.exp (shapeCast _ (extractStridedSlice S32x1x4x64 ![0, 15, 0, 0] C slices_S32x16x4x64_S32x1x4x64_0_15_0_0) shapeCasts_S32x1x4x64_S32x4x64))))) (Host.dotGeneral dot_S32x16x4x64_S32x16x4x64_S32x4x64x64_1_1_3_3_02_02 none (mulf (shapeCast _ k shapeCasts_S32x16x256_S32x16x4x64) (Host.exp (subf (broadcastInDim S32x16x4x64 ![0, 1, 2, 3] bcast_S32x1x4x64_S32x16x4x64_0_1_2_3 (broadcastInDim S32x1x4x64 ![0, 2, 3] bcast_S32x4x64_S32x1x4x64_0_2_3 (shapeCast _ (extractStridedSlice S32x1x4x64 ![0, 15, 0, 0] C slices_S32x16x4x64_S32x1x4x64_0_15_0_0) shapeCasts_S32x1x4x64_S32x4x64))) C))) (shapeCast _ v shapeCasts_S32x16x256_S32x16x4x64)))

/-- The rows normed and gated. -/
def gated (gs : FVec Ideal S32x16x256 .f32) (g : FVec Ideal S64 .f32) (O : FVec Ideal S32x16x4x64 .f32) : FVec Ideal S32x16x256 .bf16 :=
  truncf .bf16 (mulf (shapeCast _ (mulf (mulf O (broadcastInDim S32x16x4x64 ![0, 1, 2, 3] bcast_S32x16x4x1_S32x16x4x64_0_1_2_3 (Host.rsqrt (addf (Host.divf (broadcastInDim S32x16x4x1 ![0, 1, 2] bcast_S32x16x4_S32x16x4x1_0_1_2 (Host.reduceAdd (mulf O O) (constant S_ .f32 0x00000000#32) reducesTo_S32x16x4x64_S32x16x4_d3 h_S_)) (broadcastInDim S32x16x4x1 ![] bcast_S_S32x16x4x1 (constant S_ .f32 0x42800000#32))) (broadcastInDim S32x16x4x1 ![] bcast_S_S32x16x4x1 (constant S_ .f32 0x358637BD#32)))))) (broadcastInDim S32x16x4x64 ![0, 1, 2, 3] bcast_S1x1x1x64_S32x16x4x64_0_1_2_3 (broadcastInDim S1x1x1x64 ![3] bcast_S64_S1x1x1x64_3 g))) shapeCasts_S32x16x4x64_S32x16x256) gs) bitsLt_bf16_f32

/-- The state with its heads on the diagonal. -/
def diagonal (S : FVec Ideal S32x4x64x64 .f32) : FVec Ideal S32x256x256 .f32 :=
  shapeCast _ (select (broadcastInDim S32x4x64x4x64 ![0, 1, 2, 3, 4] bcast_S1x4x1x4x1_S32x4x64x4x64_0_1_2_3_4 (broadcastInDim S1x4x1x4x1 ![1, 3] bcast_S4x4_S1x4x1x4x1_1_3 (cmpi .eq (addi (iotaInDim S4x4 32 0) (broadcastInDim S4x4 ![] bcast_S_S4x4 (constantI S_ 32 0#32))) (iotaInDim S4x4 32 1)))) (broadcastInDim S32x4x64x4x64 ![0, 1, 2, 3, 4] bcast_S32x4x64x1x64_S32x4x64x4x64_0_1_2_3_4 (broadcastInDim S32x4x64x1x64 ![0, 1, 2, 4] bcast_S32x4x64x64_S32x4x64x1x64_0_1_2_4 (transpose S32x4x64x64 [0, 1, 3, 2] S transposes_S32x4x64x64_S32x4x64x64_0_1_3_2))) (broadcastInDim S32x4x64x4x64 ![] bcast_S_S32x4x64x4x64 (id (constant S_ .f32 0x00000000#32)))) shapeCasts_S32x4x64x4x64_S32x256x256

theorem rotate : ∀ t w : Fin 16, if h : 15 ≤ t.val + w.val then (⟨t.val + w.val - 15, by omega⟩ : Fin 16) = w + (t + 1) ∧ w + (t + 1) ≤ t
    else ¬ w + (t + 1) ≤ t := by
  decide +kernel

/-- A sum over the window that ends at a row. -/
theorem window_cum (x : Fin 16 → ℝ) (t : Fin 16) :
    (∑ w : Fin 16, if h : 15 ≤ t.val + w.val then (x ⟨t.val + w.val - 15, by omega⟩ : EReal) else 0) = ((cum x t : ℝ) : EReal) := by
  unfold cum taken
  rw [coe_sum]
  refine Eq.trans ?_ (Equiv.sum_comp (Equiv.addRight (t + 1)) fun u => (((if decide (u ≤ t) = true then x u else 0 : ℝ)) : EReal))
  refine Finset.sum_congr rfl fun w _ => ?_
  have r := rotate t w
  show _ = (((if decide (w + (t + 1) ≤ t) = true then x (w + (t + 1)) else 0 : ℝ)) : EReal)
  by_cases h : 15 ≤ t.val + w.val
  · rw [dif_pos h] at r ⊢
    rw [r.1, decide_eq_true r.2, if_pos rfl]
  · rw [dif_neg h] at r ⊢
    rw [decide_eq_false r, if_neg (by simp), EReal.coe_zero]

theorem running_at (A : FVec Ideal S32x16x256 .f32) (a : Fin 256 → Fin 16 → ℝ) (b : Fin 32)
    (hA : ∀ u j, A (ix3 b u j) = ((a j u : ℝ) : EReal)) (t : Fin 16) (h : Fin 4) (d : Fin 64) :
    running A (ix4 b t h d) = ((cum (a (lane h d)) t : ℝ) : EReal) := by
  have z : (broadcastInDim S_ ![] bcast_S_S_ (constant (F := Ideal) S_ .f32 0x00000000#32)) (Shape.Idx.first h_S_) = (0 : EReal) := by
    pointwise
  have hR : ∀ u, (shapeCast S32x16x4x64 A shapeCasts_S32x16x256_S32x16x4x64) (ix4 b u h d) = ((a (lane h d) u : ℝ) : EReal) := fun u => by
    rw [← hA]
    pointwise [lane]
  rw [← window_cum]
  unfold running Host.reduceWindowAdd
  rw [Ideal.hostReduceWindowAdd_def]
  unfold Ideal.hostReduceWindowAdd
  generalize shapeCast S32x16x4x64 A shapeCasts_S32x16x256_S32x16x4x64 = R at hR ⊢
  rw [Cert.Proof.Attn.Reference.window_sum]
  rw [z, zero_add]
  refine (sum_idx4 (n0 := 1) (n1 := 16) (n2 := 1) (n3 := 1) _).trans ?_
  rw [Fin.sum_univ_one]
  refine Finset.sum_congr rfl fun w _ => ?_
  rw [Fin.sum_univ_one, Fin.sum_univ_one]
  by_cases hw : 15 ≤ t.val + w.val
  · rw [dif_pos hw, dif_pos]
    · rw [← hR]
      refine congrArg R (funext fun a => ?_)
      fin_cases a <;> apply Fin.ext
      · show b.val * 1 + 0 - 0 = b.val; omega
      · show t.val * 1 + w.val - 15 = t.val + w.val - 15; omega
      · show h.val * 1 + 0 - 0 = h.val; omega
      · show d.val * 1 + 0 - 0 = d.val; omega
    · intro a
      fin_cases a
      · show 0 ≤ b.val * 1 + 0 ∧ b.val * 1 + 0 - 0 < 32; omega
      · show 15 ≤ t.val * 1 + w.val ∧ t.val * 1 + w.val - 15 < 16; omega
      · show 0 ≤ h.val * 1 + 0 ∧ h.val * 1 + 0 - 0 < 4; omega
      · show 0 ≤ d.val * 1 + 0 ∧ d.val * 1 + 0 - 0 < 64; omega
  · rw [dif_neg hw, dif_neg]
    intro H
    have := (H 1).1
    change 15 ≤ t.val * 1 + w.val at this
    omega

theorem mask_at : ∀ t s : Fin 16, Scalar.select (IntOp.cmpi .sge (IntOp.addi (BitVec.ofNat 32 t.val) 0#32) (BitVec.ofNat 32 s.val)) 1#1 0#1
    = BitVec.ofBool (decide (s ≤ t)) := by
  decide +kernel

theorem add_zero_word : ∀ g : Fin 4, IntOp.addi (BitVec.ofNat 32 g.val) 0#32 = BitVec.ofNat 32 g.val := by
  decide +kernel

theorem lit_bot : (id (constant (F := Ideal) S_ .f32 0xFF800000#32) ix0 : EReal) = ⊥ := by
  show Ideal.ofBits .f32 0xFF800000#32 = ⊥
  simp [Ideal.ofBits, Ideal.ieee]

theorem lit_zero : (id (constant (F := Ideal) S_ .f32 0x00000000#32) ix0 : EReal) = 0 := by
  show Ideal.ofBits .f32 0x00000000#32 = 0
  simp [Ideal.ofBits, Ideal.ieee]

section Rows

variable (q k v : FVec Ideal S32x16x256 .f32) (s0 : FVec Ideal S32x4x64x64 .f32) (C : FVec Ideal S32x16x4x64 .f32)
  (a : Fin 256 → Fin 16 → ℝ) (b : Fin 32) (hC : ∀ t h d, C (ix4 b t h d) = ((cum (a (lane h d)) t : ℝ) : EReal))
include hC

theorem weights_at (t s : Fin 16) (h : Fin 4) :
    weights q k C (ix4 b t s h) = att (fun t j => q (ix3 b t j)) (fun t j => k (ix3 b t j)) a h t s := by
  unfold weights
  pointwise [lane]
  simp only [hC, mask_at, lit_bot, Scalar.select_ofBool]
  unfold att
  by_cases e : s ≤ t
  · rw [if_pos e, decide_eq_true e]
    refine Finset.sum_congr rfl fun d _ => ?_
    show _ * Ideal.exp (((cum (a (lane h d)) t : ℝ) : EReal) - ((cum (a (lane h d)) s : ℝ) : EReal)) * _ = _
    rw [← EReal.coe_sub, exp_coe]
    rfl
  · rw [if_neg e, decide_eq_false e]
    refine Finset.sum_eq_zero fun d _ => ?_
    show _ * (0 : EReal) * _ = 0
    rw [mul_zero, zero_mul]

theorem rows_at (W : FVec Ideal S32x16x16x4 .f32)
    (hW : ∀ t s (h : Fin 4), W (ix4 b t s h) = att (fun t j => q (ix3 b t j)) (fun t j => k (ix3 b t j)) a h t s)
    (t : Fin 16) (h : Fin 4) (e : Fin 64) :
    rows q v s0 C W (ix4 b t h e) = mixed (fun t j => q (ix3 b t j)) (fun t j => k (ix3 b t j)) (fun t j => v (ix3 b t j)) a
      (fun h d e => s0 (ix4 b h d e)) t h e := by
  unfold rows mixed
  pointwise [lane]
  refine congrArg₂ (· + ·) (Finset.sum_congr rfl fun d _ => ?_) (Finset.sum_congr rfl fun s _ => ?_)
  · rw [hC, exp_coe, mul_comm]
    rfl
  · rw [hW, mul_comm]

theorem state_eq (h : Fin 4) (d e : Fin 64) :
    state k v s0 C (ix4 b h d e) = after (fun t j => k (ix3 b t j)) (fun t j => v (ix3 b t j)) a (fun h d e => s0 (ix4 b h d e)) h d e := by
  unfold state after
  pointwise [lane]
  simp only [hC, ← EReal.coe_sub, exp_coe]
  rfl

end Rows

theorem gated_at (gs : FVec Ideal S32x16x256 .f32) (g : FVec Ideal S64 .f32) (O : FVec Ideal S32x16x4x64 .f32) (b : Fin 32) (t : Fin 16)
    (j : Fin 256) :
    gated gs g O (ix3 b t j) = O (ix4 b t (headOf j) (within j)) * Ideal.rsqrt (Ideal.div (∑ d, O (ix4 b t (headOf j) d) * O (ix4 b t (headOf j) d))
      (Ideal.ofBits .f32 0x42800000#32) + Ideal.ofBits .f32 0x358637BD#32) * g (ix1 (within j)) * gs (ix3 b t j) := by
  unfold gated
  pointwise
  try rfl

theorem diagonal_at (S : FVec Ideal S32x4x64x64 .f32) (b : Fin 32) (i j : Fin 256) :
    diagonal S (ix3 b i j) = packed (fun h d e => S (ix4 b h d e)) i j := by
  unfold diagonal
  pointwise
  rw [lit_zero, show IntOp.addi (BitVec.ofNat 32 (i.val / 64)) 0#32 = BitVec.ofNat 32 (i.val / 64) from add_zero_word (headOf i)]
  exact select_head (headOf i) (headOf j) _ _

end Cert.Proof.Gla

end
-- ==== Proof.Gla.Finite.lean ====
/- What the precondition of the gated recurrence says: queries, keys, values, log decays and the state before the chunk are
   real numbers. -/
module

public import proofs.«01_k».proof.Pre_finite_state
public import proofs.«01_k».proof.Proof.Gla.Core
public import proofs.«01_k».proof.Proof.InProj.Finite

@[expose] public section

set_option maxRecDepth 16384

noncomputable section

namespace Cert.Proof.Gla

open Cert.Pre_finite_state
open Idealize.ShloMosaic
open Cert.Proof.InProj (IsReal isReal_of_abs)

variable [Cert.Pre_finite_state.Facts]

/-- The magnitude of a value lies below infinity. -/
def bounded (x : EReal) : Bool := decide ((FloatOps.absf (F := Ideal) (φ := .f32) x : EReal) < Ideal.ofBits FTy.f32 2139095040#32)

theorem isReal_of_bounded (x : EReal) (h : bounded x = true) : IsReal x := isReal_of_abs .f32 x (of_decide_eq_true h)

theorem state_fn_at (q k v a gs : FVec Ideal S32x16x256 .f32) (s0 : FVec Ideal S32x4x64x64 .f32) (g : FVec Ideal S64 .f32)
    (H : fn (F := Ideal) q k v a gs s0 g = fun _ => 1#1) (b : Fin 32) (t : Fin 16) (h : Fin 4) (d e : Fin 64) :
    IsReal (q (ix3 b t (lane h d))) ∧ IsReal (k (ix3 b t (lane h d))) ∧ IsReal (v (ix3 b t (lane h d)))
      ∧ IsReal (a (ix3 b t (lane h d))) ∧ IsReal (s0 (ix4 b h d e)) := by
  have w := congrFun H (ix5 b t h d e)
  have w' : fn (F := Ideal) q k v a gs s0 g (ix5 b t h d e) = BitVec.ofBool ((((bounded (q (ix3 b t (lane h d)))
      && bounded (k (ix3 b t (lane h d)))) && bounded (v (ix3 b t (lane h d)))) && bounded (a (ix3 b t (lane h d))))
        && bounded (s0 (ix4 b h d e))) := by
    rw [← WordCmp.andi_ofBool, ← WordCmp.andi_ofBool, ← WordCmp.andi_ofBool, ← WordCmp.andi_ofBool]
    unfold fn fn_part1
    pointwise [lane]
    try rfl
  rw [w', WordCmp.ofBool_eq_one_iff, Bool.and_eq_true, Bool.and_eq_true, Bool.and_eq_true, Bool.and_eq_true] at w
  obtain ⟨⟨⟨⟨h0, h1⟩, h2⟩, h3⟩, h4⟩ := w
  exact ⟨isReal_of_bounded _ h0, isReal_of_bounded _ h1, isReal_of_bounded _ h2, isReal_of_bounded _ h3, isReal_of_bounded _ h4⟩

end Cert.Proof.Gla

end
-- ==== Proof.Gla.Value.lean ====
/- The gated recurrence over one chunk: its call and its reference end with the same arrays. -/
module

public import proofs.«01_k».proof.Defs
public import proofs.«01_k».proof.Proof.Gla.Operands
public import proofs.«01_k».proof.Proof.Gla.Reference
public import proofs.«01_k».proof.Proof.Gla.Finite

@[expose] public section

set_option maxRecDepth 16384
set_option maxHeartbeats 3000000

noncomputable section

namespace Cert.Proof.Gla

open Cert.Kernel5Ideal Cert.Kernel5Ideal.Gen
open Idealize.ShloMosaic Idealize.ShloMosaic.TcCoe Idealize.SL.Sem
open Idealize.ShloMosaic.Pipeline (Dat)
open Cert.Proof.InProj (IsReal)

abbrev Seqs : Type := FVec Ideal (⟨3, ![32, 16, 256]⟩ : Shape) .f32
abbrev States : Type := FVec Ideal (⟨4, ![32, 4, 64, 64]⟩ : Shape) .f32
abbrev Gain : Type := FVec Ideal (⟨1, ![64]⟩ : Shape) .f32

/-- The log decays of a sequence, as real numbers. -/
def decays (A : Seqs) (b : Fin 32) (j : Fin 256) (u : Fin 16) : ℝ := EReal.toReal (A (ix3 b u j))

/-- A sequence's results before their norm. -/
def rowsOf (q k v A : Seqs) (s0 : States) (b : Fin 32) (t : Fin 16) (h : Fin 4) (e : Fin 64) : EReal :=
  mixed (fun t j => q (ix3 b t j)) (fun t j => k (ix3 b t j)) (fun t j => v (ix3 b t j)) (decays A b)
    (fun h d e => s0 (ix4 b h d e)) t h e

/-- The results, normed per head and gated. -/
def outY (q k v A gs : Seqs) (s0 : States) (g : Gain) (b : Fin 32) (t : Fin 16) (j : Fin 256) : EReal :=
  rowsOf q k v A s0 b t (headOf j) (within j)
    * Ideal.rsqrt (Ideal.div (∑ d, rowsOf q k v A s0 b t (headOf j) d * rowsOf q k v A s0 b t (headOf j) d)
      (Ideal.ofBits .f32 0x42800000#32) + Ideal.ofBits .f32 0x358637BD#32) * g (ix1 (within j)) * gs (ix3 b t j)

/-- The state after the chunk, heads on the diagonal. -/
def outS (k v A : Seqs) (s0 : States) (b : Fin 32) (i j : Fin 256) : EReal :=
  packed (after (fun t j => k (ix3 b t j)) (fun t j => v (ix3 b t j)) (decays A b) (fun h d e => s0 (ix4 b h d e))) i j

/-- Queries, keys, values, log decays and the state before the chunk are real numbers. -/
structure Real5 (q k v A : Seqs) (s0 : States) : Prop where
  hq : ∀ b t j, IsReal (q (ix3 b t j))
  hk : ∀ b t j, IsReal (k (ix3 b t j))
  hv : ∀ b t j, IsReal (v (ix3 b t j))
  hA : ∀ b t j, A (ix3 b t j) = ((decays A b j t : ℝ) : EReal)
  hS : ∀ b h d e, IsReal (s0 (ix4 b h d e))

theorem second_lit (L : IVec S16x256 32) (q k : FVec Ideal S16x256 .f32) (E G : FVec Ideal S64x256 .f32) (lv : IVec S64x16 32)
    (D : FVec Ideal S64x16 .f32) :
    k0_pay32 (F := Ideal) L lv k G D (k0_pay29 q E) (k0_pay30 L q E) (k0_pay31 L) (FloatOps.ofBits FTy.bf16 0#16)
      = over 2#32 lv (levelScores L q k E G 2) D := second_eq L q k E G lv D

theorem own_lit : k0_pay8 (iota Kind.tc S256x256 32 [0] iota_S256x256_d0_w32) (64#32) k0_pay6 k0_pay7 1#32 = own := rfl

theorem q_pay (X : Vec Ideal S1x16x256 .f32) (t : Fin 16) (j : Fin 256) : k0_pay10 (F := Ideal) X (ix2 t j) = X (ix3 0 t j) := by
  pointwise [k0_pay10]

theorem k_pay (X : Vec Ideal S1x16x256 .f32) (t : Fin 16) (j : Fin 256) : k0_pay11 (F := Ideal) X (ix2 t j) = X (ix3 0 t j) := by
  pointwise [k0_pay11]

theorem v_pay (X : Vec Ideal S1x16x256 .f32) (t : Fin 16) (j : Fin 256) : k0_pay12 (F := Ideal) X (ix2 t j) = X (ix3 0 t j) := by
  pointwise [k0_pay12]

theorem s_pay (X : Vec Ideal S1x256x256 .f32) (i j : Fin 256) : k0_pay4 (F := Ideal) X (ix2 i j) = X (ix3 0 i j) := by
  pointwise [k0_pay4]

theorem d_pay (X : Vec Ideal S256x256 .bf16) (i j : Fin 256) : k0_pay9 (F := Ideal) X (ix2 i j) = X (ix2 i j) := by
  pointwise [k0_pay9]

theorem last_pays (X : FVec Ideal S256x256 .f32) (i j : Fin 256) : k0_pay3 (F := Ideal) (k0_pay1 X) (ix3 0 i j) = X (ix2 i j) := by
  pointwise [k0_pay3, k0_pay1]

variable (m : (ℓ : Loc nD τ sig) → Buf (Elt Ideal) ℓ) (c : Dev nD)

/-- The call leaves the normed, gated results in its first output. -/
theorem final_y (R : Real5 (m (c.tc.loc main_arg0)) (m (c.tc.loc main_arg1)) (m (c.tc.loc main_arg2)) (m (c.tc.loc main_arg3))
    (m (c.tc.loc main_arg5))) : (dats m 0 c).arrAt 12 cfg0.N = fun y =>
      outY (m (c.tc.loc main_arg0)) (m (c.tc.loc main_arg1)) (m (c.tc.loc main_arg2)) (m (c.tc.loc main_arg3)) (m (c.tc.loc main_arg4))
        (m (c.tc.loc main_arg5)) (m (c.tc.loc main_arg6)) (y 0) (y 1) (y 2) := by
  refine (dats m 0 c).arrAt_eq_of_covers 12 _ (by decide +kernel) fun t _ y => ?_
  blk_simp
  rw [after0_12]
  unfold outsAt0
  frame_out
  obtain ⟨u, p, j, rfl⟩ : ∃ u p j, y = ix3 u p j := ⟨y 0, y 1, y 2, by blk_ext⟩
  obtain rfl : u = 0 := Fin.eq_zero u
  rw [show ((View.whole main_v20_0).slice (win0_12.rect t)).emb (ix3 0 p j) = ix3 (seqOf t) p j by blk_ext [idx t, seqOf]]
  rw [second_lit, third_eq, below_eq, diag_eq]
  have hO : ∀ p j, _ = _ := mixed_pay (iblk m c 6 t) (low_at m c t) (iblk m c 7 t) (query_at m c t) (iblk m c 8 t) (key_at m c t)
    (iblk m c 9 t) (level_at m c t) (iblk m c 3 t) (decays (m (c.tc.loc main_arg3)) (seqOf t))
    (fun u j => (a_at m c t u j).trans (R.hA _ _ _)) (iblk m c 0 t) (k0_pay10 (iblk m c 0 t)) (k0_pay11 (iblk m c 1 t))
    (k0_pay12 (iblk m c 2 t)) (fun t' j => (q_pay _ t' j).symm) (k0_pay4 (iblk m c 5 t))
    (fun h d e => m (c.tc.loc main_arg5) (ix4 (seqOf t) h d e)) (fun i j => (s_pay _ i j).trans (state_at m c t i j))
  simp only [q_pay, k_pay, v_pay, q_at, k_at, v_at] at hO
  refine (out_pay _ (fun l j => (d_pay _ l j).trans (group_at m c t l j)) _ _ _ p
    (fun j => (hO p j).symm ▸ isReal_mixed _ _ _ _ _ (R.hq _) (R.hk _) (R.hv _) (R.hS _) _ _ _) j).trans ?_
  simp only [hO, headOf_lane, within_lane, gain_at, gate_at]
  rfl

/-- The call leaves the state after the chunk in its second output. -/
theorem final_s (R : Real5 (m (c.tc.loc main_arg0)) (m (c.tc.loc main_arg1)) (m (c.tc.loc main_arg2)) (m (c.tc.loc main_arg3))
    (m (c.tc.loc main_arg5))) : (dats m 0 c).arrAt 13 cfg0.N = fun y =>
      outS (m (c.tc.loc main_arg1)) (m (c.tc.loc main_arg2)) (m (c.tc.loc main_arg3)) (m (c.tc.loc main_arg5)) (y 0) (y 1) (y 2) := by
  refine (dats m 0 c).arrAt_eq_of_covers 13 _ (by decide +kernel) fun t _ y => ?_
  blk_simp
  rw [after0_13]
  unfold outsAt0
  frame_out
  obtain ⟨u, i, j, rfl⟩ : ∃ u i j, y = ix3 u i j := ⟨y 0, y 1, y 2, by blk_ext⟩
  obtain rfl : u = 0 := Fin.eq_zero u
  rw [show ((View.whole main_v20_1).slice (win0_13.rect t)).emb (ix3 0 i j) = ix3 (seqOf t) i j by blk_ext [idx t, seqOf]]
  have hO := state_pay (iblk m c 6 t) (low_at m c t) (iblk m c 3 t) (decays (m (c.tc.loc main_arg3)) (seqOf t))
    (fun u j => (a_at m c t u j).trans (R.hA _ _ _)) (k0_pay11 (iblk m c 1 t)) (k0_pay12 (iblk m c 2 t)) (k0_pay4 (iblk m c 5 t))
    (fun h d e => m (c.tc.loc main_arg5) (ix4 (seqOf t) h d e)) (fun i j => (s_pay _ i j).trans (state_at m c t i j)) i j
  simp only [k_pay, v_pay, k_at, v_at] at hO
  exact (last_pays _ i j).trans hO

/-- The reference's first result. -/
theorem reference_y (q k v A gs : Seqs) (s0 : States) (g : Gain) (R : Real5 q k v A s0) (b : Fin 32) (t : Fin 16) (j : Fin 256) :
    gated gs g (rows q v s0 (running A) (weights q k (running A))) (ix3 b t j) = outY q k v A gs s0 g b t j := by
  have hC : ∀ t h d, running A (ix4 b t h d) = ((cum (decays A b (lane h d)) t : ℝ) : EReal) := fun t h d =>
    running_at A (decays A b) b (fun u j => R.hA b u j) t h d
  rw [gated_at]
  simp only [rows_at q k v s0 (running A) (decays A b) b hC _ (weights_at q k (running A) (decays A b) b hC)]
  rfl

/-- The reference's second result. -/
theorem reference_s (q k v A : Seqs) (s0 : States) (R : Real5 q k v A s0) (b : Fin 32) (i j : Fin 256) :
    diagonal (state k v s0 (running A)) (ix3 b i j) = outS k v A s0 b i j := by
  have hC : ∀ t h d, running A (ix4 b t h d) = ((cum (decays A b (lane h d)) t : ℝ) : EReal) := fun t h d =>
    running_at A (decays A b) b (fun u j => R.hA b u j) t h d
  rw [diagonal_at]
  simp only [state_eq k v s0 (running A) (decays A b) b hC]
  rfl

/-- The call and its reference end with the same arrays. -/
theorem algebraic [Cert.Pre_finite_state.Facts] : Cert.algebraic_Kernel5Ideal_Reference5Ideal_pre_finite_state := by
  intro m ρ m' ρ' hpre hagree
  have R : ∀ c : Dev nD, Real5 (m (c.tc.loc main_arg0)) (m (c.tc.loc main_arg1)) (m (c.tc.loc main_arg2)) (m (c.tc.loc main_arg3))
      (m (c.tc.loc main_arg5)) := fun c => by
    have f := state_fn_at _ _ _ _ _ _ _ (hpre c)
    refine ⟨fun b t j => ?_, fun b t j => ?_, fun b t j => ?_, fun b t j => ?_, fun b h d e => (f b 0 h d e).2.2.2.2⟩
    · exact lane_of j ▸ (f b t (headOf j) (within j) 0).1
    · exact lane_of j ▸ (f b t (headOf j) (within j) 0).2.1
    · exact lane_of j ▸ (f b t (headOf j) (within j) 0).2.2.1
    · have r : IsReal (m (c.tc.loc main_arg3) (ix3 b t j)) := lane_of j ▸ (f b t (headOf j) (within j) 0).2.2.2.1
      obtain ⟨x, hx⟩ := r
      unfold decays
      rw [hx]
      rfl
  refine ⟨fun c y => outY (m (c.tc.loc main_arg0)) (m (c.tc.loc main_arg1)) (m (c.tc.loc main_arg2)) (m (c.tc.loc main_arg3))
      (m (c.tc.loc main_arg4)) (m (c.tc.loc main_arg5)) (m (c.tc.loc main_arg6)) (y 0) (y 1) (y 2),
    fun c y => outS (m (c.tc.loc main_arg1)) (m (c.tc.loc main_arg2)) (m (c.tc.loc main_arg3)) (m (c.tc.loc main_arg5)) (y 0) (y 1) (y 2),
    (θ_run Cert.Kernel5Ideal.defs _ _).mono (fun _ h c => ⟨(h c).1.trans (final_y m c (R c)), (h c).2.1.trans (final_s m c (R c)), (h c).2.2⟩)
      (Cert.Kernel5Ideal.Value.run_blocks m ρ), ?_⟩
  refine (θ_run Cert.Reference5Ideal.defs _ _).mono (fun _ h c => ⟨(h c).1.trans ?_, (h c).2.1.trans ?_, (h c).2.2⟩)
    (Cert.Reference5Ideal.Value.run (F := Ideal) m' ρ')
  · beta_reduce
    obtain ⟨a0, a1, a2, a3, a4, a5, a6⟩ := hagree c
    have R' := R c
    rw [← a0, ← a1, ← a2, ← a3, ← a5] at R' ⊢
    rw [← a4, ← a6]
    funext y
    obtain ⟨b, t, j, rfl⟩ : ∃ b t j, y = ix3 b t j := ⟨y 0, y 1, y 2, by blk_ext⟩
    unfold Cert.Reference5Ideal.Value.res_main_v66
    exact reference_y _ _ _ _ _ _ _ R' b t j
  · beta_reduce
    obtain ⟨a0, a1, a2, a3, a4, a5, a6⟩ := hagree c
    have R' := R c
    rw [← a0, ← a1, ← a2, ← a3, ← a5] at R'
    rw [← a1, ← a2, ← a3, ← a5]
    funext y
    obtain ⟨b, i, j, rfl⟩ : ∃ b i j, y = ix3 b i j := ⟨y 0, y 1, y 2, by blk_ext⟩
    exact reference_s _ _ _ _ _ R' b i j

end Cert.Proof.Gla

end
-- ==== Proof.lean ====
/- The proof of the claim, assembled from its modules. -/
module

public import proofs.«01_k».proof.Defs
public import proofs.«01_k».proof.Proof.Gen.Kernel2.Frame
public import proofs.«01_k».proof.Proof.Gen.Kernel2Ideal.Frame
public import proofs.«01_k».proof.Proof.Gen.Kernel2Ideal.Value
public import proofs.«01_k».proof.Proof.Gen.ReferenceIdeal.Run
public import proofs.«01_k».proof.Proof.Gen.Reference2Ideal.Run
public import proofs.«01_k».proof.Proof.Gen.Pre_finite_logits
public import proofs.«01_k».proof.Proof.Gen.Pre_finite_normed
public import proofs.«01_k».proof.Proof.Kernel3.Frame
public import proofs.«01_k».proof.Proof.Kernel3Ideal.Frame
public import proofs.«01_k».proof.Proof.InProj.Value
public import proofs.«01_k».proof.Proof.Gen.Reference3Ideal.Run
public import proofs.«01_k».proof.Proof.Gen.Kernel4.Frame
public import proofs.«01_k».proof.Proof.Gen.Kernel4Ideal.Frame
public import proofs.«01_k».proof.Proof.Gen.Kernel4Ideal.Value
public import proofs.«01_k».proof.Proof.Gen.Reference4Ideal.Run
public import proofs.«01_k».proof.Proof.Gen.Kernel5.Frame
public import proofs.«01_k».proof.Proof.Gen.Kernel5Ideal.Frame
public import proofs.«01_k».proof.Proof.Gen.Kernel5Ideal.Value
public import proofs.«01_k».proof.Proof.Gen.Reference5Ideal.Run
public import proofs.«01_k».proof.Proof.Gen.Pre_finite_state
public import proofs.«01_k».proof.Proof.Kernel.Run
public import proofs.«01_k».proof.Proof.KernelIdeal.Run
public import proofs.«01_k».proof.Proof.OutFfn.Value
public import proofs.«01_k».proof.Proof.OutFfnSample.Value
public import proofs.«01_k».proof.Proof.Attn.Value
public import proofs.«01_k».proof.Proof.Gla.Value
public import Idealize.ShloMosaic.Adequacy
public import Idealize.ShloMosaic.Init

@[expose] public section

noncomputable section

namespace Cert.Proof

open Idealize.ShloMosaic Idealize.SL.Sem

/-- The attention's reference runs and leaves its arguments. -/
theorem reference_frame : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- The tail's reference runs and leaves its arguments. -/
theorem reference2_frame : Cert.quiescent_Reference2Ideal := fun m ρ _ =>
  (θ_run Cert.Reference2Ideal.defs _ _).mono (fun r h => ⟨fun c => (h c).2, sem_eq_zero_of_no_sems (by decide) r.2⟩)
    (Cert.Reference2Ideal.Value.run (F := Ideal) m ρ)

/-- The sample rows' tail's reference runs and leaves its arguments. -/
theorem reference4_frame : Cert.quiescent_Reference4Ideal := fun m ρ _ =>
  (θ_run Cert.Reference4Ideal.defs _ _).mono (fun r h => ⟨fun c => (h c).2, sem_eq_zero_of_no_sems (by decide) r.2⟩)
    (Cert.Reference4Ideal.Value.run (F := Ideal) m ρ)

/-- The gated recurrence's reference runs and leaves its arguments. -/
theorem reference5_frame : Cert.quiescent_Reference5Ideal := fun m ρ _ =>
  (θ_run Cert.Reference5Ideal.defs _ _).mono (fun r h => ⟨fun c => (h c).2.2, sem_eq_zero_of_no_sems (by decide) r.2⟩)
    (Cert.Reference5Ideal.Value.run (F := Ideal) m ρ)

/-- The input projections' reference runs and leaves its arguments. -/
theorem reference3_frame : Cert.quiescent_Reference3Ideal := fun m ρ _ =>
  (θ_run Cert.Reference3Ideal.defs _ _).mono
    (fun r h => ⟨fun c => (h c).2.2.2.2.2.2.2.2.2.2.2, sem_eq_zero_of_no_sems (by decide) r.2⟩)
    (Cert.Reference3Ideal.Value.run (F := Ideal) m ρ)

/-- The attention's one named constant is minus the reciprocal of the natural logarithm of two. -/
theorem constant_named : Cert.preserves_Kernel_KernelIdeal :=
  IdealRules.named_const.statement Cert.KernelIdeal.κ "neg_log2_e" .f32 0xBFB8AA3B#32 ((-((Real.log 2)⁻¹) : ℝ) : EReal) rfl

theorem claim : Cert.Claim :=
  ⟨Cert.Kernel.Gen.facts, Cert.KernelIdeal.Gen.facts, Cert.ReferenceIdeal.Gen.facts,
    Cert.Kernel2.Gen.facts, Cert.Kernel2Ideal.Gen.facts, Cert.Reference2Ideal.Gen.facts,
    Cert.Kernel3.Gen.facts, Cert.Kernel3Ideal.Gen.facts, Cert.Reference3Ideal.Gen.facts,
    Cert.Kernel4.Gen.facts, Cert.Kernel4Ideal.Gen.facts, Cert.Reference4Ideal.Gen.facts,
    Cert.Kernel5.Gen.facts, Cert.Kernel5Ideal.Gen.facts, Cert.Reference5Ideal.Gen.facts,
    Cert.Pre_finite_logits.Gen.facts, Cert.Pre_finite_normed.Gen.facts, Cert.Pre_finite_state.Gen.facts,
    fun m ρ _ => Kernel.frame m ρ, fun m ρ _ => KernelIdeal.frame m ρ, fun m ρ _ => KernelIdeal.frame m ρ,
    reference_frame, fun m ρ _ => reference_frame m ρ trivial,
    fun m ρ _ => Cert.Kernel2.Gen.frame m ρ, fun m ρ _ => Cert.Kernel2Ideal.Gen.frame m ρ, reference2_frame,
    fun m ρ _ => Cert.Kernel3.Gen.frame m ρ, fun m ρ _ => Cert.Kernel3Ideal.Gen.frame m ρ, fun m ρ _ => Cert.Kernel3Ideal.Gen.frame m ρ,
    reference3_frame, fun m ρ _ => reference3_frame m ρ trivial,
    fun m ρ _ => Cert.Kernel4.Gen.frame m ρ, fun m ρ _ => Cert.Kernel4Ideal.Gen.frame m ρ, reference4_frame,
    fun m ρ _ => Cert.Kernel5.Gen.frame m ρ, fun m ρ _ => Cert.Kernel5Ideal.Gen.frame m ρ, fun m ρ _ => Cert.Kernel5Ideal.Gen.frame m ρ,
    reference5_frame, fun m ρ _ => reference5_frame m ρ trivial,
    constant_named, Attn.algebraic, trivial, OutFfn.algebraic, trivial, InProj.algebraic, trivial, OutFfnSample.algebraic,
    trivial, Gla.algebraic⟩

end Cert.Proof

end
